-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_factors [hPre_finite_factors : Cert.Pre_finite_factors.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_factors.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_factors [hPre_finite_factors : Cert.Pre_finite_factors.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_factors.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_cotangent [hPre_finite_cotangent : Cert.Pre_finite_cotangent.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_cotangent.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_cotangent [hPre_finite_cotangent : Cert.Pre_finite_cotangent.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_cotangent.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_factors [hKernel2Ideal : Cert.Kernel2Ideal.Facts] [hPre_finite_factors : Cert.Pre_finite_factors.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_factors m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_factors [hReference2Ideal : Cert.Reference2Ideal.Facts] [hPre_finite_factors : Cert.Pre_finite_factors.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_factors m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_cotangent [hKernel10Ideal : Cert.Kernel10Ideal.Facts] [hPre_finite_cotangent : Cert.Pre_finite_cotangent.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_cotangent m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_cotangent [hReference10Ideal : Cert.Reference10Ideal.Facts] [hPre_finite_cotangent : Cert.Pre_finite_cotangent.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_cotangent m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_factors [hKernel2Ideal : Cert.Kernel2Ideal.Facts] [hReference2Ideal : Cert.Reference2Ideal.Facts] [hPre_finite_factors : Cert.Pre_finite_factors.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_factors m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite_cotangent [hKernel10Ideal : Cert.Kernel10Ideal.Facts] [hReference10Ideal : Cert.Reference10Ideal.Facts] [hPre_finite_cotangent : Cert.Pre_finite_cotangent.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_cotangent m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v67) = v0 c
          ∧ r.2.mem ((c.tc : Thread Cert.Reference10Ideal.nD Cert.Reference10Ideal.τ).loc Cert.Reference10Ideal.main_v62) = v1 c
          ∧ r.2.mem ((c.tc : Thread Cert.Reference10Ideal.nD Cert.Reference10Ideal.τ).loc Cert.Reference10Ideal.main_v68) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v3_0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_v14) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_factors : Cert.Pre_finite_factors.Facts) (hPre_finite_cotangent : Cert.Pre_finite_cotangent.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_factors (hKernel2Ideal := hKernel2Ideal) (hPre_finite_factors := hPre_finite_factors)
    ∧ quiescent_Reference2Ideal (hReference2Ideal := hReference2Ideal)
    ∧ quiescent_Reference2Ideal_pre_finite_factors (hReference2Ideal := hReference2Ideal) (hPre_finite_factors := hPre_finite_factors)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_cotangent (hKernel10Ideal := hKernel10Ideal) (hPre_finite_cotangent := hPre_finite_cotangent)
    ∧ quiescent_Reference10Ideal (hReference10Ideal := hReference10Ideal)
    ∧ quiescent_Reference10Ideal_pre_finite_cotangent (hReference10Ideal := hReference10Ideal) (hPre_finite_cotangent := hPre_finite_cotangent)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_factors (hKernel2Ideal := hKernel2Ideal) (hReference2Ideal := hReference2Ideal) (hPre_finite_factors := hPre_finite_factors)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_cotangent (hKernel10Ideal := hKernel10Ideal) (hReference10Ideal := hReference10Ideal) (hPre_finite_cotangent := hPre_finite_cotangent)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S1x8192x8x192 : Shape := ⟨4, ![1, 8192, 8, 192]⟩
abbrev S1x8192x8x128 : Shape := ⟨4, ![1, 8192, 8, 128]⟩
abbrev S_ : Shape := ⟨0, ![]⟩

class Facts : Prop where
  bcast_S_S1x8192x8x192 : S_.BroadcastsInDim S1x8192x8x192 (![] : Fin 0 → Fin S1x8192x8x192.rank)
  reducesTo_S1x8192x8x192_S_d0_1_2_3 : S1x8192x8x192.ReducesTo [0, 1, 2, 3] S_
  h_S_ : 0 < S_.numel
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn_part1 {F : FTy → Type} [FloatOps F] (main_v13 : IVec S_ 1) (main_v16 : IVec S1x8192x8x128 1) : IVec S_ 1 :=
  let main_c_5 : IVec S_ 1 := constantI S_ 1 1#1
  let main_v17 : IVec S_ 1 := (fun x v => Host.reduce IntOp.andi x v reducesTo_S1x8192x8x128_S_d0_1_2_3 h_S_) main_v16 main_c_5
  let main_v18 : IVec S_ 1 := andi main_v13 main_v17
  main_v18

def fn {F : FTy → Type} [FloatOps F] (main_arg0 : FVec F S1x8192x8x192 .f32) (main_arg1 : FVec F S1x8192x8x192 .f32) (main_arg2 : FVec F S1x8192x8x128 .f32) (main_arg3 : FVec F S1x8192x8x128 .f32) : IVec S_ 1 :=
  let main_v0 : FVec F S1x8192x8x192 .f32 := Host.absf main_arg0
  let main_cst : FVec F S_ .f32 := constant S_ .f32 0x7F800000#32
  let main_v1 : FVec F S1x8192x8x192 .f32 := broadcastInDim S1x8192x8x192 ![] bcast_S_S1x8192x8x192 main_cst
  let main_v2 : IVec S1x8192x8x192 1 := cmpf .olt main_v0 main_v1
  let main_c : IVec S_ 1 := constantI S_ 1 1#1
  let main_v3 : IVec S_ 1 := (fun x v => Host.reduce IntOp.andi x v reducesTo_S1x8192x8x192_S_d0_1_2_3 h_S_) main_v2 main_c
  let main_v4 : FVec F S1x8192x8x192 .f32 := Host.absf main_arg1
  let main_cst_0 : FVec F S_ .f32 := constant S_ .f32 0x7F800000#32
  let main_v5 : FVec F S1x8192x8x192 .f32 := broadcastInDim S1x8192x8x192 ![] bcast_S_S1x8192x8x192 main_cst_0
  let main_v6 : IVec S1x8192x8x192 1 := cmpf .olt main_v4 main_v5
  let main_c_1 : IVec S_ 1 := constantI S_ 1 1#1
  let main_v7 : IVec S_ 1 := (fun x v => Host.reduce IntOp.andi x v reducesTo_S1x8192x8x192_S_d0_1_2_3 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  let main_v14 : FVec F S1x8192x8x128 .f32 := Host.absf main_arg3
  let main_cst_4 : FVec F S_ .f32 := constant S_ .f32 0x7F800000#32
  let main_v15 : FVec F S1x8192x8x128 .f32 := broadcastInDim S1x8192x8x128 ![] bcast_S_S1x8192x8x128 main_cst_4
  let main_v16 : IVec S1x8192x8x128 1 := cmpf .olt main_v14 main_v15
  fn_part1 (F := F) main_v13 main_v16
-- ==== Pre_finite_cotangent.lean ====
abbrev S8192x8064 : Shape := ⟨2, ![8192, 8064]⟩
abbrev S4x3072 : Shape := ⟨2, ![4, 3072]⟩
abbrev S3072 : Shape := ⟨1, ![3072]⟩
abbrev S8192x3072 : Shape := ⟨2, ![8192, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel

variable [Facts]

def fn {F : FTy → Type} [FloatOps F] (main_arg0 : FVec F S8192x8064 .f32) (main_arg1 : FVec F S4x3072 .f32) (main_arg2 : FVec F S3072 .f32) (main_arg3 : FVec F S8192x3072 .f32) : IVec S_ 1 :=
  let main_v0 : FVec F S8192x3072 .f32 := Host.absf main_arg3
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  main_v3
-- ==== Pre_finite_factors.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .f32) (main_arg2 : FVec F S8192x2816 .f32) (main_arg3 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x2816 .f32 := Host.absf main_arg3
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  let main_c_3 : IVec S_ 1 := constantI S_ 1 1#1
  let main_v12 : IVec S_ 1 := (fun x v => Host.reduce IntOp.andi x v reducesTo_S8192x2816_S_d0_1 h_S_) main_v11 main_c_3
  let main_v13 : IVec S_ 1 := andi main_v8 main_v12
  main_v13
-- ==== Kernel.lean ====
abbrev S1x8192x8x192 : Shape := ⟨4, ![1, 8192, 8, 192]⟩
abbrev S1x8192x8x128 : Shape := ⟨4, ![1, 8192, 8, 128]⟩
abbrev S8192x8x192 : Shape := ⟨3, ![8192, 8, 192]⟩
abbrev S8x8192x192 : Shape := ⟨3, ![8, 8192, 192]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S2x8192x192 : Shape := ⟨3, ![2, 8192, 192]⟩
abbrev S2x512x192 : Shape := ⟨3, ![2, 512, 192]⟩
abbrev S2x512x128 : Shape := ⟨3, ![2, 512, 128]⟩
abbrev S2x8192x128 : Shape := ⟨3, ![2, 8192, 128]⟩
abbrev S2x1x8192 : Shape := ⟨3, ![2, 1, 8192]⟩
abbrev S1x512x192 : Shape := ⟨3, ![1, 512, 192]⟩
abbrev S512x192 : Shape := ⟨2, ![512, 192]⟩
abbrev S1x512x128 : Shape := ⟨3, ![1, 512, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 56
  | .vmem => 15
  | .smem => 0
  | _ => 0

abbrev bufTy : (tb : Table) → Fin (tcTables nBuf tb) → BufTy
  | .hbm, ⟨0, _⟩ => ⟨S1x8192x8x192, .f32⟩
  | .hbm, ⟨1, _⟩ => ⟨S1x8192x8x192, .f32⟩
  | .hbm, ⟨2, _⟩ => ⟨S1x8192x8x128, .f32⟩
  | .hbm, ⟨3, _⟩ => ⟨S1x8192x8x128, .f32⟩
  | .hbm, ⟨4, _⟩ => ⟨S8192x8x192, .f32⟩
  | .hbm, ⟨5, _⟩ => ⟨S8x8192x192, .f32⟩
  | .hbm, ⟨6, _⟩ => ⟨S8192x8x192, .f32⟩
  | .hbm, ⟨7, _⟩ => ⟨S8x8192x192, .f32⟩
  | .hbm, ⟨8, _⟩ => ⟨S8192x8x128, .f32⟩
  | .hbm, ⟨9, _⟩ => ⟨S8x8192x128, .f32⟩
  | .hbm, ⟨10, _⟩ => ⟨S8192x8x128, .f32⟩
  | .hbm, ⟨11, _⟩ => ⟨S8x8192x128, .f32⟩
  | .hbm, ⟨12, _⟩ => ⟨S8x8192x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x1, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x128, .f32⟩
  | .hbm, ⟨44, _⟩ => ⟨S8x8192x128, .f32⟩
  | .hbm, ⟨45, _⟩ => ⟨S_, .f32⟩
  | .hbm, ⟨46, _⟩ => ⟨S8x8192, .f32⟩
  | .hbm, ⟨47, _⟩ => ⟨S8x8192x192, .bf16⟩
  | .hbm, ⟨48, _⟩ => ⟨S8x8192x192, .bf16⟩
  | .hbm, ⟨49, _⟩ => ⟨S8x8192x128, .bf16⟩
  | .hbm, ⟨50, _⟩ => ⟨S8x8192x128, .bf16⟩
  | .hbm, ⟨51, _⟩ => ⟨S8x1x8192, .f32⟩
  | .hbm, ⟨52, _⟩ => ⟨S8x1x8192, .f32⟩
  | .hbm, ⟨53, _⟩ => ⟨S8x8192x192, .f32⟩
  | .hbm, ⟨54, _⟩ => ⟨S8x8192x192, .f32⟩
  | .hbm, ⟨55, _⟩ => ⟨S8x8192x128, .f32⟩
  | .local _ .vmem, ⟨0, _⟩ => ⟨S2x8192x192, .bf16⟩
  | .local _ .vmem, ⟨1, _⟩ => ⟨S2x512x192, .bf16⟩
  | .local _ .vmem, ⟨2, _⟩ => ⟨S2x512x192, .bf16⟩
  | .local _ .vmem, ⟨3, _⟩ => ⟨S2x512x128, .bf16⟩
  | .local _ .vmem, ⟨4, _⟩ => ⟨S2x512x128, .bf16⟩
  | .local _ .vmem, ⟨5, _⟩ => ⟨S2x8192x128, .bf16⟩
  | .local _ .vmem, ⟨6, _⟩ => ⟨S2x1x8192, .f32⟩
  | .local _ .vmem, ⟨7, _⟩ => ⟨S2x1x8192, .f32⟩
  | .local _ .vmem, ⟨8, _⟩ => ⟨S2x8192x192, .f32⟩
  | .local _ .vmem, ⟨9, _⟩ => ⟨S2x512x192, .f32⟩
  | .local _ .vmem, ⟨10, _⟩ => ⟨S2x512x192, .f32⟩
  | .local _ .vmem, ⟨11, _⟩ => ⟨S2x512x128, .f32⟩
  | .local _ .vmem, ⟨12, _⟩ => ⟨S2x512x128, .f32⟩
  | .local _ .vmem, ⟨13, _⟩ => ⟨S2x512x192, .f32⟩
  | .local _ .vmem, ⟨14, _⟩ => ⟨S2x512x128, .f32⟩
  | _, _ => ⟨S1x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 3 → Nat :=
  let c0_18 : Index := 0#32
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_19 : Index := 0#32
  ![0, v21.toNat, 0]
def k0_off2 (i : grid0.Coords) : Fin 3 → Nat :=
  let c0_20 : Index := 0#32
  let arg1 : BitVec 32 := BitVec.ofNat 32 (i 1).val
  let c512_i32 : BitVec 32 := 512#32
  let v19 : BitVec 32 := Scalar.muli arg1 c512_i32
  let v20 : BitVec 32 := v19
  let v24 : Index := Scalar.indexCast v20
  let c0_21 : Index := 0#32
  ![0, v24.toNat, 0]
def k0_off3 (i : grid0.Coords) : Fin 3 → Nat :=
  let c0_25 : Index := 0#32
  let c0_26 : Index := 0#32
  let arg1 : BitVec 32 := BitVec.ofNat 32 (i 1).val
  let c512_i32 : BitVec 32 := 512#32
  let v19 : BitVec 32 := Scalar.muli arg1 c512_i32
  let v20 : BitVec 32 := v19
  let v35 : Index := Scalar.indexCast v20
  ![0, 0, v35.toNat]
def k0_off4 (i : grid0.Coords) : Fin 3 → Nat :=
  let c1_50 : Index := 1#32
  let arg1 : BitVec 32 := BitVec.ofNat 32 (i 1).val
  let c512_i32 : BitVec 32 := 512#32
  let v19 : BitVec 32 := Scalar.muli arg1 c512_i32
  let v20 : BitVec 32 := v19
  let v75 : Index := Scalar.indexCast v20
  let c0_51 : Index := 0#32
  ![1, v75.toNat, 0]
def k0_off5 (i : grid0.Coords) : Fin 3 → Nat :=
  let c1_52 : Index := 1#32
  let arg1 : BitVec 32 := BitVec.ofNat 32 (i 1).val
  let c512_i32 : BitVec 32 := 512#32
  let v19 : BitVec 32 := Scalar.muli arg1 c512_i32
  let v20 : BitVec 32 := v19
  let v78 : Index := Scalar.indexCast v20
  let c0_53 : Index := 0#32
  ![1, v78.toNat, 0]
def k0_off6 (i : grid0.Coords) : Fin 3 → Nat :=
  let c1_57 : Index := 1#32
  let c0_58 : Index := 0#32
  let arg1 : BitVec 32 := BitVec.ofNat 32 (i 1).val
  let c512_i32 : BitVec 32 := 512#32
  let v19 : BitVec 32 := Scalar.muli arg1 c512_i32
  let v20 : BitVec 32 := v19
  let v89 : Index := Scalar.indexCast v20
  ![1, 0, v89.toNat]
@[reducible] def k0_t1_loop (i : grid0.Coords) : Scf.Loop 32 :=
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_84 : BitVec 32 := 1#32
  ⟨v129, v134, c1_i32_84⟩
def k0_mult2 (i : grid0.Coords) (k0_t1 : Fin (k0_t1_loop i).trips) : BitVec 32 :=
  let arg1 : BitVec 32 := BitVec.ofNat 32 (i 1).val
  let c1_i32 : BitVec 32 := 1#32
  let v129 : BitVec 32 := Scalar.addi arg1 c1_i32
  let c1_i32_84 : BitVec 32 := 1#32
  let arg13 : BitVec 32 := Scf.iv v129 c1_i32_84 k0_t1
  let c512_i32_100 : BitVec 32 := 512#32
  let v144 : BitVec 32 := Scalar.muli arg13 c512_i32_100
  v144
def k0_off7 (i : grid0.Coords) (k0_t1 : Fin (k0_t1_loop i).trips) : Fin 3 → Nat :=
  let c0_101 : Index := 0#32
  let arg1 : BitVec 32 := BitVec.ofNat 32 (i 1).val
  let c1_i32 : BitVec 32 := 1#32
  let v129 : BitVec 32 := Scalar.addi arg1 c1_i32
  let c1_i32_84 : BitVec 32 := 1#32
  let arg13 : BitVec 32 := Scf.iv v129 c1_i32_84 k0_t1
  let c512_i32_100 : BitVec 32 := 512#32
  let v144 : BitVec 32 := Scalar.muli arg13 c512_i32_100
  let v145 : BitVec 32 := v144
  let v146 : Index := Scalar.indexCast v145
  let c0_102 : Index := 0#32
  ![0, v146.toNat, 0]
def k0_off8 (i : grid0.Coords) (k0_t1 : Fin (k0_t1_loop i).trips) : Fin 3 → Nat :=
  let c0_103 : Index := 0#32
  let arg1 : BitVec 32 := BitVec.ofNat 32 (i 1).val
  let c1_i32 : BitVec 32 := 1#32
  let v129 : BitVec 32 := Scalar.addi arg1 c1_i32
  let c1_i32_84 : BitVec 32 := 1#32
  let arg13 : BitVec 32 := Scf.iv v129 c1_i32_84 k0_t1
  let c512_i32_100 : BitVec 32 := 512#32
  let v144 : BitVec 32 := Scalar.muli arg13 c512_i32_100
  let v145 : BitVec 32 := v144
  let v149 : Index := Scalar.indexCast v145
  let c0_104 : Index := 0#32
  ![0, v149.toNat, 0]
def k0_off9 (i : grid0.Coords) (k0_t1 : Fin (k0_t1_loop i).trips) : Fin 3 → Nat :=
  let c0_107 : Index := 0#32
  let c0_108 : Index := 0#32
  let arg1 : BitVec 32 := BitVec.ofNat 32 (i 1).val
  let c1_i32 : BitVec 32 := 1#32
  let v129 : BitVec 32 := Scalar.addi arg1 c1_i32
  let c1_i32_84 : BitVec 32 := 1#32
  let arg13 : BitVec 32 := Scf.iv v129 c1_i32_84 k0_t1
  let c512_i32_100 : BitVec 32 := 512#32
  let v144 : BitVec 32 := Scalar.muli arg13 c512_i32_100
  let v145 : BitVec 32 := v144
  let v155 : Index := Scalar.indexCast v145
  ![0, 0, v155.toNat]
def k0_off10 (i : grid0.Coords) (k0_t1 : Fin (k0_t1_loop i).trips) : Fin 3 → Nat :=
  let c1_132 : Index := 1#32
  let arg1 : BitVec 32 := BitVec.ofNat 32 (i 1).val
  let c1_i32 : BitVec 32 := 1#32
  let v129 : BitVec 32 := Scalar.addi arg1 c1_i32
  let c1_i32_84 : BitVec 32 := 1#32
  let arg13 : BitVec 32 := Scf.iv v129 c1_i32_84 k0_t1
  let c512_i32_100 : BitVec 32 := 512#32
  let v144 : BitVec 32 := Scalar.muli arg13 c512_i32_100
  let v145 : BitVec 32 := v144
  let v195 : Index := Scalar.indexCast v145
  let c0_133 : Index := 0#32
  ![1, v195.toNat, 0]
def k0_off11 (i : grid0.Coords) (k0_t1 : Fin (k0_t1_loop i).trips) : Fin 3 → Nat :=
  let c1_134 : Index := 1#32
  let arg1 : BitVec 32 := BitVec.ofNat 32 (i 1).val
  let c1_i32 : BitVec 32 := 1#32
  let v129 : BitVec 32 := Scalar.addi arg1 c1_i32
  let c1_i32_84 : BitVec 32 := 1#32
  let arg13 : BitVec 32 := Scf.iv v129 c1_i32_84 k0_t1
  let c512_i32_100 : BitVec 32 := 512#32
  let v144 : BitVec 32 := Scalar.muli arg13 c512_i32_100
  let v145 : BitVec 32 := v144
  let v198 : Index := Scalar.indexCast v145
  let c0_135 : Index := 0#32
  ![1, v198.toNat, 0]
def k0_off12 (i : grid0.Coords) (k0_t1 : Fin (k0_t1_loop i).trips) : Fin 3 → Nat :=
  let c1_138 : Index := 1#32
  let c0_139 : Index := 0#32
  let arg1 : BitVec 32 := BitVec.ofNat 32 (i 1).val
  let c1_i32 : BitVec 32 := 1#32
  let v129 : BitVec 32 := Scalar.addi arg1 c1_i32
  let c1_i32_84 : BitVec 32 := 1#32
  let arg13 : BitVec 32 := Scf.iv v129 c1_i32_84 k0_t1
  let c512_i32_100 : BitVec 32 := 512#32
  let v144 : BitVec 32 := Scalar.muli arg13 c512_i32_100
  let v145 : BitVec 32 := v144
  let v204 : Index := Scalar.indexCast v145
  ![1, 0, v204.toNat]
@[reducible] def k0_t2_loop (i : grid0.Coords) : Scf.Loop 32 :=
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let v131 : BitVec 32 := Scalar.addi v129 v130
  let c1_i32_85 : BitVec 32 := 1#32
  ⟨v134, v131, c1_i32_85⟩
def k0_mult3 (i : grid0.Coords) (k0_t2 : Fin (k0_t2_loop i).trips) : BitVec 32 :=
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_85 : BitVec 32 := 1#32
  let arg13 : BitVec 32 := Scf.iv v134 c1_i32_85 k0_t2
  let c512_i32_100 : BitVec 32 := 512#32
  let v144 : BitVec 32 := Scalar.muli arg13 c512_i32_100
  v144
def k0_off13 (i : grid0.Coords) (k0_t2 : Fin (k0_t2_loop i).trips) : Fin 3 → Nat :=
  let c0_101 : Index := 0#32
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_85 : BitVec 32 := 1#32
  let arg13 : BitVec 32 := Scf.iv v134 c1_i32_85 k0_t2
  let c512_i32_100 : BitVec 32 := 512#32
  let v144 : BitVec 32 := Scalar.muli arg13 c512_i32_100
  let v145 : BitVec 32 := v144
  let v146 : Index := Scalar.indexCast v145
  let c0_102 : Index := 0#32
  ![0, v146.toNat, 0]
def k0_off14 (i : grid0.Coords) (k0_t2 : Fin (k0_t2_loop i).trips) : Fin 3 → Nat :=
  let c0_103 : Index := 0#32
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_85 : BitVec 32 := 1#32
  let arg13 : BitVec 32 := Scf.iv v134 c1_i32_85 k0_t2
  let c512_i32_100 : BitVec 32 := 512#32
  let v144 : BitVec 32 := Scalar.muli arg13 c512_i32_100
  let v145 : BitVec 32 := v144
  let v149 : Index := Scalar.indexCast v145
  let c0_104 : Index := 0#32
  ![0, v149.toNat, 0]
def k0_off15 (i : grid0.Coords) (k0_t2 : Fin (k0_t2_loop i).trips) : Fin 3 → Nat :=
  let c0_107 : Index := 0#32
  let c0_108 : Index := 0#32
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_85 : BitVec 32 := 1#32
  let arg13 : BitVec 32 := Scf.iv v134 c1_i32_85 k0_t2
  let c512_i32_100 : BitVec 32 := 512#32
  let v144 : BitVec 32 := Scalar.muli arg13 c512_i32_100
  let v145 : BitVec 32 := v144
  let v155 : Index := Scalar.indexCast v145
  ![0, 0, v155.toNat]
def k0_off16 (i : grid0.Coords) (k0_t2 : Fin (k0_t2_loop i).trips) : Fin 3 → Nat :=
  let c1_132 : Index := 1#32
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_85 : BitVec 32 := 1#32
  let arg13 : BitVec 32 := Scf.iv v134 c1_i32_85 k0_t2
  let c512_i32_100 : BitVec 32 := 512#32
  let v144 : BitVec 32 := Scalar.muli arg13 c512_i32_100
  let v145 : BitVec 32 := v144
  let v195 : Index := Scalar.indexCast v145
  let c0_133 : Index := 0#32
  ![1, v195.toNat, 0]
def k0_off17 (i : grid0.Coords) (k0_t2 : Fin (k0_t2_loop i).trips) : Fin 3 → Nat :=
  let c1_134 : Index := 1#32
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_85 : BitVec 32 := 1#32
  let arg13 : BitVec 32 := Scf.iv v134 c1_i32_85 k0_t2
  let c512_i32_100 : BitVec 32 := 512#32
  let v144 : BitVec 32 := Scalar.muli arg13 c512_i32_100
  let v145 : BitVec 32 := v144
  let v198 : Index := Scalar.indexCast v145
  let c0_135 : Index := 0#32
  ![1, v198.toNat, 0]
def k0_off18 (i : grid0.Coords) (k0_t2 : Fin (k0_t2_loop i).trips) : Fin 3 → Nat :=
  let c1_138 : Index := 1#32
  let c0_139 : Index := 0#32
  let arg1 : BitVec 32 := BitVec.ofNat 32 (i 1).val
  let c1_i32 : BitVec 32 := 1#32
  let v129 : BitVec 32 := Scalar.addi arg1 c1_i32
  let c16_i32 : BitVec 32 := 16#32
  let v130 : BitVec 32 := Scalar.subi c16_i32 v129
  let c1_i32_83 : BitVec 32 := 1#32
  let v132 : BitVec 32 := Scalar.divsi v130 c1_i32_83
  let v133 : BitVec 32 := Scalar.muli v132 c1_i32_83
  let v134 : BitVec 32 := Scalar.addi v129 v133
  let c1_i32_85 : BitVec 32 := 1#32
  let arg13 : BitVec 32 := Scf.iv v134 c1_i32_85 k0_t2
  let c512_i32_100 : BitVec 32 := 512#32
  let v144 : BitVec 32 := Scalar.muli arg13 c512_i32_100
  let v145 : BitVec 32 := v144
  let v204 : Index := Scalar.indexCast v145
  ![1, 0, v204.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x8192x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2x1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S2x8192x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S2x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S1x8192x8x192 : Shape := ⟨4, ![1, 8192, 8, 192]⟩
abbrev S1x8192x8x128 : Shape := ⟨4, ![1, 8192, 8, 128]⟩
abbrev S_ : Shape := ⟨0, ![]⟩
abbrev S1x8x8192x8192 : Shape := ⟨4, ![1, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x8192 : Shape := ⟨3, ![1, 8, 8192]⟩
abbrev S1x8x8192x1 : Shape := ⟨4, ![1, 8, 8192, 1]⟩
abbrev S1x8x128x8192 : Shape := ⟨4, ![1, 8, 128, 8192]⟩
abbrev S8x8192 : Shape := ⟨2, ![8, 8192]⟩
abbrev S1x8x8192x192 : Shape := ⟨4, ![1, 8, 8192, 192]⟩
abbrev S8192x8x192 : Shape := ⟨3, ![8192, 8, 192]⟩
abbrev S8x8192x192 : Shape := ⟨3, ![8, 8192, 192]⟩
abbrev S8192x8x128 : Shape := ⟨3, ![8192, 8, 128]⟩
abbrev S8x8192x128 : Shape := ⟨3, ![8, 8192, 128]⟩

abbrev nBuf : Space → Nat
  | .hbm => 99
  | .vmem => 0
  | .smem => 0
  | _ => 0

abbrev bufTy : (tb : Table) → Fin (tcTables nBuf tb) → BufTy
  | .hbm, ⟨0, _⟩ => ⟨S1x8192x8x192, .f32⟩
  | .hbm, ⟨1, _⟩ => ⟨S1x8192x8x192, .f32⟩
  | .hbm, ⟨2, _⟩ => ⟨S1x8192x8x128, .f32⟩
  | .hbm, ⟨3, _⟩ => ⟨S1x8192x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x8x8192x8192, .f32⟩
  | .hbm, ⟨9, _⟩ => ⟨S1x8x8192x8192, .f32⟩
  | .hbm, ⟨10, _⟩ => ⟨S1x8x8192x8192, .f32⟩
  | .hbm, ⟨11, _⟩ => ⟨S8192, .i32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S1x8x8192x8192, .i1⟩
  | .hbm, ⟨21, _⟩ => ⟨S1x8x8192x8192, .f32⟩
  | .hbm, ⟨22, _⟩ => ⟨S1x8x8192x8192, .f32⟩
  | .hbm, ⟨23, _⟩ => ⟨S_, .f32⟩
  | .hbm, ⟨24, _⟩ => ⟨S1x8x8192x8192, .f32⟩
  | .hbm, ⟨25, _⟩ => ⟨S_, .f32⟩
  | .hbm, ⟨26, _⟩ => ⟨S1x8x8192, .f32⟩
  | .hbm, ⟨27, _⟩ => ⟨S1x8x8192x1, .f32⟩
  | .hbm, ⟨28, _⟩ => ⟨S1x8x8192x8192, .f32⟩
  | .hbm, ⟨29, _⟩ => ⟨S1x8x8192x8192, .i1⟩
  | .hbm, ⟨30, _⟩ => ⟨S1x8x8192x8192, .f32⟩
  | .hbm, ⟨31, _⟩ => ⟨S_, .f32⟩
  | .hbm, ⟨32, _⟩ => ⟨S1x8x8192, .f32⟩
  | .hbm, ⟨33, _⟩ => ⟨S_, .f32⟩
  | .hbm, ⟨34, _⟩ => ⟨S1x8x8192, .f32⟩
  | .hbm, ⟨35, _⟩ => ⟨S1x8x8192, .f32⟩
  | .hbm, ⟨36, _⟩ => ⟨S_, .f32⟩
  | .hbm, ⟨37, _⟩ => ⟨S1x8x8192, .f32⟩
  | .hbm, ⟨38, _⟩ => ⟨S1x8x8192, .i1⟩
  | .hbm, ⟨39, _⟩ => ⟨S_, .f32⟩
  | .hbm, ⟨40, _⟩ => ⟨S1x8x8192, .f32⟩
  | .hbm, ⟨41, _⟩ => ⟨S1x8x8192, .i1⟩
  | .hbm, ⟨42, _⟩ => ⟨S_, .f32⟩
  | .hbm, ⟨43, _⟩ => ⟨S1x8x8192, .f32⟩
  | .hbm, ⟨44, _⟩ => ⟨S_, .f32⟩
  | .hbm, ⟨45, _⟩ => ⟨S1x8x8192, .f32⟩
  | .hbm, ⟨46, _⟩ => ⟨S_, .f32⟩
  | .hbm, ⟨47, _⟩ => ⟨S1x8x8192, .f32⟩
  | .hbm, ⟨48, _⟩ => ⟨S1x8x8192, .f32⟩
  | .hbm, ⟨49, _⟩ => ⟨S1x8x8192, .f32⟩
  | .hbm, ⟨50, _⟩ => ⟨S1x8x8192x1, .f32⟩
  | .hbm, ⟨51, _⟩ => ⟨S1x8x8192x8192, .f32⟩
  | .hbm, ⟨52, _⟩ => ⟨S1x8x8192x8192, .f32⟩
  | .hbm, ⟨53, _⟩ => ⟨S1x8x8192x8192, .f32⟩
  | .hbm, ⟨54, _⟩ => ⟨S_, .f32⟩
  | .hbm, ⟨55, _⟩ => ⟨S1x8x8192, .f32⟩
  | .hbm, ⟨56, _⟩ => ⟨S1x8x8192x1, .f32⟩
  | .hbm, ⟨57, _⟩ => ⟨S1x8x8192x8192, .f32⟩
  | .hbm, ⟨58, _⟩ => ⟨S1x8x8192x8192, .f32⟩
  | .hbm, ⟨59, _⟩ => ⟨S1x8x8192x1, .f32⟩
  | .hbm, ⟨60, _⟩ => ⟨S_, .f32⟩
  | .hbm, ⟨61, _⟩ => ⟨S1x8x8192x1, .f32⟩
  | .hbm, ⟨62, _⟩ => ⟨S1x8x8192x1, .f32⟩
  | .hbm, ⟨63, _⟩ => ⟨S1x8x128x8192, .f32⟩
  | .hbm, ⟨64, _⟩ => ⟨S1x8192x8x128, .f32⟩
  | .hbm, ⟨65, _⟩ => ⟨S1x8x128x8192, .f32⟩
  | .hbm, ⟨66, _⟩ => ⟨S1x8x8192x8192, .f32⟩
  | .hbm, ⟨67, _⟩ => ⟨S1x8x128x8192, .f32⟩
  | .hbm, ⟨68, _⟩ => ⟨S1x8192x8x128, .f32⟩
  | .hbm, ⟨69, _⟩ => ⟨S1x8x8192x8192, .f32⟩
  | .hbm, ⟨70, _⟩ => ⟨S1x8x8192x8192, .f32⟩
  | .hbm, ⟨71, _⟩ => ⟨S1x8x8192x8192, .f32⟩
  | .hbm, ⟨72, _⟩ => ⟨S_, .f32⟩
  | .hbm, ⟨73, _⟩ => ⟨S1x8x8192, .f32⟩
  | .hbm, ⟨74, _⟩ => ⟨S1x8x8192x1, .f32⟩
  | .hbm, ⟨75, _⟩ => ⟨S1x8x8192x1, .f32⟩
  | .hbm, ⟨76, _⟩ => ⟨S1x8x8192x8192, .f32⟩
  | .hbm, ⟨77, _⟩ => ⟨S1x8x8192x8192, .f32⟩
  | .hbm, ⟨78, _⟩ => ⟨S_, .f32⟩
  | .hbm, ⟨79, _⟩ => ⟨S8x8192, .f32⟩
  | .hbm, ⟨80, _⟩ => ⟨S1x8x8192, .f32⟩
  | .hbm, ⟨81, _⟩ => ⟨S1x8x8192x8192, .f32⟩
  | .hbm, ⟨82, _⟩ => ⟨S1x8x8192x8192, .f32⟩
  | .hbm, ⟨83, _⟩ => ⟨S1x8x8192x8192, .f32⟩
  | .hbm, ⟨84, _⟩ => ⟨S_, .f32⟩
  | .hbm, ⟨85, _⟩ => ⟨S1x8x8192x8192, .f32⟩
  | .hbm, ⟨86, _⟩ => ⟨S1x8x8192x8192, .f32⟩
  | .hbm, ⟨87, _⟩ => ⟨S1x8x8192x8192, .f32⟩
  | .hbm, ⟨88, _⟩ => ⟨S1x8x8192x8192, .f32⟩
  | .hbm, ⟨89, _⟩ => ⟨S1x8x8192x192, .f32⟩
  | .hbm, ⟨90, _⟩ => ⟨S1x8192x8x192, .f32⟩
  | .hbm, ⟨91, _⟩ => ⟨S1x8x8192x192, .f32⟩
  | .hbm, ⟨92, _⟩ => ⟨S1x8192x8x192, .f32⟩
  | .hbm, ⟨93, _⟩ => ⟨S8192x8x192, .f32⟩
  | .hbm, ⟨94, _⟩ => ⟨S8x8192x192, .f32⟩
  | .hbm, ⟨95, _⟩ => ⟨S8192x8x192, .f32⟩
  | .hbm, ⟨96, _⟩ => ⟨S8x8192x192, .f32⟩
  | .hbm, ⟨97, _⟩ => ⟨S8192x8x128, .f32⟩
  | .hbm, ⟨98, _⟩ => ⟨S8x8192x128, .f32⟩
  | _, _ => ⟨S1x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S8192x2816 : Shape := ⟨2, ![8192, 2816]⟩
abbrev S5632x1024 : Shape := ⟨2, ![5632, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S5632x1024, .f32⟩
  | .hbm, ⟨2, _⟩ => ⟨S8192x2816, .bf16⟩
  | .hbm, ⟨3, _⟩ => ⟨S5632x1024, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S5632x1024 : Shape := ⟨2, ![5632, 1024]⟩
abbrev S_ : Shape := ⟨0, ![]⟩
abbrev S8192x1024 : Shape := ⟨2, ![8192, 1024]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S5632x1024, .f32⟩
  | .hbm, ⟨2, _⟩ => ⟨S_, .f32⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S5632x1024 : Shape := ⟨2, ![5632, 1024]⟩
abbrev S8192x1024 : Shape := ⟨2, ![8192, 1024]⟩
abbrev S1024 : Shape := ⟨1, ![1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x2816, .f32⟩
  | .hbm, ⟨1, _⟩ => ⟨S5632x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x2816, .bf16⟩
  | .hbm, ⟨7, _⟩ => ⟨S5632x1024, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![1, 16, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def k0_cond4 (i : grid0.Coords) : BitVec 1 :=
  let arg1 : BitVec 32 := BitVec.ofNat 32 (i 1).val
  let c0_i32_19 : BitVec 32 := 0#32
  let v38 : BitVec 1 := Scalar.cmpi .eq arg1 c0_i32_19
  let v39 : BitVec 32 := Scalar.extui v38
  let c0_i32_20 : BitVec 32 := 0#32
  let v40 : BitVec 1 := Scalar.cmpi .ne v39 c0_i32_20
  v40

def k0_cond5 (i : grid0.Coords) : BitVec 1 :=
  let arg1 : BitVec 32 := BitVec.ofNat 32 (i 1).val
  let c0_i32_19 : BitVec 32 := 0#32
  let v38 : BitVec 1 := Scalar.cmpi .eq arg1 c0_i32_19
  let true_21 : BitVec 1 := 1#1
  let v41 : BitVec 1 := Scalar.xori v38 true_21
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference5Ideal.lean ====
abbrev S8192x2816 : Shape := ⟨2, ![8192, 2816]⟩
abbrev S5632x1024 : Shape := ⟨2, ![5632, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S1024x2816 : Shape := ⟨2, ![1024, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S5632x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S2816x1024, .f32⟩
  | .hbm, ⟨27, _⟩ => ⟨S1024x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S8192x8064 : Shape := ⟨2, ![8192, 8064]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x8064, .f32⟩
  | .hbm, ⟨3, _⟩ => ⟨S8192x1024, .f32⟩
  | .hbm, ⟨4, _⟩ => ⟨S8192x1024, .f32⟩
  | .hbm, ⟨5, _⟩ => ⟨S1024x1024, .bf16⟩
  | .hbm, ⟨6, _⟩ => ⟨S8192x2048, .bf16⟩
  | .hbm, ⟨7, _⟩ => ⟨S8192x1024, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x2048, .f32⟩
  | .local _ .vmem, ⟨4, _⟩ => ⟨S512x2048, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x1024 : Shape := ⟨2, ![8192, 1024]⟩
abbrev S1024x1024 : Shape := ⟨2, ![1024, 1024]⟩
abbrev S8192x8064 : Shape := ⟨2, ![8192, 8064]⟩
abbrev S8192x2048 : Shape := ⟨2, ![8192, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x8064, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x1024, .bf16⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel8.lean ====
abbrev S8192x8064 : Shape := ⟨2, ![8192, 8064]⟩
abbrev S8064x1024 : Shape := ⟨2, ![8064, 1024]⟩
abbrev S8192x1024 : Shape := ⟨2, ![8192, 1024]⟩
abbrev S1024 : Shape := ⟨1, ![1024]⟩
abbrev S1x1024 : Shape := ⟨2, ![1, 1024]⟩
abbrev S512x1152 : Shape := ⟨2, ![512, 1152]⟩
abbrev S1152x1024 : Shape := ⟨2, ![1152, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x8064, .f32⟩
  | .hbm, ⟨1, _⟩ => ⟨S8064x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x8064, .bf16⟩
  | .hbm, ⟨6, _⟩ => ⟨S8064x1024, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x1152, .bf16⟩
  | .local _ .vmem, ⟨1, _⟩ => ⟨S512x1152, .bf16⟩
  | .local _ .vmem, ⟨2, _⟩ => ⟨S1152x1024, .bf16⟩
  | .local _ .vmem, ⟨3, _⟩ => ⟨S1152x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 16, 7], ![false, false, false]⟩

def k0_cond3 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_5 : BitVec 32 := 0#32
  let v13 : BitVec 1 := Scalar.cmpi .ne v12 c0_i32_5
  v13

def k0_cond4 (i : grid0.Coords) : BitVec 1 :=
  let arg1 : BitVec 32 := BitVec.ofNat 32 (i 1).val
  let c0_i32_17 : BitVec 32 := 0#32
  let v36 : BitVec 1 := Scalar.cmpi .eq arg1 c0_i32_17
  let v37 : BitVec 32 := Scalar.extui v36
  let c0_i32_18 : BitVec 32 := 0#32
  let v38 : BitVec 1 := Scalar.cmpi .ne v37 c0_i32_18
  v38

def k0_cond5 (i : grid0.Coords) : BitVec 1 :=
  let arg1 : BitVec 32 := BitVec.ofNat 32 (i 1).val
  let c0_i32_17 : BitVec 32 := 0#32
  let v36 : BitVec 1 := Scalar.cmpi .eq arg1 c0_i32_17
  let true_19 : BitVec 1 := 1#1
  let v39 : BitVec 1 := Scalar.xori v36 true_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference8Ideal.lean ====
abbrev S8192x8064 : Shape := ⟨2, ![8192, 8064]⟩
abbrev S8064x1024 : Shape := ⟨2, ![8064, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8064 : Shape := ⟨2, ![1024, 8064]⟩

abbrev nBuf : Space → Nat
  | .hbm => 55
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S8064x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x8064, .f32⟩
  | .hbm, ⟨26, _⟩ => ⟨S8192x8064, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S8192x8064 : Shape := ⟨2, ![8192, 8064]⟩
abbrev S8192x1024 : Shape := ⟨2, ![8192, 1024]⟩
abbrev S8064x1024 : Shape := ⟨2, ![8064, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S8192x8064, .bf16⟩
  | .hbm, ⟨3, _⟩ => ⟨S8192x1024, .bf16⟩
  | .hbm, ⟨4, _⟩ => ⟨S8064x1024, .bf16⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x8064 : Shape := ⟨2, ![8192, 8064]⟩
abbrev S8192x1024 : Shape := ⟨2, ![8192, 1024]⟩
abbrev S_ : Shape := ⟨0, ![]⟩
abbrev S1024x8064 : Shape := ⟨2, ![1024, 8064]⟩
abbrev S8064x1024 : Shape := ⟨2, ![8064, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S_, .f32⟩
  | .hbm, ⟨3, _⟩ => ⟨S1024x8064, .f32⟩
  | .hbm, ⟨4, _⟩ => ⟨S8192x8064, .f32⟩
  | .hbm, ⟨5, _⟩ => ⟨S8064x1024, .f32⟩
  | .hbm, ⟨6, _⟩ => ⟨S1024x8064, .f32⟩
  | .hbm, ⟨7, _⟩ => ⟨S8064x1024, .f32⟩
  | .hbm, ⟨8, _⟩ => ⟨S8064x1024, .bf16⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x8064 : Shape := ⟨2, ![8192, 8064]⟩
abbrev S4x3072 : Shape := ⟨2, ![4, 3072]⟩
abbrev S3072 : Shape := ⟨1, ![3072]⟩
abbrev S8192x3072 : Shape := ⟨2, ![8192, 3072]⟩
abbrev S1x3072 : Shape := ⟨2, ![1, 3072]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S528x512 : Shape := ⟨2, ![528, 512]⟩
abbrev S520x512 : Shape := ⟨2, ![520, 512]⟩
abbrev S512 : Shape := ⟨1, ![512]⟩

abbrev nBuf : Space → Nat
  | .hbm => 8
  | .vmem => 22
  | .smem => 0
  | _ => 0

abbrev bufTy : (tb : Table) → Fin (tcTables nBuf tb) → BufTy
  | .hbm, ⟨0, _⟩ => ⟨S8192x8064, .f32⟩
  | .hbm, ⟨1, _⟩ => ⟨S4x3072, .f32⟩
  | .hbm, ⟨2, _⟩ => ⟨S3072, .f32⟩
  | .hbm, ⟨3, _⟩ => ⟨S8192x3072, .f32⟩
  | .hbm, ⟨4, _⟩ => ⟨S1x3072, .f32⟩
  | .hbm, ⟨5, _⟩ => ⟨S8192x3072, .bf16⟩
  | .hbm, ⟨6, _⟩ => ⟨S4x3072, .f32⟩
  | .hbm, ⟨7, _⟩ => ⟨S1x3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S4x512, .f32⟩
  | .local _ .vmem, ⟨11, _⟩ => ⟨S4x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S4x512, .f32⟩
  | .local _ .vmem, ⟨17, _⟩ => ⟨S4x512, .f32⟩
  | .local _ .vmem, ⟨18, _⟩ => ⟨S1x512, .f32⟩
  | .local _ .vmem, ⟨19, _⟩ => ⟨S1x512, .f32⟩
  | .local _ .vmem, ⟨20, _⟩ => ⟨S528x512, .f32⟩
  | .local _ .vmem, ⟨21, _⟩ => ⟨S520x512, .f32⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 16], ![false, false]⟩

def k0_cond3 (i : grid0.Coords) : BitVec 1 :=
  let arg1 : BitVec 32 := BitVec.ofNat 32 (i 1).val
  let c0_i32_52 : BitVec 32 := 0#32
  let v85 : BitVec 1 := Scalar.cmpi .eq arg1 c0_i32_52
  let v97 : BitVec 32 := Scalar.extui v85
  let c0_i32_59 : BitVec 32 := 0#32
  let v98 : BitVec 1 := Scalar.cmpi .ne v97 c0_i32_59
  v98

def k0_cond4 (i : grid0.Coords) : BitVec 1 :=
  let arg1 : BitVec 32 := BitVec.ofNat 32 (i 1).val
  let c0_i32_52 : BitVec 32 := 0#32
  let v85 : BitVec 1 := Scalar.cmpi .eq arg1 c0_i32_52
  let true_60 : BitVec 1 := 1#1
  let v99 : BitVec 1 := Scalar.xori v85 true_60
  let v100 : BitVec 32 := Scalar.extui v99
  let c0_i32_61 : BitVec 32 := 0#32
  let v101 : BitVec 1 := Scalar.cmpi .ne v100 c0_i32_61
  v101

def k0_cond5 (i : grid0.Coords) : BitVec 1 :=
  let arg1 : BitVec 32 := BitVec.ofNat 32 (i 1).val
  let c0_i32_52 : BitVec 32 := 0#32
  let v85 : BitVec 1 := Scalar.cmpi .eq arg1 c0_i32_52
  let v106 : BitVec 32 := Scalar.extui v85
  let c0_i32_65 : BitVec 32 := 0#32
  let v107 : BitVec 1 := Scalar.cmpi .ne v106 c0_i32_65
  v107

def k0_cond6 (i : grid0.Coords) : BitVec 1 :=
  let arg1 : BitVec 32 := BitVec.ofNat 32 (i 1).val
  let c0_i32_52 : BitVec 32 := 0#32
  let v85 : BitVec 1 := Scalar.cmpi .eq arg1 c0_i32_52
  let true_66 : BitVec 1 := 1#1
  let v108 : BitVec 1 := Scalar.xori v85 true_66
  let v109 : BitVec 32 := Scalar.extui v108
  let c0_i32_67 : BitVec 32 := 0#32
  let v110 : BitVec 1 := Scalar.cmpi .ne v109 c0_i32_67
  v110

def k0_cond7 (i : grid0.Coords) : BitVec 1 :=
  let arg1 : BitVec 32 := BitVec.ofNat 32 (i 1).val
  let c0_i32_52 : BitVec 32 := 0#32
  let v85 : BitVec 1 := Scalar.cmpi .eq arg1 c0_i32_52
  let v115 : BitVec 32 := Scalar.extui v85
  let c0_i32_71 : BitVec 32 := 0#32
  let v116 : BitVec 1 := Scalar.cmpi .ne v115 c0_i32_71
  v116

def k0_cond8 (i : grid0.Coords) : BitVec 1 :=
  let arg1 : BitVec 32 := BitVec.ofNat 32 (i 1).val
  let c0_i32_52 : BitVec 32 := 0#32
  let v85 : BitVec 1 := Scalar.cmpi .eq arg1 c0_i32_52
  let true_72 : BitVec 1 := 1#1
  let v117 : BitVec 1 := Scalar.xori v85 true_72
  let v118 : BitVec 32 := Scalar.extui v117
  let c0_i32_73 : BitVec 32 := 0#32
  let v119 : BitVec 1 := Scalar.cmpi .ne v118 c0_i32_73
  v119

def k0_cond9 (i : grid0.Coords) : BitVec 1 :=
  let arg1 : BitVec 32 := BitVec.ofNat 32 (i 1).val
  let c0_i32_52 : BitVec 32 := 0#32
  let v85 : BitVec 1 := Scalar.cmpi .eq arg1 c0_i32_52
  let v124 : BitVec 32 := Scalar.extui v85
  let c0_i32_77 : BitVec 32 := 0#32
  let v125 : BitVec 1 := Scalar.cmpi .ne v124 c0_i32_77
  v125

def k0_cond10 (i : grid0.Coords) : BitVec 1 :=
  let arg1 : BitVec 32 := BitVec.ofNat 32 (i 1).val
  let c0_i32_52 : BitVec 32 := 0#32
  let v85 : BitVec 1 := Scalar.cmpi .eq arg1 c0_i32_52
  let true_78 : BitVec 1 := 1#1
  let v126 : BitVec 1 := Scalar.xori v85 true_78
  let v127 : BitVec 32 := Scalar.extui v126
  let c0_i32_79 : BitVec 32 := 0#32
  let v128 : BitVec 1 := Scalar.cmpi .ne v127 c0_i32_79
  v128

def k0_cond1 (i : grid0.Coords) : BitVec 1 :=
  let arg1 : BitVec 32 := BitVec.ofNat 32 (i 1).val
  let c0_i32_52 : BitVec 32 := 0#32
  let v85 : BitVec 1 := Scalar.cmpi .eq arg1 c0_i32_52
  let v88 : BitVec 32 := Scalar.extui v85
  let c0_i32_54 : BitVec 32 := 0#32
  let v89 : BitVec 1 := Scalar.cmpi .ne v88 c0_i32_54
  v89

def k0_cond2 (i : grid0.Coords) : BitVec 1 :=
  let arg1 : BitVec 32 := BitVec.ofNat 32 (i 1).val
  let c0_i32_52 : BitVec 32 := 0#32
  let v85 : BitVec 1 := Scalar.cmpi .eq arg1 c0_i32_52
  let v_true : BitVec 1 := 1#1
  let v90 : BitVec 1 := Scalar.xori v85 v_true
  let v91 : BitVec 32 := Scalar.extui v90
  let c0_i32_55 : BitVec 32 := 0#32
  let v92 : BitVec 1 := Scalar.cmpi .ne v91 c0_i32_55
  v92

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi arg0 c8_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c64_i32_0 : BitVec 32 := 64#32
  let v1 : BitVec 32 := Scalar.addi v0 c64_i32_0
  let c1023_i32 : BitVec 32 := 1023#32
  let v2 : BitVec 32 := Scalar.minsi v1 c1023_i32
  let c8_i32 : BitVec 32 := 8#32
  let v3 : BitVec 32 := Scalar.addi arg0 c8_i32
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c64_i32_0 : BitVec 32 := 64#32
  let v1 : BitVec 32 := Scalar.addi v0 c64_i32_0
  let c1023_i32 : BitVec 32 := 1023#32
  let v2 : BitVec 32 := Scalar.minsi v1 c1023_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference10Ideal.lean ====
abbrev S8192x8064 : Shape := ⟨2, ![8192, 8064]⟩
abbrev S4x3072 : Shape := ⟨2, ![4, 3072]⟩
abbrev S3072 : Shape := ⟨1, ![3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩

abbrev nBuf : Space → Nat
  | .hbm => 104
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S4x3072, .f32⟩
  | .hbm, ⟨2, _⟩ => ⟨S3072, .f32⟩
  | .hbm, ⟨3, _⟩ => ⟨S8192x3072, .f32⟩
  | .hbm, ⟨4, _⟩ => ⟨S8192x3072, .f32⟩
  | .hbm, ⟨5, _⟩ => ⟨S_, .f32⟩
  | .hbm, ⟨6, _⟩ => ⟨S3x3072, .f32⟩
  | .hbm, ⟨7, _⟩ => ⟨S8195x3072, .f32⟩
  | .hbm, ⟨8, _⟩ => ⟨S_, .f32⟩
  | .hbm, ⟨9, _⟩ => ⟨S3x3072, .f32⟩
  | .hbm, ⟨10, _⟩ => ⟨S8192x3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | .hbm, ⟨37, _⟩ => ⟨S_, .f32⟩
  | .hbm, ⟨38, _⟩ => ⟨S8192x3072, .f32⟩
  | .hbm, ⟨39, _⟩ => ⟨S8192x3072, .f32⟩
  | .hbm, ⟨40, _⟩ => ⟨S_, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x3072, .f32⟩
  | .hbm, ⟨49, _⟩ => ⟨S8192x3072, .f32⟩
  | .hbm, ⟨50, _⟩ => ⟨S_, .f32⟩
  | .hbm, ⟨51, _⟩ => ⟨S3072, .f32⟩
  | .hbm, ⟨52, _⟩ => ⟨S1x3072, .f32⟩
  | .hbm, ⟨53, _⟩ => ⟨S8192x3072, .f32⟩
  | .hbm, ⟨54, _⟩ => ⟨S8192x3072, .f32⟩
  | .hbm, ⟨55, _⟩ => ⟨S_, .f32⟩
  | .hbm, ⟨56, _⟩ => ⟨S4x3072, .f32⟩
  | .hbm, ⟨57, _⟩ => ⟨S_, .f32⟩
  | .hbm, ⟨58, _⟩ => ⟨S8195x3072, .f32⟩
  | .hbm, ⟨59, _⟩ => ⟨S8192x3072, .f32⟩
  | .hbm, ⟨60, _⟩ => ⟨S_, .f32⟩
  | .hbm, ⟨61, _⟩ => ⟨S3072, .f32⟩
  | .hbm, ⟨62, _⟩ => ⟨S1x3072, .f32⟩
  | .hbm, ⟨63, _⟩ => ⟨S8192x3072, .f32⟩
  | .hbm, ⟨64, _⟩ => ⟨S8192x3072, .f32⟩
  | .hbm, ⟨65, _⟩ => ⟨S_, .f32⟩
  | .hbm, ⟨66, _⟩ => ⟨S4x3072, .f32⟩
  | .hbm, ⟨67, _⟩ => ⟨S4x3072, .f32⟩
  | .hbm, ⟨68, _⟩ => ⟨S_, .f32⟩
  | .hbm, ⟨69, _⟩ => ⟨S8195x3072, .f32⟩
  | .hbm, ⟨70, _⟩ => ⟨S8195x3072, .f32⟩
  | .hbm, ⟨71, _⟩ => ⟨S8192x3072, .f32⟩
  | .hbm, ⟨72, _⟩ => ⟨S_, .f32⟩
  | .hbm, ⟨73, _⟩ => ⟨S3072, .f32⟩
  | .hbm, ⟨74, _⟩ => ⟨S1x3072, .f32⟩
  | .hbm, ⟨75, _⟩ => ⟨S8192x3072, .f32⟩
  | .hbm, ⟨76, _⟩ => ⟨S8192x3072, .f32⟩
  | .hbm, ⟨77, _⟩ => ⟨S_, .f32⟩
  | .hbm, ⟨78, _⟩ => ⟨S4x3072, .f32⟩
  | .hbm, ⟨79, _⟩ => ⟨S4x3072, .f32⟩
  | .hbm, ⟨80, _⟩ => ⟨S_, .f32⟩
  | .hbm, ⟨81, _⟩ => ⟨S8195x3072, .f32⟩
  | .hbm, ⟨82, _⟩ => ⟨S8195x3072, .f32⟩
  | .hbm, ⟨83, _⟩ => ⟨S_, .f32⟩
  | .hbm, ⟨84, _⟩ => ⟨S3072, .f32⟩
  | .hbm, ⟨85, _⟩ => ⟨S1x3072, .f32⟩
  | .hbm, ⟨86, _⟩ => ⟨S_, .f32⟩
  | .hbm, ⟨87, _⟩ => ⟨S3072, .f32⟩
  | .hbm, ⟨88, _⟩ => ⟨S8192x3072, .f32⟩
  | .hbm, ⟨89, _⟩ => ⟨S_, .f32⟩
  | .hbm, ⟨90, _⟩ => ⟨S3072, .f32⟩
  | .hbm, ⟨91, _⟩ => ⟨S1x3072, .f32⟩
  | .hbm, ⟨92, _⟩ => ⟨S8192x3072, .f32⟩
  | .hbm, ⟨93, _⟩ => ⟨S8192x3072, .f32⟩
  | .hbm, ⟨94, _⟩ => ⟨S_, .f32⟩
  | .hbm, ⟨95, _⟩ => ⟨S4x3072, .f32⟩
  | .hbm, ⟨96, _⟩ => ⟨S4x3072, .f32⟩
  | .hbm, ⟨97, _⟩ => ⟨S_, .f32⟩
  | .hbm, ⟨98, _⟩ => ⟨S8195x3072, .f32⟩
  | .hbm, ⟨99, _⟩ => ⟨S8195x3072, .f32⟩
  | .hbm, ⟨100, _⟩ => ⟨S3x3072, .f32⟩
  | .hbm, ⟨101, _⟩ => ⟨S8192x3072, .f32⟩
  | .hbm, ⟨102, _⟩ => ⟨S8192x3072, .bf16⟩
  | .hbm, ⟨103, _⟩ => ⟨S1x3072, .f32⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v26_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v26_1 : Ref sig .tc := ⟨.hbm, 43, rfl⟩
abbrev main_v26_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Kernel11.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | .hbm, ⟨6, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S5632x1024 : Shape := ⟨2, ![5632, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S5632x1024, .f32⟩
  | .hbm, ⟨2, _⟩ => ⟨S8192x1024, .bf16⟩
  | .hbm, ⟨3, _⟩ => ⟨S5632x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S5632x1024, .f32⟩
  | .hbm, ⟨2, _⟩ => ⟨S1024x5632, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S8192x2816, .bf16⟩
  | .hbm, ⟨18, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel15.lean ====
abbrev S8192x1024 : Shape := ⟨2, ![8192, 1024]⟩
abbrev S8064x1024 : Shape := ⟨2, ![8064, 1024]⟩
abbrev S8192x8064 : Shape := ⟨2, ![8192, 8064]⟩
abbrev S1024x1024 : Shape := ⟨2, ![1024, 1024]⟩
abbrev S1152x1024 : Shape := ⟨2, ![1152, 1024]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8064x1024, .f32⟩
  | .hbm, ⟨2, _⟩ => ⟨S8192x1024, .bf16⟩
  | .hbm, ⟨3, _⟩ => ⟨S8064x1024, .bf16⟩
  | .hbm, ⟨4, _⟩ => ⟨S8192x8064, .f32⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1152, .f32⟩
  | .local _ .vmem, ⟨5, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8064x1024 : Shape := ⟨2, ![8064, 1024]⟩
abbrev S1024x8064 : Shape := ⟨2, ![1024, 8064]⟩
abbrev S8192x8064 : Shape := ⟨2, ![8192, 8064]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8064x1024, .f32⟩
  | .hbm, ⟨2, _⟩ => ⟨S1024x8064, .f32⟩
  | .hbm, ⟨3, _⟩ => ⟨S8192x8064, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S8192x2816 : Shape := ⟨2, ![8192, 2816]⟩
abbrev S2816x1024 : Shape := ⟨2, ![2816, 1024]⟩
abbrev S8192x1024 : Shape := ⟨2, ![8192, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S8192x8 : Shape := ⟨2, ![8192, 8]⟩
abbrev S512x1024 : Shape := ⟨2, ![512, 1024]⟩
abbrev S512x8 : Shape := ⟨2, ![512, 8]⟩
abbrev S1024x8 : Shape := ⟨2, ![1024, 8]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S8192x8, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x8, .f32⟩
  | .local _ .vmem, ⟨8, _⟩ => ⟨S512x8, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S8192x8064 : Shape := ⟨2, ![8192, 8064]⟩
abbrev S8192x1024 : Shape := ⟨2, ![8192, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S8192x8064 : Shape := ⟨2, ![8192, 8064]⟩
abbrev S8192x1024 : Shape := ⟨2, ![8192, 1024]⟩
abbrev S1024x1024 : Shape := ⟨2, ![1024, 1024]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8192x2048 : Shape := ⟨2, ![8192, 2048]⟩
abbrev S2048x512 : Shape := ⟨2, ![2048, 512]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S8192x2048, .bf16⟩
  | .hbm, ⟨3, _⟩ => ⟨S2048x512, .bf16⟩
  | .hbm, ⟨4, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S2048x512 : Shape := ⟨2, ![2048, 512]⟩
abbrev S_ : Shape := ⟨0, ![]⟩
abbrev S8192x512 : Shape := ⟨2, ![8192, 512]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S_, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x512, .f32⟩
  | .hbm, ⟨7, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x2048 : Shape := ⟨2, ![8192, 2048]⟩
abbrev S8192x512 : Shape := ⟨2, ![8192, 512]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x2048, .bf16⟩
  | .hbm, ⟨3, _⟩ => ⟨S8192x512, .bf16⟩
  | .hbm, ⟨4, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S_, .f32⟩
  | .hbm, ⟨3, _⟩ => ⟨S2048x512, .f32⟩
  | .hbm, ⟨4, _⟩ => ⟨S512x2048, .f32⟩
  | .hbm, ⟨5, _⟩ => ⟨S8192x2048, .f32⟩
  | .hbm, ⟨6, _⟩ => ⟨S2048x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S8192x2048 : Shape := ⟨2, ![8192, 2048]⟩
abbrev S2048x256 : Shape := ⟨2, ![2048, 256]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S8192x2048, .bf16⟩
  | .hbm, ⟨3, _⟩ => ⟨S2048x256, .bf16⟩
  | .hbm, ⟨4, _⟩ => ⟨S8192x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S2048x256 : Shape := ⟨2, ![2048, 256]⟩
abbrev S_ : Shape := ⟨0, ![]⟩
abbrev S8192x256 : Shape := ⟨2, ![8192, 256]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S_, .f32⟩
  | .hbm, ⟨3, _⟩ => ⟨S8192x256, .f32⟩
  | .hbm, ⟨4, _⟩ => ⟨S256x2048, .f32⟩
  | .hbm, ⟨5, _⟩ => ⟨S8192x2048, .f32⟩
  | .hbm, ⟨6, _⟩ => ⟨S8192x256, .f32⟩
  | .hbm, ⟨7, _⟩ => ⟨S8192x256, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S8192x2048 : Shape := ⟨2, ![8192, 2048]⟩
abbrev S8192x256 : Shape := ⟨2, ![8192, 256]⟩
abbrev S2048x256 : Shape := ⟨2, ![2048, 256]⟩
abbrev S1024x1024 : Shape := ⟨2, ![1024, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S8192x2048, .bf16⟩
  | .hbm, ⟨3, _⟩ => ⟨S8192x256, .bf16⟩
  | .hbm, ⟨4, _⟩ => ⟨S2048x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x2048 : Shape := ⟨2, ![8192, 2048]⟩
abbrev S8192x256 : Shape := ⟨2, ![8192, 256]⟩
abbrev S_ : Shape := ⟨0, ![]⟩
abbrev S2048x256 : Shape := ⟨2, ![2048, 256]⟩
abbrev S256x2048 : Shape := ⟨2, ![256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S_, .f32⟩
  | .hbm, ⟨3, _⟩ => ⟨S2048x256, .f32⟩
  | .hbm, ⟨4, _⟩ => ⟨S256x2048, .f32⟩
  | .hbm, ⟨5, _⟩ => ⟨S8192x2048, .f32⟩
  | .hbm, ⟨6, _⟩ => ⟨S2048x256, .f32⟩
  | .hbm, ⟨7, _⟩ => ⟨S256x2048, .f32⟩
  | .hbm, ⟨8, _⟩ => ⟨S2048x256, .f32⟩
  | .hbm, ⟨9, _⟩ => ⟨S2048x256, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S8192x512 : Shape := ⟨2, ![8192, 512]⟩
abbrev S2048x512 : Shape := ⟨2, ![2048, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S8192x512, .bf16⟩
  | .hbm, ⟨3, _⟩ => ⟨S2048x512, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x512 : Shape := ⟨2, ![8192, 512]⟩
abbrev S2048x512 : Shape := ⟨2, ![2048, 512]⟩
abbrev S512x2048 : Shape := ⟨2, ![512, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S512x2048, .f32⟩
  | .hbm, ⟨3, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S8192x256 : Shape := ⟨2, ![8192, 256]⟩
abbrev S2048x256 : Shape := ⟨2, ![2048, 256]⟩
abbrev S8192x2048 : Shape := ⟨2, ![8192, 2048]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S8192x256, .bf16⟩
  | .hbm, ⟨3, _⟩ => ⟨S2048x256, .bf16⟩
  | .hbm, ⟨4, _⟩ => ⟨S8192x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x256 : Shape := ⟨2, ![8192, 256]⟩
abbrev S2048x256 : Shape := ⟨2, ![2048, 256]⟩
abbrev S256x2048 : Shape := ⟨2, ![256, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S256x2048, .f32⟩
  | .hbm, ⟨3, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Block.lean ====
/-
  The attention backward kernel's block step, as plain functions of whole blocks.

  One grid point of the call holds one block of 512 keys of two heads, and goes over the blocks of 512 queries from
  its own one on. For each block of queries and each head it adds one product to the gradient of the values, one to
  the gradient of the keys and one to the rows of the gradient of the queries. `dvH`, `dkH`, `dqH` are these three
  sums for one head; `stDv`, `stDk`, `stDq` put both heads together.
-/
module

public import proofs.«01_k».proof.Proof.Gen.KernelIdeal.Skeleton
public import Idealize.ShloMosaic.Lib.Pointwise
public import Idealize.ShloMosaic.Lib.WritesUnit
public import Idealize.ShloMosaic.Lib.Pipeline.Value
public import Idealize.ShloMosaic.Lib.Pipeline.ValueKit

@[expose] public section

set_option maxRecDepth 16384

noncomputable section

namespace Cert.KernelIdeal.Attn

open Idealize.ShloMosaic Idealize.ShloMosaic.Pointwise Cert.KernelIdeal.Gen

variable {F : FTy → Type} [FloatOps F] [Named F]

/-- Rows `512 b … 512 b + 511` of head `h`, of a whole head-major array of rows of width `w`. -/
def rows {w : ℕ} {e : EltTy} (X : Vec F ⟨3, ![2, 8192, w]⟩ e) (h : Fin 2) (b : ℕ) : Vec F ⟨3, ![1, 512, w]⟩ e :=
  fun x => X (ix3 (n0 := 2) (n1 := 8192) (n2 := w) h ⟨(512 * b + (x 1).val) % 8192, Nat.mod_lt _ (by decide)⟩ (x 2))

/-- Entries `512 b … 512 b + 511` of head `h`, of an array with one number per row. -/
def lane {e : EltTy} (X : Vec F S2x1x8192 e) (h : Fin 2) (b : ℕ) : Vec F S1x1x512 e :=
  fun x => X (ix3 (n0 := 2) (n1 := 1) (n2 := 8192) h (x 1) ⟨(512 * b + (x 2).val) % 8192, Nat.mod_lt _ (by decide)⟩)

/-- Head `h` of a block of both heads. -/
def head {w : ℕ} {e : EltTy} (X : Vec F ⟨3, ![2, 512, w]⟩ e) (h : Fin 2) : Vec F ⟨3, ![1, 512, w]⟩ e :=
  fun x => X (ix3 (n0 := 2) (n1 := 512) (n2 := w) h (x 1) (x 2))

/-- A block of both heads from its two heads. -/
def both {w : ℕ} {e : EltTy} (A B : Vec F ⟨3, ![1, 512, w]⟩ e) : Vec F ⟨3, ![2, 512, w]⟩ e :=
  fun y => if (y 0).val = 0 then A (ix3 (n0 := 1) (n1 := 512) (n2 := w) 0 (y 1) (y 2))
    else B (ix3 (n0 := 1) (n1 := 512) (n2 := w) 0 (y 1) (y 2))

/-- `X` with the rows of block `b` replaced, in each of its two heads. -/
def setRows {w : ℕ} {e : EltTy} (X : Vec F ⟨3, ![2, 8192, w]⟩ e) (b : ℕ) (A B : Vec F ⟨3, ![1, 512, w]⟩ e) :
    Vec F ⟨3, ![2, 8192, w]⟩ e :=
  fun y => if h : 512 * b ≤ (y 1).val ∧ (y 1).val < 512 * b + 512 then
      (if (y 0).val = 0 then A (ix3 (n0 := 1) (n1 := 512) (n2 := w) 0 ⟨(y 1).val - 512 * b, by omega⟩ (y 2))
        else B (ix3 (n0 := 1) (n1 := 512) (n2 := w) 0 ⟨(y 1).val - 512 * b, by omega⟩ (y 2)))
    else X y

theorem setRows_zero {w : ℕ} {e : EltTy} (X : Vec F ⟨3, ![2, 8192, w]⟩ e) (b : ℕ) (A B : Vec F ⟨3, ![1, 512, w]⟩ e)
    (y0 : Fin 2) (y1 : Fin 8192) (y2 : Fin w) (h : 512 * b ≤ y1.val ∧ y1.val < 512 * b + 512) (hy : y0.val = 0) :
    setRows X b A B (ix3 y0 y1 y2) = A (ix3 (n0 := 1) (n1 := 512) (n2 := w) 0 ⟨y1.val - 512 * b, by omega⟩ y2) := by
  unfold setRows
  rw [dif_pos (show 512 * b ≤ ((ix3 y0 y1 y2) 1).val ∧ ((ix3 y0 y1 y2) 1).val < 512 * b + 512 from h)]
  exact if_pos hy

theorem setRows_one {w : ℕ} {e : EltTy} (X : Vec F ⟨3, ![2, 8192, w]⟩ e) (b : ℕ) (A B : Vec F ⟨3, ![1, 512, w]⟩ e)
    (y0 : Fin 2) (y1 : Fin 8192) (y2 : Fin w) (h : 512 * b ≤ y1.val ∧ y1.val < 512 * b + 512) (hy : ¬y0.val = 0) :
    setRows X b A B (ix3 y0 y1 y2) = B (ix3 (n0 := 1) (n1 := 512) (n2 := w) 0 ⟨y1.val - 512 * b, by omega⟩ y2) := by
  unfold setRows
  rw [dif_pos (show 512 * b ≤ ((ix3 y0 y1 y2) 1).val ∧ ((ix3 y0 y1 y2) 1).val < 512 * b + 512 from h)]
  exact if_neg hy

theorem setRows_off {w : ℕ} {e : EltTy} (X : Vec F ⟨3, ![2, 8192, w]⟩ e) (b : ℕ) (A B : Vec F ⟨3, ![1, 512, w]⟩ e)
    (y0 : Fin 2) (y1 : Fin 8192) (y2 : Fin w) (h : ¬(512 * b ≤ y1.val ∧ y1.val < 512 * b + 512)) :
    setRows X b A B (ix3 y0 y1 y2) = X (ix3 y0 y1 y2) := by
  unfold setRows
  rw [dif_neg (show ¬(512 * b ≤ ((ix3 y0 y1 y2) 1).val ∧ ((ix3 y0 y1 y2) 1).val < 512 * b + 512) from h)]

/-- The probabilities of a block, keys on the rows: every query of the block comes after every key. -/
abbrev probs (K : FVec F S512x192 .bf16) (Q : Vec F S1x512x192 .bf16) (L : Vec F S1x1x512 .f32) : FVec F S512x512 .f32 :=
  k0_pay9 K Q L

/-- The probabilities of the block on the diagonal. -/
abbrev probsDiag (K : FVec F S512x192 .bf16) (Q : Vec F S1x512x192 .bf16) (L : Vec F S1x1x512 .f32) : FVec F S512x512 .f32 :=
  k0_pay40 K (k0_pay38 Q) (constant S512x512 .f32 0x00000000#32) L

/-- The gradient of the scores of a block, before the scale. -/
abbrev dscores (V : FVec F S512x128 .bf16) (D : Vec F S1x512x128 .bf16) (P : FVec F S512x512 .f32) (T : Vec F S1x1x512 .f32) :
    FVec F S512x512 .bf16 := k0_pay55 V (k0_pay8 D) P T

/-- The values' gradient of one head after one more block of queries. -/
abbrev dvH (D : Vec F S1x512x128 .bf16) (P : FVec F S512x512 .f32) (old : Vec F S1x512x128 .f32) : Vec F S1x512x128 .f32 :=
  k0_pay54 (k0_pay8 D) (k0_pay17 old) (truncf .bf16 P bitsLt_bf16_f32) (constant S512x128 .f32 0x00000000#32)

/-- The keys' gradient of one head after one more block of queries. -/
abbrev dkH (Q : Vec F S1x512x192 .bf16) (S : FVec F S512x512 .bf16) (old : Vec F S1x512x192 .f32) : Vec F S1x512x192 .f32 :=
  k0_pay12 (k0_pay7 Q) S old

/-- One block's rows of the queries' gradient of one head after one more block of keys. -/
abbrev dqH (K : FVec F S512x192 .bf16) (S : FVec F S512x512 .bf16) (old : Vec F S1x512x192 .f32) : Vec F S1x512x192 .f32 :=
  k0_pay13 K S old

/-- A load of block `b`'s rows of head `h`. -/
theorem ld_rows {w : ℕ} {e : EltTy} (X : Vec F ⟨3, ![2, 8192, w]⟩ e) (h : Fin 2) (b : ℕ) (hb : b < 16) (off : Fin 3 → ℕ)
    (hoff : off = ![h.val, 512 * b, 0])
    (inb : ∀ a, off a + (⟨3, ![1, 512, w]⟩ : Shape).size a ≤ (⟨3, ![2, 8192, w]⟩ : Shape).size a) :
    View.ld X (Rect.unit (s := ⟨3, ![2, 8192, w]⟩) off (⟨3, ![1, 512, w]⟩ : Shape).size inb) = rows X h b := by
  subst hoff
  funext x
  refine View.ld_unit_apply_of X _ _ inb x _ (fun a => ?_)
  have h0 : (x 0).val < 1 := (x 0).isLt
  have h1 : (x 1).val < 512 := (x 1).isLt
  match a with
  | 0 => show h.val = h.val + (x 0).val; omega
  | 1 => show (512 * b + (x 1).val) % 8192 = 512 * b + (x 1).val; omega
  | 2 => show (x 2).val = 0 + (x 2).val; omega

theorem ld_lane {e : EltTy} (X : Vec F S2x1x8192 e) (h : Fin 2) (b : ℕ) (hb : b < 16) (off : Fin 3 → ℕ)
    (hoff : off = ![h.val, 0, 512 * b]) (inb : ∀ a, off a + S1x1x512.size a ≤ S2x1x8192.size a) :
    View.ld X (Rect.unit (s := S2x1x8192) off S1x1x512.size inb) = lane X h b := by
  subst hoff
  funext x
  refine View.ld_unit_apply_of X _ _ inb x _ (fun a => ?_)
  have h0 : (x 0).val < 1 := (x 0).isLt
  have h1 : (x 2).val < 512 := (x 2).isLt
  match a with
  | 0 => show h.val = h.val + (x 0).val; omega
  | 1 => show (x 1).val = 0 + (x 1).val; omega
  | 2 => show (512 * b + (x 2).val) % 8192 = 512 * b + (x 2).val; omega

theorem ld_head {w : ℕ} {e : EltTy} (X : Vec F ⟨3, ![2, 512, w]⟩ e) (h : Fin 2) (off : Fin 3 → ℕ)
    (hoff : off = ![h.val, 0, 0])
    (inb : ∀ a, off a + (⟨3, ![1, 512, w]⟩ : Shape).size a ≤ (⟨3, ![2, 512, w]⟩ : Shape).size a) :
    View.ld X (Rect.unit (s := ⟨3, ![2, 512, w]⟩) off (⟨3, ![1, 512, w]⟩ : Shape).size inb) = head X h := by
  subst hoff
  funext x
  refine View.ld_unit_apply_of X _ _ inb x _ (fun a => ?_)
  have h0 : (x 0).val < 1 := (x 0).isLt
  match a with
  | 0 => show h.val = h.val + (x 0).val; omega
  | 1 => show (x 1).val = 0 + (x 1).val; omega
  | 2 => show (x 2).val = 0 + (x 2).val; omega

/-- One head, put back into a block of both heads. -/
theorem head_both_zero {w : ℕ} {e : EltTy} (A B : Vec F ⟨3, ![1, 512, w]⟩ e) : head (both A B) 0 = A := by
  funext x
  obtain ⟨x0, x1, x2, rfl⟩ : ∃ (a : Fin 1) (b : Fin 512) (c : Fin w), x = ix3 a b c := ⟨x 0, x 1, x 2, eq_ix3 x⟩
  obtain rfl : x0 = 0 := Subsingleton.elim _ _
  rfl

theorem head_both_one {w : ℕ} {e : EltTy} (A B : Vec F ⟨3, ![1, 512, w]⟩ e) : head (both A B) 1 = B := by
  funext x
  obtain ⟨x0, x1, x2, rfl⟩ : ∃ (a : Fin 1) (b : Fin 512) (c : Fin w), x = ix3 a b c := ⟨x 0, x 1, x 2, eq_ix3 x⟩
  obtain rfl : x0 = 0 := Subsingleton.elim _ _
  rfl

/-! ## One block of queries, both heads -/

section Step

variable (K0 K1 : FVec F S512x192 .bf16) (V0 V1 : FVec F S512x128 .bf16) (X : Vec F S2x8192x192 .bf16)
  (D : Vec F S2x8192x128 .bf16) (L T : Vec F S2x1x8192 .f32) (b : ℕ)

/-- The score gradients of head `h` on block `b`. -/
def sH (K : FVec F S512x192 .bf16) (V : FVec F S512x128 .bf16) (h : Fin 2) : FVec F S512x512 .bf16 :=
  dscores V (rows D h b) (probs K (rows X h b) (lane L h b)) (lane T h b)

/-- The same on the diagonal. -/
def sDiagH (K : FVec F S512x192 .bf16) (V : FVec F S512x128 .bf16) (h : Fin 2) : FVec F S512x512 .bf16 :=
  dscores V (rows D h b) (probsDiag K (rows X h b) (lane L h b)) (lane T h b)

def stDv (dv : Vec F S2x512x128 .f32) : Vec F S2x512x128 .f32 :=
  both (dvH (rows D 0 b) (probs K0 (rows X 0 b) (lane L 0 b)) (head dv 0))
    (dvH (rows D 1 b) (probs K1 (rows X 1 b) (lane L 1 b)) (head dv 1))

def stDk (dk : Vec F S2x512x192 .f32) : Vec F S2x512x192 .f32 :=
  both (dkH (rows X 0 b) (sH X D L T b K0 V0 0) (head dk 0)) (dkH (rows X 1 b) (sH X D L T b K1 V1 1) (head dk 1))

def stDq (dq : Vec F S2x8192x192 .f32) : Vec F S2x8192x192 .f32 :=
  setRows dq b (dqH K0 (sH X D L T b K0 V0 0) (rows dq 0 b)) (dqH K1 (sH X D L T b K1 V1 1) (rows dq 1 b))

def diagDv (dv : Vec F S2x512x128 .f32) : Vec F S2x512x128 .f32 :=
  both (dvH (rows D 0 b) (probsDiag K0 (rows X 0 b) (lane L 0 b)) (head dv 0))
    (dvH (rows D 1 b) (probsDiag K1 (rows X 1 b) (lane L 1 b)) (head dv 1))

def diagDk (dk : Vec F S2x512x192 .f32) : Vec F S2x512x192 .f32 :=
  both (dkH (rows X 0 b) (sDiagH X D L T b K0 V0 0) (head dk 0)) (dkH (rows X 1 b) (sDiagH X D L T b K1 V1 1) (head dk 1))

def diagDq (dq : Vec F S2x8192x192 .f32) : Vec F S2x8192x192 .f32 :=
  setRows dq b (dqH K0 (sDiagH X D L T b K0 V0 0) (rows dq 0 b)) (dqH K1 (sDiagH X D L T b K1 V1 1) (rows dq 1 b))

end Step

/-! ## What two stores leave -/

section Stores

variable {κ : Kind} {sp : Space} {w : ℕ} {e : EltTy}

/-- Two stores, one per head, over a block of both heads. -/
theorem writes_both {m : Memref sig κ sp ⟨3, ![2, 512, w]⟩ e} (hm : m.IsWhole) (f : m.view.ty.Contents (Elt F))
    (off1 off0 : Fin 3 → ℕ) (h1 : off1 = ![1, 0, 0]) (h0 : off0 = ![0, 0, 0])
    (inb1 : ∀ a, off1 a + (⟨3, ![1, 512, w]⟩ : Shape).size a ≤ (⟨3, ![2, 512, w]⟩ : Shape).size a)
    (inb0 : ∀ a, off0 a + (⟨3, ![1, 512, w]⟩ : Shape).size a ≤ (⟨3, ![2, 512, w]⟩ : Shape).size a)
    (A B : Vec F ⟨3, ![1, 512, w]⟩ e) (Ls : List (View.Piece (Elt F) ⟨3, ![2, 512, w]⟩ e)) :
    m.view.writes (Elt F) f
        ((⟨Rect.unit (s := ⟨3, ![2, 512, w]⟩) off1 (⟨3, ![1, 512, w]⟩ : Shape).size inb1, B⟩ : View.Piece (Elt F) ⟨3, ![2, 512, w]⟩ e)
          :: (⟨Rect.unit (s := ⟨3, ![2, 512, w]⟩) off0 (⟨3, ![1, 512, w]⟩ : Shape).size inb0, A⟩ : View.Piece (Elt F) ⟨3, ![2, 512, w]⟩ e)
          :: Ls) = hm.unread (both A B) := by
  apply hm.eq_unread
  funext y
  obtain ⟨y0, y1, y2, rfl⟩ : ∃ (a : Fin 2) (b : Fin 512) (c : Fin w), y = ix3 a b c := ⟨y 0, y 1, y 2, eq_ix3 y⟩
  by_cases hy : y0.val = 0
  · rw [View.read_writes_cons_unit_of_not_mem m.view _ inb1 B _ _ h1 0 (Or.inl (by show y0.val < 1; omega)),
      View.read_writes_cons_unit_of_mem m.view _ inb0 A Ls _ (ix3 (n0 := 1) (n1 := 512) (n2 := w) 0 y1 y2) h0 (fun a => by
        match a with
        | 0 => show y0.val = 0 + 0; omega
        | 1 => show y1.val = 0 + y1.val; omega
        | 2 => show y2.val = 0 + y2.val; omega)]
    exact (if_pos hy).symm
  · rw [View.read_writes_cons_unit_of_mem m.view _ inb1 B _ _ (ix3 (n0 := 1) (n1 := 512) (n2 := w) 0 y1 y2) h1 (fun a => by
        match a with
        | 0 => show y0.val = 1 + 0; omega
        | 1 => show y1.val = 0 + y1.val; omega
        | 2 => show y2.val = 0 + y2.val; omega)]
    exact (if_neg hy).symm

/-- Two stores, one per head, over the rows of block `b`. -/
theorem writes_rows {m : Memref sig κ sp ⟨3, ![2, 8192, w]⟩ e} (hm : m.IsWhole) (X : Vec F ⟨3, ![2, 8192, w]⟩ e) (b : ℕ)
    (off1 off0 : Fin 3 → ℕ) (h1 : off1 = ![1, 512 * b, 0]) (h0 : off0 = ![0, 512 * b, 0])
    (inb1 : ∀ a, off1 a + (⟨3, ![1, 512, w]⟩ : Shape).size a ≤ (⟨3, ![2, 8192, w]⟩ : Shape).size a)
    (inb0 : ∀ a, off0 a + (⟨3, ![1, 512, w]⟩ : Shape).size a ≤ (⟨3, ![2, 8192, w]⟩ : Shape).size a)
    (A B : Vec F ⟨3, ![1, 512, w]⟩ e) (f : m.view.ty.Contents (Elt F)) (Ls : List (View.Piece (Elt F) ⟨3, ![2, 8192, w]⟩ e))
    (hL : m.view.read (Elt F) (m.view.writes (Elt F) f Ls) = X) :
    m.view.writes (Elt F) f
        ((⟨Rect.unit (s := ⟨3, ![2, 8192, w]⟩) off1 (⟨3, ![1, 512, w]⟩ : Shape).size inb1, B⟩ : View.Piece (Elt F) ⟨3, ![2, 8192, w]⟩ e)
          :: (⟨Rect.unit (s := ⟨3, ![2, 8192, w]⟩) off0 (⟨3, ![1, 512, w]⟩ : Shape).size inb0, A⟩ : View.Piece (Elt F) ⟨3, ![2, 8192, w]⟩ e)
          :: Ls) = hm.unread (setRows X b A B) := by
  apply hm.eq_unread
  funext y
  obtain ⟨y0, y1, y2, rfl⟩ : ∃ (a : Fin 2) (b : Fin 8192) (c : Fin w), y = ix3 a b c := ⟨y 0, y 1, y 2, eq_ix3 y⟩
  by_cases hr : 512 * b ≤ y1.val ∧ y1.val < 512 * b + 512
  · by_cases hy : y0.val = 0
    · rw [View.read_writes_cons_unit_of_not_mem m.view _ inb1 B _ _ h1 0 (Or.inl (by show y0.val < 1; omega)),
        View.read_writes_cons_unit_of_mem m.view _ inb0 A Ls _
          (ix3 (n0 := 1) (n1 := 512) (n2 := w) 0 ⟨y1.val - 512 * b, by omega⟩ y2) h0 (fun a => by
          match a with
          | 0 => show y0.val = 0 + 0; omega
          | 1 => show y1.val = 512 * b + (y1.val - 512 * b); omega
          | 2 => show y2.val = 0 + y2.val; omega)]
      exact (setRows_zero X b A B y0 y1 y2 hr hy).symm
    · rw [View.read_writes_cons_unit_of_mem m.view _ inb1 B _ _
          (ix3 (n0 := 1) (n1 := 512) (n2 := w) 0 ⟨y1.val - 512 * b, by omega⟩ y2) h1 (fun a => by
          match a with
          | 0 => show y0.val = 1 + 0; omega
          | 1 => show y1.val = 512 * b + (y1.val - 512 * b); omega
          | 2 => show y2.val = 0 + y2.val; omega)]
      exact (setRows_one X b A B y0 y1 y2 hr hy).symm
  · rw [View.read_writes_cons_unit_of_not_mem m.view _ inb1 B _ _ h1 1
        (by show y1.val < 512 * b ∨ 512 * b + 512 ≤ y1.val; omega),
      View.read_writes_cons_unit_of_not_mem m.view _ inb0 A _ _ h0 1
        (by show y1.val < 512 * b ∨ 512 * b + 512 ≤ y1.val; omega), hL]
    exact (setRows_off X b A B y0 y1 y2 hr).symm

/-- A load of block `b`'s rows of head `h` from a buffer at known contents. -/
theorem readAt_rows {m : Memref sig κ sp ⟨3, ![2, 8192, w]⟩ e} (f : m.view.ty.Contents (Elt F)) (X : Vec F ⟨3, ![2, 8192, w]⟩ e)
    (hf : m.view.read (Elt F) f = X) (h : Fin 2) (b : ℕ) (hb : b < 16) (off : Fin 3 → ℕ) (hoff : off = ![h.val, 512 * b, 0])
    (inb : ∀ a, off a + (⟨3, ![1, 512, w]⟩ : Shape).size a ≤ (⟨3, ![2, 8192, w]⟩ : Shape).size a) :
    View.readAt (Elt F) m.view (Rect.unit (s := ⟨3, ![2, 8192, w]⟩) off (⟨3, ![1, 512, w]⟩ : Shape).size inb).toLoadRect f
      = rows X h b := by
  subst hf
  exact ld_rows _ h b hb off hoff inb

theorem readAt_lane {m : Memref sig κ sp S2x1x8192 e} (f : m.view.ty.Contents (Elt F)) (X : Vec F S2x1x8192 e)
    (hf : m.view.read (Elt F) f = X) (h : Fin 2) (b : ℕ) (hb : b < 16) (off : Fin 3 → ℕ) (hoff : off = ![h.val, 0, 512 * b])
    (inb : ∀ a, off a + S1x1x512.size a ≤ S2x1x8192.size a) :
    View.readAt (Elt F) m.view (Rect.unit (s := S2x1x8192) off S1x1x512.size inb).toLoadRect f = lane X h b := by
  subst hf
  exact ld_lane _ h b hb off hoff inb

theorem readAt_head {m : Memref sig κ sp ⟨3, ![2, 512, w]⟩ e} (f : m.view.ty.Contents (Elt F)) (X : Vec F ⟨3, ![2, 512, w]⟩ e)
    (hf : m.view.read (Elt F) f = X) (h : Fin 2) (off : Fin 3 → ℕ) (hoff : off = ![h.val, 0, 0])
    (inb : ∀ a, off a + (⟨3, ![1, 512, w]⟩ : Shape).size a ≤ (⟨3, ![2, 512, w]⟩ : Shape).size a) :
    View.readAt (Elt F) m.view (Rect.unit (s := ⟨3, ![2, 512, w]⟩) off (⟨3, ![1, 512, w]⟩ : Shape).size inb).toLoadRect f
      = head X h := by
  subst hf
  exact ld_head _ h off hoff inb

end Stores

end Cert.KernelIdeal.Attn

end
-- ==== Proof.Trip.lean ====
/-
  One trip of the attention backward kernel's loop over the later blocks of queries.
-/
module

public import proofs.«01_k».proof.Proof.Block
public import proofs.«01_k».proof.Proof.Gen.KernelIdeal.Frame
public import Idealize.ShloMosaic.Lib.LoopRemainder

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise Cert.KernelIdeal.Gen

variable {F : FTy → Type} [FloatOps F] [Named F]

local notation "𝕄" => MT nD τ sig Unit (Elt F) ℕ (UR sig nD τ) ℕ

variable (c : Dev nD) (i : grid0.Coords) (arg2 : Memref sig .tc .vmem S2x8192x192 .bf16) (harg2 : arg2.IsWhole) (arg3 : Memref sig .tc .vmem S2x512x192 .bf16) (harg3 : arg3.IsWhole) (arg4 : Memref sig .tc .vmem S2x512x128 .bf16) (harg4 : arg4.IsWhole) (arg5 : Memref sig .tc .vmem S2x8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x192 .f32) (harg8 : arg8.IsWhole) (arg9 : Memref sig .tc .vmem S2x512x192 .f32) (harg9 : arg9.IsWhole) (arg10 : Memref sig .tc .vmem S2x512x128 .f32) (harg10 : arg10.IsWhole) (arg11 : Memref sig .tc .vmem S2x512x192 .f32) (harg11 : arg11.IsWhole) (arg12 : Memref sig .tc .vmem S2x512x128 .f32) (harg12 : arg12.IsWhole)

/-- What a trip holds: the queries, the outgoing gradient, the log-sums and the row sums, read only; the three sums. -/
abbrev Held (X : Vec F S2x8192x192 .bf16) (D : Vec F S2x8192x128 .bf16) (L T : Vec F S2x1x8192 .f32)
    (dq : Vec F S2x8192x192 .f32) (dk : Vec F S2x512x192 .f32) (dv : Vec F S2x512x128 .f32) : sProp 𝕄 :=
  iprop((arg2.view.loc (c : Thread nD τ) ↦[arg2.view.set]{fullShare} harg2.unread X)
    ∗ (arg5.view.loc (c : Thread nD τ) ↦[arg5.view.set]{fullShare} harg5.unread D)
    ∗ (arg6.view.loc (c : Thread nD τ) ↦[arg6.view.set]{fullShare} harg6.unread L)
    ∗ (arg7.view.loc (c : Thread nD τ) ↦[arg7.view.set]{fullShare} harg7.unread T)
    ∗ (arg8.view.loc (c : Thread nD τ) ↦[arg8.view.set]{fullShare} harg8.unread dq)
    ∗ (arg11.view.loc (c : Thread nD τ) ↦[arg11.view.set]{fullShare} harg11.unread dk)
    ∗ (arg12.view.loc (c : Thread nD τ) ↦[arg12.view.set]{fullShare} harg12.unread dv))

theorem trip_lt (i : grid0.Coords) (k : Fin (k0_t1_loop i).trips) : (i 1).val + k.val + 1 < 16 := by
  have h := k0_off7_inb i k 1
  rw [k0_off7_eq] at h
  have h' : 512 * (i 1).val + 512 * k.val + 512 + 512 ≤ 8192 := h
  omega

theorem off_eq (i : grid0.Coords) (k : Fin (k0_t1_loop i).trips) (h : Fin 2) :
    (![h.val, 512 * (i 1).val + 512 * k.val + 512, 0] : Fin 3 → ℕ) = ![h.val, 512 * ((i 1).val + k.val + 1), 0] := by
  rw [show 512 * (i 1).val + 512 * k.val + 512 = 512 * ((i 1).val + k.val + 1) by omega]

theorem off_eq' (i : grid0.Coords) (k : Fin (k0_t1_loop i).trips) (h : Fin 2) :
    (![h.val, 0, 512 * (i 1).val + 512 * k.val + 512] : Fin 3 → ℕ) = ![h.val, 0, 512 * ((i 1).val + k.val + 1)] := by
  rw [show 512 * (i 1).val + 512 * k.val + 512 = 512 * ((i 1).val + k.val + 1) by omega]

/-- A buffer held at contents is held at equal contents. -/
theorem pts_congr {s : Shape} {e : EltTy} (m : Memref sig .tc .vmem s e) {f g : m.view.ty.Contents (Elt F)} (h : f = g) :
    (iprop(m.view.loc (c : Thread nD τ) ↦[m.view.set]{fullShare} f) : sProp 𝕄)
      ⊢ iprop(m.view.loc (c : Thread nD τ) ↦[m.view.set]{fullShare} g) := by
  subst h; exact BIBase.Entails.rfl

set_option maxHeartbeats 1000000 in
theorem trip (arg1 v20 v129 : BitVec 32) (v12 v14 v77 : FVec F S512x192 .bf16) (v16 v18 v80 : FVec F S512x128 .bf16)
    (v96 : FVec F S512x512 .f32) (v101 : FVec F S512x128 .f32) (k : Fin (k0_t1_loop i).trips)
    (X : Vec F S2x8192x192 .bf16) (D : Vec F S2x8192x128 .bf16) (L T : Vec F S2x1x8192 .f32)
    (dq : Vec F S2x8192x192 .f32) (dk : Vec F S2x512x192 .f32) (dv : Vec F S2x512x128 .f32) (E : Set ℕ) :
    Held c arg2 harg2 arg5 harg5 arg6 harg6 arg7 harg7 arg8 harg8 arg11 harg11 arg12 harg12 X D L T dq dk dv
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg1 v12 v14 v16 v18 v20 v77 v80 v96 v101 v129 k PUnit.unit)
          (fun _ => Held c arg2 harg2 arg5 harg5 arg6 harg6 arg7 harg7 arg8 harg8 arg11 harg11 arg12 harg12 X D L T
            (stDq v12 v14 v16 v18 X D L T ((i 1).val + k.val + 1) dq) (stDk v12 v14 v16 v18 X D L T ((i 1).val + k.val + 1) dk)
            (stDv v12 v14 X D L ((i 1).val + k.val + 1) dv)) := by
  have hb : (i 1).val + k.val + 1 < 16 := trip_lt i k
  unfold k0_t1_body
  iintro ⟨H2, H5, H6, H7, H8, H11, H12⟩
  sl_exec
  sl_step
  delta trip.sl.r trip.sl.r_1 trip.sl.r_2 trip.sl.r_3 trip.sl.r_4 trip.sl.r_5 trip.sl.r_6 trip.sl.v236 trip.sl.v228
    trip.sl.cst_144
  delta trip.sl.v212
  have e7 := (k0_off7_eq i k).trans (off_eq i k 0)
  have e8 := (k0_off8_eq i k).trans (off_eq i k 0)
  have e9 := (k0_off9_eq i k).trans (off_eq' i k 0)
  have e10 := (k0_off10_eq i k).trans (off_eq i k 1)
  have e11 := (k0_off11_eq i k).trans (off_eq i k 1)
  have e12 := (k0_off12_eq i k).trans (off_eq' i k 1)
  have r2_0 := readAt_rows (m := arg2) (harg2.unread X) X (harg2.read_unread X) 0 _ hb _ e7 (k0_off7_inb i k)
  have r2_1 := readAt_rows (m := arg2) (harg2.unread X) X (harg2.read_unread X) 1 _ hb _ e10 (k0_off10_inb i k)
  have r5_0 := readAt_rows (m := arg5) (harg5.unread D) D (harg5.read_unread D) 0 _ hb _ e8 (k0_off8_inb i k)
  have r5_1 := readAt_rows (m := arg5) (harg5.unread D) D (harg5.read_unread D) 1 _ hb _ e11 (k0_off11_inb i k)
  have r6_0 := readAt_lane (m := arg6) (harg6.unread L) L (harg6.read_unread L) 0 _ hb _ e9 (k0_off9_inb i k)
  have r6_1 := readAt_lane (m := arg6) (harg6.unread L) L (harg6.read_unread L) 1 _ hb _ e12 (k0_off12_inb i k)
  have r7_0 := readAt_lane (m := arg7) (harg7.unread T) T (harg7.read_unread T) 0 _ hb _ e9 (k0_off9_inb i k)
  have r7_1 := readAt_lane (m := arg7) (harg7.unread T) T (harg7.read_unread T) 1 _ hb _ e12 (k0_off12_inb i k)
  have r8_0 := readAt_rows (m := arg8) (harg8.unread dq) dq (harg8.read_unread dq) 0 _ hb _ e7 (k0_off7_inb i k)
  have r8_1 := readAt_rows (m := arg8) (harg8.unread dq) dq (harg8.read_unread dq) 1 _ hb _ e10 (k0_off10_inb i k)
  have r11_0 := readAt_head (m := arg11) (harg11.unread dk) dk (harg11.read_unread dk) 0 ![0, 0, 0] rfl inb_S2x512x192_S1x512x192_0_0_0
  have r11_1 := readAt_head (m := arg11) (harg11.unread dk) dk (harg11.read_unread dk) 1 ![1, 0, 0] rfl inb_S2x512x192_S1x512x192_1_0_0
  have r12_0 := readAt_head (m := arg12) (harg12.unread dv) dv (harg12.read_unread dv) 0 ![0, 0, 0] rfl inb_S2x512x128_S1x512x128_0_0_0
  have r12_1 := readAt_head (m := arg12) (harg12.unread dv) dv (harg12.read_unread dv) 1 ![1, 0, 0] rfl inb_S2x512x128_S1x512x128_1_0_0
  isplitl [H2]; · iexact H2
  isplitl [H5]; · iexact H5
  isplitl [H6]; · iexact H6
  isplitl [H7]; · iexact H7
  isplitl [H8]
  · istop
    refine pts_congr c arg8 ?_
    refine (writes_rows harg8 dq _ _ _ e10 e7 _ _ _ _ _ [] (harg8.read_unread dq)).trans ?_
    rw [r2_0, r2_1, r5_0, r5_1, r6_0, r6_1, r7_0, r7_1, r8_0, r8_1]
    rfl
  isplitl [H11]
  · istop
    refine pts_congr c arg11 ?_
    refine (writes_both harg11 _ _ _ rfl rfl _ _ _ _ []).trans ?_
    rw [r2_0, r2_1, r5_0, r5_1, r6_0, r6_1, r7_0, r7_1, r11_0, r11_1]
    rfl
  istop
  refine pts_congr c arg12 ?_
  refine (writes_both harg12 _ _ _ rfl rfl _ _ _ _ []).trans ?_
  rw [r2_0, r2_1, r5_0, r5_1, r6_0, r6_1, r12_0, r12_1]
  rfl

end Cert.KernelIdeal.Attn

end
-- ==== Proof.Body.lean ====
/-
  The attention backward kernel's body at one grid point, with what it leaves in each buffer.
-/
module

public import proofs.«01_k».proof.Proof.Trip

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise Cert.KernelIdeal.Gen

variable {F : FTy → Type} [FloatOps F] [Named F]

local notation "𝕄" => MT nD τ sig Unit (Elt F) ℕ (UR sig nD τ) ℕ

/-! ## The three sums over the blocks of queries -/

section Sums

variable (Kb : Vec F S2x512x192 .bf16) (Vb : Vec F S2x512x128 .bf16) (X : Vec F S2x8192x192 .bf16)
  (D : Vec F S2x8192x128 .bf16) (L T : Vec F S2x1x8192 .f32) (kj : ℕ)

/-- The values' gradient after the diagonal block and `n` more blocks of queries, from zero. -/
def sumDv : ℕ → Vec F S2x512x128 .f32
  | 0 => diagDv (k0_pay34 (head Kb 0)) (k0_pay35 (head Kb 1)) X D L kj (k0_pay33 (F := F))
  | n + 1 => stDv (k0_pay34 (head Kb 0)) (k0_pay35 (head Kb 1)) X D L (kj + n + 1) (sumDv n)

/-- The keys' gradient after the diagonal block and `n` more blocks of queries, from zero. -/
def sumDk : ℕ → Vec F S2x512x192 .f32
  | 0 => diagDk (k0_pay34 (head Kb 0)) (k0_pay35 (head Kb 1)) (k0_pay36 (head Vb 0)) (k0_pay37 (head Vb 1)) X D L T kj (k0_pay32 (F := F))
  | n + 1 => stDk (k0_pay34 (head Kb 0)) (k0_pay35 (head Kb 1)) (k0_pay36 (head Vb 0)) (k0_pay37 (head Vb 1)) X D L T (kj + n + 1) (sumDk n)

/-- The queries' gradient after the diagonal block and `n` more blocks of queries, from `dq`. -/
def sumDq (dq : Vec F S2x8192x192 .f32) : ℕ → Vec F S2x8192x192 .f32
  | 0 => diagDq (k0_pay34 (head Kb 0)) (k0_pay35 (head Kb 1)) (k0_pay36 (head Vb 0)) (k0_pay37 (head Vb 1)) X D L T kj dq
  | n + 1 => stDq (k0_pay34 (head Kb 0)) (k0_pay35 (head Kb 1)) (k0_pay36 (head Vb 0)) (k0_pay37 (head Vb 1)) X D L T (kj + n + 1) (sumDq dq n)

end Sums

/-- The body's first branch: the first block of keys. -/
abbrev cond0 (i : grid0.Coords) : Prop := (Scalar.cmpi .ne (Scalar.extui (Scalar.cmpi .eq (BitVec.ofNat 32 (i 1).val) 0#32)) 0#32) = 1#1

/-- The body's second branch: the last block of keys. -/
abbrev cond1 (i : grid0.Coords) : Prop := (Scalar.cmpi .ne (Scalar.extui (Scalar.cmpi .eq (BitVec.ofNat 32 (i 1).val) 15#32)) 0#32) = 1#1

theorem cond0_iff : ∀ i : grid0.Coords, cond0 i ↔ (i 1).val = 0 := by decide +kernel

theorem cond1_iff : ∀ i : grid0.Coords, cond1 i ↔ (i 1).val = 15 := by decide +kernel

theorem trips_eq : ∀ i : grid0.Coords, (k0_t1_loop i).trips = 15 - (i 1).val := by decide +kernel

theorem off_zero : (![0, 0, 0] : Fin 3 → ℕ) = fun _ => 0 := by decide

/-! ## Loads after a buffer was filled -/

section Fills

variable {κ : Kind} {sp : Space} {s : Shape} {e : EltTy}

/-- A buffer filled whole reads as the fill. -/
theorem read_fill {m : Memref sig κ sp s e} (f : m.view.ty.Contents (Elt F)) (off : Fin s.rank → ℕ) (hoff : off = fun _ => 0)
    (inb : ∀ a, off a + s.size a ≤ s.size a) (Z : Vec F s e) :
    m.view.read (Elt F) (m.view.writes (Elt F) f [(⟨Rect.unit (s := s) off s.size inb, Z⟩ : View.Piece (Elt F) s e)]) = Z := by
  funext y
  exact View.read_writes_cons_unit_of_mem m.view _ inb Z [] _ y hoff (fun a => by simp)

/-- A load of a whole buffer is what it reads as. -/
theorem readAt_whole {m : Memref sig κ sp s e} (f : m.view.ty.Contents (Elt F)) (X : Vec F s e) (hf : m.view.read (Elt F) f = X)
    (off : Fin s.rank → ℕ) (hoff : off = fun _ => 0) (inb : ∀ a, off a + s.size a ≤ s.size a) :
    View.readAt (Elt F) m.view (Rect.unit (s := s) off s.size inb).toLoadRect f = X := by
  subst hf hoff
  funext y
  rw [View.readAt_eq_ld]
  exact View.ld_unit_apply_of _ _ _ _ y y (fun a => by simp)

/-- A load of the other head after a store to head 0 is a load of what was there before. -/
theorem readAt_other {w : ℕ} {m : Memref sig κ sp ⟨3, ![2, 512, w]⟩ e} (f : m.view.ty.Contents (Elt F)) (off1 off0 : Fin 3 → ℕ)
    (h1 : off1 = ![1, 0, 0]) (h0 : off0 = ![0, 0, 0])
    (inb1 : ∀ a, off1 a + (⟨3, ![1, 512, w]⟩ : Shape).size a ≤ (⟨3, ![2, 512, w]⟩ : Shape).size a)
    (inb0 : ∀ a, off0 a + (⟨3, ![1, 512, w]⟩ : Shape).size a ≤ (⟨3, ![2, 512, w]⟩ : Shape).size a)
    (A : Vec F ⟨3, ![1, 512, w]⟩ e) (Ls : List (View.Piece (Elt F) ⟨3, ![2, 512, w]⟩ e)) :
    View.readAt (Elt F) m.view (Rect.unit (s := ⟨3, ![2, 512, w]⟩) off1 (⟨3, ![1, 512, w]⟩ : Shape).size inb1).toLoadRect
        (m.view.writes (Elt F) f ((⟨Rect.unit (s := ⟨3, ![2, 512, w]⟩) off0 (⟨3, ![1, 512, w]⟩ : Shape).size inb0, A⟩ : View.Piece (Elt F) ⟨3, ![2, 512, w]⟩ e) :: Ls))
      = head (m.view.read (Elt F) (m.view.writes (Elt F) f Ls)) 1 := by
  rw [readAt_head _ _ rfl 1 off1 h1 inb1]
  funext x
  exact View.read_writes_cons_unit_of_not_mem m.view _ inb0 A _ _ h0 0 (Or.inr (by show 0 + 1 ≤ 1; omega))

/-- A load of a block of rows of the other head after a store to head 0 is a load of what was there before. -/
theorem readAt_rows_other {w : ℕ} {m : Memref sig κ sp ⟨3, ![2, 8192, w]⟩ e} (f : m.view.ty.Contents (Elt F)) (b : ℕ) (hb : b < 16) (off1 off0 : Fin 3 → ℕ)
    (h1 : off1 = ![1, 512 * b, 0]) (h0 : off0 = ![0, 512 * b, 0])
    (inb1 : ∀ a, off1 a + (⟨3, ![1, 512, w]⟩ : Shape).size a ≤ (⟨3, ![2, 8192, w]⟩ : Shape).size a)
    (inb0 : ∀ a, off0 a + (⟨3, ![1, 512, w]⟩ : Shape).size a ≤ (⟨3, ![2, 8192, w]⟩ : Shape).size a)
    (A : Vec F ⟨3, ![1, 512, w]⟩ e) (Ls : List (View.Piece (Elt F) ⟨3, ![2, 8192, w]⟩ e)) :
    View.readAt (Elt F) m.view (Rect.unit (s := ⟨3, ![2, 8192, w]⟩) off1 (⟨3, ![1, 512, w]⟩ : Shape).size inb1).toLoadRect
        (m.view.writes (Elt F) f ((⟨Rect.unit (s := ⟨3, ![2, 8192, w]⟩) off0 (⟨3, ![1, 512, w]⟩ : Shape).size inb0, A⟩ : View.Piece (Elt F) ⟨3, ![2, 8192, w]⟩ e) :: Ls))
      = rows (m.view.read (Elt F) (m.view.writes (Elt F) f Ls)) 1 b := by
  rw [readAt_rows _ _ rfl 1 b hb off1 h1 inb1]
  funext x
  exact View.read_writes_cons_unit_of_not_mem m.view _ inb0 A _ _ h0 0 (Or.inr (by show 0 + 1 ≤ 1; omega))

end Fills

variable (c : Dev nD) (i : grid0.Coords) (arg2 : Memref sig .tc .vmem S2x8192x192 .bf16) (harg2 : arg2.IsWhole) (arg3 : Memref sig .tc .vmem S2x512x192 .bf16) (harg3 : arg3.IsWhole) (arg4 : Memref sig .tc .vmem S2x512x128 .bf16) (harg4 : arg4.IsWhole) (arg5 : Memref sig .tc .vmem S2x8192x128 .bf16) (harg5 : arg5.IsWhole) (arg6 : Memref sig .tc .vmem S2x1x8192 .f32) (harg6 : arg6.IsWhole) (arg7 : Memref sig .tc .vmem S2x1x8192 .f32) (harg7 : arg7.IsWhole) (arg8 : Memref sig .tc .vmem S2x8192x192 .f32) (harg8 : arg8.IsWhole) (arg9 : Memref sig .tc .vmem S2x512x192 .f32) (harg9 : arg9.IsWhole) (arg10 : Memref sig .tc .vmem S2x512x128 .f32) (harg10 : arg10.IsWhole) (arg11 : Memref sig .tc .vmem S2x512x192 .f32) (harg11 : arg11.IsWhole) (arg12 : Memref sig .tc .vmem S2x512x128 .f32) (harg12 : arg12.IsWhole)

set_option maxHeartbeats 2000000 in
/-- The body at a block of keys neither first nor last. -/
theorem runB (hc0 : ¬cond0 i) (hc1 : ¬cond1 i)
    (x0 : Vec F S2x8192x192 .bf16) (x1 : Vec F S2x512x192 .bf16) (x2 : Vec F S2x512x128 .bf16) (x3 : Vec F S2x8192x128 .bf16)
    (x4 x5 : Vec F S2x1x8192 .f32) (dq : Vec F S2x8192x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare dq
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (sumDq x1 x2 x0 x3 x4 x5 (i 1).val dq (15 - (i 1).val))
            ∗ owns (c : Thread nD τ) arg9 fullShare (k0_pay5 (sumDk x1 x2 x0 x3 x4 x5 (i 1).val (15 - (i 1).val)))
            ∗ owns (c : Thread nD τ) arg10 fullShare (sumDv x1 x0 x3 x4 (i 1).val (15 - (i 1).val))
            ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12) K := by
  have hb : (i 1).val < 16 := (i 1).isLt
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  have e1 := k0_off1_eq i
  have e2 := k0_off2_eq i
  have e3 := k0_off3_eq i
  have e4 := k0_off4_eq i
  have e5 := k0_off5_eq i
  have e6 := k0_off6_eq i
  have r2_0 := readAt_rows (m := arg2) (harg2.unread x0) x0 (harg2.read_unread x0) 0 _ hb _ e1 (k0_off1_inb i)
  have r2_1 := readAt_rows (m := arg2) (harg2.unread x0) x0 (harg2.read_unread x0) 1 _ hb _ e4 (k0_off4_inb i)
  have r5_0 := readAt_rows (m := arg5) (harg5.unread x3) x3 (harg5.read_unread x3) 0 _ hb _ e2 (k0_off2_inb i)
  have r5_1 := readAt_rows (m := arg5) (harg5.unread x3) x3 (harg5.read_unread x3) 1 _ hb _ e5 (k0_off5_inb i)
  have r6_0 := readAt_lane (m := arg6) (harg6.unread x4) x4 (harg6.read_unread x4) 0 _ hb _ e3 (k0_off3_inb i)
  have r6_1 := readAt_lane (m := arg6) (harg6.unread x4) x4 (harg6.read_unread x4) 1 _ hb _ e6 (k0_off6_inb i)
  have r7_0 := readAt_lane (m := arg7) (harg7.unread x5) x5 (harg7.read_unread x5) 0 _ hb _ e3 (k0_off3_inb i)
  have r7_1 := readAt_lane (m := arg7) (harg7.unread x5) x5 (harg7.read_unread x5) 1 _ hb _ e6 (k0_off6_inb i)
  have r3_0 := readAt_head (m := arg3) (harg3.unread x1) x1 (harg3.read_unread x1) 0 ![0, 0, 0] rfl inb_S2x512x192_S1x512x192_0_0_0
  have r3_1 := readAt_head (m := arg3) (harg3.unread x1) x1 (harg3.read_unread x1) 1 ![1, 0, 0] rfl inb_S2x512x192_S1x512x192_1_0_0
  have r4_0 := readAt_head (m := arg4) (harg4.unread x2) x2 (harg4.read_unread x2) 0 ![0, 0, 0] rfl inb_S2x512x128_S1x512x128_0_0_0
  have r4_1 := readAt_head (m := arg4) (harg4.unread x2) x2 (harg4.read_unread x2) 1 ![1, 0, 0] rfl inb_S2x512x128_S1x512x128_1_0_0
  have r8_0 := readAt_rows (m := arg8) (harg8.unread dq) dq (harg8.read_unread dq) 0 _ hb _ e1 (k0_off1_inb i)
  have r8_1 := readAt_rows (m := arg8) (harg8.unread dq) dq (harg8.read_unread dq) 1 _ hb _ e4 (k0_off4_inb i)
  have z11 := read_fill (m := arg11) arg11.view.junk ![0, 0, 0] off_zero inb_S2x512x192_S2x512x192_0_0_0 (k0_pay32 (F := F))
  have z12 := read_fill (m := arg12) arg12.view.junk ![0, 0, 0] off_zero inb_S2x512x128_S2x512x128_0_0_0 (k0_pay33 (F := F))
  have r11_0 := readAt_head (m := arg11) _ _ z11 0 ![0, 0, 0] rfl inb_S2x512x192_S1x512x192_0_0_0
  have r12_0 := readAt_head (m := arg12) _ _ z12 0 ![0, 0, 0] rfl inb_S2x512x128_S1x512x128_0_0_0
  have r11_1 := (readAt_other (m := arg11) arg11.view.junk ![1, 0, 0] ![0, 0, 0] rfl rfl inb_S2x512x192_S1x512x192_1_0_0 inb_S2x512x192_S1x512x192_0_0_0
    (dkH (rows x0 0 (i 1).val) (dscores (k0_pay36 (head x2 0)) (rows x3 0 (i 1).val) (probsDiag (k0_pay34 (head x1 0)) (rows x0 0 (i 1).val) (lane x4 0 (i 1).val)) (lane x5 0 (i 1).val)) (head (k0_pay32 (F := F)) 0)) _).trans
    (congrArg (fun z => head z 1) z11)
  have r12_1 := (readAt_other (m := arg12) arg12.view.junk ![1, 0, 0] ![0, 0, 0] rfl rfl inb_S2x512x128_S1x512x128_1_0_0 inb_S2x512x128_S1x512x128_0_0_0
    (dvH (rows x3 0 (i 1).val) (probsDiag (k0_pay34 (head x1 0)) (rows x0 0 (i 1).val) (lane x4 0 (i 1).val)) (head (k0_pay33 (F := F)) 0)) _).trans
    (congrArg (fun z => head z 1) z12)
  rw [← r2_0, ← r3_0, ← r4_0, ← r5_0, ← r6_0, ← r7_0, ← r11_0] at r11_1
  rw [← r2_0, ← r3_0, ← r5_0, ← r6_0, ← r12_0] at r12_1
  sl_for (fun k _ => Held c arg2 harg2 arg5 harg5 arg6 harg6 arg7 harg7 arg8 harg8 arg11 harg11 arg12 harg12 x0 x3 x4 x5
      (sumDq x1 x2 x0 x3 x4 x5 (i 1).val dq k) (sumDk x1 x2 x0 x3 x4 x5 (i 1).val k) (sumDv x1 x0 x3 x4 (i 1).val k))
    $$ [H0 H3 H4 H5 H6 HS0 HS1]
  case region =>
    intro k a
    have ht := fun v77 v80 v96 v101 v20 v129 => trip c i arg2 harg2 arg3 harg3 arg4 harg4 arg5 harg5 arg6 harg6 arg7 harg7 arg8 harg8 arg9 harg9 arg10 harg10 arg11 harg11 arg12 harg12
      (BitVec.ofNat 32 (i 1).val) v20 v129 (k0_pay34 (head x1 0)) (k0_pay35 (head x1 1)) v77 (k0_pay36 (head x2 0)) (k0_pay37 (head x2 1)) v80 v96 v101 k x0 x3 x4 x5
      (sumDq x1 x2 x0 x3 x4 x5 (i 1).val dq k) (sumDk x1 x2 x0 x3 x4 x5 (i 1).val k) (sumDv x1 x0 x3 x4 (i 1).val k) E
    delta runB.sl.prog.body_1 runB.sl.r runB.sl.r_1 runB.sl.r_2 runB.sl.r_3
    rw [r3_0, r3_1, r4_0, r4_1]
    exact ht _ _ _ _ _ _
  · isplitl [H0]; · iexact H0
    isplitl [H3]; · iexact H3
    isplitl [H4]; · iexact H4
    isplitl [H5]; · iexact H5
    isplitl [H6]
    · istop
      refine pts_congr c arg8 ?_
      refine (writes_rows harg8 dq _ _ _ e4 e1 _ _ _ _ _ [] (harg8.read_unread dq)).trans ?_
      simp only [sumDq, diagDq, sDiagH]
      rw [← r2_0, ← r2_1, ← r3_0, ← r3_1, ← r4_0, ← r4_1, ← r5_0, ← r5_1, ← r6_0, ← r6_1, ← r7_0, ← r7_1, ← r8_0, ← r8_1]
      rfl
    isplitl [HS0]
    · istop
      refine pts_congr c arg11 ?_
      delta runB.sl.HS0_3
      delta runB.sl.HS0_2
      refine (writes_both harg11 _ _ _ rfl rfl _ _ _ _ _).trans ?_
      simp only [sumDk, diagDk, sDiagH]
      rw [← r2_0, ← r2_1, ← r3_0, ← r3_1, ← r4_0, ← r4_1, ← r5_0, ← r5_1, ← r6_0, ← r6_1, ← r7_0, ← r7_1, ← r11_0, ← r11_1]
      rfl
    istop
    refine pts_congr c arg12 ?_
    delta runB.sl.HS1_3
    delta runB.sl.HS1_2
    refine (writes_both harg12 _ _ _ rfl rfl _ _ _ _ _).trans ?_
    simp only [sumDv, diagDv]
    rw [← r2_0, ← r2_1, ← r3_0, ← r3_1, ← r5_0, ← r5_1, ← r6_0, ← r6_1, ← r12_0, ← r12_1]
    rfl
  irw [show Scf.trips (k0_t1_loop i).lb (k0_t1_loop i).ub (k0_t1_loop i).st = 15 - (i 1).val from trips_eq i]
  iintro %a ⟨H0, H3, H4, H5, H6, HS0, HS1⟩
  delta runB.sl.prog.cont_1
  sl_exec (disch := first | sl_exact hc0 | sl_exact hc1)
  sl_step
  iapply Hk
  isplitl [H0]
  · iexists _
    isplitr
    rotate_left
    · iexact H0
    ipureintro; exact harg2.read_unread _
  isplitl [H1]
  · iexists _
    isplitr
    rotate_left
    · iexact H1
    ipureintro; exact harg3.read_unread _
  isplitl [H2]
  · iexists _
    isplitr
    rotate_left
    · iexact H2
    ipureintro; exact harg4.read_unread _
  isplitl [H3]
  · iexists _
    isplitr
    rotate_left
    · iexact H3
    ipureintro; exact harg5.read_unread _
  isplitl [H4]
  · iexists _
    isplitr
    rotate_left
    · iexact H4
    ipureintro; exact harg6.read_unread _
  isplitl [H5]
  · iexists _
    isplitr
    rotate_left
    · iexact H5
    ipureintro; exact harg7.read_unread _
  isplitl [H6]
  · iexists _
    isplitr
    rotate_left
    · iexact H6
    ipureintro; exact harg8.read_unread _
  isplitl [H7]
  · iexists _
    isplitr
    rotate_left
    · iexact H7
    ipureintro; exact (read_fill (m := arg9) _ _ off_zero _ _).trans (congrArg k0_pay5 (readAt_whole (m := arg11) _ _ (harg11.read_unread _) _ off_zero _))
  isplitl [H8]
  · iexists _
    isplitr
    rotate_left
    · iexact H8
    ipureintro; exact (read_fill (m := arg10) _ _ off_zero _ _).trans (readAt_whole (m := arg12) _ _ (harg12.read_unread _) _ off_zero _)
  isplitl [HS0]
  · iexists (sumDk x1 x2 x0 x3 x4 x5 (i 1).val (15 - (i 1).val)), _
    isplitr
    rotate_left
    · iexact HS0
    ipureintro; exact harg11.read_unread _
  iexists (sumDv x1 x0 x3 x4 (i 1).val (15 - (i 1).val)), _
  isplitr
  rotate_left
  · iexact HS1
  ipureintro; exact harg12.read_unread _

set_option maxHeartbeats 2000000 in
/-- The body at the first block of keys. -/
theorem runA (hc0 : cond0 i) (hc1 : ¬cond1 i)
    (x0 : Vec F S2x8192x192 .bf16) (x1 : Vec F S2x512x192 .bf16) (x2 : Vec F S2x512x128 .bf16) (x3 : Vec F S2x8192x128 .bf16)
    (x4 x5 : Vec F S2x1x8192 .f32) (dq : Vec F S2x8192x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare dq
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (sumDq x1 x2 x0 x3 x4 x5 (i 1).val (k0_pay31 (F := F)) (15 - (i 1).val))
            ∗ owns (c : Thread nD τ) arg9 fullShare (k0_pay5 (sumDk x1 x2 x0 x3 x4 x5 (i 1).val (15 - (i 1).val)))
            ∗ owns (c : Thread nD τ) arg10 fullShare (sumDv x1 x0 x3 x4 (i 1).val (15 - (i 1).val))
            ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12) K := by
  have hb : (i 1).val < 16 := (i 1).isLt
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  have e1 := k0_off1_eq i
  have e2 := k0_off2_eq i
  have e3 := k0_off3_eq i
  have e4 := k0_off4_eq i
  have e5 := k0_off5_eq i
  have e6 := k0_off6_eq i
  have r2_0 := readAt_rows (m := arg2) (harg2.unread x0) x0 (harg2.read_unread x0) 0 _ hb _ e1 (k0_off1_inb i)
  have r2_1 := readAt_rows (m := arg2) (harg2.unread x0) x0 (harg2.read_unread x0) 1 _ hb _ e4 (k0_off4_inb i)
  have r5_0 := readAt_rows (m := arg5) (harg5.unread x3) x3 (harg5.read_unread x3) 0 _ hb _ e2 (k0_off2_inb i)
  have r5_1 := readAt_rows (m := arg5) (harg5.unread x3) x3 (harg5.read_unread x3) 1 _ hb _ e5 (k0_off5_inb i)
  have r6_0 := readAt_lane (m := arg6) (harg6.unread x4) x4 (harg6.read_unread x4) 0 _ hb _ e3 (k0_off3_inb i)
  have r6_1 := readAt_lane (m := arg6) (harg6.unread x4) x4 (harg6.read_unread x4) 1 _ hb _ e6 (k0_off6_inb i)
  have r7_0 := readAt_lane (m := arg7) (harg7.unread x5) x5 (harg7.read_unread x5) 0 _ hb _ e3 (k0_off3_inb i)
  have r7_1 := readAt_lane (m := arg7) (harg7.unread x5) x5 (harg7.read_unread x5) 1 _ hb _ e6 (k0_off6_inb i)
  have r3_0 := readAt_head (m := arg3) (harg3.unread x1) x1 (harg3.read_unread x1) 0 ![0, 0, 0] rfl inb_S2x512x192_S1x512x192_0_0_0
  have r3_1 := readAt_head (m := arg3) (harg3.unread x1) x1 (harg3.read_unread x1) 1 ![1, 0, 0] rfl inb_S2x512x192_S1x512x192_1_0_0
  have r4_0 := readAt_head (m := arg4) (harg4.unread x2) x2 (harg4.read_unread x2) 0 ![0, 0, 0] rfl inb_S2x512x128_S1x512x128_0_0_0
  have r4_1 := readAt_head (m := arg4) (harg4.unread x2) x2 (harg4.read_unread x2) 1 ![1, 0, 0] rfl inb_S2x512x128_S1x512x128_1_0_0
  have z8 := read_fill (m := arg8) arg8.view.junk ![0, 0, 0] off_zero inb_S2x8192x192_S2x8192x192_0_0_0 (k0_pay31 (F := F))
  have r8_0 := readAt_rows (m := arg8) _ _ z8 0 _ hb _ e1 (k0_off1_inb i)
  have r8_1 := (readAt_rows_other (m := arg8) arg8.view.junk _ hb _ _ e4 e1 (k0_off4_inb i) (k0_off1_inb i)
    (dqH (k0_pay34 (head x1 0)) (dscores (k0_pay36 (head x2 0)) (rows x3 0 (i 1).val) (probsDiag (k0_pay34 (head x1 0)) (rows x0 0 (i 1).val) (lane x4 0 (i 1).val)) (lane x5 0 (i 1).val)) (rows (k0_pay31 (F := F)) 0 (i 1).val)) _).trans
    (congrArg (fun z => rows z 1 (i 1).val) z8)
  rw [← r2_0, ← r3_0, ← r4_0, ← r5_0, ← r6_0, ← r7_0, ← r8_0] at r8_1
  have z11 := read_fill (m := arg11) arg11.view.junk ![0, 0, 0] off_zero inb_S2x512x192_S2x512x192_0_0_0 (k0_pay32 (F := F))
  have z12 := read_fill (m := arg12) arg12.view.junk ![0, 0, 0] off_zero inb_S2x512x128_S2x512x128_0_0_0 (k0_pay33 (F := F))
  have r11_0 := readAt_head (m := arg11) _ _ z11 0 ![0, 0, 0] rfl inb_S2x512x192_S1x512x192_0_0_0
  have r12_0 := readAt_head (m := arg12) _ _ z12 0 ![0, 0, 0] rfl inb_S2x512x128_S1x512x128_0_0_0
  have r11_1 := (readAt_other (m := arg11) arg11.view.junk ![1, 0, 0] ![0, 0, 0] rfl rfl inb_S2x512x192_S1x512x192_1_0_0 inb_S2x512x192_S1x512x192_0_0_0
    (dkH (rows x0 0 (i 1).val) (dscores (k0_pay36 (head x2 0)) (rows x3 0 (i 1).val) (probsDiag (k0_pay34 (head x1 0)) (rows x0 0 (i 1).val) (lane x4 0 (i 1).val)) (lane x5 0 (i 1).val)) (head (k0_pay32 (F := F)) 0)) _).trans
    (congrArg (fun z => head z 1) z11)
  have r12_1 := (readAt_other (m := arg12) arg12.view.junk ![1, 0, 0] ![0, 0, 0] rfl rfl inb_S2x512x128_S1x512x128_1_0_0 inb_S2x512x128_S1x512x128_0_0_0
    (dvH (rows x3 0 (i 1).val) (probsDiag (k0_pay34 (head x1 0)) (rows x0 0 (i 1).val) (lane x4 0 (i 1).val)) (head (k0_pay33 (F := F)) 0)) _).trans
    (congrArg (fun z => head z 1) z12)
  rw [← r2_0, ← r3_0, ← r4_0, ← r5_0, ← r6_0, ← r7_0, ← r11_0] at r11_1
  rw [← r2_0, ← r3_0, ← r5_0, ← r6_0, ← r12_0] at r12_1
  sl_for (fun k _ => Held c arg2 harg2 arg5 harg5 arg6 harg6 arg7 harg7 arg8 harg8 arg11 harg11 arg12 harg12 x0 x3 x4 x5
      (sumDq x1 x2 x0 x3 x4 x5 (i 1).val (k0_pay31 (F := F)) k) (sumDk x1 x2 x0 x3 x4 x5 (i 1).val k) (sumDv x1 x0 x3 x4 (i 1).val k))
    $$ [H0 H3 H4 H5 H6 HS0 HS1]
  case region =>
    intro k a
    have ht := fun v77 v80 v96 v101 v20 v129 => trip c i arg2 harg2 arg3 harg3 arg4 harg4 arg5 harg5 arg6 harg6 arg7 harg7 arg8 harg8 arg9 harg9 arg10 harg10 arg11 harg11 arg12 harg12
      (BitVec.ofNat 32 (i 1).val) v20 v129 (k0_pay34 (head x1 0)) (k0_pay35 (head x1 1)) v77 (k0_pay36 (head x2 0)) (k0_pay37 (head x2 1)) v80 v96 v101 k x0 x3 x4 x5
      (sumDq x1 x2 x0 x3 x4 x5 (i 1).val (k0_pay31 (F := F)) k) (sumDk x1 x2 x0 x3 x4 x5 (i 1).val k) (sumDv x1 x0 x3 x4 (i 1).val k) E
    delta runA.sl.prog.body_1 runA.sl.r runA.sl.r_1 runA.sl.r_2 runA.sl.r_3
    rw [r3_0, r3_1, r4_0, r4_1]
    exact ht _ _ _ _ _ _
  · isplitl [H0]; · iexact H0
    isplitl [H3]; · iexact H3
    isplitl [H4]; · iexact H4
    isplitl [H5]; · iexact H5
    isplitl [H6]
    · istop
      refine pts_congr c arg8 ?_
      delta runA.sl.H6_2
      refine (writes_rows harg8 (k0_pay31 (F := F)) _ _ _ e4 e1 _ _ _ _ _ _ z8).trans ?_
      simp only [sumDq, diagDq, sDiagH]
      rw [← r2_0, ← r2_1, ← r3_0, ← r3_1, ← r4_0, ← r4_1, ← r5_0, ← r5_1, ← r6_0, ← r6_1, ← r7_0, ← r7_1, ← r8_0, ← r8_1]
      rfl
    isplitl [HS0]
    · istop
      refine pts_congr c arg11 ?_
      delta runA.sl.HS0_3
      delta runA.sl.HS0_2
      refine (writes_both harg11 _ _ _ rfl rfl _ _ _ _ _).trans ?_
      simp only [sumDk, diagDk, sDiagH]
      rw [← r2_0, ← r2_1, ← r3_0, ← r3_1, ← r4_0, ← r4_1, ← r5_0, ← r5_1, ← r6_0, ← r6_1, ← r7_0, ← r7_1, ← r11_0, ← r11_1]
      rfl
    istop
    refine pts_congr c arg12 ?_
    delta runA.sl.HS1_3
    delta runA.sl.HS1_2
    refine (writes_both harg12 _ _ _ rfl rfl _ _ _ _ _).trans ?_
    simp only [sumDv, diagDv]
    rw [← r2_0, ← r2_1, ← r3_0, ← r3_1, ← r5_0, ← r5_1, ← r6_0, ← r6_1, ← r12_0, ← r12_1]
    rfl
  irw [show Scf.trips (k0_t1_loop i).lb (k0_t1_loop i).ub (k0_t1_loop i).st = 15 - (i 1).val from trips_eq i]
  iintro %a ⟨H0, H3, H4, H5, H6, HS0, HS1⟩
  delta runA.sl.prog.cont_1
  sl_exec (disch := first | sl_exact hc0 | sl_exact hc1)
  sl_step
  iapply Hk
  isplitl [H0]
  · iexists _
    isplitr
    rotate_left
    · iexact H0
    ipureintro; exact harg2.read_unread _
  isplitl [H1]
  · iexists _
    isplitr
    rotate_left
    · iexact H1
    ipureintro; exact harg3.read_unread _
  isplitl [H2]
  · iexists _
    isplitr
    rotate_left
    · iexact H2
    ipureintro; exact harg4.read_unread _
  isplitl [H3]
  · iexists _
    isplitr
    rotate_left
    · iexact H3
    ipureintro; exact harg5.read_unread _
  isplitl [H4]
  · iexists _
    isplitr
    rotate_left
    · iexact H4
    ipureintro; exact harg6.read_unread _
  isplitl [H5]
  · iexists _
    isplitr
    rotate_left
    · iexact H5
    ipureintro; exact harg7.read_unread _
  isplitl [H6]
  · iexists _
    isplitr
    rotate_left
    · iexact H6
    ipureintro; exact harg8.read_unread _
  isplitl [H7]
  · iexists _
    isplitr
    rotate_left
    · iexact H7
    ipureintro; exact (read_fill (m := arg9) _ _ off_zero _ _).trans (congrArg k0_pay5 (readAt_whole (m := arg11) _ _ (harg11.read_unread _) _ off_zero _))
  isplitl [H8]
  · iexists _
    isplitr
    rotate_left
    · iexact H8
    ipureintro; exact (read_fill (m := arg10) _ _ off_zero _ _).trans (readAt_whole (m := arg12) _ _ (harg12.read_unread _) _ off_zero _)
  isplitl [HS0]
  · iexists (sumDk x1 x2 x0 x3 x4 x5 (i 1).val (15 - (i 1).val)), _
    isplitr
    rotate_left
    · iexact HS0
    ipureintro; exact harg11.read_unread _
  iexists (sumDv x1 x0 x3 x4 (i 1).val (15 - (i 1).val)), _
  isplitr
  rotate_left
  · iexact HS1
  ipureintro; exact harg12.read_unread _

set_option maxHeartbeats 2000000 in
/-- The body at the last block of keys. -/
theorem runC (hc0 : ¬cond0 i) (hc1 : cond1 i)
    (x0 : Vec F S2x8192x192 .bf16) (x1 : Vec F S2x512x192 .bf16) (x2 : Vec F S2x512x128 .bf16) (x3 : Vec F S2x8192x128 .bf16)
    (x4 x5 : Vec F S2x1x8192 .f32) (dq : Vec F S2x8192x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare dq
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 (sumDq x1 x2 x0 x3 x4 x5 (i 1).val dq (15 - (i 1).val)))
            ∗ owns (c : Thread nD τ) arg9 fullShare (k0_pay5 (sumDk x1 x2 x0 x3 x4 x5 (i 1).val (15 - (i 1).val)))
            ∗ owns (c : Thread nD τ) arg10 fullShare (sumDv x1 x0 x3 x4 (i 1).val (15 - (i 1).val))
            ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12) K := by
  have hb : (i 1).val < 16 := (i 1).isLt
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  have e1 := k0_off1_eq i
  have e2 := k0_off2_eq i
  have e3 := k0_off3_eq i
  have e4 := k0_off4_eq i
  have e5 := k0_off5_eq i
  have e6 := k0_off6_eq i
  have r2_0 := readAt_rows (m := arg2) (harg2.unread x0) x0 (harg2.read_unread x0) 0 _ hb _ e1 (k0_off1_inb i)
  have r2_1 := readAt_rows (m := arg2) (harg2.unread x0) x0 (harg2.read_unread x0) 1 _ hb _ e4 (k0_off4_inb i)
  have r5_0 := readAt_rows (m := arg5) (harg5.unread x3) x3 (harg5.read_unread x3) 0 _ hb _ e2 (k0_off2_inb i)
  have r5_1 := readAt_rows (m := arg5) (harg5.unread x3) x3 (harg5.read_unread x3) 1 _ hb _ e5 (k0_off5_inb i)
  have r6_0 := readAt_lane (m := arg6) (harg6.unread x4) x4 (harg6.read_unread x4) 0 _ hb _ e3 (k0_off3_inb i)
  have r6_1 := readAt_lane (m := arg6) (harg6.unread x4) x4 (harg6.read_unread x4) 1 _ hb _ e6 (k0_off6_inb i)
  have r7_0 := readAt_lane (m := arg7) (harg7.unread x5) x5 (harg7.read_unread x5) 0 _ hb _ e3 (k0_off3_inb i)
  have r7_1 := readAt_lane (m := arg7) (harg7.unread x5) x5 (harg7.read_unread x5) 1 _ hb _ e6 (k0_off6_inb i)
  have r3_0 := readAt_head (m := arg3) (harg3.unread x1) x1 (harg3.read_unread x1) 0 ![0, 0, 0] rfl inb_S2x512x192_S1x512x192_0_0_0
  have r3_1 := readAt_head (m := arg3) (harg3.unread x1) x1 (harg3.read_unread x1) 1 ![1, 0, 0] rfl inb_S2x512x192_S1x512x192_1_0_0
  have r4_0 := readAt_head (m := arg4) (harg4.unread x2) x2 (harg4.read_unread x2) 0 ![0, 0, 0] rfl inb_S2x512x128_S1x512x128_0_0_0
  have r4_1 := readAt_head (m := arg4) (harg4.unread x2) x2 (harg4.read_unread x2) 1 ![1, 0, 0] rfl inb_S2x512x128_S1x512x128_1_0_0
  have r8_0 := readAt_rows (m := arg8) (harg8.unread dq) dq (harg8.read_unread dq) 0 _ hb _ e1 (k0_off1_inb i)
  have r8_1 := readAt_rows (m := arg8) (harg8.unread dq) dq (harg8.read_unread dq) 1 _ hb _ e4 (k0_off4_inb i)
  have z11 := read_fill (m := arg11) arg11.view.junk ![0, 0, 0] off_zero inb_S2x512x192_S2x512x192_0_0_0 (k0_pay32 (F := F))
  have z12 := read_fill (m := arg12) arg12.view.junk ![0, 0, 0] off_zero inb_S2x512x128_S2x512x128_0_0_0 (k0_pay33 (F := F))
  have r11_0 := readAt_head (m := arg11) _ _ z11 0 ![0, 0, 0] rfl inb_S2x512x192_S1x512x192_0_0_0
  have r12_0 := readAt_head (m := arg12) _ _ z12 0 ![0, 0, 0] rfl inb_S2x512x128_S1x512x128_0_0_0
  have r11_1 := (readAt_other (m := arg11) arg11.view.junk ![1, 0, 0] ![0, 0, 0] rfl rfl inb_S2x512x192_S1x512x192_1_0_0 inb_S2x512x192_S1x512x192_0_0_0
    (dkH (rows x0 0 (i 1).val) (dscores (k0_pay36 (head x2 0)) (rows x3 0 (i 1).val) (probsDiag (k0_pay34 (head x1 0)) (rows x0 0 (i 1).val) (lane x4 0 (i 1).val)) (lane x5 0 (i 1).val)) (head (k0_pay32 (F := F)) 0)) _).trans
    (congrArg (fun z => head z 1) z11)
  have r12_1 := (readAt_other (m := arg12) arg12.view.junk ![1, 0, 0] ![0, 0, 0] rfl rfl inb_S2x512x128_S1x512x128_1_0_0 inb_S2x512x128_S1x512x128_0_0_0
    (dvH (rows x3 0 (i 1).val) (probsDiag (k0_pay34 (head x1 0)) (rows x0 0 (i 1).val) (lane x4 0 (i 1).val)) (head (k0_pay33 (F := F)) 0)) _).trans
    (congrArg (fun z => head z 1) z12)
  rw [← r2_0, ← r3_0, ← r4_0, ← r5_0, ← r6_0, ← r7_0, ← r11_0] at r11_1
  rw [← r2_0, ← r3_0, ← r5_0, ← r6_0, ← r12_0] at r12_1
  sl_for (fun k _ => Held c arg2 harg2 arg5 harg5 arg6 harg6 arg7 harg7 arg8 harg8 arg11 harg11 arg12 harg12 x0 x3 x4 x5
      (sumDq x1 x2 x0 x3 x4 x5 (i 1).val dq k) (sumDk x1 x2 x0 x3 x4 x5 (i 1).val k) (sumDv x1 x0 x3 x4 (i 1).val k))
    $$ [H0 H3 H4 H5 H6 HS0 HS1]
  case region =>
    intro k a
    have ht := fun v77 v80 v96 v101 v20 v129 => trip c i arg2 harg2 arg3 harg3 arg4 harg4 arg5 harg5 arg6 harg6 arg7 harg7 arg8 harg8 arg9 harg9 arg10 harg10 arg11 harg11 arg12 harg12
      (BitVec.ofNat 32 (i 1).val) v20 v129 (k0_pay34 (head x1 0)) (k0_pay35 (head x1 1)) v77 (k0_pay36 (head x2 0)) (k0_pay37 (head x2 1)) v80 v96 v101 k x0 x3 x4 x5
      (sumDq x1 x2 x0 x3 x4 x5 (i 1).val dq k) (sumDk x1 x2 x0 x3 x4 x5 (i 1).val k) (sumDv x1 x0 x3 x4 (i 1).val k) E
    delta runC.sl.prog.body_1 runC.sl.r runC.sl.r_1 runC.sl.r_2 runC.sl.r_3
    rw [r3_0, r3_1, r4_0, r4_1]
    exact ht _ _ _ _ _ _
  · isplitl [H0]; · iexact H0
    isplitl [H3]; · iexact H3
    isplitl [H4]; · iexact H4
    isplitl [H5]; · iexact H5
    isplitl [H6]
    · istop
      refine pts_congr c arg8 ?_
      refine (writes_rows harg8 dq _ _ _ e4 e1 _ _ _ _ _ [] (harg8.read_unread dq)).trans ?_
      simp only [sumDq, diagDq, sDiagH]
      rw [← r2_0, ← r2_1, ← r3_0, ← r3_1, ← r4_0, ← r4_1, ← r5_0, ← r5_1, ← r6_0, ← r6_1, ← r7_0, ← r7_1, ← r8_0, ← r8_1]
      rfl
    isplitl [HS0]
    · istop
      refine pts_congr c arg11 ?_
      delta runC.sl.HS0_3
      delta runC.sl.HS0_2
      refine (writes_both harg11 _ _ _ rfl rfl _ _ _ _ _).trans ?_
      simp only [sumDk, diagDk, sDiagH]
      rw [← r2_0, ← r2_1, ← r3_0, ← r3_1, ← r4_0, ← r4_1, ← r5_0, ← r5_1, ← r6_0, ← r6_1, ← r7_0, ← r7_1, ← r11_0, ← r11_1]
      rfl
    istop
    refine pts_congr c arg12 ?_
    delta runC.sl.HS1_3
    delta runC.sl.HS1_2
    refine (writes_both harg12 _ _ _ rfl rfl _ _ _ _ _).trans ?_
    simp only [sumDv, diagDv]
    rw [← r2_0, ← r2_1, ← r3_0, ← r3_1, ← r5_0, ← r5_1, ← r6_0, ← r6_1, ← r12_0, ← r12_1]
    rfl
  irw [show Scf.trips (k0_t1_loop i).lb (k0_t1_loop i).ub (k0_t1_loop i).st = 15 - (i 1).val from trips_eq i]
  iintro %a ⟨H0, H3, H4, H5, H6, HS0, HS1⟩
  delta runC.sl.prog.cont_1
  sl_exec (disch := first | sl_exact hc0 | sl_exact hc1)
  sl_step
  iapply Hk
  isplitl [H0]
  · iexists _
    isplitr
    rotate_left
    · iexact H0
    ipureintro; exact harg2.read_unread _
  isplitl [H1]
  · iexists _
    isplitr
    rotate_left
    · iexact H1
    ipureintro; exact harg3.read_unread _
  isplitl [H2]
  · iexists _
    isplitr
    rotate_left
    · iexact H2
    ipureintro; exact harg4.read_unread _
  isplitl [H3]
  · iexists _
    isplitr
    rotate_left
    · iexact H3
    ipureintro; exact harg5.read_unread _
  isplitl [H4]
  · iexists _
    isplitr
    rotate_left
    · iexact H4
    ipureintro; exact harg6.read_unread _
  isplitl [H5]
  · iexists _
    isplitr
    rotate_left
    · iexact H5
    ipureintro; exact harg7.read_unread _
  isplitl [H6]
  · iexists _
    isplitr
    rotate_left
    · iexact H6
    ipureintro; exact (read_fill (m := arg8) _ _ off_zero _ _).trans (congrArg k0_pay6 (readAt_whole (m := arg8) _ _ (harg8.read_unread _) _ off_zero _))
  isplitl [H7]
  · iexists _
    isplitr
    rotate_left
    · iexact H7
    ipureintro; exact (read_fill (m := arg9) _ _ off_zero _ _).trans (congrArg k0_pay5 (readAt_whole (m := arg11) _ _ (harg11.read_unread _) _ off_zero _))
  isplitl [H8]
  · iexists _
    isplitr
    rotate_left
    · iexact H8
    ipureintro; exact (read_fill (m := arg10) _ _ off_zero _ _).trans (readAt_whole (m := arg12) _ _ (harg12.read_unread _) _ off_zero _)
  isplitl [HS0]
  · iexists (sumDk x1 x2 x0 x3 x4 x5 (i 1).val (15 - (i 1).val)), _
    isplitr
    rotate_left
    · iexact HS0
    ipureintro; exact harg11.read_unread _
  iexists (sumDv x1 x0 x3 x4 (i 1).val (15 - (i 1).val)), _
  isplitr
  rotate_left
  · iexact HS1
  ipureintro; exact harg12.read_unread _

end Cert.KernelIdeal.Attn

end
-- ==== Proof.Run.lean ====
/-
  The attention backward kernel's run: the queries' gradient carried from one block of keys to the next, the body at every grid
  point, and the launch. Every result array is named.
-/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each point leaves in the result windows -/

/-- The block of keys of a grid point. -/
abbrev kj (t : Fin cfg0.N) : ℕ := (grid0.coords t 1).val

theorem kj_eq (t : Fin cfg0.N) : kj t = t.val % 16 := by
  have e : (grid0.coords t 1).val = t.val / 1 % 16 := Pipeline.Grid.coords_val t 1 (by decide) rfl
  rw [Nat.div_one] at e
  exact e

/-- The keys' gradient that point `t` stores. -/
def dkOut (c : Dev nD) (t : Fin cfg0.N) : Vec F S2x512x192 .f32 :=
  k0_pay5 (sumDk (iblk m c 1 t) (iblk m c 2 t) (iblk m c 0 t) (iblk m c 3 t) (iblk m c 4 t) (iblk m c 5 t) (kj t) (15 - kj t))

/-- The values' gradient that point `t` stores. -/
def dvOut (c : Dev nD) (t : Fin cfg0.N) : Vec F S2x512x128 .f32 :=
  sumDv (iblk m c 1 t) (iblk m c 0 t) (iblk m c 3 t) (iblk m c 4 t) (kj t) (15 - kj t)

/-- The queries' gradient after point `t`, from what was there before it. -/
def dqStep (c : Dev nD) (t : Fin cfg0.N) (old : Vec F S2x8192x192 .f32) : Vec F S2x8192x192 .f32 :=
  sumDq (iblk m c 1 t) (iblk m c 2 t) (iblk m c 0 t) (iblk m c 3 t) (iblk m c 4 t) (iblk m c 5 t) (kj t) old (15 - kj t)

/-- The queries' gradient as point `t` leaves it: started at the first block of keys, scaled after the last. -/
def dqNext (c : Dev nD) (t : Fin cfg0.N) (old : Vec F S2x8192x192 .f32) : Vec F S2x8192x192 .f32 :=
  if kj t = 0 then dqStep m c t (k0_pay31 (F := F)) else if kj t = 15 then k0_pay6 (dqStep m c t old) else dqStep m c t old

/-- The queries' gradient as point `n` leaves it. -/
def dqAt (c : Dev nD) : (n : ℕ) → n < cfg0.N → Vec F S2x8192x192 .f32
  | 0, h => dqNext m c ⟨0, h⟩ (k0_pay31 (F := F))
  | n + 1, h => dqNext m c ⟨n + 1, h⟩ (dqAt c n (Nat.lt_of_succ_lt h))

theorem dqAt_succ (c : Dev nD) (t : Fin cfg0.N) (ht : t.val ≠ 0) :
    dqAt m c t.val t.isLt = dqNext m c t (dqAt m c (t.val - 1) (Nat.lt_of_le_of_lt (Nat.sub_le _ _) t.isLt)) := by
  obtain ⟨n, h⟩ := t
  match n, h with
  | 0, _ => exact absurd rfl ht
  | n + 1, h => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkOut m c t
    | ⟨8, _⟩ => dvOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAt m c t.val t.isLt := by dsimp only [dats]
theorem after_7 (c : Dev nD) (t : Fin cfg0.N) : (dats m 0 c).after 7 t = dkOut m c t := by dsimp only [dats]
theorem after_8 (c : Dev nD) (t : Fin cfg0.N) : (dats m 0 c).after 8 t = dvOut m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Past the first block of keys the queries' gradient is the one the point before left. -/
theorem before_6 (c : Dev nD) (t : Fin cfg0.N) (h : ¬kj t = 0) (d) :
    (dats m 0 c).before 6 t d = dqAt m c (t.val - 1) (Nat.lt_of_le_of_lt (Nat.sub_le _ _) t.isLt) := by
  rw [kj_eq] at h
  have ht : t.val ≠ 0 := fun h0 => h (by rw [h0])
  refine ((dats m 0 c).before_out_kept 6 rfl t ht ?_ (fun _ => rfl) (fun _ _ => rfl) d).trans (after_6 m c _)
  refine Bool.eq_false_iff.mpr fun hf => ?_
  have := (flush0_6 _).mp hf
  have e : t.val - 1 + 1 = t.val := by omega
  have : (t.val - 1) % 16 = 15 := this
  omega

/-! ## The body obligation -/

/-- The two accumulators, owned at some contents. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any grid point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, phi_eq]
  by_cases h0 : kj t = 0
  · have hq : dqAt m c t.val t.isLt = dqStep m c t (k0_pay31 (F := F)) := by
      by_cases ht : t.val = 0
      · obtain ⟨n, h⟩ := t
        subst ht
        exact if_pos h0
      · exact (dqAt_succ m c t ht).trans (if_pos h0)
    rw [hq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ ((cond0_iff _).mpr h0) (fun h => absurd (h0.symm.trans ((cond1_iff _).mp h)) (by decide)) (iblk m c 0 t) (iblk m c 1 t) (iblk m c 2 t) (iblk m c 3 t) (iblk m c 4 t) (iblk m c 5 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have ht : t.val ≠ 0 := fun e => h0 (by rw [kj_eq, e])
    have hq : dqAt m c t.val t.isLt = _ := (dqAt_succ m c t ht).trans (if_neg h0)
    simp only [before_6 m c t h0]
    by_cases h1 : kj t = 15
    · rw [hq, if_pos h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid0.coords t) _ _ _ _ _ _ _ _ _ _ _ _ _ _ _ _ _ _ _ _ _ _ (fun h => h0 ((cond0_iff _).mp h)) ((cond1_iff _).mpr h1) (iblk m c 0 t) (iblk m c 1 t) (iblk m c 2 t) (iblk m c 3 t) (iblk m c 4 t) (iblk m c 5 t) (dqAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [hq, if_neg h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid0.coords t) _ _ _ _ _ _ _ _ _ _ _ _ _ _ _ _ _ _ _ _ _ _ (fun h => h0 ((cond0_iff _).mp h)) (fun h => h1 ((cond1_iff _).mp h)) (iblk m c 0 t) (iblk m c 1 t) (iblk m c 2 t) (iblk m c 3 t) (iblk m c 4 t) (iblk m c 5 t) (dqAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with the arrays as the proof data says and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Math.lean ====
/-
  Causal attention of one head and its derivative, over the real numbers. `q` and `k` are the
  queries and keys, `v` the values, `d` the gradient of the result; `i` is a query and `j` a key.
-/
module

public import Idealize.ShloMosaic.PureOps.Ideal
public import Mathlib.Analysis.SpecialFunctions.Pow.Real

@[expose] public section

noncomputable section

namespace Cert.Attn

open Idealize.ShloMosaic

/-- One over the root of the width of a query. -/
def σ : ℝ := (Real.sqrt 192)⁻¹

/-- A sum of real numbers, taken among the extended reals. -/
theorem coe_sum {ι : Type*} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

section Head

variable (q k : Fin 8192 → Fin 192 → ℝ) (v d : Fin 8192 → Fin 128 → ℝ)

/-- The scaled score of a query against a key. -/
def sc (i j : Fin 8192) : ℝ := (∑ e, q i e * k j e) * σ

/-- The sum of a query's exponentials, over the keys up to it. -/
def z (i : Fin 8192) : ℝ := ∑ j, if j ≤ i then Real.exp (sc q k i j) else 0

/-- The attention of a query to a key. -/
def p (i j : Fin 8192) : ℝ := if j ≤ i then Real.exp (sc q k i j) / z q k i else 0

/-- The gradient of the attention. -/
def dp (i j : Fin 8192) : ℝ := ∑ x, d i x * v j x

/-- What the softmax's derivative takes off: the sum of a row of the gradient weighted by the attention. -/
def delta (i : Fin 8192) : ℝ := ∑ j, p q k i j * dp v d i j

/-- The gradient of the scaled scores. -/
def ds (i j : Fin 8192) : ℝ := p q k i j * (dp v d i j - delta q k v d i)

/-- The gradient of the values. -/
def gv (j : Fin 8192) (x : Fin 128) : ℝ := ∑ i, p q k i j * d i x

/-- The gradient of the keys. -/
def gk (j : Fin 8192) (e : Fin 192) : ℝ := (∑ i, ds q k v d i j * q i e) * σ

/-- The gradient of the queries. -/
def gq (i : Fin 8192) (e : Fin 192) : ℝ := (∑ j, ds q k v d i j * k j e) * σ

theorem z_pos (i : Fin 8192) : 0 < z q k i := by
  refine Finset.sum_pos' (fun j _ => ?_) ⟨i, Finset.mem_univ _, ?_⟩
  · split_ifs
    · exact (Real.exp_pos _).le
    · exact le_rfl
  · rw [if_pos le_rfl]; exact Real.exp_pos _

theorem p_of_lt {i j : Fin 8192} (h : i < j) : p q k i j = 0 := if_neg (not_le.mpr h)

theorem ds_of_lt {i j : Fin 8192} (h : i < j) : ds q k v d i j = 0 := by rw [ds, p_of_lt q k h, zero_mul]

/-- The exponentials may be taken of the scores less any number: their sum is the old one over that number's exponential. -/
theorem z_shift (M : ℝ) (i : Fin 8192) :
    (∑ j, if j ≤ i then Real.exp (sc q k i j - M) else 0) = z q k i / Real.exp M := by
  rw [z, Finset.sum_div]
  refine Finset.sum_congr rfl fun j _ => ?_
  split_ifs
  · rw [Real.exp_sub]
  · rw [zero_div]

theorem z_shift_pos (M : ℝ) (i : Fin 8192) : 0 < z q k i / Real.exp M := div_pos (z_pos q k i) (Real.exp_pos M)

theorem p_shift (M : ℝ) (i j : Fin 8192) :
    (if j ≤ i then Real.exp (sc q k i j - M) else 0) / (z q k i / Real.exp M) = p q k i j := by
  unfold p
  split_ifs
  · rw [Real.exp_sub]; field_simp
  · rw [zero_div]

theorem lse_shift (M : ℝ) (i : Fin 8192) : M + Real.log (z q k i / Real.exp M) = Real.log (z q k i) := by
  rw [Real.log_div (z_pos q k i).ne' (Real.exp_pos M).ne', Real.log_exp]; ring

/-- The power of two that the kernel takes. -/
theorem rpow_two (s Z : ℝ) (hZ : 0 < Z) :
    Real.rpow 2 (s * (σ * (Real.log 2)⁻¹) - Real.log Z * (Real.log 2)⁻¹) = Real.exp (s * σ) / Z := by
  have h2 : Real.log 2 ≠ 0 := (Real.log_pos (by norm_num)).ne'
  rw [show Real.rpow 2 (s * (σ * (Real.log 2)⁻¹) - Real.log Z * (Real.log 2)⁻¹) = (2 : ℝ) ^ (s * (σ * (Real.log 2)⁻¹) - Real.log Z * (Real.log 2)⁻¹) from rfl,
    Real.rpow_def_of_pos (by norm_num),
    show Real.log 2 * (s * (σ * (Real.log 2)⁻¹) - Real.log Z * (Real.log 2)⁻¹) = s * σ - Real.log Z by field_simp, Real.exp_sub, Real.exp_log hZ]

/-- The row sum that the softmax's derivative takes off is that of the result times its gradient. -/
theorem delta_eq (i : Fin 8192) : (∑ x, d i x * ∑ j, p q k i j * v j x) = delta q k v d i := by
  simp only [delta, dp, Finset.mul_sum]
  rw [Finset.sum_comm]
  exact Finset.sum_congr rfl fun j _ => Finset.sum_congr rfl fun x _ => by ring

/-- Row `r` of block `b`. -/
def idx (b : ℕ) (r : Fin 512) : Fin 8192 := ⟨(512 * b + r.val) % 8192, Nat.mod_lt _ (by decide)⟩

theorem idx_val {b : ℕ} (hb : b < 16) (r : Fin 512) : (idx b r).val = 512 * b + r.val := by
  have := r.isLt
  exact Nat.mod_eq_of_lt (by omega)

theorem idx_lt {b b' : ℕ} (hb : b < b') (hb' : b' < 16) (r c : Fin 512) : idx b r < idx b' c := by
  have h1 := idx_val (hb.trans hb') r
  have h2 := idx_val hb' c
  have := r.isLt
  exact Fin.lt_def.mpr (by omega)

theorem idx_le {b : ℕ} (hb : b < 16) (r c : Fin 512) : idx b r ≤ idx b c ↔ r ≤ c := by
  have h1 := idx_val hb r
  have h2 := idx_val hb c
  rw [Fin.le_def, Fin.le_def]
  omega

/-- A sum over all rows, block by block. -/
theorem sum_blocks (f : Fin 8192 → ℝ) : ∑ i, f i = ∑ b ∈ Finset.range 16, ∑ r : Fin 512, f (idx b r) := by
  rw [← Fin.sum_univ_eq_sum_range (fun b => ∑ r : Fin 512, f (idx b r)) 16,
    ← Fintype.sum_prod_type' (fun (b : Fin 16) (r : Fin 512) => f (idx b.val r))]
  refine (Fintype.sum_equiv (finProdFinEquiv (m := 16) (n := 512)) _ _ fun x => ?_).symm
  congr 1
  refine Fin.ext ?_
  rw [idx_val x.1.isLt]
  simp [finProdFinEquiv, Nat.add_comm]

/-- A sum over all rows that vanishes before block `b`. -/
theorem sum_blocks_from (f : Fin 8192 → ℝ) (b : ℕ) (hb : b < 16) (h0 : ∀ b' < b, ∀ r, f (idx b' r) = 0) :
    ∑ i, f i = ∑ n ∈ Finset.range (15 - b + 1), ∑ r : Fin 512, f (idx (b + n) r) := by
  rw [sum_blocks, show 16 = b + (15 - b + 1) by omega, Finset.sum_range_add]
  rw [show (∑ x ∈ Finset.range b, ∑ r, f (idx x r)) = 0 from
    Finset.sum_eq_zero fun x hx => Finset.sum_eq_zero fun r _ => h0 x (Finset.mem_range.mp hx) r, zero_add]

end Head

end Cert.Attn

end
-- ==== Proof.Steps.lean ====
/-
  The kernel's block step at the ideal instance, entry by entry: on arrays that hold real numbers
  it computes the attention and the gradient of the scores of `Math`, and adds the products to what
  the buffers held.
-/
module

public import proofs.«01_k».proof.Proof.Block
public import proofs.«01_k».proof.Proof.Math

@[expose] public section

set_option maxRecDepth 16384

noncomputable section

namespace Cert.KernelIdeal.Attn

open Idealize.ShloMosaic Idealize.ShloMosaic.Pointwise Cert.KernelIdeal.Gen Cert.Attn

/-! ## The named constants -/

theorem named_scale : Named.named (F := Ideal) Cert.KernelIdeal.κ "scale" (φ := .f32) 0x3D93CD3A#32 = ((σ : ℝ) : EReal) :=
  IdealRules.named_const.ideal_named_scalar _ _ _ _ rfl

theorem named_scale_log2e : Named.named (F := Ideal) Cert.KernelIdeal.κ "scale_log2e" (φ := .f32) 0x3DD53B95#32
    = ((σ * (Real.log 2)⁻¹ : ℝ) : EReal) :=
  IdealRules.named_const.ideal_named_scalar _ _ _ _ rfl

theorem named_log2e : Named.named (F := Ideal) Cert.KernelIdeal.κ "log2e" (φ := .f32) 0x3FB8AA3B#32
    = (((Real.log 2)⁻¹ : ℝ) : EReal) :=
  IdealRules.named_const.ideal_named_scalar _ _ _ _ rfl

theorem named_mask : Named.named (F := Ideal) Cert.KernelIdeal.κ "mask" (φ := .f32) 0xF149F2CA#32 = (⊥ : EReal) :=
  IdealRules.named_const.ideal_named_scalar _ _ _ _ rfl

/-! ## The expressions at an index -/

theorem probs_apply (K : FVec Ideal S512x192 .bf16) (Q : Vec Ideal S1x512x192 .bf16) (L : Vec Ideal S1x1x512 .f32) (r c : Fin 512) :
    probs K Q L (ix2 r c) = FloatOps.exp2 (F := Ideal) (φ := .f32) ((∑ x, (K (ix2 r x) * Q (ix3 0 c x) : EReal)) * Named.named κ "scale_log2e" (φ := .f32) 0x3DD53B95#32 -
        L (ix3 0 0 c) * Named.named κ "log2e" (φ := .f32) 0x3FB8AA3B#32) := by
  pointwise [probs, k0_pay9, k0_pay7]

theorem probsDiag_apply (K : FVec Ideal S512x192 .bf16) (Q : Vec Ideal S1x512x192 .bf16) (L : Vec Ideal S1x1x512 .f32) (r c : Fin 512) :
    probsDiag K Q L (ix2 r c) = FloatOps.exp2 (F := Ideal) (φ := .f32)
      (Scalar.select (α := EReal) (IntOp.cmpi CmpIPredicate.sle (BitVec.ofNat 32 r) (BitVec.ofNat 32 c))
            (∑ x, (K (ix2 r x) * Q (ix3 0 c x) : EReal)) (Named.named (F := Ideal) κ "mask" (φ := .f32) 0xF149F2CA#32) *
          Named.named κ "scale_log2e" (φ := .f32) 0x3DD53B95#32 - L (ix3 0 0 c) * Named.named κ "log2e" (φ := .f32) 0x3FB8AA3B#32) := by
  pointwise [probsDiag, k0_pay40, k0_pay38]

theorem dscores_apply (V : FVec Ideal S512x128 .bf16) (D : Vec Ideal S1x512x128 .bf16) (P : FVec Ideal S512x512 .f32)
    (T : Vec Ideal S1x1x512 .f32) (r c : Fin 512) :
    dscores V D P T (ix2 r c) = P (ix2 r c) * (∑ x, V (ix2 r x) * D (ix3 0 c x) - T (ix3 0 0 c)) := by
  pointwise [dscores, k0_pay55, k0_pay8]

theorem dvH_apply (D : Vec Ideal S1x512x128 .bf16) (P : FVec Ideal S512x512 .f32) (old : Vec Ideal S1x512x128 .f32)
    (r : Fin 512) (x : Fin 128) : dvH D P old (ix3 0 r x) = old (ix3 0 r x) + ∑ c, P (ix2 r c) * D (ix3 0 c x) := by
  pointwise [dvH, k0_pay54, k0_pay8, k0_pay17]

theorem dkH_apply (Q : Vec Ideal S1x512x192 .bf16) (S : FVec Ideal S512x512 .bf16) (old : Vec Ideal S1x512x192 .f32)
    (r : Fin 512) (x : Fin 192) : dkH Q S old (ix3 0 r x) = old (ix3 0 r x) + ∑ c, S (ix2 r c) * Q (ix3 0 c x) := by
  pointwise [dkH, k0_pay12, k0_pay7]

theorem dqH_apply (K : FVec Ideal S512x192 .bf16) (S : FVec Ideal S512x512 .bf16) (old : Vec Ideal S1x512x192 .f32)
    (c : Fin 512) (x : Fin 192) : dqH K S old (ix3 0 c x) = old (ix3 0 c x) + ∑ r, S (ix2 r c) * K (ix2 r x) := by
  pointwise [dqH, k0_pay13]

theorem pay34_apply (K : Vec Ideal S1x512x192 .bf16) (r : Fin 512) (x : Fin 192) : k0_pay34 K (ix2 r x) = K (ix3 0 r x) := by
  pointwise [k0_pay34]

theorem pay35_apply (K : Vec Ideal S1x512x192 .bf16) (r : Fin 512) (x : Fin 192) : k0_pay35 K (ix2 r x) = K (ix3 0 r x) := by
  pointwise [k0_pay35]

theorem pay36_apply (K : Vec Ideal S1x512x128 .bf16) (r : Fin 512) (x : Fin 128) : k0_pay36 K (ix2 r x) = K (ix3 0 r x) := by
  pointwise [k0_pay36]

theorem pay37_apply (K : Vec Ideal S1x512x128 .bf16) (r : Fin 512) (x : Fin 128) : k0_pay37 K (ix2 r x) = K (ix3 0 r x) := by
  pointwise [k0_pay37]

theorem pay31_apply (j : S2x8192x192.Idx) : k0_pay31 (F := Ideal) j = ((0 : ℝ) : EReal) := by
  pointwise [k0_pay31]
  exact EReal.coe_zero.symm

theorem pay32_apply (j : S2x512x192.Idx) : k0_pay32 (F := Ideal) j = ((0 : ℝ) : EReal) := by
  idx_vars j
  pointwise [k0_pay32]
  exact EReal.coe_zero.symm

theorem pay33_apply (j : S2x512x128.Idx) : k0_pay33 (F := Ideal) j = ((0 : ℝ) : EReal) := by
  idx_vars j
  pointwise [k0_pay33]
  exact EReal.coe_zero.symm

theorem pay5_apply (X : Vec Ideal S2x512x192 .f32) (g : Fin 2) (r : Fin 512) (e : Fin 192) (x : ℝ)
    (h : X (ix3 g r e) = ((x : ℝ) : EReal)) : k0_pay5 X (ix3 g r e) = ((x * σ : ℝ) : EReal) := by
  have : k0_pay5 X (ix3 g r e) = X (ix3 g r e) * Named.named κ "scale" (φ := .f32) 0x3D93CD3A#32 := by pointwise [k0_pay5]
  rw [this, h, named_scale, ← EReal.coe_mul]

theorem pay6_apply (X : Vec Ideal S2x8192x192 .f32) (g : Fin 2) (r : Fin 8192) (e : Fin 192) (x : ℝ)
    (h : X (ix3 g r e) = ((x : ℝ) : EReal)) : k0_pay6 X (ix3 g r e) = ((x * σ : ℝ) : EReal) := by
  have : k0_pay6 X (ix3 g r e) = X (ix3 g r e) * Named.named κ "scale" (φ := .f32) 0x3D93CD3A#32 := by pointwise [k0_pay6]
  rw [this, h, named_scale, ← EReal.coe_mul]

/-! ## On real numbers -/

section Reals

theorem probs_real (K : FVec Ideal S512x192 .bf16) (Q : Vec Ideal S1x512x192 .bf16) (L : Vec Ideal S1x1x512 .f32)
    (kr qr : Fin 192 → ℝ) (Z : ℝ) (hZ : 0 < Z) (r c : Fin 512) (hK : ∀ e, K (ix2 r e) = ((kr e : ℝ) : EReal))
    (hQ : ∀ e, Q (ix3 0 c e) = ((qr e : ℝ) : EReal)) (hL : L (ix3 0 0 c) = ((Real.log Z : ℝ) : EReal)) :
    probs K Q L (ix2 r c) = ((Real.exp ((∑ e, qr e * kr e) * σ) / Z : ℝ) : EReal) := by
  rw [probs_apply, named_scale_log2e, named_log2e, hL]
  simp only [hK, hQ]
  simp only [← EReal.coe_mul, coe_sum, ← EReal.coe_sub]
  rw [show (FloatOps.exp2 : Ideal .f32 → Ideal .f32) = Ideal.exp2 from rfl, Ideal.exp2_coe, rpow_two _ _ hZ]
  simp only [mul_comm]

theorem sle_iff (r c : Fin 512) : IntOp.cmpi CmpIPredicate.sle (BitVec.ofNat 32 r) (BitVec.ofNat 32 c) = if r ≤ c then 1#1 else 0#1 := by
  have h1 : (BitVec.ofNat 32 r.val).toInt = r.val := by
    rw [BitVec.toInt_eq_toNat_of_lt] <;> simp only [BitVec.toNat_ofNat] <;> have := r.isLt <;> omega
  have h2 : (BitVec.ofNat 32 c.val).toInt = c.val := by
    rw [BitVec.toInt_eq_toNat_of_lt] <;> simp only [BitVec.toNat_ofNat] <;> have := c.isLt <;> omega
  by_cases h : r ≤ c
  · simp [IntOp.cmpi, BitVec.sle, h1, h2, h]
  · simp [IntOp.cmpi, BitVec.sle, h1, h2, h]

theorem probsDiag_real (K : FVec Ideal S512x192 .bf16) (Q : Vec Ideal S1x512x192 .bf16) (L : Vec Ideal S1x1x512 .f32)
    (kr qr : Fin 192 → ℝ) (Z : ℝ) (hZ : 0 < Z) (r c : Fin 512) (hK : ∀ e, K (ix2 r e) = ((kr e : ℝ) : EReal))
    (hQ : ∀ e, Q (ix3 0 c e) = ((qr e : ℝ) : EReal)) (hL : L (ix3 0 0 c) = ((Real.log Z : ℝ) : EReal)) :
    probsDiag K Q L (ix2 r c) = ((if r ≤ c then Real.exp ((∑ e, qr e * kr e) * σ) / Z else 0 : ℝ) : EReal) := by
  by_cases h : r ≤ c
  · rw [if_pos h, ← probs_real K Q L kr qr Z hZ r c hK hQ hL, probs_apply, probsDiag_apply, sle_iff, if_pos h]
    rfl
  · rw [if_neg h, probsDiag_apply, sle_iff, if_neg h, named_scale_log2e, named_log2e, hL, named_mask]
    have hpos : (0 : EReal) < ((σ * (Real.log 2)⁻¹ : ℝ) : EReal) := by
      rw [← EReal.coe_zero, EReal.coe_lt_coe_iff]
      exact mul_pos (inv_pos.mpr (Real.sqrt_pos.mpr (by norm_num))) (inv_pos.mpr (Real.log_pos (by norm_num)))
    rw [show Scalar.select (α := EReal) (0#1) (∑ x, (K (ix2 r x) * Q (ix3 0 c x) : EReal)) (⊥ : EReal) = (⊥ : EReal) from rfl,
      EReal.bot_mul_of_pos hpos, ← EReal.coe_mul, EReal.bot_sub]
    rfl

end Reals

/-- What the arrays of two heads hold, at block `kb` of the keys. -/
structure Reads (q k : Fin 2 → Fin 8192 → Fin 192 → ℝ) (v d : Fin 2 → Fin 8192 → Fin 128 → ℝ) (kb : ℕ)
    (Kb : Vec Ideal S2x512x192 .bf16) (Vb : Vec Ideal S2x512x128 .bf16) (X : Vec Ideal S2x8192x192 .bf16)
    (D : Vec Ideal S2x8192x128 .bf16) (L T : Vec Ideal S2x1x8192 .f32) : Prop where
  hK : ∀ g r e, Kb (ix3 g r e) = ((k g (idx kb r) e : ℝ) : EReal)
  hV : ∀ g r x, Vb (ix3 g r x) = ((v g (idx kb r) x : ℝ) : EReal)
  hX : ∀ g i e, X (ix3 g i e) = ((q g i e : ℝ) : EReal)
  hD : ∀ g i x, D (ix3 g i x) = ((d g i x : ℝ) : EReal)
  hL : ∀ g i, L (ix3 g 0 i) = ((Real.log (z (q g) (k g) i) : ℝ) : EReal)
  hT : ∀ g i, T (ix3 g 0 i) = ((delta (q g) (k g) (v g) (d g) i : ℝ) : EReal)

section Step

variable {q k : Fin 2 → Fin 8192 → Fin 192 → ℝ} {v d : Fin 2 → Fin 8192 → Fin 128 → ℝ} {kb : ℕ}
  {Kb : Vec Ideal S2x512x192 .bf16} {Vb : Vec Ideal S2x512x128 .bf16} {X : Vec Ideal S2x8192x192 .bf16}
  {D : Vec Ideal S2x8192x128 .bf16} {L T : Vec Ideal S2x1x8192 .f32} (R : Reads q k v d kb Kb Vb X D L T)

include R

/-- The attention of a block of queries after the block of keys. -/
theorem probs_off (K : FVec Ideal S512x192 .bf16) (g : Fin 2) (hK : ∀ r e, K (ix2 r e) = Kb (ix3 g r e)) (b : ℕ)
    (hb : kb < b) (hb' : b < 16) (r c : Fin 512) :
    probs K (rows X g b) (lane L g b) (ix2 r c) = ((p (q g) (k g) (idx b c) (idx kb r) : ℝ) : EReal) := by
  rw [probs_real K _ _ (k g (idx kb r)) (q g (idx b c)) (z (q g) (k g) (idx b c)) (z_pos _ _ _) r c
    (fun e => (hK r e).trans (R.hK g r e)) (fun e => R.hX g (idx b c) e) (R.hL g (idx b c)), p, if_pos (idx_lt hb hb' r c).le, sc]

/-- The attention of the diagonal block. -/
theorem probs_diag (K : FVec Ideal S512x192 .bf16) (g : Fin 2) (hK : ∀ r e, K (ix2 r e) = Kb (ix3 g r e))
    (hb' : kb < 16) (r c : Fin 512) :
    probsDiag K (rows X g kb) (lane L g kb) (ix2 r c) = ((p (q g) (k g) (idx kb c) (idx kb r) : ℝ) : EReal) := by
  rw [probsDiag_real K _ _ (k g (idx kb r)) (q g (idx kb c)) (z (q g) (k g) (idx kb c)) (z_pos _ _ _) r c
    (fun e => (hK r e).trans (R.hK g r e)) (fun e => R.hX g (idx kb c) e) (R.hL g (idx kb c)), p, sc]
  simp only [idx_le hb']

/-- The gradient of the scores, from the attention. -/
theorem dscores_real (V : FVec Ideal S512x128 .bf16) (g : Fin 2) (hV : ∀ r x, V (ix2 r x) = Vb (ix3 g r x)) (b : ℕ)
    (P : FVec Ideal S512x512 .f32) (r c : Fin 512)
    (hP : P (ix2 r c) = ((p (q g) (k g) (idx b c) (idx kb r) : ℝ) : EReal)) :
    dscores V (rows D g b) P (lane T g b) (ix2 r c) = ((ds (q g) (k g) (v g) (d g) (idx b c) (idx kb r) : ℝ) : EReal) := by
  rw [dscores_apply, hP]
  have h1 : ∀ x, V (ix2 r x) * rows D g b (ix3 0 c x) = ((v g (idx kb r) x * d g (idx b c) x : ℝ) : EReal) := fun x => by
    rw [(hV r x).trans (R.hV g r x), show rows D g b (ix3 0 c x) = _ from R.hD g (idx b c) x, ← EReal.coe_mul]
  have h2 : lane T g b (ix3 0 0 c) = _ := R.hT g (idx b c)
  simp only [h1, h2, coe_sum, ← EReal.coe_mul, ← EReal.coe_sub]
  rw [ds, dp]
  simp only [mul_comm]

/-- The values' gradient gains the block's terms. -/
theorem dvH_real (g : Fin 2) (b : ℕ) (P : FVec Ideal S512x512 .f32) (old : Vec Ideal S1x512x128 .f32) (r : Fin 512) (x : Fin 128) (o : ℝ)
    (hP : ∀ c, P (ix2 r c) = ((p (q g) (k g) (idx b c) (idx kb r) : ℝ) : EReal)) (ho : old (ix3 0 r x) = ((o : ℝ) : EReal)) :
    dvH (rows D g b) P old (ix3 0 r x) = ((o + ∑ c, p (q g) (k g) (idx b c) (idx kb r) * d g (idx b c) x : ℝ) : EReal) := by
  have h1 : ∀ c, P (ix2 r c) * rows D g b (ix3 0 c x) = ((p (q g) (k g) (idx b c) (idx kb r) * d g (idx b c) x : ℝ) : EReal) := fun c => by
    rw [hP c, show rows D g b (ix3 0 c x) = _ from R.hD g (idx b c) x, ← EReal.coe_mul]
  rw [dvH_apply, ho]
  simp only [h1, coe_sum, ← EReal.coe_add]

/-- The keys' gradient gains the block's terms. -/
theorem dkH_real (g : Fin 2) (b : ℕ) (S : FVec Ideal S512x512 .bf16) (old : Vec Ideal S1x512x192 .f32) (r : Fin 512) (e : Fin 192) (o : ℝ)
    (hS : ∀ c, S (ix2 r c) = ((ds (q g) (k g) (v g) (d g) (idx b c) (idx kb r) : ℝ) : EReal)) (ho : old (ix3 0 r e) = ((o : ℝ) : EReal)) :
    dkH (rows X g b) S old (ix3 0 r e)
      = ((o + ∑ c, ds (q g) (k g) (v g) (d g) (idx b c) (idx kb r) * q g (idx b c) e : ℝ) : EReal) := by
  have h1 : ∀ c, S (ix2 r c) * rows X g b (ix3 0 c e)
      = ((ds (q g) (k g) (v g) (d g) (idx b c) (idx kb r) * q g (idx b c) e : ℝ) : EReal) := fun c => by
    rw [hS c, show rows X g b (ix3 0 c e) = _ from R.hX g (idx b c) e, ← EReal.coe_mul]
  rw [dkH_apply, ho]
  simp only [h1, coe_sum, ← EReal.coe_add]

/-- The queries' gradient gains the block's terms. -/
theorem dqH_real (K : FVec Ideal S512x192 .bf16) (g : Fin 2) (hK : ∀ r e, K (ix2 r e) = Kb (ix3 g r e)) (b : ℕ)
    (S : FVec Ideal S512x512 .bf16) (old : Vec Ideal S1x512x192 .f32) (c : Fin 512) (e : Fin 192) (o : ℝ)
    (hS : ∀ r, S (ix2 r c) = ((ds (q g) (k g) (v g) (d g) (idx b c) (idx kb r) : ℝ) : EReal)) (ho : old (ix3 0 c e) = ((o : ℝ) : EReal)) :
    dqH K S old (ix3 0 c e)
      = ((o + ∑ r, ds (q g) (k g) (v g) (d g) (idx b c) (idx kb r) * k g (idx kb r) e : ℝ) : EReal) := by
  have h1 : ∀ r, S (ix2 r c) * K (ix2 r e)
      = ((ds (q g) (k g) (v g) (d g) (idx b c) (idx kb r) * k g (idx kb r) e : ℝ) : EReal) := fun r => by
    rw [hS r, (hK r e).trans (R.hK g r e), ← EReal.coe_mul]
  rw [dqH_apply, ho]
  simp only [h1, coe_sum, ← EReal.coe_add]

end Step

end Cert.KernelIdeal.Attn

end
-- ==== Proof.Sums.lean ====
/-
  The gradients that one grid point forms, at the ideal instance and on real arrays: a block of keys
  against its own block of queries and every later one.
-/
module

public import proofs.«01_k».proof.Proof.Steps
public import proofs.«01_k».proof.Proof.Body

@[expose] public section

set_option maxRecDepth 16384

noncomputable section

namespace Cert.KernelIdeal.Attn

open Idealize.ShloMosaic Idealize.ShloMosaic.Pointwise Cert.KernelIdeal Cert.KernelIdeal.Gen Cert.Attn

theorem both_of {w : ℕ} {e : EltTy} (A B : Vec Ideal ⟨3, ![1, 512, w]⟩ e) (r : Fin 512) (x : Fin w) (P : Fin 2 → Elt Ideal e)
    (h0 : A (ix3 (n0 := 1) (n1 := 512) (n2 := w) 0 r x) = P 0) (h1 : B (ix3 (n0 := 1) (n1 := 512) (n2 := w) 0 r x) = P 1) (g : Fin 2) :
    both A B (ix3 g r x) = P g := by
  match g with
  | ⟨0, _⟩ => exact (if_pos rfl).trans h0
  | ⟨1, _⟩ => exact (if_neg Nat.one_ne_zero).trans h1

/-- The block of a row. -/
theorem idx_div {b : ℕ} (hb : b < 16) (c : Fin 512) : (idx b c).val / 512 = b := by
  have := idx_val hb c
  have := c.isLt
  omega

theorem idx_sub {b : ℕ} (hb : b < 16) (i : Fin 8192) (h : 512 * b ≤ i.val ∧ i.val < 512 * b + 512) : idx b ⟨i.val - 512 * b, by omega⟩ = i := by
  refine Fin.ext ?_
  have := idx_val hb ⟨i.val - 512 * b, by omega⟩
  simp only at this
  omega

/-- Adding to the rows of one block. -/
theorem setRows_real (old : Vec Ideal S2x8192x192 .f32) (o t : Fin 2 → Fin 8192 → Fin 192 → ℝ) (b : ℕ) (hb : b < 16)
    (A B : Vec Ideal S1x512x192 .f32) (hold : ∀ g i e, old (ix3 g i e) = ((o g i e : ℝ) : EReal))
    (hA : ∀ c e, A (ix3 0 c e) = ((o 0 (idx b c) e + t 0 (idx b c) e : ℝ) : EReal))
    (hB : ∀ c e, B (ix3 0 c e) = ((o 1 (idx b c) e + t 1 (idx b c) e : ℝ) : EReal)) (g : Fin 2) (i : Fin 8192) (e : Fin 192) :
    setRows old b A B (ix3 g i e) = ((o g i e + if i.val / 512 = b then t g i e else 0 : ℝ) : EReal) := by
  by_cases h : 512 * b ≤ i.val ∧ i.val < 512 * b + 512
  · rw [if_pos (by omega : i.val / 512 = b)]
    match g with
    | ⟨0, _⟩ => exact (setRows_zero old b A B 0 i e h rfl).trans ((hA _ e).trans (by rw [idx_sub hb i h]; rfl))
    | ⟨1, _⟩ => exact (setRows_one old b A B 1 i e h Nat.one_ne_zero).trans ((hB _ e).trans (by rw [idx_sub hb i h]; rfl))
  · rw [if_neg (by omega : ¬i.val / 512 = b), add_zero]
    exact (setRows_off old b A B g i e h).trans (hold g i e)

section Point

variable {q k : Fin 2 → Fin 8192 → Fin 192 → ℝ} {v d : Fin 2 → Fin 8192 → Fin 128 → ℝ} {kb : ℕ}
  {Kb : Vec Ideal S2x512x192 .bf16} {Vb : Vec Ideal S2x512x128 .bf16} {X : Vec Ideal S2x8192x192 .bf16}
  {D : Vec Ideal S2x8192x128 .bf16} {L T : Vec Ideal S2x1x8192 .f32} (R : Reads q k v d kb Kb Vb X D L T) (hkb : kb < 16)

include R hkb

theorem sumDv_real (n : ℕ) (hn : kb + n < 16) (g : Fin 2) (r : Fin 512) (x : Fin 128) :
    sumDv Kb X D L kb n (ix3 g r x)
      = ((∑ b ∈ Finset.range (n + 1), ∑ c : Fin 512, p (q g) (k g) (idx (kb + b) c) (idx kb r) * d g (idx (kb + b) c) x : ℝ) : EReal) := by
  induction n generalizing g r x with
  | zero =>
    rw [Finset.sum_range_one, ← zero_add (∑ c : Fin 512, _)]
    refine both_of (e := .f32) _ _ r x (fun g => ((0 + ∑ c : Fin 512, p (q g) (k g) (idx kb c) (idx kb r) * d g (idx kb c) x : ℝ) : EReal)) ?_ ?_ g
    · exact dvH_real R 0 kb _ _ r x 0 (fun c => probs_diag R _ 0 (fun r e => pay34_apply _ r e) hkb r c) (pay33_apply _)
    · exact dvH_real R 1 kb _ _ r x 0 (fun c => probs_diag R _ 1 (fun r e => pay35_apply _ r e) hkb r c) (pay33_apply _)
  | succ n ih =>
    rw [Finset.sum_range_succ]
    refine both_of (e := .f32) _ _ r x (fun g => ((∑ b ∈ Finset.range (n + 1), ∑ c : Fin 512, p (q g) (k g) (idx (kb + b) c) (idx kb r) * d g (idx (kb + b) c) x
        + ∑ c : Fin 512, p (q g) (k g) (idx (kb + n + 1) c) (idx kb r) * d g (idx (kb + n + 1) c) x : ℝ) : EReal)) ?_ ?_ g
    · exact dvH_real R 0 (kb + n + 1) _ _ r x _ (fun c => probs_off R _ 0 (fun r e => pay34_apply _ r e) _ (by omega) (by omega) r c) (ih (by omega) 0 r x)
    · exact dvH_real R 1 (kb + n + 1) _ _ r x _ (fun c => probs_off R _ 1 (fun r e => pay35_apply _ r e) _ (by omega) (by omega) r c) (ih (by omega) 1 r x)

/-- The gradient of the scores of a later block of queries. -/
theorem sH_real (K : FVec Ideal S512x192 .bf16) (V : FVec Ideal S512x128 .bf16) (g : Fin 2) (hK : ∀ r e, K (ix2 r e) = Kb (ix3 g r e))
    (hV : ∀ r x, V (ix2 r x) = Vb (ix3 g r x)) (b : ℕ) (hb : kb < b) (hb' : b < 16) (r c : Fin 512) :
    sH X D L T b K V g (ix2 r c) = ((ds (q g) (k g) (v g) (d g) (idx b c) (idx kb r) : ℝ) : EReal) :=
  dscores_real R V g hV b _ r c (probs_off R K g hK b hb hb' r c)

/-- The gradient of the scores of the diagonal block. -/
theorem sDiagH_real (K : FVec Ideal S512x192 .bf16) (V : FVec Ideal S512x128 .bf16) (g : Fin 2) (hK : ∀ r e, K (ix2 r e) = Kb (ix3 g r e))
    (hV : ∀ r x, V (ix2 r x) = Vb (ix3 g r x)) (r c : Fin 512) :
    sDiagH X D L T kb K V g (ix2 r c) = ((ds (q g) (k g) (v g) (d g) (idx kb c) (idx kb r) : ℝ) : EReal) :=
  dscores_real R V g hV kb _ r c (probs_diag R K g hK hkb r c)

theorem sumDk_real (n : ℕ) (hn : kb + n < 16) (g : Fin 2) (r : Fin 512) (e : Fin 192) :
    sumDk Kb Vb X D L T kb n (ix3 g r e)
      = ((∑ b ∈ Finset.range (n + 1), ∑ c : Fin 512,
          ds (q g) (k g) (v g) (d g) (idx (kb + b) c) (idx kb r) * q g (idx (kb + b) c) e : ℝ) : EReal) := by
  induction n generalizing g r e with
  | zero =>
    rw [Finset.sum_range_one, ← zero_add (∑ c : Fin 512, _)]
    refine both_of (e := .f32) _ _ r e (fun g => ((0 + ∑ c : Fin 512, ds (q g) (k g) (v g) (d g) (idx kb c) (idx kb r) * q g (idx kb c) e : ℝ) : EReal)) ?_ ?_ g
    · exact dkH_real R 0 kb _ _ r e 0
        (fun c => sDiagH_real R hkb _ _ 0 (fun r e => pay34_apply _ r e) (fun r e => pay36_apply _ r e) r c) (pay32_apply _)
    · exact dkH_real R 1 kb _ _ r e 0
        (fun c => sDiagH_real R hkb _ _ 1 (fun r e => pay35_apply _ r e) (fun r e => pay37_apply _ r e) r c) (pay32_apply _)
  | succ n ih =>
    rw [Finset.sum_range_succ]
    refine both_of (e := .f32) _ _ r e (fun g => ((∑ b ∈ Finset.range (n + 1), ∑ c : Fin 512,
          ds (q g) (k g) (v g) (d g) (idx (kb + b) c) (idx kb r) * q g (idx (kb + b) c) e
        + ∑ c : Fin 512, ds (q g) (k g) (v g) (d g) (idx (kb + n + 1) c) (idx kb r) * q g (idx (kb + n + 1) c) e : ℝ) : EReal)) ?_ ?_ g
    · exact dkH_real R 0 (kb + n + 1) _ _ r e _
        (fun c => sH_real R hkb _ _ 0 (fun r e => pay34_apply _ r e) (fun r e => pay36_apply _ r e) _ (by omega) (by omega) r c) (ih (by omega) 0 r e)
    · exact dkH_real R 1 (kb + n + 1) _ _ r e _
        (fun c => sH_real R hkb _ _ 1 (fun r e => pay35_apply _ r e) (fun r e => pay37_apply _ r e) _ (by omega) (by omega) r c) (ih (by omega) 1 r e)

omit R hkb in
/-- What a block of keys adds to a row of the queries' gradient. -/
def term (q k : Fin 2 → Fin 8192 → Fin 192 → ℝ) (v d : Fin 2 → Fin 8192 → Fin 128 → ℝ) (kb : ℕ) (g : Fin 2) (i : Fin 8192) (e : Fin 192) : ℝ :=
  ∑ r : Fin 512, ds (q g) (k g) (v g) (d g) i (idx kb r) * k g (idx kb r) e

theorem sumDq_blocks (dq : Vec Ideal S2x8192x192 .f32) (o : Fin 2 → Fin 8192 → Fin 192 → ℝ)
    (ho : ∀ g i e, dq (ix3 g i e) = ((o g i e : ℝ) : EReal)) (n : ℕ) (hn : kb + n < 16) (g : Fin 2) (i : Fin 8192) (e : Fin 192) :
    sumDq Kb Vb X D L T kb dq n (ix3 g i e)
      = ((o g i e + if kb ≤ i.val / 512 ∧ i.val / 512 ≤ kb + n then term q k v d kb g i e else 0 : ℝ) : EReal) := by
  induction n generalizing g i e with
  | zero =>
    refine (setRows_real dq o (term q k v d kb) kb hkb _ _ ho
      (fun c e => dqH_real R _ 0 (fun r e => pay34_apply _ r e) kb _ _ c e _
        (fun r => sDiagH_real R hkb _ _ 0 (fun r e => pay34_apply _ r e) (fun r e => pay36_apply _ r e) r c) (ho 0 (idx kb c) e))
      (fun c e => dqH_real R _ 1 (fun r e => pay35_apply _ r e) kb _ _ c e _
        (fun r => sDiagH_real R hkb _ _ 1 (fun r e => pay35_apply _ r e) (fun r e => pay37_apply _ r e) r c) (ho 1 (idx kb c) e)) g i e).trans ?_
    by_cases h : i.val / 512 = kb
    · rw [if_pos h, if_pos ⟨by omega, by omega⟩]
    · rw [if_neg h, if_neg (by omega)]
  | succ n ih =>
    have hih : ∀ g c e, sumDq Kb Vb X D L T kb dq n (ix3 g (idx (kb + n + 1) c) e) = ((o g (idx (kb + n + 1) c) e : ℝ) : EReal) := fun g c e => by
      rw [ih (by omega), if_neg (by rw [idx_div (by omega)]; omega), add_zero]
    refine (setRows_real (sumDq Kb Vb X D L T kb dq n) _ (term q k v d kb) (kb + n + 1) (by omega) _ _ (ih (by omega))
      (fun c e => dqH_real R _ 0 (fun r e => pay34_apply _ r e) (kb + n + 1) _ _ c e _
        (fun r => sH_real R hkb _ _ 0 (fun r e => pay34_apply _ r e) (fun r e => pay36_apply _ r e) _ (by omega) (by omega) r c)
        (ih (by omega) 0 (idx (kb + n + 1) c) e))
      (fun c e => dqH_real R _ 1 (fun r e => pay35_apply _ r e) (kb + n + 1) _ _ c e _
        (fun r => sH_real R hkb _ _ 1 (fun r e => pay35_apply _ r e) (fun r e => pay37_apply _ r e) _ (by omega) (by omega) r c)
        (ih (by omega) 1 (idx (kb + n + 1) c) e)) g i e).trans ?_
    by_cases h : i.val / 512 = kb + n + 1
    · rw [if_pos h, if_neg (by omega), if_pos ⟨by omega, by omega⟩, add_zero]
    · rw [if_neg h, add_zero]
      by_cases h2 : kb ≤ i.val / 512 ∧ i.val / 512 ≤ kb + n
      · rw [if_pos h2, if_pos ⟨by omega, by omega⟩]
      · rw [if_neg h2, if_neg (by omega)]

/-- A point adds its block of keys to every row of the queries' gradient. -/
theorem sumDq_real (dq : Vec Ideal S2x8192x192 .f32) (o : Fin 2 → Fin 8192 → Fin 192 → ℝ)
    (ho : ∀ g i e, dq (ix3 g i e) = ((o g i e : ℝ) : EReal)) (g : Fin 2) (i : Fin 8192) (e : Fin 192) :
    sumDq Kb Vb X D L T kb dq (15 - kb) (ix3 g i e) = ((o g i e + term q k v d kb g i e : ℝ) : EReal) := by
  rw [sumDq_blocks R hkb dq o ho _ (by omega)]
  by_cases h : kb ≤ i.val / 512
  · rw [if_pos ⟨h, by have := i.isLt; omega⟩]
  · rw [if_neg (by omega), show term q k v d kb g i e = 0 from Finset.sum_eq_zero fun r _ => by
      rw [ds_of_lt _ _ _ _ (Fin.lt_def.mpr (by rw [idx_val hkb]; omega)), zero_mul]]

/-- The values' gradient that a point stores. -/
theorem sumDv_all (g : Fin 2) (r : Fin 512) (x : Fin 128) :
    sumDv Kb X D L kb (15 - kb) (ix3 g r x) = ((gv (q g) (k g) (d g) (idx kb r) x : ℝ) : EReal) := by
  rw [sumDv_real R hkb _ (by omega), gv, sum_blocks_from _ kb hkb fun b hb c => by rw [p_of_lt _ _ (idx_lt hb hkb c r), zero_mul]]

/-- The keys' gradient that a point stores, before its scale. -/
theorem sumDk_all (g : Fin 2) (r : Fin 512) (e : Fin 192) :
    sumDk Kb Vb X D L T kb (15 - kb) (ix3 g r e)
      = ((∑ i, ds (q g) (k g) (v g) (d g) i (idx kb r) * q g i e : ℝ) : EReal) := by
  rw [sumDk_real R hkb _ (by omega), sum_blocks_from (fun i => ds (q g) (k g) (v g) (d g) i (idx kb r) * q g i e) kb hkb
    fun b hb c => by rw [ds_of_lt _ _ _ _ (idx_lt hb hkb c r), zero_mul]]

end Point

end Cert.KernelIdeal.Attn

end
-- ==== Proof.Soft.lean ====
/-
  The softmax of one row among the extended reals, where a masked score is `⊥`, and the few
  constants that the host spells.
-/
module

public import proofs.«01_k».proof.Proof.Math
public import Mathlib.Data.Finset.Fold

@[expose] public section

noncomputable section

namespace Cert.Attn

open Idealize.ShloMosaic

/-! ## The host's constants -/

theorem ofBits_192 : Ideal.ofBits .f32 0x43400000#32 = ((192 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

/-- One over the root of 192, as the host computes it. -/
theorem div_sqrt : Ideal.div 1 (Ideal.sqrt (Ideal.ofBits .f32 0x43400000#32)) = ((σ : ℝ) : EReal) := by
  have h : Real.sqrt 192 ≠ 0 := (Real.sqrt_pos.mpr (by norm_num)).ne'
  rw [ofBits_192, Ideal.sqrt_coe, if_neg (by norm_num), Ideal.div_coe h, one_mul, one_div, σ]

/-- Dividing two real numbers. -/
theorem div_real (a b : ℝ) (hb : b ≠ 0) : Ideal.div (a : EReal) (b : EReal) = ((a / b : ℝ) : EReal) := by
  rw [Ideal.div_coe hb, ← EReal.coe_mul, mul_one_div]

/-- The causal mask's bit. -/
theorem causal_bit (i j : Fin 8192) :
    IntOp.cmpi CmpIPredicate.sle (BitVec.ofNat 32 j.val) (BitVec.ofNat 32 i.val) = if j ≤ i then 1#1 else 0#1 := by
  have h1 : (BitVec.ofNat 32 j.val).toInt = j.val := by
    rw [BitVec.toInt_eq_toNat_of_lt] <;> simp only [BitVec.toNat_ofNat] <;> have := j.isLt <;> omega
  have h2 : (BitVec.ofNat 32 i.val).toInt = i.val := by
    rw [BitVec.toInt_eq_toNat_of_lt] <;> simp only [BitVec.toNat_ofNat] <;> have := i.isLt <;> omega
  by_cases h : j ≤ i
  · simp [IntOp.cmpi, BitVec.sle, h1, h2, h]
  · simp [IntOp.cmpi, BitVec.sle, h1, h2, h]

/-- A choice by the causal mask's bit. -/
theorem select_causal {α : Type} (i j : Fin 8192) (a b : α) :
    Scalar.select (IntOp.cmpi CmpIPredicate.sle (BitVec.ofNat 32 j.val) (BitVec.ofNat 32 i.val)) a b = if j ≤ i then a else b := by
  rw [causal_bit]
  by_cases h : j ≤ i
  · rw [if_pos h, if_pos h]; rfl
  · rw [if_neg h, if_neg h]; rfl

section Row

variable (q k : Fin 8192 → Fin 192 → ℝ)

/-- The masked score. -/
def esc (i j : Fin 8192) : EReal := if j ≤ i then ((sc q k i j : ℝ) : EReal) else ⊥

/-- A row's largest masked score is a real number. -/
theorem exists_max (i : Fin 8192) : ∃ M : ℝ, Finset.fold max (⊥ : EReal) (fun j => esc q k i j) Finset.univ = ((M : ℝ) : EReal) := by
  have h1 : (⊥ : EReal) < Finset.fold max (⊥ : EReal) (fun j => esc q k i j) Finset.univ :=
    (Finset.lt_fold_max _).mpr (Or.inr ⟨i, Finset.mem_univ _, by rw [esc, if_pos le_rfl]; exact EReal.bot_lt_coe _⟩)
  have h2 : Finset.fold max (⊥ : EReal) (fun j => esc q k i j) Finset.univ < ⊤ :=
    (Finset.fold_max_lt _).mpr ⟨bot_lt_top, fun j _ => by
      unfold esc; split_ifs
      · exact EReal.coe_lt_top _
      · exact bot_lt_top⟩
  exact ⟨_, (EReal.coe_toReal h2.ne h1.ne').symm⟩

/-- The exponential of a masked score less a real number. -/
theorem exp_esc (M : ℝ) (i j : Fin 8192) :
    Ideal.exp (esc q k i j - ((M : ℝ) : EReal)) = ((if j ≤ i then Real.exp (sc q k i j - M) else 0 : ℝ) : EReal) := by
  unfold esc
  split_ifs
  · rw [← EReal.coe_sub, Ideal.exp_coe]
  · rw [EReal.bot_sub, Ideal.exp_bot, EReal.coe_zero]

/-- The sum of a row's exponentials. -/
theorem sum_exp_esc (M : ℝ) (i : Fin 8192) :
    ∑ j, Ideal.exp (esc q k i j - ((M : ℝ) : EReal)) = ((z q k i / Real.exp M : ℝ) : EReal) := by
  simp only [exp_esc, coe_sum, z_shift]

/-- The row's logarithm. -/
theorem log_z (M : ℝ) (i : Fin 8192) :
    ((M : ℝ) : EReal) + Ideal.log ((z q k i / Real.exp M : ℝ) : EReal) = ((Real.log (z q k i) : ℝ) : EReal) := by
  rw [Ideal.log_coe, if_neg (not_le.mpr (z_shift_pos q k M i)), ← EReal.coe_add, lse_shift]

end Row

end Cert.Attn

end
-- ==== Proof.Host.lean ====
/-
  What the host computes before the call, at the ideal instance: the rows' logarithms `lse` and the
  weighted row sums `delta` from the scores, as `reference.py`'s forward lines give them.
-/
module

public import proofs.«01_k».proof.Proof.Soft
public import proofs.«01_k».proof.Proof.Run
public import Idealize.ShloMosaic.Lib.StableHlo.ReadAt

@[expose] public section

set_option maxRecDepth 16384

noncomputable section

namespace Cert.KernelIdeal.Attn

open Idealize.ShloMosaic Idealize.ShloMosaic.Pointwise Cert.KernelIdeal Cert.KernelIdeal.Gen Cert.Attn

/-! ## The host's arrays, one after another -/

section Defs

variable {F : FTy → Type} [FloatOps F] [Named F]

/-- A query or key argument with the heads first. -/
def hQ (a : FVec F S1x8192x8x192 .f32) : FVec F S8x8192x192 .f32 :=
  transpose S8x8192x192 [1, 0, 2] (shapeCast S8192x8x192 a shapeCasts_S1x8192x8x192_S8192x8x192) transposes_S8192x8x192_S8x8192x192_1_0_2

/-- A value argument, or the gradient of the result, with the heads first. -/
def hV (a : FVec F S1x8192x8x128 .f32) : FVec F S8x8192x128 .f32 :=
  transpose S8x8192x128 [1, 0, 2] (shapeCast S8192x8x128 a shapeCasts_S1x8192x8x128_S8192x8x128) transposes_S8192x8x128_S8x8192x128_1_0_2

/-- The masked scores. -/
def hS (q k : FVec F S8x8192x192 .f32) : FVec F S8x8192x8192 .f32 :=
  select (broadcastInDim S8x8192x8192 ![1, 2] bcast_S8192x8192_S8x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (mulf (Host.dotGeneral dot_S8x8192x192_S8x8192x192_S8x8192x8192_2_2_1_1_0_0 none q k)
      (broadcastInDim S8x8192x8192 ![] bcast_S_S8x8192x8192 (Host.divf (constant S_ .f32 0x3F800000#32) (Host.sqrt (constant S_ .f32 0x43400000#32)))))
    (broadcastInDim S8x8192x8192 ![] bcast_S_S8x8192x8192 (id (constant S_ .f32 0xFF800000#32)))

/-- The rows' largest scores. -/
def hM (S : FVec F S8x8192x8192 .f32) : FVec F S8x8192x1 .f32 :=
  broadcastInDim S8x8192x1 ![0, 1] bcast_S8x8192_S8x8192x1_0_1
    (Host.reduce FloatOps.maximumf S (constant S_ .f32 0xFF800000#32) reducesTo_S8x8192x8192_S8x8192_d2 h_S_)

/-- The exponentials. -/
def hE (S : FVec F S8x8192x8192 .f32) (M : FVec F S8x8192x1 .f32) : FVec F S8x8192x8192 .f32 :=
  Host.exp (subf S (broadcastInDim S8x8192x8192 ![0, 1, 2] bcast_S8x8192x1_S8x8192x8192_0_1_2 M))

/-- The rows' sums. -/
def hL (E : FVec F S8x8192x8192 .f32) : FVec F S8x8192x1 .f32 :=
  broadcastInDim S8x8192x1 ![0, 1] bcast_S8x8192_S8x8192x1_0_1
    (Host.reduceAdd E (constant S_ .f32 0x00000000#32) reducesTo_S8x8192x8192_S8x8192_d2 h_S_)

/-- The rows' logarithms. -/
def hLse (M L : FVec F S8x8192x1 .f32) : FVec F S8x1x8192 .f32 :=
  shapeCast S8x1x8192 (addf M (Host.log L)) shapeCasts_S8x8192x1_S8x1x8192

/-- The weighted row sums. -/
def hDelta (E : FVec F S8x8192x8192 .f32) (L : FVec F S8x8192x1 .f32) (v d : FVec F S8x8192x128 .f32) : FVec F S8x1x8192 .f32 :=
  shapeCast S8x1x8192 (Host.reduceAdd (mulf d (Host.dotGeneral dot_S8x8192x8192_S8x8192x128_S8x8192x128_2_1_1_2_0_0 none
    (Host.divf E (broadcastInDim S8x8192x8192 ![0, 1, 2] bcast_S8x8192x1_S8x8192x8192_0_1_2 L)) v))
    (constant S_ .f32 0x00000000#32) reducesTo_S8x8192x128_S8x8192_d2 h_S_) shapeCasts_S8x8192_S8x1x8192

end Defs

section Entry

variable {F : FTy → Type} [FloatOps F] [Named F]
variable (m : (ℓ : Loc nD τ sig) → Buf (Elt F) ℓ) (c : Dev nD)

/-- The queries with the heads first, of the argument in memory. -/
abbrev mQ : FVec F S8x8192x192 .f32 := hQ (m ((c.tc : Thread nD τ).loc main_arg0))
/-- The keys. -/
abbrev mK : FVec F S8x8192x192 .f32 := hQ (m ((c.tc : Thread nD τ).loc main_arg1))
/-- The values. -/
abbrev mV : FVec F S8x8192x128 .f32 := hV (m ((c.tc : Thread nD τ).loc main_arg2))
/-- The gradient of the result. -/
abbrev mD : FVec F S8x8192x128 .f32 := hV (m ((c.tc : Thread nD τ).loc main_arg3))

theorem V34 : V m c main_v34 = truncf .bf16 (mQ m c) bitsLt_bf16_f32 := by
  unfold V; after_reads_simp <;> rfl

theorem V35 : V m c main_v35 = truncf .bf16 (mK m c) bitsLt_bf16_f32 := by
  unfold V; after_reads_simp <;> rfl

theorem V36 : V m c main_v36 = truncf .bf16 (mV m c) bitsLt_bf16_f32 := by
  unfold V; after_reads_simp <;> rfl

theorem V37 : V m c main_v37 = truncf .bf16 (mD m c) bitsLt_bf16_f32 := by
  unfold V; after_reads_simp <;> rfl

theorem V38 : V m c main_v38 = hLse (hM (hS (mQ m c) (mK m c))) (hL (hE (hS (mQ m c) (mK m c)) (hM (hS (mQ m c) (mK m c))))) := by
  unfold V; after_reads_simp <;> simp only [StableHlo.TRef.toBuf, StableHlo.TRef.ofBuf, cast_cast, cast_eq] <;> rfl

theorem V39 : V m c main_v39 = hDelta (hE (hS (mQ m c) (mK m c)) (hM (hS (mQ m c) (mK m c))))
    (hL (hE (hS (mQ m c) (mK m c)) (hM (hS (mQ m c) (mK m c))))) (mV m c) (mD m c) := by
  unfold V; after_reads_simp <;> simp only [StableHlo.TRef.toBuf, StableHlo.TRef.ofBuf, cast_cast, cast_eq] <;> rfl

end Entry

end Cert.KernelIdeal.Attn

end
-- ==== Proof.HostReal.lean ====
/-
  What the host computes before the call, on real arguments: every array holds real numbers, the
  rows' logarithms are those of `Math` and so are the weighted row sums.
-/
module

public import proofs.«01_k».proof.Proof.Host

@[expose] public section

set_option maxRecDepth 16384

noncomputable section

namespace Cert.KernelIdeal.Attn

open Idealize.ShloMosaic Idealize.ShloMosaic.Pointwise Cert.KernelIdeal Cert.KernelIdeal.Gen Cert.Attn

theorem hQ_apply (a : FVec Ideal S1x8192x8x192 .f32) (h : Fin 8) (i : Fin 8192) (e : Fin 192) : hQ a (ix3 h i e) = a (ix4 0 i h e) := by
  pointwise [hQ]

theorem hV_apply (a : FVec Ideal S1x8192x8x128 .f32) (h : Fin 8) (i : Fin 8192) (x : Fin 128) : hV a (ix3 h i x) = a (ix4 0 i h x) := by
  pointwise [hV]

theorem hS_apply (Q K : FVec Ideal S8x8192x192 .f32) (h : Fin 8) (i j : Fin 8192) :
    hS Q K (ix3 h i j) = Scalar.select (α := EReal) (IntOp.cmpi CmpIPredicate.sle (BitVec.ofNat 32 j.val) (BitVec.ofNat 32 i.val))
      ((∑ x, (Q (ix3 h i x) * K (ix3 h j x) : EReal)) * Ideal.div 1 (Ideal.sqrt (Ideal.ofBits FTy.f32 0x43400000#32)))
      (Ideal.ofBits FTy.f32 0xFF800000#32) := by
  pointwise [hS, id]

theorem hM_apply (S : FVec Ideal S8x8192x8192 .f32) (h : Fin 8) (i : Fin 8192) :
    hM S (ix3 h i 0) = Finset.fold max (Ideal.ofBits FTy.f32 0xFF800000#32) (fun j => (S (ix3 h i j) : EReal)) Finset.univ := by
  pointwise [hM]

theorem hE_apply (S : FVec Ideal S8x8192x8192 .f32) (M : FVec Ideal S8x8192x1 .f32) (h : Fin 8) (i j : Fin 8192) :
    hE S M (ix3 h i j) = Ideal.exp ((S (ix3 h i j) : EReal) - M (ix3 h i 0)) := by
  pointwise [hE]

theorem hL_apply (E : FVec Ideal S8x8192x8192 .f32) (h : Fin 8) (i : Fin 8192) :
    hL E (ix3 h i 0) = ∑ j, (E (ix3 h i j) : EReal) := by
  pointwise [hL]

theorem hLse_apply (M L : FVec Ideal S8x8192x1 .f32) (h : Fin 8) (i : Fin 8192) :
    hLse M L (ix3 h 0 i) = (M (ix3 h i 0) : EReal) + Ideal.log (L (ix3 h i 0)) := by
  pointwise [hLse]

theorem hDelta_apply (E : FVec Ideal S8x8192x8192 .f32) (L : FVec Ideal S8x8192x1 .f32) (v d : FVec Ideal S8x8192x128 .f32) (h : Fin 8)
    (i : Fin 8192) :
    hDelta E L v d (ix3 h 0 i) = ∑ x, (d (ix3 h i x) : EReal) * ∑ j, Ideal.div (E (ix3 h i j)) (L (ix3 h i 0)) * v (ix3 h j x) := by
  pointwise [hDelta]

section Real

variable (Q K : FVec Ideal S8x8192x192 .f32) (V D : FVec Ideal S8x8192x128 .f32)
  (q k : Fin 8 → Fin 8192 → Fin 192 → ℝ) (v d : Fin 8 → Fin 8192 → Fin 128 → ℝ)
  (hq : ∀ h i e, Q (ix3 h i e) = ((q h i e : ℝ) : EReal)) (hk : ∀ h i e, K (ix3 h i e) = ((k h i e : ℝ) : EReal))
  (hv : ∀ h i x, V (ix3 h i x) = ((v h i x : ℝ) : EReal)) (hd : ∀ h i x, D (ix3 h i x) = ((d h i x : ℝ) : EReal))

include hq hk

theorem hS_real (h : Fin 8) (i j : Fin 8192) : hS Q K (ix3 h i j) = esc (q h) (k h) i j := by
  rw [hS_apply, select_causal, div_sqrt, ofBits_bot, esc]
  simp only [hq, hk, ← EReal.coe_mul, coe_sum, sc]

theorem hM_real (h : Fin 8) (i : Fin 8192) : ∃ M : ℝ, hM (hS Q K) (ix3 h i 0) = ((M : ℝ) : EReal) := by
  obtain ⟨M, hM'⟩ := exists_max (q h) (k h) i
  refine ⟨M, ?_⟩
  rw [hM_apply, ofBits_bot, ← hM']
  simp only [hS_real Q K q k hq hk]

theorem hLse_real (h : Fin 8) (i : Fin 8192) :
    hLse (hM (hS Q K)) (hL (hE (hS Q K) (hM (hS Q K)))) (ix3 h 0 i) = ((Real.log (z (q h) (k h) i) : ℝ) : EReal) := by
  obtain ⟨M, hM'⟩ := hM_real Q K q k hq hk h i
  rw [hLse_apply, hL_apply]
  simp only [hE_apply, hM', hS_real Q K q k hq hk, sum_exp_esc, log_z]

include hv hd

theorem hDelta_real (h : Fin 8) (i : Fin 8192) :
    hDelta (hE (hS Q K) (hM (hS Q K))) (hL (hE (hS Q K) (hM (hS Q K)))) V D (ix3 h 0 i)
      = ((delta (q h) (k h) (v h) (d h) i : ℝ) : EReal) := by
  obtain ⟨M, hM'⟩ := hM_real Q K q k hq hk h i
  rw [hDelta_apply, hL_apply]
  simp only [hE_apply, hM', hS_real Q K q k hq hk, sum_exp_esc]
  simp only [exp_esc, div_real _ _ (z_shift_pos (q h) (k h) M i).ne', p_shift, hv, hd, ← EReal.coe_mul, coe_sum, delta_eq]

end Real

end Cert.KernelIdeal.Attn

end
-- ==== Proof.Arrays.lean ====
/-
  The arrays of the launch, on real arguments: the blocks the windows read, what every grid point
  leaves, and the three result arrays at the end.
-/
module

public import proofs.«01_k».proof.Proof.Sums
public import proofs.«01_k».proof.Proof.HostReal

@[expose] public section

set_option maxRecDepth 16384

noncomputable section

namespace Cert.KernelIdeal.Attn

open Idealize.ShloMosaic Idealize.ShloMosaic.TcCoe Idealize.ShloMosaic.Pointwise Cert.KernelIdeal Cert.KernelIdeal.Gen Cert.Attn
open Idealize.ShloMosaic.Pipeline (Dat Cfg Window)

/-- The head that grid point `n` works on at position `g` of its pair. -/
def hd (n : ℕ) (g : Fin 2) : Fin 8 := ⟨(2 * (n / 16) + g.val) % 8, Nat.mod_lt _ (by decide)⟩

theorem hd_val (t : Fin cfg0.N) (g : Fin 2) : (hd t.val g).val = 2 * (t.val / 16) + g.val := by
  have h := t.isLt
  have hN : cfg0.N = 64 := N_0
  have := g.isLt
  exact Nat.mod_eq_of_lt (by omega)

theorem index_0 : ∀ t : Fin cfg0.N, win0_0.index t 0 = t.val / 16 ∧ win0_0.index t 1 = 0 ∧ win0_0.index t 2 = 0 := by decide +kernel
theorem index_1 : ∀ t : Fin cfg0.N, win0_1.index t 0 = t.val / 16 ∧ win0_1.index t 1 = t.val % 16 ∧ win0_1.index t 2 = 0 := by decide +kernel
theorem index_2 : ∀ t : Fin cfg0.N, win0_2.index t 0 = t.val / 16 ∧ win0_2.index t 1 = t.val % 16 ∧ win0_2.index t 2 = 0 := by decide +kernel
theorem index_3 : ∀ t : Fin cfg0.N, win0_3.index t 0 = t.val / 16 ∧ win0_3.index t 1 = 0 ∧ win0_3.index t 2 = 0 := by decide +kernel
theorem index_4 : ∀ t : Fin cfg0.N, win0_4.index t 0 = t.val / 16 ∧ win0_4.index t 1 = 0 ∧ win0_4.index t 2 = 0 := by decide +kernel
theorem index_5 : ∀ t : Fin cfg0.N, win0_5.index t 0 = t.val / 16 ∧ win0_5.index t 1 = 0 ∧ win0_5.index t 2 = 0 := by decide +kernel
theorem index_6 : ∀ t : Fin cfg0.N, win0_6.index t 0 = t.val / 16 ∧ win0_6.index t 1 = 0 ∧ win0_6.index t 2 = 0 := by decide +kernel
theorem index_7 : ∀ t : Fin cfg0.N, win0_7.index t 0 = t.val / 16 ∧ win0_7.index t 1 = t.val % 16 ∧ win0_7.index t 2 = 0 := by decide +kernel
theorem index_8 : ∀ t : Fin cfg0.N, win0_8.index t 0 = t.val / 16 ∧ win0_8.index t 1 = t.val % 16 ∧ win0_8.index t 2 = 0 := by decide +kernel

variable (m : (ℓ : Loc nD τ sig) → Buf (Elt Ideal) ℓ) (c : Dev nD)

theorem kj_lt (t : Fin cfg0.N) : kj t < 16 := by
  rw [kj_eq]; exact Nat.mod_lt _ (by decide)

/-! ## The blocks the windows read -/

theorem read_0 (A : FVec Ideal S8x8192x192 .bf16) (t : Fin cfg0.N) (g : Fin 2) (i : Fin 8192) (e : Fin 192) :
    ((cfg0.win 0).blk t).view.read (Elt Ideal) A (ix3 g i e) = A (ix3 (hd t.val g) i e) := by
  obtain ⟨h0, h1, h2⟩ := index_0 t
  rw [View.read_apply]
  show A _ = A _
  congr 1
  funext a
  apply Fin.ext
  match a with
  | ⟨0, _⟩ => show win0_0.index t 0 * 2 + 1 * g.val = (hd t.val g).val; rw [hd_val, h0]; omega
  | ⟨1, _⟩ => show win0_0.index t 1 * 8192 + 1 * i.val = i.val; rw [h1]; omega
  | ⟨2, _⟩ => show win0_0.index t 2 * 192 + 1 * e.val = e.val; rw [h2]; omega

theorem iblk_0 (t : Fin cfg0.N) (g : Fin 2) (i : Fin 8192) (e : Fin 192) :
    iblk m c 0 t (ix3 g i e) = V m c main_v34 (ix3 (hd t.val g) i e) :=
  read_0 (V m c main_v34) t g i e

theorem read_1 (A : FVec Ideal S8x8192x192 .bf16) (t : Fin cfg0.N) (g : Fin 2) (r : Fin 512) (e : Fin 192) :
    ((cfg0.win 1).blk t).view.read (Elt Ideal) A (ix3 g r e) = A (ix3 (hd t.val g) (idx (kj t) r) e) := by
  obtain ⟨h0, h1, h2⟩ := index_1 t
  rw [View.read_apply]
  show A _ = A _
  congr 1
  funext a
  apply Fin.ext
  match a with
  | ⟨0, _⟩ => show win0_1.index t 0 * 2 + 1 * g.val = (hd t.val g).val; rw [hd_val, h0]; omega
  | ⟨1, _⟩ => show win0_1.index t 1 * 512 + 1 * r.val = (idx (kj t) r).val; rw [h1, idx_val (kj_lt t), kj_eq]; omega
  | ⟨2, _⟩ => show win0_1.index t 2 * 192 + 1 * e.val = e.val; rw [h2]; omega

theorem iblk_1 (t : Fin cfg0.N) (g : Fin 2) (r : Fin 512) (e : Fin 192) :
    iblk m c 1 t (ix3 g r e) = V m c main_v35 (ix3 (hd t.val g) (idx (kj t) r) e) :=
  read_1 (V m c main_v35) t g r e

theorem read_2 (A : FVec Ideal S8x8192x128 .bf16) (t : Fin cfg0.N) (g : Fin 2) (r : Fin 512) (x : Fin 128) :
    ((cfg0.win 2).blk t).view.read (Elt Ideal) A (ix3 g r x) = A (ix3 (hd t.val g) (idx (kj t) r) x) := by
  obtain ⟨h0, h1, h2⟩ := index_2 t
  rw [View.read_apply]
  show A _ = A _
  congr 1
  funext a
  apply Fin.ext
  match a with
  | ⟨0, _⟩ => show win0_2.index t 0 * 2 + 1 * g.val = (hd t.val g).val; rw [hd_val, h0]; omega
  | ⟨1, _⟩ => show win0_2.index t 1 * 512 + 1 * r.val = (idx (kj t) r).val; rw [h1, idx_val (kj_lt t), kj_eq]; omega
  | ⟨2, _⟩ => show win0_2.index t 2 * 128 + 1 * x.val = x.val; rw [h2]; omega

theorem iblk_2 (t : Fin cfg0.N) (g : Fin 2) (r : Fin 512) (x : Fin 128) :
    iblk m c 2 t (ix3 g r x) = V m c main_v36 (ix3 (hd t.val g) (idx (kj t) r) x) :=
  read_2 (V m c main_v36) t g r x

theorem read_3 (A : FVec Ideal S8x8192x128 .bf16) (t : Fin cfg0.N) (g : Fin 2) (i : Fin 8192) (x : Fin 128) :
    ((cfg0.win 3).blk t).view.read (Elt Ideal) A (ix3 g i x) = A (ix3 (hd t.val g) i x) := by
  obtain ⟨h0, h1, h2⟩ := index_3 t
  rw [View.read_apply]
  show A _ = A _
  congr 1
  funext a
  apply Fin.ext
  match a with
  | ⟨0, _⟩ => show win0_3.index t 0 * 2 + 1 * g.val = (hd t.val g).val; rw [hd_val, h0]; omega
  | ⟨1, _⟩ => show win0_3.index t 1 * 8192 + 1 * i.val = i.val; rw [h1]; omega
  | ⟨2, _⟩ => show win0_3.index t 2 * 128 + 1 * x.val = x.val; rw [h2]; omega

theorem iblk_3 (t : Fin cfg0.N) (g : Fin 2) (i : Fin 8192) (x : Fin 128) :
    iblk m c 3 t (ix3 g i x) = V m c main_v37 (ix3 (hd t.val g) i x) :=
  read_3 (V m c main_v37) t g i x

theorem read_4 (A : FVec Ideal S8x1x8192 .f32) (t : Fin cfg0.N) (g : Fin 2) (i : Fin 8192) :
    ((cfg0.win 4).blk t).view.read (Elt Ideal) A (ix3 g 0 i) = A (ix3 (hd t.val g) 0 i) := by
  obtain ⟨h0, h1, h2⟩ := index_4 t
  rw [View.read_apply]
  show A _ = A _
  congr 1
  funext a
  apply Fin.ext
  match a with
  | ⟨0, _⟩ => show win0_4.index t 0 * 2 + 1 * g.val = (hd t.val g).val; rw [hd_val, h0]; omega
  | ⟨1, _⟩ => show win0_4.index t 1 * 1 + 1 * 0 = 0; rw [h1]
  | ⟨2, _⟩ => show win0_4.index t 2 * 8192 + 1 * i.val = i.val; rw [h2]; omega

theorem iblk_4 (t : Fin cfg0.N) (g : Fin 2) (i : Fin 8192) :
    iblk m c 4 t (ix3 g 0 i) = V m c main_v38 (ix3 (hd t.val g) 0 i) :=
  read_4 (V m c main_v38) t g i

theorem read_5 (A : FVec Ideal S8x1x8192 .f32) (t : Fin cfg0.N) (g : Fin 2) (i : Fin 8192) :
    ((cfg0.win 5).blk t).view.read (Elt Ideal) A (ix3 g 0 i) = A (ix3 (hd t.val g) 0 i) := by
  obtain ⟨h0, h1, h2⟩ := index_5 t
  rw [View.read_apply]
  show A _ = A _
  congr 1
  funext a
  apply Fin.ext
  match a with
  | ⟨0, _⟩ => show win0_5.index t 0 * 2 + 1 * g.val = (hd t.val g).val; rw [hd_val, h0]; omega
  | ⟨1, _⟩ => show win0_5.index t 1 * 1 + 1 * 0 = 0; rw [h1]
  | ⟨2, _⟩ => show win0_5.index t 2 * 8192 + 1 * i.val = i.val; rw [h2]; omega

theorem iblk_5 (t : Fin cfg0.N) (g : Fin 2) (i : Fin 8192) :
    iblk m c 5 t (ix3 g 0 i) = V m c main_v39 (ix3 (hd t.val g) 0 i) :=
  read_5 (V m c main_v39) t g i

theorem trunc_apply {S : Shape} (x : FVec Ideal S .f32) (j : S.Idx) : truncf .bf16 x bitsLt_bf16_f32 j = x j := rfl

section Real

variable (q k : Fin 8 → Fin 8192 → Fin 192 → ℝ) (v d : Fin 8 → Fin 8192 → Fin 128 → ℝ)
  (hq : ∀ h i e, mQ m c (ix3 h i e) = ((q h i e : ℝ) : EReal)) (hk : ∀ h i e, mK m c (ix3 h i e) = ((k h i e : ℝ) : EReal))
  (hv : ∀ h i x, mV m c (ix3 h i x) = ((v h i x : ℝ) : EReal)) (hd' : ∀ h i x, mD m c (ix3 h i x) = ((d h i x : ℝ) : EReal))

include hq hk hv hd'

/-- What a grid point reads. -/
theorem reads (t : Fin cfg0.N) :
    Reads (fun g => q (hd t.val g)) (fun g => k (hd t.val g)) (fun g => v (hd t.val g)) (fun g => d (hd t.val g)) (kj t)
      (iblk m c 1 t) (iblk m c 2 t) (iblk m c 0 t) (iblk m c 3 t) (iblk m c 4 t) (iblk m c 5 t) where
  hK g r e := by rw [iblk_1, V35, trunc_apply, hk]
  hV g r x := by rw [iblk_2, V36, trunc_apply, hv]
  hX g i e := by rw [iblk_0, V34, trunc_apply, hq]
  hD g i x := by rw [iblk_3, V37, trunc_apply, hd']
  hL g i := by rw [iblk_4, V38, hLse_real _ _ q k hq hk]
  hT g i := by rw [iblk_5, V39, hDelta_real _ _ _ _ q k v d hq hk hv hd']

/-! ## What a grid point leaves -/

theorem dvOut_real (t : Fin cfg0.N) (g : Fin 2) (r : Fin 512) (x : Fin 128) :
    dvOut m c t (ix3 g r x) = ((gv (q (hd t.val g)) (k (hd t.val g)) (d (hd t.val g)) (idx (kj t) r) x : ℝ) : EReal) :=
  sumDv_all (reads m c q k v d hq hk hv hd' t) (kj_lt t) g r x

theorem dkOut_real (t : Fin cfg0.N) (g : Fin 2) (r : Fin 512) (e : Fin 192) :
    dkOut m c t (ix3 g r e)
      = ((gk (q (hd t.val g)) (k (hd t.val g)) (v (hd t.val g)) (d (hd t.val g)) (idx (kj t) r) e : ℝ) : EReal) :=
  pay5_apply _ g r e _ (sumDk_all (reads m c q k v d hq hk hv hd' t) (kj_lt t) g r e)

/-- One block of keys' share of the queries' gradient, of the head at position `g`. -/
def part (n kb : ℕ) (g : Fin 2) (i : Fin 8192) (e : Fin 192) : ℝ :=
  term (fun g => q (hd n g)) (fun g => k (hd n g)) (fun g => v (hd n g)) (fun g => d (hd n g)) kb g i e

/-- The queries' gradient after grid point `n`, from the gradient before it. -/
theorem dqStep_real (t : Fin cfg0.N) (old : Vec Ideal S2x8192x192 .f32) (o : Fin 2 → Fin 8192 → Fin 192 → ℝ)
    (ho : ∀ g i e, old (ix3 g i e) = ((o g i e : ℝ) : EReal)) (g : Fin 2) (i : Fin 8192) (e : Fin 192) :
    dqStep m c t old (ix3 g i e) = ((o g i e + part q k v d t.val (t.val % 16) g i e : ℝ) : EReal) := by
  have := sumDq_real (reads m c q k v d hq hk hv hd' t) (kj_lt t) old o ho g i e
  rw [← kj_eq t]
  exact this

/-- The queries' gradient after grid point `n`: the blocks of keys so far, scaled after the last. -/
theorem dqAt_real : ∀ (n : ℕ) (h : n < cfg0.N) (g : Fin 2) (i : Fin 8192) (e : Fin 192),
    dqAt m c n h (ix3 g i e)
      = (((∑ b ∈ Finset.range (n % 16 + 1), part q k v d n b g i e) * (if n % 16 = 15 then σ else 1) : ℝ) : EReal) := by
  intro n
  induction n with
  | zero =>
    intro h g i e
    have hk0 : kj (⟨0, h⟩ : Fin cfg0.N) = 0 := kj_eq _
    show dqNext m c ⟨0, h⟩ _ (ix3 g i e) = _
    rw [dqNext, if_pos hk0, dqStep_real m c q k v d hq hk hv hd' ⟨0, h⟩ _ (fun _ _ _ => 0) (fun g i e => pay31_apply (ix3 g i e))]
    simp
  | succ n ih =>
    intro h g i e
    have hkj : kj (⟨n + 1, h⟩ : Fin cfg0.N) = (n + 1) % 16 := kj_eq _
    show dqNext m c ⟨n + 1, h⟩ (dqAt m c n _) (ix3 g i e) = _
    unfold dqNext
    by_cases h0 : (n + 1) % 16 = 0
    · rw [if_pos (hkj.trans h0), dqStep_real m c q k v d hq hk hv hd' ⟨n + 1, h⟩ _ (fun _ _ _ => 0) (fun g i e => pay31_apply (ix3 g i e))]
      simp [h0]
    · have hm : (n + 1) % 16 = n % 16 + 1 := by omega
      have hp : ∀ g : Fin 2, hd n g = hd (n + 1) g := fun g => by
        apply Fin.ext
        show (2 * (n / 16) + g.val) % 8 = (2 * ((n + 1) / 16) + g.val) % 8
        have : (n + 1) / 16 = n / 16 := by omega
        rw [this]
      have hpart : ∀ b g i e, part q k v d n b g i e = part q k v d (n + 1) b g i e := fun b g i e => by
        unfold part
        simp only [hp]
      have h15 : n % 16 ≠ 15 := by omega
      have hold : ∀ g i e, dqAt m c n (Nat.lt_of_succ_lt h) (ix3 g i e)
          = ((∑ b ∈ Finset.range ((n + 1) % 16), part q k v d (n + 1) b g i e : ℝ) : EReal) := fun g i e => by
        rw [ih, if_neg h15, mul_one, hm]
        simp only [hpart]
      rw [if_neg (fun h' => h0 (hkj.symm.trans h'))]
      have hstep := dqStep_real m c q k v d hq hk hv hd' ⟨n + 1, h⟩ _ _ hold g i e
      by_cases h1 : (n + 1) % 16 = 15
      · rw [if_pos (hkj.trans h1), if_pos h1, Finset.sum_range_succ]
        exact pay6_apply _ g i e _ hstep
      · rw [if_neg (fun h' => h1 (hkj.symm.trans h')), if_neg h1, Finset.sum_range_succ, mul_one]
        exact hstep

omit hq hk hv hd' in
/-- All sixteen blocks of keys make the queries' gradient. -/
theorem parts_all (n : ℕ) (g : Fin 2) (i : Fin 8192) (e : Fin 192) :
    (∑ b ∈ Finset.range 16, part q k v d n b g i e) * σ = gq (q (hd n g)) (k (hd n g)) (v (hd n g)) (d (hd n g)) i e := by
  unfold part term gq
  rw [sum_blocks]

/-! ## The result arrays -/

/-- The queries' gradient. -/
def outQ : FVec Ideal S8x8192x192 .f32 := fun j => ((gq (q (j 0)) (k (j 0)) (v (j 0)) (d (j 0)) (j 1) (j 2) : ℝ) : EReal)
/-- The keys' gradient. -/
def outK : FVec Ideal S8x8192x192 .f32 := fun j => ((gk (q (j 0)) (k (j 0)) (v (j 0)) (d (j 0)) (j 1) (j 2) : ℝ) : EReal)
/-- The values' gradient. -/
def outV : FVec Ideal S8x8192x128 .f32 := fun j => ((gv (q (j 0)) (k (j 0)) (d (j 0)) (j 1) (j 2) : ℝ) : EReal)

omit hq hk hv hd' in
theorem read_6 (A : FVec Ideal S8x8192x192 .f32) (t : Fin cfg0.N) (g : Fin 2) (i : Fin 8192) (e : Fin 192) :
    ((cfg0.win 6).blk t).view.read (Elt Ideal) A (ix3 g i e) = A (ix3 (hd t.val g) i e) := by
  obtain ⟨h0, h1, h2⟩ := index_6 t
  rw [View.read_apply]
  show A _ = A _
  congr 1
  funext a
  apply Fin.ext
  match a with
  | ⟨0, _⟩ => show win0_6.index t 0 * 2 + 1 * g.val = (hd t.val g).val; rw [hd_val, h0]; omega
  | ⟨1, _⟩ => show win0_6.index t 1 * 8192 + 1 * i.val = i.val; rw [h1]; omega
  | ⟨2, _⟩ => show win0_6.index t 2 * 192 + 1 * e.val = e.val; rw [h2]; omega

theorem flushed_6 (t : Fin cfg0.N) (hf : (cfg0.win 6).flush t = true) :
    (dats m 0 c).flushed 6 t = ((cfg0.win 6).blk t).view.read (Elt Ideal) (outQ q k v d) := by
  show (cfg0.win 6).cut (grid0.coords t) ((dats m 0 c).after 6 t) = _
  rw [after_6]
  funext j
  obtain ⟨g, a, b, rfl⟩ : ∃ (g : Fin 2) (a : Fin 8192) (b : Fin 192), j = ix3 g a b := ⟨_, _, _, eq_ix3 j⟩
  rw [read_6]
  have h15 : t.val % 16 = 15 := (flush0_6 t).mp hf
  show dqAt m c t.val t.isLt (ix3 g a b) = _
  rw [dqAt_real m c q k v d hq hk hv hd', h15, if_pos rfl, parts_all]
  rfl

theorem final_6 : (dats m 0 c).arrAt 6 cfg0.N = (outQ q k v d) :=
  (dats m 0 c).arrAt_eq_of_cover 6 (outQ q k v d) (flushed_6 m c q k v d hq hk hv hd') fun i => by
    have hN : cfg0.N = 64 := N_0
    have b0 : (i 0 : Nat) < 8 := (i 0).isLt
    have b1 : (i 1 : Nat) < 8192 := (i 1).isLt
    have b2 : (i 2 : Nat) < 192 := (i 2).isLt
    have ht : 16 * ((i 0 : Nat) / 2) + 15 < cfg0.N := by omega
    obtain ⟨h0, h1, h2⟩ := index_6 ⟨16 * ((i 0 : Nat) / 2) + 15, ht⟩
    refine ⟨⟨16 * ((i 0 : Nat) / 2) + 15, ht⟩, (flush0_6 _).mpr (by dsimp only; omega), ?_⟩
    show i ∈ ((View.whole main_v40_0).slice (win0_6.rect ⟨16 * ((i 0 : Nat) / 2) + 15, ht⟩)).set
    rw [View.set_slice_whole, Rect.mem_set_unit]
    intro a
    match a with
    | ⟨0, _⟩ => show win0_6.index _ 0 * 2 ≤ (i 0 : Nat) ∧ (i 0 : Nat) < win0_6.index _ 0 * 2 + 2
                rw [h0]; dsimp only; omega
    | ⟨1, _⟩ => show win0_6.index _ 1 * 8192 ≤ (i 1 : Nat) ∧ (i 1 : Nat) < win0_6.index _ 1 * 8192 + 8192
                rw [h1]; omega
    | ⟨2, _⟩ => show win0_6.index _ 2 * 192 ≤ (i 2 : Nat) ∧ (i 2 : Nat) < win0_6.index _ 2 * 192 + 192
                rw [h2]; omega

omit hq hk hv hd' in
theorem read_7 (A : FVec Ideal S8x8192x192 .f32) (t : Fin cfg0.N) (g : Fin 2) (r : Fin 512) (e : Fin 192) :
    ((cfg0.win 7).blk t).view.read (Elt Ideal) A (ix3 g r e) = A (ix3 (hd t.val g) (idx (kj t) r) e) := by
  obtain ⟨h0, h1, h2⟩ := index_7 t
  rw [View.read_apply]
  show A _ = A _
  congr 1
  funext a
  apply Fin.ext
  match a with
  | ⟨0, _⟩ => show win0_7.index t 0 * 2 + 1 * g.val = (hd t.val g).val; rw [hd_val, h0]; omega
  | ⟨1, _⟩ => show win0_7.index t 1 * 512 + 1 * r.val = (idx (kj t) r).val; rw [h1, idx_val (kj_lt t), kj_eq]; omega
  | ⟨2, _⟩ => show win0_7.index t 2 * 192 + 1 * e.val = e.val; rw [h2]; omega

theorem flushed_7 (t : Fin cfg0.N) (hf : (cfg0.win 7).flush t = true) :
    (dats m 0 c).flushed 7 t = ((cfg0.win 7).blk t).view.read (Elt Ideal) (outK q k v d) := by
  show (cfg0.win 7).cut (grid0.coords t) ((dats m 0 c).after 7 t) = _
  rw [after_7]
  funext j
  obtain ⟨g, a, b, rfl⟩ : ∃ (g : Fin 2) (a : Fin 512) (b : Fin 192), j = ix3 g a b := ⟨_, _, _, eq_ix3 j⟩
  rw [read_7]
  exact dkOut_real m c q k v d hq hk hv hd' t g a b

theorem final_7 : (dats m 0 c).arrAt 7 cfg0.N = (outK q k v d) :=
  (dats m 0 c).arrAt_eq_of_cover 7 (outK q k v d) (flushed_7 m c q k v d hq hk hv hd') fun i => by
    have hN : cfg0.N = 64 := N_0
    have b0 : (i 0 : Nat) < 8 := (i 0).isLt
    have b1 : (i 1 : Nat) < 8192 := (i 1).isLt
    have b2 : (i 2 : Nat) < 192 := (i 2).isLt
    have ht : 16 * ((i 0 : Nat) / 2) + (i 1 : Nat) / 512 < cfg0.N := by omega
    obtain ⟨h0, h1, h2⟩ := index_7 ⟨16 * ((i 0 : Nat) / 2) + (i 1 : Nat) / 512, ht⟩
    refine ⟨⟨16 * ((i 0 : Nat) / 2) + (i 1 : Nat) / 512, ht⟩, flush0_7 _, ?_⟩
    show i ∈ ((View.whole main_v40_1).slice (win0_7.rect ⟨16 * ((i 0 : Nat) / 2) + (i 1 : Nat) / 512, ht⟩)).set
    rw [View.set_slice_whole, Rect.mem_set_unit]
    intro a
    match a with
    | ⟨0, _⟩ => show win0_7.index _ 0 * 2 ≤ (i 0 : Nat) ∧ (i 0 : Nat) < win0_7.index _ 0 * 2 + 2
                rw [h0]; dsimp only; omega
    | ⟨1, _⟩ => show win0_7.index _ 1 * 512 ≤ (i 1 : Nat) ∧ (i 1 : Nat) < win0_7.index _ 1 * 512 + 512
                rw [h1]; dsimp only; omega
    | ⟨2, _⟩ => show win0_7.index _ 2 * 192 ≤ (i 2 : Nat) ∧ (i 2 : Nat) < win0_7.index _ 2 * 192 + 192
                rw [h2]; omega

omit hq hk hv hd' in
theorem read_8 (A : FVec Ideal S8x8192x128 .f32) (t : Fin cfg0.N) (g : Fin 2) (r : Fin 512) (x : Fin 128) :
    ((cfg0.win 8).blk t).view.read (Elt Ideal) A (ix3 g r x) = A (ix3 (hd t.val g) (idx (kj t) r) x) := by
  obtain ⟨h0, h1, h2⟩ := index_8 t
  rw [View.read_apply]
  show A _ = A _
  congr 1
  funext a
  apply Fin.ext
  match a with
  | ⟨0, _⟩ => show win0_8.index t 0 * 2 + 1 * g.val = (hd t.val g).val; rw [hd_val, h0]; omega
  | ⟨1, _⟩ => show win0_8.index t 1 * 512 + 1 * r.val = (idx (kj t) r).val; rw [h1, idx_val (kj_lt t), kj_eq]; omega
  | ⟨2, _⟩ => show win0_8.index t 2 * 128 + 1 * x.val = x.val; rw [h2]; omega

theorem flushed_8 (t : Fin cfg0.N) (hf : (cfg0.win 8).flush t = true) :
    (dats m 0 c).flushed 8 t = ((cfg0.win 8).blk t).view.read (Elt Ideal) (outV q k d) := by
  show (cfg0.win 8).cut (grid0.coords t) ((dats m 0 c).after 8 t) = _
  rw [after_8]
  funext j
  obtain ⟨g, a, b, rfl⟩ : ∃ (g : Fin 2) (a : Fin 512) (b : Fin 128), j = ix3 g a b := ⟨_, _, _, eq_ix3 j⟩
  rw [read_8]
  exact dvOut_real m c q k v d hq hk hv hd' t g a b

theorem final_8 : (dats m 0 c).arrAt 8 cfg0.N = (outV q k d) :=
  (dats m 0 c).arrAt_eq_of_cover 8 (outV q k d) (flushed_8 m c q k v d hq hk hv hd') fun i => by
    have hN : cfg0.N = 64 := N_0
    have b0 : (i 0 : Nat) < 8 := (i 0).isLt
    have b1 : (i 1 : Nat) < 8192 := (i 1).isLt
    have b2 : (i 2 : Nat) < 128 := (i 2).isLt
    have ht : 16 * ((i 0 : Nat) / 2) + (i 1 : Nat) / 512 < cfg0.N := by omega
    obtain ⟨h0, h1, h2⟩ := index_8 ⟨16 * ((i 0 : Nat) / 2) + (i 1 : Nat) / 512, ht⟩
    refine ⟨⟨16 * ((i 0 : Nat) / 2) + (i 1 : Nat) / 512, ht⟩, flush0_8 _, ?_⟩
    show i ∈ ((View.whole main_v40_2).slice (win0_8.rect ⟨16 * ((i 0 : Nat) / 2) + (i 1 : Nat) / 512, ht⟩)).set
    rw [View.set_slice_whole, Rect.mem_set_unit]
    intro a
    match a with
    | ⟨0, _⟩ => show win0_8.index _ 0 * 2 ≤ (i 0 : Nat) ∧ (i 0 : Nat) < win0_8.index _ 0 * 2 + 2
                rw [h0]; dsimp only; omega
    | ⟨1, _⟩ => show win0_8.index _ 1 * 512 ≤ (i 1 : Nat) ∧ (i 1 : Nat) < win0_8.index _ 1 * 512 + 512
                rw [h1]; dsimp only; omega
    | ⟨2, _⟩ => show win0_8.index _ 2 * 128 ≤ (i 2 : Nat) ∧ (i 2 : Nat) < win0_8.index _ 2 * 128 + 128
                rw [h2]; omega

end Real

end Cert.KernelIdeal.Attn

end
-- ==== Proof.Ref.lean ====
/-
  The reference's results, one array after another, and their values on real arguments: the
  gradients of `Math`, heads first.
-/
module

public import proofs.«01_k».proof.Proof.Soft
public import proofs.«01_k».proof.Proof.Gen.ReferenceIdeal.Run
public import Idealize.ShloMosaic.Lib.StableHlo.ReadAt
public import Idealize.ShloMosaic.Lib.Pointwise

@[expose] public section

set_option maxRecDepth 16384

noncomputable section

namespace Cert.ReferenceIdeal.Attn

open Idealize.ShloMosaic Idealize.ShloMosaic.Pointwise Cert.ReferenceIdeal Cert.ReferenceIdeal.Gen Cert.Attn Cert.ReferenceIdeal.Value

/-! ## The reference's arrays -/

section Defs

variable {F : FTy → Type} [FloatOps F]

/-- The causal mask. -/
def rMask : IVec S1x8x8192x8192 1 :=
  broadcastInDim S1x8x8192x8192 ![2, 3] bcast_S8192x8192_S1x8x8192x8192_2_3
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The scale, at every score. -/
def rScale : FVec F S1x8x8192x8192 .f32 :=
  broadcastInDim S1x8x8192x8192 ![] bcast_S_S1x8x8192x8192 (Host.divf (constant S_ .f32 0x3F800000#32) (Host.sqrt (constant S_ .f32 0x43400000#32)))

/-- The masked scores. -/
def rS (q k : FVec F S1x8192x8x192 .f32) : FVec F S1x8x8192x8192 .f32 :=
  select rMask (mulf (Host.dotGeneral dot_S1x8192x8x192_S1x8192x8x192_S1x8x8192x8192_3_3_1_1_02_02 none q k) rScale)
    (broadcastInDim S1x8x8192x8192 ![] bcast_S_S1x8x8192x8192 (id (constant S_ .f32 0xFF800000#32)))

/-- The rows' largest scores. -/
def rTop (S : FVec F S1x8x8192x8192 .f32) : FVec F S1x8x8192 .f32 :=
  Host.reduce FloatOps.maximumf S (constant S_ .f32 0xFF800000#32) reducesTo_S1x8x8192x8192_S1x8x8192_d3 h_S_

/-- The larger of them and the reduction's start. -/
def rM (T : FVec F S1x8x8192 .f32) : FVec F S1x8x8192 .f32 :=
  maximumf (broadcastInDim S1x8x8192 ![] bcast_S_S1x8x8192 (constant S_ .f32 0xFF800000#32)) T

/-- The exponentials. -/
def rE (S : FVec F S1x8x8192x8192 .f32) (M : FVec F S1x8x8192 .f32) : FVec F S1x8x8192x8192 .f32 :=
  Host.exp (subf S (broadcastInDim S1x8x8192x8192 ![0, 1, 2, 3] bcast_S1x8x8192x1_S1x8x8192x8192_0_1_2_3
    (broadcastInDim S1x8x8192x1 ![0, 1, 2] bcast_S1x8x8192_S1x8x8192x1_0_1_2 M)))

/-- The rows' sums. -/
def rL (E : FVec F S1x8x8192x8192 .f32) : FVec F S1x8x8192x1 .f32 :=
  broadcastInDim S1x8x8192x1 ![0, 1, 2] bcast_S1x8x8192_S1x8x8192x1_0_1_2
    (Host.reduceAdd E (constant S_ .f32 0x00000000#32) reducesTo_S1x8x8192x8192_S1x8x8192_d3 h_S_)

/-- The gradient of the result, transposed. -/
def rDo (d : FVec F S1x8192x8x128 .f32) : FVec F S1x8x128x8192 .f32 :=
  transpose S1x8x128x8192 [0, 2, 3, 1] d transposes_S1x8192x8x128_S1x8x128x8192_0_2_3_1

/-- The gradient of the attention. -/
def rDp (v d : FVec F S1x8192x8x128 .f32) : FVec F S1x8x8192x8192 .f32 :=
  Host.dotGeneral dot_S1x8x128x8192_S1x8192x8x128_S1x8x8192x8192_2_3_3_1_01_02 none (rDo d) v

/-- The attention. -/
def rP (E : FVec F S1x8x8192x8192 .f32) (L : FVec F S1x8x8192x1 .f32) : FVec F S1x8x8192x8192 .f32 :=
  Host.divf E (broadcastInDim S1x8x8192x8192 ![0, 1, 2, 3] bcast_S1x8x8192x1_S1x8x8192x8192_0_1_2_3 L)

/-- What the division's derivative takes off each row. -/
def rNeg (E Dp : FVec F S1x8x8192x8192 .f32) (L : FVec F S1x8x8192x1 .f32) : FVec F S1x8x8192x1 .f32 :=
  Host.negf (shapeCast S1x8x8192x1 (Host.reduceAdd (mulf (mulf Dp
    (broadcastInDim S1x8x8192x8192 ![0, 1, 2, 3] bcast_S1x8x8192x1_S1x8x8192x8192_0_1_2_3
      (Host.divf (broadcastInDim S1x8x8192x1 ![] bcast_S_S1x8x8192x1 (constant S_ .f32 0x3F800000#32)) (mulf L L)))) E)
    (constant S_ .f32 0x00000000#32) reducesTo_S1x8x8192x8192_S1x8x8192_d3 h_S_) shapeCasts_S1x8x8192_S1x8x8192x1)

/-- The gradient of the products of queries and keys. -/
def rDs (E Dp : FVec F S1x8x8192x8192 .f32) (L N : FVec F S1x8x8192x1 .f32) : FVec F S1x8x8192x8192 .f32 :=
  mulf (select rMask (mulf (addf (Host.divf Dp (broadcastInDim S1x8x8192x8192 ![0, 1, 2, 3] bcast_S1x8x8192x1_S1x8x8192x8192_0_1_2_3 L))
      (broadcastInDim S1x8x8192x8192 ![0, 1, 2] bcast_S1x8x8192_S1x8x8192x8192_0_1_2 (broadcastInDim S1x8x8192 ![1, 2] bcast_S8x8192_S1x8x8192_1_2
        (Host.reduceAdd N (constant S_ .f32 0x00000000#32) reducesTo_S1x8x8192x1_S8x8192_d0_3 h_S_)))) E)
    (broadcastInDim S1x8x8192x8192 ![] bcast_S_S1x8x8192x8192 (constant S_ .f32 0x00000000#32))) rScale

/-- The values' gradient, heads first. -/
def rGv (d : FVec F S1x8192x8x128 .f32) (P : FVec F S1x8x8192x8192 .f32) : FVec F S8x8192x128 .f32 :=
  transpose S8x8192x128 [1, 0, 2] (shapeCast S8192x8x128 (transpose S1x8192x8x128 [0, 3, 1, 2]
    (Host.dotGeneral dot_S1x8x128x8192_S1x8x8192x8192_S1x8x128x8192_3_2_2_3_01_01 none (rDo d) P) transposes_S1x8x128x8192_S1x8192x8x128_0_3_1_2)
    shapeCasts_S1x8192x8x128_S8192x8x128) transposes_S8192x8x128_S8x8192x128_1_0_2

/-- The keys' gradient, heads first. -/
def rGk (Ds : FVec F S1x8x8192x8192 .f32) (q : FVec F S1x8192x8x192 .f32) : FVec F S8x8192x192 .f32 :=
  transpose S8x8192x192 [1, 0, 2] (shapeCast S8192x8x192 (transpose S1x8192x8x192 [0, 2, 1, 3]
    (Host.dotGeneral dot_S1x8x8192x8192_S1x8192x8x192_S1x8x8192x192_2_1_3_3_01_02 none Ds q) transposes_S1x8x8192x192_S1x8192x8x192_0_2_1_3)
    shapeCasts_S1x8192x8x192_S8192x8x192) transposes_S8192x8x192_S8x8192x192_1_0_2

/-- The queries' gradient, heads first. -/
def rGq (Ds : FVec F S1x8x8192x8192 .f32) (k : FVec F S1x8192x8x192 .f32) : FVec F S8x8192x192 .f32 :=
  transpose S8x8192x192 [1, 0, 2] (shapeCast S8192x8x192 (transpose S1x8192x8x192 [0, 2, 1, 3]
    (Host.dotGeneral dot_S1x8x8192x8192_S1x8192x8x192_S1x8x8192x192_3_1_2_3_01_02 none Ds k) transposes_S1x8x8192x192_S1x8192x8x192_0_2_1_3)
    shapeCasts_S1x8192x8x192_S8192x8x192) transposes_S8192x8x192_S8x8192x192_1_0_2

end Defs

section Results

variable {F : FTy → Type} [FloatOps F]

/-- The exponentials of the arguments' masked scores. -/
def aE (q k : FVec F S1x8192x8x192 .f32) : FVec F S1x8x8192x8192 .f32 := rE (rS q k) (rM (rTop (rS q k)))

/-- The gradient of the products, of the arguments. -/
def aDs (q k : FVec F S1x8192x8x192 .f32) (v d : FVec F S1x8192x8x128 .f32) : FVec F S1x8x8192x8192 .f32 :=
  rDs (aE q k) (rDp v d) (rL (aE q k)) (rNeg (aE q k) (rDp v d) (rL (aE q k)))

variable (m : (ℓ : Loc nD τ sig) → Buf (Elt F) ℓ) (c : Dev nD)

theorem res_gv : res_out2 m c = rGv (m ((c.tc : Thread nD τ).loc main_arg3))
    (rP (aE (m ((c.tc : Thread nD τ).loc main_arg0)) (m ((c.tc : Thread nD τ).loc main_arg1)))
      (rL (aE (m ((c.tc : Thread nD τ).loc main_arg0)) (m ((c.tc : Thread nD τ).loc main_arg1))))) := rfl

theorem res_gk : res_out1 m c = rGk (aDs (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg0)) := rfl

theorem res_gq : res_out0 m c = rGq (aDs (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg1)) := rfl

end Results

/-! ## At an index -/

section Apply

theorem rS_apply (q k : FVec Ideal S1x8192x8x192 .f32) (h : Fin 8) (i j : Fin 8192) :
    rS q k (ix4 0 h i j) = Scalar.select (α := EReal) (IntOp.cmpi CmpIPredicate.sle (BitVec.ofNat 32 j.val) (BitVec.ofNat 32 i.val))
      ((∑ x, (q (ix4 0 i h x) * k (ix4 0 j h x) : EReal)) * Ideal.div 1 (Ideal.sqrt (Ideal.ofBits FTy.f32 0x43400000#32)))
      (Ideal.ofBits FTy.f32 0xFF800000#32) := by
  pointwise [rS, rMask, rScale, id]

theorem rTop_apply (S : FVec Ideal S1x8x8192x8192 .f32) (h : Fin 8) (i : Fin 8192) :
    rTop S (ix3 0 h i) = Finset.fold max (Ideal.ofBits FTy.f32 0xFF800000#32) (fun j => (S (ix4 0 h i j) : EReal)) Finset.univ := by
  pointwise [rTop]

theorem rM_apply (T : FVec Ideal S1x8x8192 .f32) (h : Fin 8) (i : Fin 8192) :
    rM T (ix3 0 h i) = max (Ideal.ofBits FTy.f32 0xFF800000#32) (T (ix3 0 h i)) := by
  pointwise [rM]

theorem rE_apply (S : FVec Ideal S1x8x8192x8192 .f32) (M : FVec Ideal S1x8x8192 .f32) (h : Fin 8) (i j : Fin 8192) :
    rE S M (ix4 0 h i j) = Ideal.exp ((S (ix4 0 h i j) : EReal) - M (ix3 0 h i)) := by
  pointwise [rE]

theorem rL_apply (E : FVec Ideal S1x8x8192x8192 .f32) (h : Fin 8) (i : Fin 8192) :
    rL E (ix4 0 h i 0) = ∑ j, (E (ix4 0 h i j) : EReal) := by
  pointwise [rL]

theorem rDp_apply (v d : FVec Ideal S1x8192x8x128 .f32) (h : Fin 8) (i j : Fin 8192) :
    rDp v d (ix4 0 h i j) = ∑ x, (d (ix4 0 i h x) * v (ix4 0 j h x) : EReal) := by
  pointwise [rDp, rDo]

theorem rP_apply (E : FVec Ideal S1x8x8192x8192 .f32) (L : FVec Ideal S1x8x8192x1 .f32) (h : Fin 8) (i j : Fin 8192) :
    rP E L (ix4 0 h i j) = Ideal.div (E (ix4 0 h i j)) (L (ix4 0 h i 0)) := by
  pointwise [rP]

theorem rNeg_apply (E Dp : FVec Ideal S1x8x8192x8192 .f32) (L : FVec Ideal S1x8x8192x1 .f32) (h : Fin 8) (i : Fin 8192) :
    rNeg E Dp L (ix4 0 h i 0)
      = -∑ j, ((Dp (ix4 0 h i j) : EReal) * Ideal.div 1 ((L (ix4 0 h i 0) : EReal) * L (ix4 0 h i 0)) * E (ix4 0 h i j) : EReal) := by
  pointwise [rNeg]

/-- A sum over two axes of one entry each. -/
theorem hostReduceAdd_ones (N : FVec Ideal S1x8x8192x1 .f32) (h : Fin 8) (i : Fin 8192) :
    Ideal.hostReduceAdd reducesTo_S1x8x8192x1_S8x8192_d0_3 N 0 (ix2 h i) = (N (ix4 0 h i 0) : EReal) := by
  unfold Ideal.hostReduceAdd
  rw [zero_add]
  have hf : (Finset.univ.filter fun x : S1x8x8192x1.Idx => reducesTo_S1x8x8192x1_S8x8192_d0_3.drop x = ix2 h i) = {ix4 0 h i 0} := by
    ext x
    simp only [Finset.mem_filter, Finset.mem_univ, true_and, Finset.mem_singleton]
    constructor
    · intro hx
      funext a; apply Fin.ext
      match a with
      | ⟨0, _⟩ => have h0 : (x 0).val < 1 := (x 0).isLt; show (x 0).val = 0; omega
      | ⟨1, _⟩ => exact congrArg Fin.val (congrFun hx 0)
      | ⟨2, _⟩ => exact congrArg Fin.val (congrFun hx 1)
      | ⟨3, _⟩ => have h0 : (x 3).val < 1 := (x 3).isLt; show (x 3).val = 0; omega
    · rintro rfl
      funext b; apply Fin.ext
      match b with
      | ⟨0, _⟩ => rfl
      | ⟨1, _⟩ => rfl
  rw [hf, Finset.sum_singleton]

theorem rDs_apply (E Dp : FVec Ideal S1x8x8192x8192 .f32) (L N : FVec Ideal S1x8x8192x1 .f32) (h : Fin 8) (i j : Fin 8192) :
    rDs E Dp L N (ix4 0 h i j) = Scalar.select (α := EReal) (IntOp.cmpi CmpIPredicate.sle (BitVec.ofNat 32 j.val) (BitVec.ofNat 32 i.val))
      ((Ideal.div (Dp (ix4 0 h i j)) (L (ix4 0 h i 0)) + N (ix4 0 h i 0)) * E (ix4 0 h i j)
        * Ideal.div 1 (Ideal.sqrt (Ideal.ofBits FTy.f32 0x43400000#32))) 0 := by
  pointwise [rDs, rMask, rScale]
  rw [hostReduceAdd_ones]

theorem rGv_apply (d : FVec Ideal S1x8192x8x128 .f32) (P : FVec Ideal S1x8x8192x8192 .f32) (h : Fin 8) (j : Fin 8192) (x : Fin 128) :
    rGv d P (ix3 h j x) = ∑ i, (d (ix4 0 i h x) * P (ix4 0 h i j) : EReal) := by
  pointwise [rGv, rDo]

theorem rGk_apply (Ds : FVec Ideal S1x8x8192x8192 .f32) (q : FVec Ideal S1x8192x8x192 .f32) (h : Fin 8) (j : Fin 8192) (e : Fin 192) :
    rGk Ds q (ix3 h j e) = ∑ i, (Ds (ix4 0 h i j) * q (ix4 0 i h e) : EReal) := by
  pointwise [rGk]

theorem rGq_apply (Ds : FVec Ideal S1x8x8192x8192 .f32) (k : FVec Ideal S1x8192x8x192 .f32) (h : Fin 8) (i : Fin 8192) (e : Fin 192) :
    rGq Ds k (ix3 h i e) = ∑ j, (Ds (ix4 0 h i j) * k (ix4 0 j h e) : EReal) := by
  pointwise [rGq]

end Apply

/-! ## On real arguments -/

/-- The gradient of the scores in the reference's form: the division's derivative by its two operands, then the exponential's. -/
theorem ds_div (q k : Fin 8192 → Fin 192 → ℝ) (v d : Fin 8192 → Fin 128 → ℝ) (M : ℝ) (i j : Fin 8192) :
    (if j ≤ i then (dp v d i j / (z q k i / Real.exp M)
        + -∑ j, dp v d i j * (1 / (z q k i / Real.exp M * (z q k i / Real.exp M))) * (if j ≤ i then Real.exp (sc q k i j - M) else 0))
        * (if j ≤ i then Real.exp (sc q k i j - M) else 0) else 0) = ds q k v d i j := by
  have hl := z_shift_pos q k M i
  have hp := p_shift q k M i
  generalize z q k i / Real.exp M = l at hl hp
  have h1 : ∀ j, (if j ≤ i then Real.exp (sc q k i j - M) else 0) = p q k i j * l := fun j => by
    rw [← hp j, div_mul_cancel₀ _ hl.ne']
  simp only [h1]
  have h2 : (∑ j, dp v d i j * (1 / (l * l)) * (p q k i j * l)) = delta q k v d i / l := by
    rw [delta, Finset.sum_div]
    refine Finset.sum_congr rfl fun j _ => ?_
    field_simp
  rw [h2, ds]
  by_cases h : j ≤ i
  · rw [if_pos h]; field_simp; ring
  · rw [if_neg h, p_of_lt q k (not_le.mp h), zero_mul]

section Real

variable (Q K : FVec Ideal S1x8192x8x192 .f32) (V D : FVec Ideal S1x8192x8x128 .f32)
  (q k : Fin 8 → Fin 8192 → Fin 192 → ℝ) (v d : Fin 8 → Fin 8192 → Fin 128 → ℝ)
  (hq : ∀ h i e, Q (ix4 0 i h e) = ((q h i e : ℝ) : EReal)) (hk : ∀ h i e, K (ix4 0 i h e) = ((k h i e : ℝ) : EReal))
  (hv : ∀ h i x, V (ix4 0 i h x) = ((v h i x : ℝ) : EReal)) (hd : ∀ h i x, D (ix4 0 i h x) = ((d h i x : ℝ) : EReal))

include hq hk in
theorem rS_real (h : Fin 8) (i j : Fin 8192) : rS Q K (ix4 0 h i j) = esc (q h) (k h) i j := by
  rw [rS_apply, select_causal, div_sqrt, ofBits_bot, esc]
  simp only [hq, hk, ← EReal.coe_mul, coe_sum, sc]

include hq hk in
theorem rM_real (h : Fin 8) (i : Fin 8192) : ∃ M : ℝ, rM (rTop (rS Q K)) (ix3 0 h i) = ((M : ℝ) : EReal) := by
  obtain ⟨M, hM'⟩ := exists_max (q h) (k h) i
  refine ⟨M, ?_⟩
  rw [rM_apply, rTop_apply, ofBits_bot, ← hM', max_eq_right bot_le]
  simp only [rS_real Q K q k hq hk]

include hv hd in
theorem rDp_real (h : Fin 8) (i j : Fin 8192) : rDp V D (ix4 0 h i j) = ((dp (v h) (d h) i j : ℝ) : EReal) := by
  rw [rDp_apply]
  simp only [hv, hd, ← EReal.coe_mul, coe_sum, dp]

include hq hk in
theorem rP_real (h : Fin 8) (i j : Fin 8192) : rP (aE Q K) (rL (aE Q K)) (ix4 0 h i j) = ((p (q h) (k h) i j : ℝ) : EReal) := by
  obtain ⟨M, hM'⟩ := rM_real Q K q k hq hk h i
  rw [rP_apply, rL_apply]
  simp only [aE, rE_apply, hM', rS_real Q K q k hq hk, sum_exp_esc]
  simp only [exp_esc, div_real _ _ (z_shift_pos (q h) (k h) M i).ne', p_shift]

include hq hk hv hd in
theorem aDs_real (h : Fin 8) (i j : Fin 8192) : aDs Q K V D (ix4 0 h i j) = ((ds (q h) (k h) (v h) (d h) i j * σ : ℝ) : EReal) := by
  obtain ⟨M, hM'⟩ := rM_real Q K q k hq hk h i
  have hl := (z_shift_pos (q h) (k h) M i).ne'
  rw [aDs, rDs_apply, rNeg_apply, rL_apply, select_causal, div_sqrt]
  simp only [aE, rE_apply, hM', rS_real Q K q k hq hk, rDp_real V D v d hv hd, sum_exp_esc]
  simp only [exp_esc, ← EReal.coe_one, ← EReal.coe_mul, div_real _ _ hl, div_real _ _ (mul_ne_zero hl hl), coe_sum, ← EReal.coe_neg, ← EReal.coe_add,
    ← EReal.coe_zero]
  rw [← ds_div (q h) (k h) (v h) (d h) M i j]
  by_cases hji : j ≤ i
  · simp only [if_pos hji, ← EReal.coe_mul]
  · simp only [if_neg hji, zero_mul]

include hq hk hd in
theorem gv_real (h : Fin 8) (j : Fin 8192) (x : Fin 128) :
    rGv D (rP (aE Q K) (rL (aE Q K))) (ix3 h j x) = ((gv (q h) (k h) (d h) j x : ℝ) : EReal) := by
  rw [rGv_apply]
  simp only [hd, rP_real Q K q k hq hk, ← EReal.coe_mul, coe_sum, gv, mul_comm]

include hq hk hv hd in
theorem gk_real (h : Fin 8) (j : Fin 8192) (e : Fin 192) :
    rGk (aDs Q K V D) Q (ix3 h j e) = ((gk (q h) (k h) (v h) (d h) j e : ℝ) : EReal) := by
  rw [rGk_apply]
  simp only [hq, aDs_real Q K V D q k v d hq hk hv hd, ← EReal.coe_mul, coe_sum, gk, Finset.sum_mul]
  exact congrArg _ (Finset.sum_congr rfl fun i _ => by ring)

include hq hk hv hd in
theorem gq_real (h : Fin 8) (i : Fin 8192) (e : Fin 192) :
    rGq (aDs Q K V D) K (ix3 h i e) = ((gq (q h) (k h) (v h) (d h) i e : ℝ) : EReal) := by
  rw [rGq_apply]
  simp only [hk, aDs_real Q K V D q k v d hq hk hv hd, ← EReal.coe_mul, coe_sum, gq, Finset.sum_mul]
  exact congrArg _ (Finset.sum_congr rfl fun i _ => by ring)

end Real

end Cert.ReferenceIdeal.Attn

end
-- ==== Proof.Finite.lean ====
/-
  The precondition read back: every entry of every argument is a real number.
-/
module

public import proofs.«01_k».proof.Defs
public import proofs.«01_k».proof.Proof.Gen.Pre_finite
public import Idealize.ShloMosaic.Lib.ReduceAll
public import Idealize.ShloMosaic.Lib.Pointwise

@[expose] public section

noncomputable section

namespace Cert.Pre_finite.Attn

open Idealize.ShloMosaic Cert.Pre_finite Cert.Pre_finite.Facts

/-- An extended real whose absolute value is below the constant `+inf` is a real number. -/
theorem real_of_lt (x : EReal) (h : Ideal.cmp .olt (max x (-x)) (Ideal.ofBits FTy.f32 0x7F800000#32) = 1#1) :
    x = ((x.toReal : ℝ) : EReal) := by
  have ht : Ideal.ofBits FTy.f32 0x7F800000#32 = (⊤ : EReal) := by simp [Ideal.ofBits, Ideal.ieee]
  rw [ht] at h
  have hlt : max x (-x) < ⊤ := by
    by_contra hc
    simp [Ideal.cmp, hc] at h
  refine (EReal.coe_toReal ?_ ?_).symm
  · rintro rfl
    simp at hlt
  · rintro rfl
    simp at hlt

instance : Subsingleton S_.Idx := ⟨fun a b => funext fun i => i.elim0⟩

variable (a0 a1 : FVec Ideal S1x8192x8x192 .f32) (a2 a3 : FVec Ideal S1x8192x8x128 .f32)

/-- The precondition's bits, argument by argument. -/
theorem reals (h : Cert.Pre_finite.fn (F := Ideal) a0 a1 a2 a3 = fun _ => 1#1) :
    (∀ j, a0 j = (((a0 j : EReal).toReal : ℝ) : EReal)) ∧ (∀ j, a1 j = (((a1 j : EReal).toReal : ℝ) : EReal))
      ∧ (∀ j, a2 j = (((a2 j : EReal).toReal : ℝ) : EReal)) ∧ (∀ j, a3 j = (((a3 j : EReal).toReal : ℝ) : EReal)) := by
  have h0 := congrFun h (fun i => i.elim0)
  unfold Cert.Pre_finite.fn Cert.Pre_finite.fn_part1 at h0
  dsimp only at h0
  obtain ⟨h012, h3⟩ := IntOp.andi_eq_one.1 h0
  obtain ⟨h01, h2⟩ := IntOp.andi_eq_one.1 h012
  obtain ⟨h0', h1⟩ := IntOp.andi_eq_one.1 h01
  exact ⟨fun j => real_of_lt _ (Host.reduce_andi_all _ _ _ _ _ h0' j), fun j => real_of_lt _ (Host.reduce_andi_all _ _ _ _ _ h1 j),
    fun j => real_of_lt _ (Host.reduce_andi_all _ _ _ _ _ h2 j), fun j => real_of_lt _ (Host.reduce_andi_all _ _ _ _ _ h3 j)⟩

end Cert.Pre_finite.Attn

end
-- ==== Proof.Algebraic.lean ====
/-
  The two programs compute the same gradients: on arguments whose entries are real numbers, both end
  holding the gradients of `Math`.
-/
module

public import proofs.«01_k».proof.Proof.Arrays
public import proofs.«01_k».proof.Proof.Ref
public import proofs.«01_k».proof.Proof.Finite
public import Idealize.ShloMosaic.Lib.Quiescent

@[expose] public section

set_option maxRecDepth 16384

noncomputable section

namespace Cert.Proof

open Idealize.ShloMosaic Idealize.ShloMosaic.TcCoe Idealize.ShloMosaic.Pointwise Idealize.SL.Sem Cert.Attn

/-- A query or key argument's real numbers, the heads first. -/
def rQ (a : FVec Ideal Cert.KernelIdeal.S1x8192x8x192 .f32) : Fin 8 → Fin 8192 → Fin 192 → ℝ :=
  fun h i e => EReal.toReal (a (ix4 0 i h e))

/-- A value argument's, or the result's gradient's. -/
def rV (a : FVec Ideal Cert.KernelIdeal.S1x8192x8x128 .f32) : Fin 8 → Fin 8192 → Fin 128 → ℝ :=
  fun h i x => EReal.toReal (a (ix4 0 i h x))

section Kernel

open Cert.KernelIdeal Cert.KernelIdeal.Gen Cert.KernelIdeal.Attn

variable (m : (ℓ : Loc nD τ sig) → Buf (Elt Ideal) ℓ) (ρ : Dev nD → PrngReg)

/-- The arguments' real numbers, on a device. -/
abbrev kq (c : Dev nD) := rQ (m ((c.tc : Thread nD τ).loc main_arg0))
abbrev kk (c : Dev nD) := rQ (m ((c.tc : Thread nD τ).loc main_arg1))
abbrev kv (c : Dev nD) := rV (m ((c.tc : Thread nD τ).loc main_arg2))
abbrev kd (c : Dev nD) := rV (m ((c.tc : Thread nD τ).loc main_arg3))

/-- The kernel's results. -/
theorem kernel_run (hpre : Cert.Pre_KernelIdeal_finite m) :
    θ_run (defs (F := Ideal)) (onTc (τ := τ) (main (F := Ideal))) ⟨m, fun _ => 0, ρ⟩ (fun r => ∀ c : Dev nD,
      r.2.mem ((c.tc : Thread nD τ).loc main_v40_0) = outQ (kq m c) (kk m c) (kv m c) (kd m c)
      ∧ r.2.mem ((c.tc : Thread nD τ).loc main_v40_1) = outK (kq m c) (kk m c) (kv m c) (kd m c)
      ∧ r.2.mem ((c.tc : Thread nD τ).loc main_v40_2) = outV (kq m c) (kk m c) (kd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hr : ∀ c, _ := fun c => Cert.Pre_finite.Attn.reals _ _ _ _ (hpre c)
  have hq : ∀ c h i e, mQ m c (ix3 h i e) = ((kq m c h i e : ℝ) : EReal) := fun c h i e => (hQ_apply _ h i e).trans ((hr c).1 _)
  have hk : ∀ c h i e, mK m c (ix3 h i e) = ((kk m c h i e : ℝ) : EReal) := fun c h i e => (hQ_apply _ h i e).trans ((hr c).2.1 _)
  have hv : ∀ c h i e, mV m c (ix3 h i e) = ((kv m c h i e : ℝ) : EReal) := fun c h i e => (hV_apply _ h i e).trans ((hr c).2.2.1 _)
  have hd : ∀ c h i e, mD m c (ix3 h i e) = ((kd m c h i e : ℝ) : EReal) := fun c h i e => (hV_apply _ h i e).trans ((hr c).2.2.2 _)
  exact (θ_run defs _ _).mono (fun _ h c =>
    ⟨((h.1 c).1 6).trans (final_6 m c _ _ _ _ (hq c) (hk c) (hv c) (hd c)), ((h.1 c).1 7).trans (final_7 m c _ _ _ _ (hq c) (hk c) (hv c) (hd c)),
      ((h.1 c).1 8).trans (final_8 m c _ _ _ _ (hq c) (hk c) (hv c) (hd c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_main m ρ)

end Kernel

section Reference

open Cert.ReferenceIdeal Cert.ReferenceIdeal.Gen Cert.ReferenceIdeal.Attn Cert.ReferenceIdeal.Value

variable (Q K : FVec Ideal S1x8192x8x192 .f32) (V D : FVec Ideal S1x8192x8x128 .f32)

/-- The reference's three gradients on real arguments. -/
theorem ref_q (hq : ∀ j, Q j = (((Q j : EReal).toReal : ℝ) : EReal)) (hk : ∀ j, K j = (((K j : EReal).toReal : ℝ) : EReal))
    (hv : ∀ j, V j = (((V j : EReal).toReal : ℝ) : EReal)) (hd : ∀ j, D j = (((D j : EReal).toReal : ℝ) : EReal)) :
    rGq (aDs Q K V D) K = Cert.KernelIdeal.Attn.outQ (rQ Q) (rQ K) (rV V) (rV D) := by
  funext j
  obtain ⟨h, i, e, rfl⟩ : ∃ (h : Fin 8) (i : Fin 8192) (e : Fin 192), j = ix3 h i e := ⟨_, _, _, eq_ix3 j⟩
  exact gq_real Q K V D _ _ _ _ (fun _ _ _ => hq _) (fun _ _ _ => hk _) (fun _ _ _ => hv _) (fun _ _ _ => hd _) h i e

theorem ref_k (hq : ∀ j, Q j = (((Q j : EReal).toReal : ℝ) : EReal)) (hk : ∀ j, K j = (((K j : EReal).toReal : ℝ) : EReal))
    (hv : ∀ j, V j = (((V j : EReal).toReal : ℝ) : EReal)) (hd : ∀ j, D j = (((D j : EReal).toReal : ℝ) : EReal)) :
    rGk (aDs Q K V D) Q = Cert.KernelIdeal.Attn.outK (rQ Q) (rQ K) (rV V) (rV D) := by
  funext j
  obtain ⟨h, i, e, rfl⟩ : ∃ (h : Fin 8) (i : Fin 8192) (e : Fin 192), j = ix3 h i e := ⟨_, _, _, eq_ix3 j⟩
  exact gk_real Q K V D _ _ _ _ (fun _ _ _ => hq _) (fun _ _ _ => hk _) (fun _ _ _ => hv _) (fun _ _ _ => hd _) h i e

theorem ref_v (hq : ∀ j, Q j = (((Q j : EReal).toReal : ℝ) : EReal)) (hk : ∀ j, K j = (((K j : EReal).toReal : ℝ) : EReal))
    (hd : ∀ j, D j = (((D j : EReal).toReal : ℝ) : EReal)) :
    rGv D (rP (aE Q K) (rL (aE Q K))) = Cert.KernelIdeal.Attn.outV (rQ Q) (rQ K) (rV D) := by
  funext j
  obtain ⟨h, i, x, rfl⟩ : ∃ (h : Fin 8) (i : Fin 8192) (x : Fin 128), j = ix3 h i x := ⟨_, _, _, eq_ix3 j⟩
  exact gv_real Q K D _ _ _ (fun _ _ _ => hq _) (fun _ _ _ => hk _) (fun _ _ _ => hd _) h i x

/-- The reference changes no argument and leaves every semaphore at zero. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩) (Value.run (F := Ideal) m ρ)

end Reference

/-- Both programs end with the same gradients. -/
theorem algebraic : Cert.algebraic_KernelIdeal_ReferenceIdeal_pre_finite := by
  intro m g m' g' hpre hargs
  refine ⟨fun c => Cert.KernelIdeal.Attn.outQ (kq m c) (kk m c) (kv m c) (kd m c),
    fun c => Cert.KernelIdeal.Attn.outK (kq m c) (kk m c) (kv m c) (kd m c),
    fun c => Cert.KernelIdeal.Attn.outV (kq m c) (kk m c) (kd m c), kernel_run m g hpre, ?_⟩
  refine (θ_run Cert.ReferenceIdeal.defs _ _).mono (fun r h c => ?_) (Cert.ReferenceIdeal.Value.run (F := Ideal) m' g')
  obtain ⟨e0, e1, e2, e3⟩ := hargs c
  obtain ⟨hq, hk, hv, hd⟩ := Cert.Pre_finite.Attn.reals _ _ _ _ (hpre c)
  obtain ⟨h0, h1, h2, hrest⟩ := h c
  refine ⟨h0.trans ?_, h1.trans ?_, h2.trans ?_, hrest⟩
  · refine (Cert.ReferenceIdeal.Attn.res_gq m' c).trans ?_
    rw [e0, e1, e2, e3]
    exact ref_q _ _ _ _ hq hk hv hd
  · refine (Cert.ReferenceIdeal.Attn.res_gk m' c).trans ?_
    rw [e0, e1, e2, e3]
    exact ref_k _ _ _ _ hq hk hv hd
  · refine (Cert.ReferenceIdeal.Attn.res_gv m' c).trans ?_
    rw [e0, e1, e3]
    exact ref_v _ _ _ hq hk hd

end Cert.Proof

end
-- ==== Proof.Accumulate.lean ====
/-
  Sums in blocks: what an accumulator holds that is reset at every `P`-th point and added to at the
  others, and a sum over all positions as the sum over the blocks of their sums.
-/
module

public import Idealize.ShloMosaic.PureOps.Ideal

@[expose] public section

namespace Cert.Accumulate

/-- An accumulator that takes `f n` at the points divisible by `P` and adds `f n` at the others holds,
    after a point, the sum since the last reset. -/
theorem sum_since {N : ℕ} (P : ℕ) (s : (n : ℕ) → n < N → EReal) (f : ℕ → EReal)
    (h0 : ∀ n h, n % P = 0 → s n h = f n)
    (h1 : ∀ n h (h' : n + 1 < N), (n + 1) % P ≠ 0 → s (n + 1) h' = s n h + f (n + 1)) :
    ∀ n h, s n h = ∑ k ∈ Finset.range (n % P + 1), f (P * (n / P) + k) := by
  intro n
  induction n with
  | zero => intro h; rw [h0 0 h (Nat.zero_mod P)]; simp
  | succ n ih =>
    intro h
    have hd := Nat.div_add_mod (n + 1) P
    by_cases hz : (n + 1) % P = 0
    · rw [h0 _ h hz, hz, zero_add, Finset.sum_range_one]
      congr 1
      omega
    · rcases Nat.eq_zero_or_pos P with rfl | hP
      · have e := Nat.div_add_mod n 0
        rw [h1 n (by omega) h hz, ih (by omega)]
        simp only [Nat.mod_zero, Nat.div_zero, Nat.mul_zero, Nat.zero_add]
        exact (Finset.sum_range_succ _ (n + 1)).symm
      · have hq : (n + 1) / P = n / P ∧ (n + 1) % P = n % P + 1 := by
          have hlt := Nat.mod_lt (n + 1) hP
          have e : n = (n + 1) % P - 1 + P * ((n + 1) / P) := by omega
          have e1 : n / P = (n + 1) / P := by
            conv_lhs => rw [e]
            rw [Nat.add_mul_div_left _ _ hP, Nat.div_eq_of_lt (by omega), zero_add]
          have e2 : n % P = (n + 1) % P - 1 := by
            conv_lhs => rw [e]
            rw [Nat.add_mul_mod_self_left, Nat.mod_eq_of_lt (by omega)]
          omega
        rw [h1 n (by omega) h hz, ih (by omega), hq.1, hq.2, Finset.sum_range_succ _ (n % P + 1)]
        congr 2
        rw [← hq.1, ← hq.2]
        exact hd.symm

/-- The accumulator before the next reset, with the positions of a block as the terms. -/
theorem sum_blocks (K R : ℕ) (f : Fin (K * R) → EReal) :
    ∑ k : Fin K, ∑ r : Fin R, f ⟨R * k.val + r.val, by
      have := k.isLt; have := r.isLt; nlinarith [Nat.mul_le_mul_left R (Nat.succ_le_of_lt k.isLt)]⟩ = ∑ i, f i := by
  rw [← Fintype.sum_prod_type', ← Equiv.sum_comp finProdFinEquiv f]
  refine Finset.sum_congr rfl fun x _ => congrArg f (Fin.ext ?_)
  show R * x.1.val + x.2.val = x.2.val + R * x.1.val
  omega

/-- What block `n % K` of `R` terms contributes to the sum that sweep `n / K` takes. -/
noncomputable def chunk (K R : ℕ) [NeZero K] (g : ℕ → Fin (K * R) → EReal) (n : ℕ) : EReal :=
  ∑ r : Fin R, g (n / K) ⟨R * (n % K) + r.val, by
    have h : n % K + 1 ≤ K := Nat.mod_lt n (Nat.pos_of_ne_zero (NeZero.ne K))
    have := Nat.mul_le_mul_left R h
    have := r.isLt
    rw [Nat.mul_comm K R]
    rw [Nat.mul_add] at *
    omega⟩

/-- An accumulator of chunks holds the whole sum at the end of a sweep. -/
theorem sum_sweep {N : ℕ} (K R : ℕ) [NeZero K] (s : (n : ℕ) → n < N → EReal) (g : ℕ → Fin (K * R) → EReal)
    (h0 : ∀ n h, n % K = 0 → s n h = chunk K R g n)
    (h1 : ∀ n h (h' : n + 1 < N), (n + 1) % K ≠ 0 → s (n + 1) h' = s n h + chunk K R g (n + 1))
    (n : ℕ) (h : n < N) (hn : n % K + 1 = K) : s n h = ∑ i, g (n / K) i := by
  rw [sum_since K s (chunk K R g) h0 h1 n h, hn, Finset.sum_range, ← sum_blocks K R (g (n / K))]
  refine Finset.sum_congr rfl fun k _ => ?_
  have hm : (K * (n / K) + k.val) % K = k.val := by rw [Nat.mul_add_mod, Nat.mod_eq_of_lt k.isLt]
  have hd : (K * (n / K) + k.val) / K = n / K := by
    rw [Nat.mul_add_div (Nat.pos_of_ne_zero (NeZero.ne K)), Nat.div_eq_of_lt k.isLt, Nat.add_zero]
  unfold chunk
  refine Finset.sum_congr rfl fun r _ => ?_
  rw [hd]
  congr 2
  rw [hm]

theorem zeros : (![0, 0] : Fin 2 → Nat) = fun _ => 0 := funext fun a => by fin_cases a <;> rfl

/-- A nonnegative factor that is not infinite moves into a sum, whatever its terms are. -/
theorem mul_sum_nonneg {ι : Type} [Fintype ι] {x : EReal} (h : 0 ≤ x) (h' : x ≠ ⊤) (f : ι → EReal) : x * ∑ i, f i = ∑ i, x * f i := by
  classical
  refine Finset.induction_on Finset.univ (by simp) fun a s ha ih => ?_
  rw [Finset.sum_insert ha, Finset.sum_insert ha, EReal.left_distrib_of_nonneg_of_ne_top h h', ih]

section Half

open Idealize.ShloMosaic

/-- The half. -/
noncomputable abbrev half : EReal := Ideal.ofBits FTy.f32 0x3F000000#32

theorem half_eq : half = (((1 / 2 : ℝ)) : EReal) := by
  simp [half, Ideal.ofBits, Ideal.ieee, -EReal.coe_mul]; norm_num
theorem half_nonneg : 0 ≤ half := by rw [half_eq]; exact_mod_cast (by norm_num : (0 : ℝ) ≤ 1 / 2)
theorem half_ne_top : half ≠ ⊤ := by rw [half_eq]; exact EReal.coe_ne_top _

end Half

end Cert.Accumulate
-- ==== Proof.Entry.lean ====
/-
  An array's entry at an index, by the index's row and column; and the end of a run of a program without semaphores.
-/
module

public import proofs.«01_k».proof.Defs
public import proofs.«01_k».proof.Proof.Accumulate
public import Idealize.ShloMosaic.Lib.Pointwise
public import Idealize.ShloMosaic.Lib.Quiescent
public import Idealize.ShloMosaic.Lib.StableHlo.RunRead

@[expose] public section

namespace Cert.Entry

open Idealize.ShloMosaic Idealize.ShloMosaic.Pointwise Idealize.SL.Sem

theorem at_ix2 {a b : ℕ} {α : Type} (A : (⟨2, ![a, b]⟩ : Shape).Idx → α) (i : (⟨2, ![a, b]⟩ : Shape).Idx) (x : Fin a) (y : Fin b)
    (h0 : (i 0 : ℕ) = x.val) (h1 : (i 1 : ℕ) = y.val) : A i = A (ix2 x y) :=
  congrArg A (funext fun k => Fin.ext (match k with
    | ⟨0, _⟩ => h0
    | ⟨1, _⟩ => h1))

/-- An array is read whole. -/
theorem ld_all {Val : EltTy → Type} {e : EltTy} {a b : ℕ} (inb) (X : (⟨2, ![a, b]⟩ : Shape).Idx → Val e) :
    View.ld X (Rect.unit (s := ⟨2, ![a, b]⟩) ![0, 0] ![a, b] inb) = X :=
  View.ld_unit_zero (S := ⟨2, ![a, b]⟩) Cert.Accumulate.zeros inb X

/-- A run that ends as `A` says ends quiescent where no semaphore is declared. -/
theorem quiet {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val}
    {A B : Dev nD → PUnit × MemSt nD τ sig Val → Prop} (h0 : sig.nSem + sig.nDmaSem = 0) (h : ∀ c r, A c r → B c r)
    (run : θ_run defs p s fun r => ∀ c, A c r) : θ_run defs p s fun r => (∀ c, B c r) ∧ r.2.sem = fun _ => 0 :=
  (θ_run defs _ _).mono (fun r hr => ⟨fun c => h c r (hr c), sem_eq_zero_of_no_sems h0 r.2⟩) run

end Cert.Entry
-- ==== Proof.Swiglu.lean ====
/-
  The gradient of the FFN's gate and of its other factor: in blocks of 512 rows by 1408 columns, half of the
  rows' gradient times the transposed second weights, through the derivative of the gated product.
-/
module

public import proofs.«01_k».proof.Proof.Entry
public import proofs.«01_k».proof.Proof.Accumulate
public import proofs.«01_k».proof.Proof.Math
public import proofs.«01_k».proof.Proof.Finite
public import proofs.«01_k».proof.Pre_finite_factors
public import proofs.«01_k».proof.Proof.Gen.Kernel2Ideal.Value
public import proofs.«01_k».proof.Proof.Gen.Reference2Ideal.Run

@[expose] public section

set_option maxRecDepth 16384

noncomputable section

namespace Cert.Kernel2Ideal.Grad

open Idealize.ShloMosaic Idealize.ShloMosaic.TcCoe Idealize.ShloMosaic.Pointwise Idealize.SL.Sem Cert.Entry Cert.Accumulate Cert.Kernel2Ideal
  Cert.Kernel2Ideal.Gen

/-! ## The derivative -/

theorem logistic_coe (g : ℝ) : Ideal.logistic (g : EReal) = (((1 + Real.exp (-g))⁻¹ : ℝ) : EReal) := by
  have h : Ideal.exp (-(g : EReal)) = ((Real.exp (-g) : ℝ) : EReal) := by rw [← EReal.coe_neg]; rfl
  have hp : (1 + Real.exp (-g)) ≠ 0 := by positivity
  unfold Ideal.logistic
  rw [h, ← EReal.coe_one, ← EReal.coe_add, Ideal.div_coe hp, EReal.coe_one, one_mul]
  norm_num

/-- The derivative of `g * σ g` in its two forms, at every extended real `g`. -/
theorem gate_derivative (x : ℝ) (g : EReal) :
    (x : EReal) * Ideal.logistic g * (1 + g * (1 - Ideal.logistic g))
      = (x : EReal) * Ideal.logistic g + g * (x : EReal) * (Ideal.logistic g * (1 - Ideal.logistic g)) := by
  induction g with
  | bot =>
    have he : Ideal.exp ⊤ = ⊤ := rfl
    have h : Ideal.logistic ⊥ = 0 := by
      rw [Ideal.logistic, EReal.neg_bot, he, show (1 : EReal) + ⊤ = ⊤ from EReal.coe_add_top 1]; simp [Ideal.div]
    rw [h]; simp
  | top =>
    have he : Ideal.exp ⊥ = 0 := rfl
    have h : Ideal.logistic ⊤ = 1 := by
      rw [Ideal.logistic, EReal.neg_top, he]; simp [Ideal.div]
    have h0 : (1 : EReal) - 1 = 0 := by rw [← EReal.coe_one, ← EReal.coe_sub, sub_self, EReal.coe_zero]
    rw [h, h0]; simp
  | coe g =>
    rw [logistic_coe, ← EReal.coe_one]
    simp only [← EReal.coe_sub, ← EReal.coe_mul, ← EReal.coe_add]
    congr 1
    ring

/-! ## The blocks -/

theorem index_0 : ∀ t : Fin cfg0.N, win0_0.index t 0 = t.val % 16 ∧ win0_0.index t 1 = 0 := by decide +kernel
theorem index_1 : ∀ t : Fin cfg0.N, win0_1.index t 0 = t.val / 16 ∧ win0_1.index t 1 = 0 := by decide +kernel
theorem index_2 : ∀ t : Fin cfg0.N, win0_2.index t 0 = t.val % 16 ∧ win0_2.index t 1 = t.val / 16 := by decide +kernel
theorem index_3 : ∀ t : Fin cfg0.N, win0_3.index t 0 = t.val % 16 ∧ win0_3.index t 1 = t.val / 16 := by decide +kernel
theorem index_4 : ∀ t : Fin cfg0.N, win0_4.index t 0 = t.val % 16 ∧ win0_4.index t 1 = t.val / 16 := by decide +kernel
theorem index_5 : ∀ t : Fin cfg0.N, win0_5.index t 0 = t.val % 16 ∧ win0_5.index t 1 = t.val / 16 := by decide +kernel

/-- Row `p` of block `t` of 512 rows. -/
def row (t : ℕ) (p : Fin 512) : Fin 8192 := ⟨512 * (t % 16) + p.val, by omega⟩
/-- Column `f` of block `t` of 1408 columns. -/
def col (t : ℕ) (f : Fin 1408) : Fin 2816 := ⟨1408 * (t / 16 % 2) + f.val, by omega⟩

theorem read_0 (A : FVec Ideal S8192x1024 .f32) (t : Fin cfg0.N) (p : Fin 512) (q : Fin 1024) :
    ((cfg0.win 0).blk t).view.read (Elt Ideal) A (ix2 p q) = A (ix2 (row t.val p) q) := by
  obtain ⟨h0, h1⟩ := index_0 t
  have hN : cfg0.N = 32 := N_0
  have := t.isLt
  rw [View.read_apply]
  exact at_ix2 A _ _ _ (by show win0_0.index t 0 * 512 + 1 * p.val = 512 * (t.val % 16) + p.val; rw [h0]; omega)
    (by show win0_0.index t 1 * 1024 + 1 * q.val = q.val; rw [h1]; omega)

theorem read_1 (A : FVec Ideal S2816x1024 .bf16) (t : Fin cfg0.N) (f : Fin 1408) (q : Fin 1024) :
    ((cfg0.win 1).blk t).view.read (Elt Ideal) A (ix2 f q) = A (ix2 (col t.val f) q) := by
  obtain ⟨h0, h1⟩ := index_1 t
  have hN : cfg0.N = 32 := N_0
  have := t.isLt
  rw [View.read_apply]
  exact at_ix2 A _ _ _ (by show win0_1.index t 0 * 1408 + 1 * f.val = 1408 * (t.val / 16 % 2) + f.val; rw [h0]; omega)
    (by show win0_1.index t 1 * 1024 + 1 * q.val = q.val; rw [h1]; omega)

theorem read_2 (A : FVec Ideal S8192x2816 .bf16) (t : Fin cfg0.N) (p : Fin 512) (f : Fin 1408) :
    ((cfg0.win 2).blk t).view.read (Elt Ideal) A (ix2 p f) = A (ix2 (row t.val p) (col t.val f)) := by
  obtain ⟨h0, h1⟩ := index_2 t
  have hN : cfg0.N = 32 := N_0
  have := t.isLt
  rw [View.read_apply]
  exact at_ix2 A _ _ _ (by show win0_2.index t 0 * 512 + 1 * p.val = 512 * (t.val % 16) + p.val; rw [h0]; omega)
    (by show win0_2.index t 1 * 1408 + 1 * f.val = 1408 * (t.val / 16 % 2) + f.val; rw [h1]; omega)

theorem read_3 (A : FVec Ideal S8192x2816 .bf16) (t : Fin cfg0.N) (p : Fin 512) (f : Fin 1408) :
    ((cfg0.win 3).blk t).view.read (Elt Ideal) A (ix2 p f) = A (ix2 (row t.val p) (col t.val f)) := by
  obtain ⟨h0, h1⟩ := index_3 t
  have hN : cfg0.N = 32 := N_0
  have := t.isLt
  rw [View.read_apply]
  exact at_ix2 A _ _ _ (by show win0_3.index t 0 * 512 + 1 * p.val = 512 * (t.val % 16) + p.val; rw [h0]; omega)
    (by show win0_3.index t 1 * 1408 + 1 * f.val = 1408 * (t.val / 16 % 2) + f.val; rw [h1]; omega)

theorem read_4 (A : FVec Ideal S8192x2816 .bf16) (t : Fin cfg0.N) (p : Fin 512) (f : Fin 1408) :
    ((cfg0.win 4).blk t).view.read (Elt Ideal) A (ix2 p f) = A (ix2 (row t.val p) (col t.val f)) := by
  obtain ⟨h0, h1⟩ := index_4 t
  have hN : cfg0.N = 32 := N_0
  have := t.isLt
  rw [View.read_apply]
  exact at_ix2 A _ _ _ (by show win0_4.index t 0 * 512 + 1 * p.val = 512 * (t.val % 16) + p.val; rw [h0]; omega)
    (by show win0_4.index t 1 * 1408 + 1 * f.val = 1408 * (t.val / 16 % 2) + f.val; rw [h1]; omega)

theorem read_5 (A : FVec Ideal S8192x2816 .bf16) (t : Fin cfg0.N) (p : Fin 512) (f : Fin 1408) :
    ((cfg0.win 5).blk t).view.read (Elt Ideal) A (ix2 p f) = A (ix2 (row t.val p) (col t.val f)) := by
  obtain ⟨h0, h1⟩ := index_5 t
  have hN : cfg0.N = 32 := N_0
  have := t.isLt
  rw [View.read_apply]
  exact at_ix2 A _ _ _ (by show win0_5.index t 0 * 512 + 1 * p.val = 512 * (t.val % 16) + p.val; rw [h0]; omega)
    (by show win0_5.index t 1 * 1408 + 1 * f.val = 1408 * (t.val / 16 % 2) + f.val; rw [h1]; omega)

/-- One, as the programs write it. -/
theorem ofBits_one : Ideal.ofBits FTy.f32 0x3F800000#32 = (1 : EReal) := by
  simp [Ideal.ofBits, Ideal.ieee, -EReal.coe_mul]; norm_num

/-- The two entries from the rows' gradient, the weights and the two factors. -/
def dGate (dh w : Fin 1024 → EReal) (g u : EReal) : EReal :=
  half * (∑ q, dh q * w q) * u * Ideal.logistic g * (1 + g * (1 - Ideal.logistic g))
def dUp (dh w : Fin 1024 → EReal) (g : EReal) : EReal := half * (∑ q, dh q * w q) * g * Ideal.logistic g

theorem pay1_apply (x : Vec Ideal S512x1024 .f32) (w : Vec Ideal S1408x1024 .bf16) (p : Fin 512) (f : Fin 1408) :
    k0_pay1 x w (ix2 p f) = half * ∑ q, (x (ix2 p q) * w (ix2 f q) : EReal) := by
  pointwise [k0_pay1]

theorem pay4_apply (x : Vec Ideal S512x1024 .f32) (w : Vec Ideal S1408x1024 .bf16) (g u : Vec Ideal S512x1408 .bf16) (p : Fin 512) (f : Fin 1408) :
    k0_pay4 x w g u (ix2 p f) = dGate (fun q => x (ix2 p q)) (fun q => w (ix2 f q)) (g (ix2 p f)) (u (ix2 p f)) := by
  unfold dGate
  rw [← pay1_apply, ← ofBits_one]
  pointwise [k0_pay4, k0_pay3, k0_pay2]

theorem pay5_apply (x : Vec Ideal S512x1024 .f32) (w : Vec Ideal S1408x1024 .bf16) (g : Vec Ideal S512x1408 .bf16) (p : Fin 512) (f : Fin 1408) :
    k0_pay5 x w g (ix2 p f) = dUp (fun q => x (ix2 p q)) (fun q => w (ix2 f q)) (g (ix2 p f)) := by
  unfold dUp
  rw [← pay1_apply]
  pointwise [k0_pay5, k0_pay3, k0_pay2]

variable (m : (ℓ : Loc nD τ sig) → Buf (Elt Ideal) ℓ) (ρ : Dev nD → PrngReg) (c : Dev nD)

/-- The arguments in memory. -/
abbrev dh : FVec Ideal S8192x1024 .f32 := m ((c.tc : Thread nD τ).loc main_arg0)
abbrev w2 : FVec Ideal S2816x1024 .f32 := m ((c.tc : Thread nD τ).loc main_arg1)
abbrev gate : FVec Ideal S8192x2816 .f32 := m ((c.tc : Thread nD τ).loc main_arg2)
abbrev up : FVec Ideal S8192x2816 .f32 := m ((c.tc : Thread nD τ).loc main_arg3)

theorem V0 : V m c main_v0 = truncf .bf16 (w2 m c) bitsLt_bf16_f32 := by
  unfold V; after_reads_simp <;> rfl
theorem V1 : V m c main_v1 = truncf .bf16 (gate m c) bitsLt_bf16_f32 := by
  unfold V; after_reads_simp <;> rfl
theorem V2 : V m c main_v2 = truncf .bf16 (up m c) bitsLt_bf16_f32 := by
  unfold V; after_reads_simp <;> rfl

theorem block_0 (t : Fin cfg0.N) (p : Fin 512) (q : Fin 1024) : iblk m c 0 t (ix2 p q) = dh m c (ix2 (row t.val p) q) :=
  (read_0 (V m c main_arg0) t p q).trans (by rw [V_main_arg0])
theorem block_1 (t : Fin cfg0.N) (f : Fin 1408) (q : Fin 1024) : iblk m c 1 t (ix2 f q) = w2 m c (ix2 (col t.val f) q) :=
  (read_1 (V m c main_v0) t f q).trans (by rw [V0]; rfl)
theorem block_2 (t : Fin cfg0.N) (p : Fin 512) (f : Fin 1408) : iblk m c 2 t (ix2 p f) = gate m c (ix2 (row t.val p) (col t.val f)) :=
  (read_2 (V m c main_v1) t p f).trans (by rw [V1]; rfl)
theorem block_3 (t : Fin cfg0.N) (p : Fin 512) (f : Fin 1408) : iblk m c 3 t (ix2 p f) = up m c (ix2 (row t.val p) (col t.val f)) :=
  (read_3 (V m c main_v2) t p f).trans (by rw [V2]; rfl)

/-- The two gradients. -/
def gradGate (x : FVec Ideal S8192x1024 .f32) (w : FVec Ideal S2816x1024 .f32) (g u : FVec Ideal S8192x2816 .f32) : FVec Ideal S8192x2816 .bf16 :=
  fun j => dGate (fun q => x (ix2 (j 0) q)) (fun q => w (ix2 (j 1) q)) (g j) (u j)
def gradUp (x : FVec Ideal S8192x1024 .f32) (w : FVec Ideal S2816x1024 .f32) (g : FVec Ideal S8192x2816 .f32) : FVec Ideal S8192x2816 .bf16 :=
  fun j => dUp (fun q => x (ix2 (j 0) q)) (fun q => w (ix2 (j 1) q)) (g j)

theorem flushed_4 (t : Fin cfg0.N) :
    (dats m 0 c).flushed 4 t = ((cfg0.win 4).blk t).view.read (Elt Ideal) (gradGate (dh m c) (w2 m c) (gate m c) (up m c)) := by
  rw [Value.flushed4]
  funext j
  obtain ⟨p, f, rfl⟩ : ∃ (p : Fin 512) (f : Fin 1408), j = ix2 p f := ⟨_, _, eq_ix2 j⟩
  rw [read_4]
  show out0_4 (iblk m c 0 t) (iblk m c 1 t) (iblk m c 2 t) (iblk m c 3 t) (ix2 p f) = _
  unfold out0_4
  rw [View.canon_unit_zero zeros, ld_all, ld_all, ld_all, ld_all]
  refine (pay4_apply _ _ _ _ p f).trans ?_
  rw [block_2, block_3]
  show dGate _ _ _ _ = dGate _ _ _ _
  congr 1
  · exact funext fun q => block_0 m c t p q
  · exact funext fun q => block_1 m c t f q

theorem flushed_5 (t : Fin cfg0.N) :
    (dats m 0 c).flushed 5 t = ((cfg0.win 5).blk t).view.read (Elt Ideal) (gradUp (dh m c) (w2 m c) (gate m c)) := by
  rw [Value.flushed5]
  funext j
  obtain ⟨p, f, rfl⟩ : ∃ (p : Fin 512) (f : Fin 1408), j = ix2 p f := ⟨_, _, eq_ix2 j⟩
  rw [read_5]
  show out0_5 (iblk m c 0 t) (iblk m c 1 t) (iblk m c 2 t) (iblk m c 3 t) (ix2 p f) = _
  unfold out0_5
  rw [View.canon_unit_zero zeros, ld_all, ld_all, ld_all]
  refine (pay5_apply _ _ _ p f).trans ?_
  rw [block_2]
  show dUp _ _ _ = dUp _ _ _
  congr 1
  · exact funext fun q => block_0 m c t p q
  · exact funext fun q => block_1 m c t f q

/-- The point that writes an entry's block. -/
theorem point_lt (i : S8192x2816.Idx) : 16 * ((i 1 : Nat) / 1408) + (i 0 : Nat) / 512 < cfg0.N := by
  have hN : cfg0.N = 32 := N_0
  have b0 : (i 0 : Nat) < 8192 := (i 0).isLt
  have b1 : (i 1 : Nat) < 2816 := (i 1).isLt
  omega

theorem final_4 : (dats m 0 c).arrAt 4 cfg0.N = gradGate (dh m c) (w2 m c) (gate m c) (up m c) :=
  (dats m 0 c).arrAt_eq_of_cover 4 _ (fun t _ => flushed_4 m c t) fun i => by
    have b0 : (i 0 : Nat) < 8192 := (i 0).isLt
    obtain ⟨h0, h1⟩ := index_4 ⟨_, point_lt i⟩
    refine ⟨⟨_, point_lt i⟩, flush0_4 _, ?_⟩
    show i ∈ ((View.whole main_v3_0).slice (win0_4.rect ⟨_, point_lt i⟩)).set
    rw [View.set_slice_whole, Rect.mem_set_unit]
    intro a
    match a with
    | ⟨0, _⟩ => show win0_4.index _ 0 * 512 ≤ (i 0 : Nat) ∧ (i 0 : Nat) < win0_4.index _ 0 * 512 + 512
                rw [h0]; dsimp only; omega
    | ⟨1, _⟩ => show win0_4.index _ 1 * 1408 ≤ (i 1 : Nat) ∧ (i 1 : Nat) < win0_4.index _ 1 * 1408 + 1408
                rw [h1]; dsimp only; omega

theorem final_5 : (dats m 0 c).arrAt 5 cfg0.N = gradUp (dh m c) (w2 m c) (gate m c) :=
  (dats m 0 c).arrAt_eq_of_cover 5 _ (fun t _ => flushed_5 m c t) fun i => by
    have b0 : (i 0 : Nat) < 8192 := (i 0).isLt
    obtain ⟨h0, h1⟩ := index_5 ⟨_, point_lt i⟩
    refine ⟨⟨_, point_lt i⟩, flush0_5 _, ?_⟩
    show i ∈ ((View.whole main_v3_1).slice (win0_5.rect ⟨_, point_lt i⟩)).set
    rw [View.set_slice_whole, Rect.mem_set_unit]
    intro a
    match a with
    | ⟨0, _⟩ => show win0_5.index _ 0 * 512 ≤ (i 0 : Nat) ∧ (i 0 : Nat) < win0_5.index _ 0 * 512 + 512
                rw [h0]; dsimp only; omega
    | ⟨1, _⟩ => show win0_5.index _ 1 * 1408 ≤ (i 1 : Nat) ∧ (i 1 : Nat) < win0_5.index _ 1 * 1408 + 1408
                rw [h1]; dsimp only; omega

end Cert.Kernel2Ideal.Grad

namespace Cert.Pre_finite_factors.Grad

open Idealize.ShloMosaic

/-- The precondition's shape relations. -/
instance facts : Cert.Pre_finite_factors.Facts where
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

open Cert.Pre_finite_factors Cert.Pre_finite_factors.Facts

instance : Subsingleton S_.Idx := ⟨fun a b => funext fun i => i.elim0⟩

/-- The precondition's bits, argument by argument. -/
theorem reals (a0 : FVec Ideal S8192x1024 .f32) (a1 : FVec Ideal S2816x1024 .f32) (a2 a3 : FVec Ideal S8192x2816 .f32)
    (h : Cert.Pre_finite_factors.fn (F := Ideal) a0 a1 a2 a3 = fun _ => 1#1) :
    (∀ j, a0 j = (((a0 j : EReal).toReal : ℝ) : EReal)) ∧ (∀ j, a1 j = (((a1 j : EReal).toReal : ℝ) : EReal))
      ∧ (∀ j, a3 j = (((a3 j : EReal).toReal : ℝ) : EReal)) := by
  have h0 := congrFun h (fun i => i.elim0)
  unfold Cert.Pre_finite_factors.fn at h0
  dsimp only at h0
  obtain ⟨h01, h2⟩ := IntOp.andi_eq_one.1 h0
  obtain ⟨h0', h1⟩ := IntOp.andi_eq_one.1 h01
  exact ⟨fun j => Cert.Pre_finite.Attn.real_of_lt _ (Host.reduce_andi_all _ _ _ _ _ h0' j),
    fun j => Cert.Pre_finite.Attn.real_of_lt _ (Host.reduce_andi_all _ _ _ _ _ h1 j),
    fun j => Cert.Pre_finite.Attn.real_of_lt _ (Host.reduce_andi_all _ _ _ _ _ h2 j)⟩

end Cert.Pre_finite_factors.Grad

namespace Cert.Reference2Ideal.Grad

open Idealize.ShloMosaic Idealize.ShloMosaic.TcCoe Idealize.ShloMosaic.Pointwise Idealize.SL.Sem Cert.Entry Cert.Accumulate Cert.Reference2Ideal
  Cert.Reference2Ideal.Gen
open Cert.Kernel2Ideal.Grad (ofBits_one dGate dUp gradGate gradUp gate_derivative)

/-- The gradient of the gated product. -/
def rAct (x : FVec Ideal S8192x1024 .f32) (w : FVec Ideal S2816x1024 .f32) : FVec Ideal S8192x2816 .f32 :=
  Host.dotGeneral dot_S8192x1024_S2816x1024_S8192x2816_1_1_0_0_n_n none
    (mulf (broadcastInDim S8192x1024 ![] bcast_S_S8192x1024 (constant S_ .f32 0x3F000000#32)) x) w
/-- The gate's logistic. -/
def rSig (g : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf g)))

theorem rAct_apply (x : FVec Ideal S8192x1024 .f32) (w : FVec Ideal S2816x1024 .f32) (s : Fin 8192) (f : Fin 2816) :
    rAct x w (ix2 s f) = half * ∑ q, (x (ix2 s q) * w (ix2 f q) : EReal) := by
  rw [mul_sum_nonneg Cert.Accumulate.half_nonneg Cert.Accumulate.half_ne_top]
  trans (∑ q, (half * x (ix2 s q) * w (ix2 f q) : EReal))
  · pointwise [rAct]
  · exact Finset.sum_congr rfl fun q _ => mul_assoc _ _ _

theorem rSig_apply (g : FVec Ideal S8192x2816 .f32) (j : S8192x2816.Idx) : rSig g j = Ideal.logistic (g j) := by
  unfold Ideal.logistic
  rw [← ofBits_one]
  pointwise [rSig]

theorem value_up (x : FVec Ideal S8192x1024 .f32) (w : FVec Ideal S2816x1024 .f32) (g : FVec Ideal S8192x2816 .f32) :
    truncf .bf16 (mulf (mulf g (rSig g)) (rAct x w)) bitsLt_bf16_f32 = gradUp x w g := by
  funext j
  obtain ⟨s, f, rfl⟩ : ∃ (s : Fin 8192) (f : Fin 2816), j = ix2 s f := ⟨_, _, eq_ix2 j⟩
  show (g (ix2 s f) * rSig g (ix2 s f) * rAct x w (ix2 s f) : EReal) = dUp (fun q => x (ix2 s q)) (fun q => w (ix2 f q)) (g (ix2 s f))
  unfold dUp
  rw [rAct_apply, rSig_apply, mul_comm _ (half * _), mul_assoc _ (g (ix2 s f) : EReal)]

theorem value_gate (x : FVec Ideal S8192x1024 .f32) (w : FVec Ideal S2816x1024 .f32) (g u : FVec Ideal S8192x2816 .f32)
    (hx : ∀ j, x j = (((x j : EReal).toReal : ℝ) : EReal)) (hw : ∀ j, w j = (((w j : EReal).toReal : ℝ) : EReal))
    (hu : ∀ j, u j = (((u j : EReal).toReal : ℝ) : EReal)) :
    truncf .bf16 (addf (mulf (mulf (rAct x w) u) (rSig g)) (mulf (mulf g (mulf (rAct x w) u))
      (mulf (rSig g) (subf (broadcastInDim S8192x2816 ![] bcast_S_S8192x2816 (constant S_ .f32 0x3F800000#32)) (rSig g))))) bitsLt_bf16_f32
      = gradGate x w g u := by
  funext j
  obtain ⟨s, f, rfl⟩ : ∃ (s : Fin 8192) (f : Fin 2816), j = ix2 s f := ⟨_, _, eq_ix2 j⟩
  show (rAct x w (ix2 s f) * u (ix2 s f) * rSig g (ix2 s f) + g (ix2 s f) * (rAct x w (ix2 s f) * u (ix2 s f))
      * (rSig g (ix2 s f) * (Ideal.ofBits FTy.f32 0x3F800000#32 - rSig g (ix2 s f))) : EReal)
    = dGate (fun q => x (ix2 s q)) (fun q => w (ix2 f q)) (g (ix2 s f)) (u (ix2 s f))
  unfold dGate
  rw [rAct_apply, rSig_apply, ofBits_one]
  obtain ⟨r, hr⟩ : ∃ r : ℝ, half * (∑ q, (x (ix2 s q) * w (ix2 f q) : EReal)) * u (ix2 s f) = (r : EReal) := by
    refine ⟨1 / 2 * (∑ q, (x (ix2 s q) : EReal).toReal * (w (ix2 f q) : EReal).toReal) * (u (ix2 s f) : EReal).toReal, ?_⟩
    rw [EReal.coe_mul, EReal.coe_mul, ← hu, ← Cert.Accumulate.half_eq, ← Cert.Attn.coe_sum]
    congr 2
    refine Finset.sum_congr rfl fun q _ => ?_
    rw [EReal.coe_mul, ← hx, ← hw]
  rw [hr]
  exact (gate_derivative r _).symm

end Cert.Reference2Ideal.Grad

namespace Cert.Kernel2Ideal.Grad

open Idealize.ShloMosaic Idealize.SL.Sem Cert.Entry

theorem algebraic : Cert.algebraic_Kernel2Ideal_Reference2Ideal_pre_finite_factors := by
  intro m g m' g' hpre hargs
  refine ⟨fun c => gradGate (dh m c) (w2 m c) (gate m c) (up m c), fun c => gradUp (dh m c) (w2 m c) (gate m c),
    (θ_run defs _ _).mono (fun r h c => ?_) (Value.run_blocks (F := Ideal) m g),
    (θ_run Cert.Reference2Ideal.defs _ _).mono (fun r h c => ?_) (Cert.Reference2Ideal.Value.run (F := Ideal) m' g')⟩
  · exact ⟨(h c).1.trans (final_4 m c), (h c).2.1.trans (final_5 m c), (h c).2.2⟩
  · obtain ⟨e0, e1, e2, e3⟩ := hargs c
    obtain ⟨hx, hw, hu⟩ := Cert.Pre_finite_factors.Grad.reals _ _ _ _ (hpre c)
    refine ⟨(h c).1.trans ?_, (h c).2.1.trans ?_, (h c).2.2⟩
    · rw [e0, e1, e2, e3]
      exact Cert.Reference2Ideal.Grad.value_gate _ _ _ _ hx hw hu
    · rw [e0, e1, e2]
      exact Cert.Reference2Ideal.Grad.value_up _ _ _

end Cert.Kernel2Ideal.Grad

end
-- ==== Proof.DownWeight.lean ====
/-
  The weight gradient of the FFN's second product: the transposed activations times the gradient of
  the rows, in eight blocks of 1024 rows that an accumulator sums, and half of it.
-/
module

public import proofs.«01_k».proof.Proof.Entry
public import proofs.«01_k».proof.Proof.Accumulate
public import proofs.«01_k».proof.Proof.Gen.Kernel3Ideal.Value
public import proofs.«01_k».proof.Proof.Gen.Reference3Ideal.Run

@[expose] public section

set_option maxRecDepth 16384

noncomputable section

namespace Cert.Kernel3Ideal.Grad

open Idealize.ShloMosaic Idealize.ShloMosaic.TcCoe Idealize.ShloMosaic.Pointwise Idealize.SL.Sem Cert.Entry Cert.Accumulate Cert.Kernel3Ideal
  Cert.Kernel3Ideal.Gen

section Stores

variable {F : FTy → Type} [FloatOps F] (c : Dev nD) (i : grid0.Coords)
  (a0 : Memref sig .tc .vmem S1024x1408 .bf16) (h0 : a0.IsWhole) (a1 : Memref sig .tc .vmem S1024x1024 .f32) (h1 : a1.IsWhole)
  (a2 : Memref sig .tc .vmem S1408x1024 .bf16) (h2 : a2.IsWhole) (a3 : Memref sig .tc .vmem S1408x1024 .f32) (h3 : a3.IsWhole)
  (x : Vec F S1024x1408 .bf16) (y : Vec F S1024x1024 .f32) (acc : Vec F S1408x1024 .f32)

/-- The first block of rows sets the accumulator. -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all,
    shapeCast_self]

/-- Each later one adds to it. -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all, shapeCast_self]

/-- So does the last, -/
theorem last_acc (hc0 : ¬cond0_0 i) (hc1 : cond0_1 i) (hc2 : cond0_2 i) :
    sout0_C_0 c i a0 h0 a1 h1 a2 h2 a3 h3 hc0 hc1 hc2 x y acc = addf acc (k0_pay1 x y) := by
  unfold sout0_C_0
  rw [View.read_writes_eq_canon _ _ _ (by apply scover0_C_0)]
  unfold kernelRun0_C
  dsimp only
  sl_unfold_words
  rw [View.canon_unit_zero zeros]
  unfold k0_pay3
  simp only [View.readAt_eq_ld, h0.read_unread, h1.read_unread, h3.read_unread, ld_all, shapeCast_self]

/-- which stores the accumulator's half. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S1408x1024) _ zeros]
  unfold k0_pay3
  simp only [View.readAt_eq_ld, h0.read_unread, h1.read_unread, h3.read_unread, ld_all, shapeCast_self]

end Stores

/-! ## The blocks -/

theorem index_0 : ∀ t : Fin cfg0.N, win0_0.index t 0 = t.val % 8 ∧ win0_0.index t 1 = t.val / 8 := by decide +kernel
theorem index_1 : ∀ t : Fin cfg0.N, win0_1.index t 0 = t.val % 8 ∧ win0_1.index t 1 = 0 := by decide +kernel

/-- Row `r` of block `n` of 1024 rows. -/
def row (n : ℕ) (r : Fin 1024) : Fin 8192 := ⟨1024 * (n % 8) + r.val, by omega⟩
/-- Column `p` of block `b` of 1408 columns. -/
def col (b : ℕ) (p : Fin 1408) : Fin 2816 := ⟨1408 * (b % 2) + p.val, by omega⟩

theorem read_0 (A : FVec Ideal S8192x2816 .bf16) (t : Fin cfg0.N) (r : Fin 1024) (p : Fin 1408) :
    ((cfg0.win 0).blk t).view.read (Elt Ideal) A (ix2 r p) = A (ix2 (row t.val r) (col (t.val / 8) p)) := by
  obtain ⟨h0, h1⟩ := index_0 t
  have hN : cfg0.N = 16 := N_0
  have := t.isLt
  rw [View.read_apply]
  exact at_ix2 A _ _ _ (by show win0_0.index t 0 * 1024 + 1 * r.val = 1024 * (t.val % 8) + r.val; rw [h0]; omega)
    (by show win0_0.index t 1 * 1408 + 1 * p.val = 1408 * (t.val / 8 % 2) + p.val; rw [h1]; omega)

theorem read_1 (A : FVec Ideal S8192x1024 .f32) (t : Fin cfg0.N) (r : Fin 1024) (q : Fin 1024) :
    ((cfg0.win 1).blk t).view.read (Elt Ideal) A (ix2 r q) = A (ix2 (row t.val r) q) := by
  obtain ⟨h0, h1⟩ := index_1 t
  rw [View.read_apply]
  exact at_ix2 A _ _ _ (by show win0_1.index t 0 * 1024 + 1 * r.val = 1024 * (t.val % 8) + r.val; rw [h0]; omega)
    (by show win0_1.index t 1 * 1024 + 1 * q.val = q.val; rw [h1]; omega)

theorem pay1_apply (x : Vec Ideal S1024x1408 .bf16) (y : Vec Ideal S1024x1024 .f32) (p : Fin 1408) (q : Fin 1024) :
    k0_pay1 x y (ix2 p q) = ∑ r, (x (ix2 r p) * y (ix2 r q) : EReal) := by
  pointwise [k0_pay1]

theorem pay4_apply (x : Vec Ideal S1408x1024 .f32) (j : S1408x1024.Idx) : k0_pay4 x j = (x j * half : EReal) := by
  pointwise [k0_pay4]

variable (m : (ℓ : Loc nD τ sig) → Buf (Elt Ideal) ℓ) (ρ : Dev nD → PrngReg) (c : Dev nD)

/-- The activations and the rows' gradient in memory. -/
abbrev act : FVec Ideal S8192x2816 .f32 := m ((c.tc : Thread nD τ).loc main_arg0)
abbrev dh : FVec Ideal S8192x1024 .f32 := m ((c.tc : Thread nD τ).loc main_arg1)

theorem V0 : V m c main_v0 = truncf .bf16 (act m c) bitsLt_bf16_f32 := by
  unfold V; after_reads_simp <;> rfl

/-- The terms of an entry in block `b` of 1408 rows of the product. -/
def term (A : FVec Ideal S8192x2816 .f32) (B : FVec Ideal S8192x1024 .f32) (p : Fin 1408) (q : Fin 1024) (b : ℕ) (s : Fin 8192) : EReal :=
  A (ix2 s (col b p)) * B (ix2 s q)

theorem chunk_eq (t : Fin cfg0.N) (p : Fin 1408) (q : Fin 1024) :
    k0_pay1 (iblk m c 0 t) (iblk m c 1 t) (ix2 p q) = chunk 8 1024 (term (act m c) (dh m c) p q) t.val := by
  refine (pay1_apply (iblk m c 0 t) (iblk m c 1 t) p q).trans (Finset.sum_congr rfl fun r _ => ?_)
  have e0 : iblk m c 0 t (ix2 r p) = V m c main_v0 (ix2 (row t.val r) (col (t.val / 8) p)) := read_0 (V m c main_v0) t r p
  have e1 : iblk m c 1 t (ix2 r q) = V m c main_arg1 (ix2 (row t.val r) q) := read_1 (V m c main_arg1) t r q
  rw [e0, e1, V0, V_main_arg1]
  rfl

/-- The accumulator at the end of a sweep. -/
theorem acc_at (p : Fin 1408) (q : Fin 1024) (n : ℕ) (h : n < cfg0.N) (hn : n % 8 + 1 = 8) :
    (outsAt0 m c n h).2 (ix2 p q) = ∑ s, term (act m c) (dh m c) p q (n / 8) s := by
  refine sum_sweep 8 1024 (fun n h => ((outsAt0 m c n h).2 (ix2 p q) : EReal)) (term (act m c) (dh m c) p q) ?_ ?_ n h hn
  · intro n h hn
    rw [outsAt0_A m c ⟨n, h⟩ hn (by dsimp only; omega) (by dsimp only; omega)]
    dsimp only
    rw [first_acc]
    exact chunk_eq m c ⟨n, h⟩ p q
  · intro n h h' hn
    by_cases h7 : (n + 1) % 8 = 7
    · rw [outsAt0_C m c ⟨n + 1, h'⟩ hn (by dsimp only; omega) h7]
      dsimp only
      rw [last_acc]
      exact congrArg (fun z : EReal => ((outsAt0 m c n h).2 (ix2 p q) : EReal) + z) (chunk_eq m c ⟨n + 1, h'⟩ p q)
    · rw [outsAt0_B m c ⟨n + 1, h'⟩ hn (by dsimp only; omega) h7]
      dsimp only
      rw [next_acc]
      exact congrArg (fun z : EReal => ((outsAt0 m c n h).2 (ix2 p q) : EReal) + z) (chunk_eq m c ⟨n + 1, h'⟩ p q)

/-- The block that the last point of a sweep stores. -/
theorem out_at (p : Fin 1408) (q : Fin 1024) (n : ℕ) (h : n < cfg0.N) (hn : n % 8 + 1 = 8) :
    (outsAt0 m c n h).1 (ix2 p q) = (∑ s, term (act m c) (dh m c) p q (n / 8) s) * half := by
  have ha := acc_at m c p q n h hn
  rw [outsAt0_C m c ⟨n, h⟩ (by dsimp only; omega) (by dsimp only; omega) (by dsimp only; omega)] at ha ⊢
  dsimp only at ha ⊢
  rw [last_acc] at ha
  rw [last_out, pay4_apply]
  exact congrArg (· * half) ha

/-- The gradient of the weights. -/
def grad (A : FVec Ideal S8192x2816 .f32) (B : FVec Ideal S8192x1024 .f32) : FVec Ideal S2816x1024 .bf16 :=
  fun j => (∑ s : Fin 8192, (A (ix2 s (j 0)) * B (ix2 s (j 1)) : EReal)) * half

theorem result : Value.G2 m c = grad (act m c) (dh m c) := by
  funext j
  obtain ⟨x, q, rfl⟩ : ∃ (x : Fin 2816) (q : Fin 1024), j = ix2 x q := ⟨_, _, eq_ix2 j⟩
  have hx := x.isLt
  have hq := q.isLt
  have hN : cfg0.N = 16 := N_0
  have hpt : Value.pt2Of (ix2 x q) = 8 * (x.val / 1408) + 7 := by
    show 8 * (1 * (x.val / 1408 - 0) + 1 * (q.val / 1024 - 0)) + 7 = _
    omega
  have hloc : Value.loc2Of (ix2 x q) = ix2 ⟨x.val % 1408, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  refine congrArg (· * half) ?_
  refine Finset.sum_congr rfl fun s _ => ?_
  have hc : col (Value.pt2Of (ix2 x q) / 8) ⟨x.val % 1408, Nat.mod_lt _ (by decide)⟩ = x :=
    Fin.ext (by show 1408 * (Value.pt2Of (ix2 x q) / 8 % 2) + x.val % 1408 = x.val; rw [hpt]; omega)
  unfold term
  rw [hc]
  rfl

end Cert.Kernel3Ideal.Grad

namespace Cert.Reference3Ideal.Grad

open Idealize.ShloMosaic Idealize.ShloMosaic.TcCoe Idealize.ShloMosaic.Pointwise Idealize.SL.Sem Cert.Entry Cert.Accumulate Cert.Reference3Ideal
  Cert.Reference3Ideal.Gen

/-- The gradient of `w ↦ ½·(A·w)`. -/
theorem value (A : FVec Ideal S8192x2816 .f32) (B : FVec Ideal S8192x1024 .f32) :
    truncf .bf16 (transpose S2816x1024 [1, 0] (Host.dotGeneral dot_S8192x1024_S8192x2816_S1024x2816_0_0_1_1_n_n none
      (mulf (broadcastInDim S8192x1024 ![] bcast_S_S8192x1024 (constant S_ .f32 0x3F000000#32)) B) A)
      transposes_S1024x2816_S2816x1024_1_0) bitsLt_bf16_f32 = Cert.Kernel3Ideal.Grad.grad A B := by
  funext j
  obtain ⟨x, q, rfl⟩ : ∃ (x : Fin 2816) (q : Fin 1024), j = ix2 x q := ⟨_, _, eq_ix2 j⟩
  trans (∑ s : Fin 8192, (half * B (ix2 s q) * A (ix2 s x) : EReal))
  · pointwise []
  · show _ = (∑ s : Fin 8192, (A (ix2 s x) * B (ix2 s q) : EReal)) * half
    rw [mul_comm _ half, mul_sum_nonneg half_nonneg half_ne_top]
    exact Finset.sum_congr rfl fun s _ => by rw [mul_assoc, mul_comm (A _)]

end Cert.Reference3Ideal.Grad

namespace Cert.Kernel3Ideal.Grad

open Idealize.ShloMosaic Idealize.SL.Sem Cert.Entry

theorem algebraic : Cert.algebraic_Kernel3Ideal_Reference3Ideal := by
  intro m g m' g' _ hargs
  refine ⟨fun c => grad (act m c) (dh m c), (θ_run defs _ _).mono (fun r h c => ?_) (Value.run (F := Ideal) m g),
    (θ_run Cert.Reference3Ideal.defs _ _).mono (fun r h c => ?_) (Cert.Reference3Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference3Ideal.Grad.value _ _

end Cert.Kernel3Ideal.Grad

end
-- ==== Proof.RowGrad.lean ====
/-
  What the gate passes back to the normed rows: its gradient times its half of the first weights, in
  two blocks of 1408 terms that an accumulator sums.
-/
module

public import proofs.«01_k».proof.Proof.Entry
public import proofs.«01_k».proof.Proof.Accumulate
public import proofs.«01_k».proof.Proof.Gen.Kernel4Ideal.Value
public import proofs.«01_k».proof.Proof.Gen.Reference4Ideal.Run

@[expose] public section

set_option maxRecDepth 16384

noncomputable section

namespace Cert.Kernel4Ideal.Grad

open Idealize.ShloMosaic Idealize.ShloMosaic.TcCoe Idealize.ShloMosaic.Pointwise Idealize.SL.Sem Cert.Entry Cert.Accumulate Cert.Kernel4Ideal
  Cert.Kernel4Ideal.Gen

section Stores

variable {F : FTy → Type} [FloatOps F] (c : Dev nD) (i : grid0.Coords)
  (a0 : Memref sig .tc .vmem S1024x1408 .bf16) (h0 : a0.IsWhole) (a1 : Memref sig .tc .vmem S1408x1024 .bf16) (h1 : a1.IsWhole)
  (a2 : Memref sig .tc .vmem S1024x1024 .f32) (h2 : a2.IsWhole) (a3 : Memref sig .tc .vmem S1024x1024 .f32) (h3 : a3.IsWhole)
  (x : Vec F S1024x1408 .bf16) (y : Vec F S1408x1024 .bf16) (acc : Vec F S1024x1024 .f32)

/-- The first block of terms sets the accumulator, -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all,
    shapeCast_self]

/-- the second adds to it, -/
theorem last_acc (hc0 : ¬cond0_0 i) (hc1 : cond0_1 i) (hc2 : cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all, shapeCast_self]

/-- and stores the accumulator. -/
theorem last_out (hc0 : ¬cond0_0 i) (hc1 : cond0_1 i) (hc2 : cond0_2 i) :
    out0_B_2 c i a0 h0 a1 h1 a2 h2 a3 h3 hc0 hc1 hc2 x y acc = addf acc (k0_pay1 x y) := by
  unfold out0_B_2
  rw [View.read_writes_eq_canon _ _ _ (by apply cover0_B_2)]
  unfold kernelRun0_B
  dsimp only
  sl_unfold_words
  rw [View.canon_unit_zero zeros, View.readCov_unit_zero (S := S1024x1024) _ zeros]
  unfold k0_pay3
  simp only [View.readAt_eq_ld, h0.read_unread, h1.read_unread, h3.read_unread, ld_all, shapeCast_self]

end Stores

/-! ## The blocks -/

theorem index_0 : ∀ t : Fin cfg0.N, win0_0.index t 0 = t.val / 2 ∧ win0_0.index t 1 = t.val % 2 := by decide +kernel
theorem index_1 : ∀ t : Fin cfg0.N, win0_1.index t 0 = t.val % 2 ∧ win0_1.index t 1 = 0 := by decide +kernel

/-- Row `p` of block `b` of 1024 rows. -/
def row (b : ℕ) (p : Fin 1024) : Fin 8192 := ⟨1024 * (b % 8) + p.val, by omega⟩
/-- Column `r` of block `n` of 1408 columns. -/
def col (n : ℕ) (r : Fin 1408) : Fin 2816 := ⟨1408 * (n % 2) + r.val, by omega⟩
/-- Row `r` of the gate's half of the weights. -/
def gateRow (r : Fin 2816) : Fin 5632 := ⟨r.val, by omega⟩

theorem read_0 (A : FVec Ideal S8192x2816 .bf16) (t : Fin cfg0.N) (p : Fin 1024) (r : Fin 1408) :
    ((cfg0.win 0).blk t).view.read (Elt Ideal) A (ix2 p r) = A (ix2 (row (t.val / 2) p) (col t.val r)) := by
  obtain ⟨h0, h1⟩ := index_0 t
  have hN : cfg0.N = 16 := N_0
  have := t.isLt
  rw [View.read_apply]
  exact at_ix2 A _ _ _ (by show win0_0.index t 0 * 1024 + 1 * p.val = 1024 * (t.val / 2 % 8) + p.val; rw [h0]; omega)
    (by show win0_0.index t 1 * 1408 + 1 * r.val = 1408 * (t.val % 2) + r.val; rw [h1]; omega)

theorem read_1 (A : FVec Ideal S5632x1024 .bf16) (t : Fin cfg0.N) (r : Fin 1408) (q : Fin 1024) :
    ((cfg0.win 1).blk t).view.read (Elt Ideal) A (ix2 r q) = A (ix2 (gateRow (col t.val r)) q) := by
  obtain ⟨h0, h1⟩ := index_1 t
  rw [View.read_apply]
  exact at_ix2 A _ _ _ (by show win0_1.index t 0 * 1408 + 1 * r.val = 1408 * (t.val % 2) + r.val; rw [h0]; omega)
    (by show win0_1.index t 1 * 1024 + 1 * q.val = q.val; rw [h1]; omega)

theorem pay1_apply (x : Vec Ideal S1024x1408 .bf16) (y : Vec Ideal S1408x1024 .bf16) (p : Fin 1024) (q : Fin 1024) :
    k0_pay1 x y (ix2 p q) = ∑ r, (x (ix2 p r) * y (ix2 r q) : EReal) := by
  pointwise [k0_pay1]

variable (m : (ℓ : Loc nD τ sig) → Buf (Elt Ideal) ℓ) (ρ : Dev nD → PrngReg) (c : Dev nD)

/-- The gradient of the gate and the weights in memory. -/
abbrev dg : FVec Ideal S8192x2816 .f32 := m ((c.tc : Thread nD τ).loc main_arg0)
abbrev w13 : FVec Ideal S5632x1024 .f32 := m ((c.tc : Thread nD τ).loc main_arg1)

theorem V0 : V m c main_v0 = truncf .bf16 (dg m c) bitsLt_bf16_f32 := by
  unfold V; after_reads_simp <;> rfl
theorem V1 : V m c main_v1 = truncf .bf16 (w13 m c) bitsLt_bf16_f32 := by
  unfold V; after_reads_simp <;> rfl

/-- The terms of an entry in block `b` of 1024 rows of the product. -/
def term (A : FVec Ideal S8192x2816 .f32) (B : FVec Ideal S5632x1024 .f32) (p : Fin 1024) (q : Fin 1024) (b : ℕ) (s : Fin 2816) : EReal :=
  A (ix2 (row b p) s) * B (ix2 (gateRow s) q)

theorem chunk_eq (t : Fin cfg0.N) (p : Fin 1024) (q : Fin 1024) :
    k0_pay1 (iblk m c 0 t) (iblk m c 1 t) (ix2 p q) = chunk 2 1408 (term (dg m c) (w13 m c) p q) t.val := by
  refine (pay1_apply (iblk m c 0 t) (iblk m c 1 t) p q).trans (Finset.sum_congr rfl fun r _ => ?_)
  have e0 : iblk m c 0 t (ix2 p r) = V m c main_v0 (ix2 (row (t.val / 2) p) (col t.val r)) := read_0 (V m c main_v0) t p r
  have e1 : iblk m c 1 t (ix2 r q) = V m c main_v1 (ix2 (gateRow (col t.val r)) q) := read_1 (V m c main_v1) t r q
  rw [e0, e1, V0, V1]
  rfl

/-- The block that the second point of a sweep stores. -/
theorem out_at (p : Fin 1024) (q : Fin 1024) (n : ℕ) (h : n < cfg0.N) (hn : n % 2 + 1 = 2) :
    (outsAt0 m c n h).1 (ix2 p q) = ∑ s, term (dg m c) (w13 m c) p q (n / 2) s := by
  have ha : (outsAt0 m c n h).2 (ix2 p q) = ∑ s, term (dg m c) (w13 m c) p q (n / 2) s := by
    refine sum_sweep 2 1408 (fun n h => ((outsAt0 m c n h).2 (ix2 p q) : EReal)) (term (dg m c) (w13 m c) p q) ?_ ?_ n h hn
    · intro n h hn
      rw [outsAt0_A m c ⟨n, h⟩ hn (by dsimp only; omega) (by dsimp only; omega)]
      dsimp only
      rw [first_acc]
      exact chunk_eq m c ⟨n, h⟩ p q
    · intro n h h' hn
      rw [outsAt0_B m c ⟨n + 1, h'⟩ hn (by dsimp only; omega) (by dsimp only; omega)]
      dsimp only
      rw [last_acc]
      exact congrArg (fun z : EReal => ((outsAt0 m c n h).2 (ix2 p q) : EReal) + z) (chunk_eq m c ⟨n + 1, h'⟩ p q)
  rw [outsAt0_B m c ⟨n, h⟩ (by dsimp only; omega) (by dsimp only; omega) (by dsimp only; omega)] at ha ⊢
  dsimp only at ha ⊢
  rw [last_acc] at ha
  rw [last_out]
  exact ha

/-- The gradient of the rows. -/
def grad (A : FVec Ideal S8192x2816 .f32) (B : FVec Ideal S5632x1024 .f32) : FVec Ideal S8192x1024 .f32 :=
  fun j => ∑ s : Fin 2816, (A (ix2 (j 0) s) * B (ix2 (gateRow s) (j 1)) : EReal)

theorem result : Value.G2 m c = grad (dg m c) (w13 m c) := by
  funext j
  obtain ⟨x, q, rfl⟩ : ∃ (x : Fin 8192) (q : Fin 1024), j = ix2 x q := ⟨_, _, eq_ix2 j⟩
  have hx := x.isLt
  have hq := q.isLt
  have hN : cfg0.N = 16 := N_0
  have hpt : Value.pt2Of (ix2 x q) = 2 * (x.val / 1024) + 1 := by
    show 2 * (1 * (x.val / 1024 - 0) + 1 * (q.val / 1024 - 0)) + 1 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  refine Finset.sum_congr rfl fun s _ => ?_
  have hc : row (Value.pt2Of (ix2 x q) / 2) ⟨x.val % 1024, Nat.mod_lt _ (by decide)⟩ = x :=
    Fin.ext (by show 1024 * (Value.pt2Of (ix2 x q) / 2 % 8) + x.val % 1024 = x.val; rw [hpt]; omega)
  unfold term
  rw [hc]
  rfl

end Cert.Kernel4Ideal.Grad

namespace Cert.Reference4Ideal.Grad

open Idealize.ShloMosaic Idealize.ShloMosaic.TcCoe Idealize.ShloMosaic.Pointwise Idealize.SL.Sem Cert.Entry Cert.Reference4Ideal Cert.Reference4Ideal.Gen

/-- The gradient of `v ↦ v·Wᵀ`, `W` the first 2816 rows. -/
theorem value (A : FVec Ideal S8192x2816 .f32) (B : FVec Ideal S5632x1024 .f32) :
    Host.dotGeneral dot_S8192x2816_S1024x2816_S8192x1024_1_1_0_0_n_n none A (transpose S1024x2816 [1, 0]
      (extractStridedSlice S2816x1024 ![0, 0] B slices_S5632x1024_S2816x1024_0_0) transposes_S2816x1024_S1024x2816_1_0)
      = Cert.Kernel4Ideal.Grad.grad A B := by
  funext j
  obtain ⟨x, q, rfl⟩ : ∃ (x : Fin 8192) (q : Fin 1024), j = ix2 x q := ⟨_, _, eq_ix2 j⟩
  show _ = ∑ s : Fin 2816, (A (ix2 x s) * B (ix2 (Cert.Kernel4Ideal.Grad.gateRow s) q) : EReal)
  pointwise [Cert.Kernel4Ideal.Grad.gateRow]

end Cert.Reference4Ideal.Grad

namespace Cert.Kernel4Ideal.Grad

open Idealize.ShloMosaic Idealize.SL.Sem Cert.Entry

theorem algebraic : Cert.algebraic_Kernel4Ideal_Reference4Ideal := by
  intro m g m' g' _ hargs
  refine ⟨fun c => grad (dg m c) (w13 m c), (θ_run defs _ _).mono (fun r h c => ?_) (Value.run (F := Ideal) m g),
    (θ_run Cert.Reference4Ideal.defs _ _).mono (fun r h c => ?_) (Cert.Reference4Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference4Ideal.Grad.value _ _

end Cert.Kernel4Ideal.Grad

end
-- ==== Proof.NormGrad.lean ====
/-
  What the FFN passes back to its input, in blocks of 512 rows: the gradient of the other factor times its
  half of the first weights, added to what the gate passed back, through the derivative of the
  root-mean-square norm; and the gradient of the norm's weights, which an accumulator sums over the blocks.
-/
module

public import proofs.«01_k».proof.Proof.Entry
public import proofs.«01_k».proof.Proof.Accumulate
public import proofs.«01_k».proof.Proof.Gen.Kernel5Ideal.Value
public import proofs.«01_k».proof.Proof.Gen.Reference5Ideal.Run

@[expose] public section

set_option maxRecDepth 16384

noncomputable section

namespace Cert.Kernel5Ideal.Grad

open Idealize.ShloMosaic Idealize.ShloMosaic.TcCoe Idealize.ShloMosaic.Pointwise Idealize.SL.Sem Cert.Entry Cert.Accumulate Cert.Kernel5Ideal
  Cert.Kernel5Ideal.Gen

/-! ## The norm's derivative -/

abbrev width : EReal := Ideal.ofBits FTy.f32 0x44800000#32
abbrev eps : EReal := Ideal.ofBits FTy.f32 0x358637BD#32
abbrev invWidth : EReal := Ideal.ofBits FTy.f32 0x3A800000#32
abbrev minusHalf : EReal := Ideal.ofBits FTy.f32 0xBF000000#32

theorem width_eq : width = ((1024 : ℝ) : EReal) := by
  simp [width, Ideal.ofBits, Ideal.ieee, -EReal.coe_mul]; norm_num
theorem invWidth_eq : invWidth = ((1 / 1024 : ℝ) : EReal) := by
  simp [invWidth, Ideal.ofBits, Ideal.ieee, -EReal.coe_mul]; norm_num
theorem minusHalf_eq : minusHalf = ((-(1 / 2) : ℝ) : EReal) := by
  simp [minusHalf, Ideal.ofBits, Ideal.ieee, -EReal.coe_mul]; norm_num
theorem eps_pos : ∃ e : ℝ, 0 < e ∧ eps = (e : EReal) := by
  refine ⟨8796093 * 2 ^ (-43 : ℤ), by positivity, ?_⟩
  simp [eps, Ideal.ofBits, Ideal.ieee, -EReal.coe_mul]

/-- A row's mean square and the constant, -/
def meanSq (h : Fin 1024 → EReal) : EReal := Ideal.div (∑ q, h q * h q) width + eps
/-- the reciprocal of its root, -/
def rs (h : Fin 1024 → EReal) : EReal := Ideal.rsqrt (meanSq h)
/-- what the row passes back, added to `d`, from the gradient `v` of the normed row and the norm's weights `l`. -/
def rowGrad (v l h d : Fin 1024 → EReal) (q : Fin 1024) : EReal :=
  v q * l q * rs h - h q * ((∑ q, v q * l q * h q) * (rs h * rs h * rs h) * invWidth) + d q

theorem square_nonneg (x : EReal) : 0 ≤ x * x := by
  induction x with
  | bot => simp
  | top => simp
  | coe x => exact_mod_cast mul_self_nonneg x

theorem add_self (x : EReal) : x + x = x * ((2 : ℝ) : EReal) := by
  induction x with
  | bot => rw [EReal.bot_mul_coe_of_pos (by norm_num)]; rfl
  | top => rw [EReal.top_mul_coe_of_pos (by norm_num)]; rfl
  | coe x => rw [← EReal.coe_add, ← EReal.coe_mul]; congr 1; ring

/-- The same as the derivative of `h ↦ h·(mean h² + eps)^(-1/2)` writes it. -/
theorem rowGrad_eq (v l h d : Fin 1024 → EReal) (q : Fin 1024) (E : EReal)
    (hE : E = Ideal.div ((∑ q, h q * (v q * l q)) * (minusHalf * Ideal.div (rs h) (meanSq h))) width) :
    d q + v q * l q * rs h + h q * E + E * h q = rowGrad v l h d q := by
  have hT : ∑ q, h q * (v q * l q) = ∑ q, v q * l q * h q := Finset.sum_congr rfl fun q _ => mul_comm _ _
  rw [hT] at hE
  unfold rowGrad
  generalize ∑ q, v q * l q * h q = T at hE ⊢
  have hS0 : 0 ≤ ∑ q, h q * h q := Finset.sum_nonneg fun q _ => square_nonneg (h q)
  obtain ⟨e, he, hee⟩ := eps_pos
  by_cases hS : ∑ q, h q * h q = ⊤
  · have hm : meanSq h = ⊤ := by
      unfold meanSq
      rw [hS, hee, width_eq, Ideal.div_coe (by norm_num), EReal.top_mul_coe_of_pos (by norm_num)]
      exact EReal.top_add_coe e
    have hr : rs h = 0 := by unfold rs; rw [hm]; rfl
    have hd : Ideal.div 0 ⊤ = (0 : EReal) := by simp [Ideal.div]
    have hw : Ideal.div 0 width = 0 := by rw [width_eq, Ideal.div_coe (by norm_num), zero_mul]
    rw [hm, hr, hd, mul_zero, mul_zero, hw] at hE
    rw [hE, hr]
    simp
  · obtain ⟨s, hs⟩ : ∃ s : ℝ, ∑ q, h q * h q = (s : EReal) :=
      ⟨_, (EReal.coe_toReal hS (fun hb => by rw [hb] at hS0; exact absurd hS0 (by simp))).symm⟩
    have hs0 : 0 ≤ s := by rw [hs] at hS0; exact_mod_cast hS0
    obtain ⟨y, hy⟩ : ∃ y : ℝ, h q = (y : EReal) := by
      have hle : h q * h q ≤ ∑ q, h q * h q := Finset.single_le_sum (fun q _ => square_nonneg (h q)) (Finset.mem_univ q)
      refine ⟨_, (EReal.coe_toReal ?_ ?_).symm⟩ <;> intro hb <;> rw [hb] at hle <;> exact hS (by simpa using hle)
    have hw : 0 < s * (1 / 1024) + e := by positivity
    have hm : meanSq h = ((s * (1 / 1024) + e : ℝ) : EReal) := by
      unfold meanSq
      rw [hs, hee, width_eq, Ideal.div_coe (by norm_num), ← EReal.coe_mul, ← EReal.coe_add]
    generalize s * (1 / 1024) + e = w at hw hm
    have hr : rs h = (((Real.sqrt w)⁻¹ : ℝ) : EReal) := by
      unfold rs
      rw [hm]
      show (if w < 0 then ⊥ else if w = 0 then ⊤ else (((Real.sqrt w)⁻¹ : ℝ) : EReal)) = _
      rw [if_neg (not_lt.mpr hw.le), if_neg hw.ne']
    have hq : (Real.sqrt w)⁻¹ * (Real.sqrt w)⁻¹ = 1 / w := by rw [← mul_inv, Real.mul_self_sqrt hw.le, one_div]
    generalize (Real.sqrt w)⁻¹ = r at hr hq
    rw [hr, hm, minusHalf_eq, width_eq, Ideal.div_coe hw.ne', Ideal.div_coe (by norm_num), ← EReal.coe_mul, ← EReal.coe_mul,
      mul_assoc, ← EReal.coe_mul] at hE
    have hEy : h q * E + E * h q = -(h q * (T * (rs h * rs h * rs h) * invWidth)) := by
      rw [hE, hr, hy, invWidth_eq, mul_comm (y : EReal), add_self, mul_comm (y : EReal)]
      simp only [mul_assoc T, ← EReal.coe_mul, ← mul_neg, ← EReal.coe_neg]
      congr 2
      rw [hq]
      ring
    rw [add_assoc, hEy, sub_eq_add_neg, add_comm (d q), add_assoc, add_comm (d q), ← add_assoc]

section Stores

variable {F : FTy → Type} [FloatOps F] (c : Dev nD) (i : grid0.Coords)
  (a0 : Memref sig .tc .vmem S512x1408 .bf16) (h0 : a0.IsWhole) (a1 : Memref sig .tc .vmem S1408x1024 .bf16) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole)
  (x0 : Vec F S512x1408 .bf16) (x1 : Vec F S1408x1024 .bf16) (x2 x3 : Vec F S512x1024 .f32) (x4 : Vec F S1x1024 .f32)
  (x5 : Vec F S512x1024 .f32) (old : Vec F S1x1024 .f32) (acc : Vec F S512x1024 .f32)

/-- The first block of terms sets the accumulator. -/
theorem first_acc (hc0 : cond0_0 i) (hc1 : ¬cond0_1 i) (hc2 : ¬cond0_2 i) :
    sout0_A_0 c i a0 h0 a1 h1 a2 h2 a3 h3 a4 h4 a5 h5 a6 h6 a7 h7 a8 h8 hc0 hc1 hc2 x0 x1 x2 x3 x4 x5 = k0_pay1 x0 x1 := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all,
    shapeCast_self]

/-- The second block of terms, at the first block of rows: the rows' gradient, -/
theorem rows_B (hc0 : ¬cond0_0 i) (hc1 : cond0_1 i) (hc2 : cond0_2 i) (hc3 : cond0_3 i) (hc4 : ¬cond0_4 i) :
    out0_B_6 c i a0 h0 a1 h1 a2 h2 a3 h3 a4 h4 a5 h5 a6 h6 a7 h7 a8 h8 hc0 hc1 hc2 hc3 hc4 x0 x1 x2 x3 x4 x5 acc
      = k0_pay4 (k0_pay9 (addf acc (k0_pay1 x0 x1)) x2 x3 x4) x5 := by
  unfold out0_B_6
  rw [View.read_writes_eq_canon _ _ _ (by apply cover0_B_6)]
  unfold kernelRun0_B
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h5.read_unread,
    h7.read_unread, h8.read_unread, ld_all, shapeCast_self]

/-- and the weights' gradient. -/
theorem weights_B (hc0 : ¬cond0_0 i) (hc1 : cond0_1 i) (hc2 : cond0_2 i) (hc3 : cond0_3 i) (hc4 : ¬cond0_4 i) :
    out0_B_7 c i a0 h0 a1 h1 a2 h2 a3 h3 a4 h4 a5 h5 a6 h6 a7 h7 a8 h8 hc0 hc1 hc2 hc3 hc4 x0 x1 x2 x3 x4 x5 acc = k0_pay7 (addf acc (k0_pay1 x0 x1)) x2 x3 := by
  unfold out0_B_7
  rw [View.read_writes_eq_canon _ _ _ (by apply cover0_B_7)]
  unfold kernelRun0_B
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h5.read_unread,
    h7.read_unread, h8.read_unread, ld_all, shapeCast_self]

/-- The second block of terms, at the other blocks of rows: the rows' gradient, -/
theorem rows_C (hc0 : ¬cond0_0 i) (hc1 : cond0_1 i) (hc2 : cond0_2 i) (hc3 : ¬cond0_3 i) (hc4 : cond0_4 i) :
    out0_C_6 c i a0 h0 a1 h1 a2 h2 a3 h3 a4 h4 a5 h5 a6 h6 a7 h7 a8 h8 hc0 hc1 hc2 hc3 hc4 x0 x1 x2 x3 x4 x5 old acc
      = k0_pay4 (k0_pay9 (addf acc (k0_pay1 x0 x1)) x2 x3 x4) x5 := by
  unfold out0_C_6
  rw [View.read_writes_eq_canon _ _ _ (by apply cover0_C_6)]
  unfold kernelRun0_C
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h5.read_unread,
    h7.read_unread, h8.read_unread, ld_all, shapeCast_self]

/-- and the weights' gradient. -/
theorem weights_C (hc0 : ¬cond0_0 i) (hc1 : cond0_1 i) (hc2 : cond0_2 i) (hc3 : ¬cond0_3 i) (hc4 : cond0_4 i) :
    out0_C_7 c i a0 h0 a1 h1 a2 h2 a3 h3 a4 h4 a5 h5 a6 h6 a7 h7 a8 h8 hc0 hc1 hc2 hc3 hc4 x0 x1 x2 x3 x4 x5 old acc = k0_pay8 (addf acc (k0_pay1 x0 x1)) x2 x3 old := by
  unfold out0_C_7
  rw [View.read_writes_eq_canon _ _ _ (by apply cover0_C_7)]
  unfold kernelRun0_C
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h5.read_unread,
    h7.read_unread, h8.read_unread, ld_all, shapeCast_self]

end Stores

/-! ## The blocks -/

theorem index_0 : ∀ t : Fin cfg0.N, win0_0.index t 0 = t.val / 2 ∧ win0_0.index t 1 = t.val % 2 := by decide +kernel
theorem index_1 : ∀ t : Fin cfg0.N, win0_1.index t 0 = 2 + t.val % 2 ∧ win0_1.index t 1 = 0 := by decide +kernel
theorem index_2 : ∀ t : Fin cfg0.N, win0_2.index t 0 = t.val / 2 ∧ win0_2.index t 1 = 0 := by decide +kernel
theorem index_3 : ∀ t : Fin cfg0.N, win0_3.index t 0 = t.val / 2 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = t.val / 2 ∧ win0_5.index t 1 = 0 := by decide +kernel

/-- Row `p` of block `b` of 512 rows. -/
def row (b : ℕ) (p : Fin 512) : Fin 8192 := ⟨512 * (b % 16) + p.val, by omega⟩
/-- Column `r` of block `n` of 1408 columns. -/
def col (n : ℕ) (r : Fin 1408) : Fin 2816 := ⟨1408 * (n % 2) + r.val, by omega⟩
/-- Row `r` of the second half of the weights. -/
def upRow (r : Fin 2816) : Fin 5632 := ⟨2816 + r.val, by omega⟩

theorem read_0 (A : FVec Ideal S8192x2816 .bf16) (t : Fin cfg0.N) (p : Fin 512) (r : Fin 1408) :
    ((cfg0.win 0).blk t).view.read (Elt Ideal) A (ix2 p r) = A (ix2 (row (t.val / 2) p) (col t.val r)) := by
  obtain ⟨h0, h1⟩ := index_0 t
  have hN : cfg0.N = 32 := N_0
  have := t.isLt
  rw [View.read_apply]
  exact at_ix2 A _ _ _ (by show win0_0.index t 0 * 512 + 1 * p.val = 512 * (t.val / 2 % 16) + p.val; rw [h0]; omega)
    (by show win0_0.index t 1 * 1408 + 1 * r.val = 1408 * (t.val % 2) + r.val; rw [h1]; omega)

theorem read_1 (A : FVec Ideal S5632x1024 .bf16) (t : Fin cfg0.N) (r : Fin 1408) (q : Fin 1024) :
    ((cfg0.win 1).blk t).view.read (Elt Ideal) A (ix2 r q) = A (ix2 (upRow (col t.val r)) q) := by
  obtain ⟨h0, h1⟩ := index_1 t
  have hN : cfg0.N = 32 := N_0
  have := t.isLt
  rw [View.read_apply]
  exact at_ix2 A _ _ _ (by show win0_1.index t 0 * 1408 + 1 * r.val = 2816 + (1408 * (t.val % 2) + r.val); rw [h0]; omega)
    (by show win0_1.index t 1 * 1024 + 1 * q.val = q.val; rw [h1]; omega)

theorem read_2 (A : FVec Ideal S8192x1024 .f32) (t : Fin cfg0.N) (p : Fin 512) (q : Fin 1024) :
    ((cfg0.win 2).blk t).view.read (Elt Ideal) A (ix2 p q) = A (ix2 (row (t.val / 2) p) q) := by
  obtain ⟨h0, h1⟩ := index_2 t
  have hN : cfg0.N = 32 := N_0
  have := t.isLt
  rw [View.read_apply]
  exact at_ix2 A _ _ _ (by show win0_2.index t 0 * 512 + 1 * p.val = 512 * (t.val / 2 % 16) + p.val; rw [h0]; omega)
    (by show win0_2.index t 1 * 1024 + 1 * q.val = q.val; rw [h1]; omega)

theorem read_3 (A : FVec Ideal S8192x1024 .f32) (t : Fin cfg0.N) (p : Fin 512) (q : Fin 1024) :
    ((cfg0.win 3).blk t).view.read (Elt Ideal) A (ix2 p q) = A (ix2 (row (t.val / 2) p) q) := by
  obtain ⟨h0, h1⟩ := index_3 t
  have hN : cfg0.N = 32 := N_0
  have := t.isLt
  rw [View.read_apply]
  exact at_ix2 A _ _ _ (by show win0_3.index t 0 * 512 + 1 * p.val = 512 * (t.val / 2 % 16) + p.val; rw [h0]; omega)
    (by show win0_3.index t 1 * 1024 + 1 * q.val = q.val; rw [h1]; omega)

theorem read_5 (A : FVec Ideal S8192x1024 .f32) (t : Fin cfg0.N) (p : Fin 512) (q : Fin 1024) :
    ((cfg0.win 5).blk t).view.read (Elt Ideal) A (ix2 p q) = A (ix2 (row (t.val / 2) p) q) := by
  obtain ⟨h0, h1⟩ := index_5 t
  have hN : cfg0.N = 32 := N_0
  have := t.isLt
  rw [View.read_apply]
  exact at_ix2 A _ _ _ (by show win0_5.index t 0 * 512 + 1 * p.val = 512 * (t.val / 2 % 16) + p.val; rw [h0]; omega)
    (by show win0_5.index t 1 * 1024 + 1 * q.val = q.val; rw [h1]; omega)

theorem read_4 (A : FVec Ideal S1x1024 .f32) (t : Fin cfg0.N) (z : Fin 1) (q : Fin 1024) :
    ((cfg0.win 4).blk t).view.read (Elt Ideal) A (ix2 z q) = A (ix2 z q) := by
  obtain ⟨h0, h1⟩ := index_4 t
  have hN : cfg0.N = 32 := N_0
  have := t.isLt
  rw [View.read_apply]
  exact at_ix2 A _ _ _ (by show win0_4.index t 0 * 1 + 1 * z.val = z.val; rw [h0]; omega)
    (by show win0_4.index t 1 * 1024 + 1 * q.val = q.val; rw [h1]; omega)

theorem pay1_apply (x : Vec Ideal S512x1408 .bf16) (y : Vec Ideal S1408x1024 .bf16) (p : Fin 512) (q : Fin 1024) :
    k0_pay1 x y (ix2 p q) = ∑ r, (x (ix2 p r) * y (ix2 r q) : EReal) := by
  pointwise [k0_pay1]

theorem pay6_apply (x : Vec Ideal S512x1024 .f32) (p : Fin 512) :
    k0_pay6 x (ix2 p 0) = rs fun q => x (ix2 p q) := by
  unfold rs meanSq
  pointwise [k0_pay6]

theorem pay7_apply (acc res x : Vec Ideal S512x1024 .f32) (q : Fin 1024) :
    k0_pay7 acc res x (ix2 0 q) = ∑ p, ((acc (ix2 p q) + res (ix2 p q)) * x (ix2 p q) * rs (fun q => x (ix2 p q)) : EReal) := by
  trans (∑ p, ((acc (ix2 p q) + res (ix2 p q)) * x (ix2 p q) * k0_pay6 x (ix2 p 0) : EReal))
  · pointwise [k0_pay7, k0_pay5]
  · exact Finset.sum_congr rfl fun p _ => by rw [pay6_apply]

theorem pay8_apply (acc res x : Vec Ideal S512x1024 .f32) (old : Vec Ideal S1x1024 .f32) (q : Fin 1024) :
    k0_pay8 acc res x old (ix2 0 q) = (old (ix2 0 q) + k0_pay7 acc res x (ix2 0 q) : EReal) := by
  pointwise [k0_pay8]

theorem pay4_apply (acc res x d : Vec Ideal S512x1024 .f32) (l : Vec Ideal S1x1024 .f32) (p : Fin 512) (q : Fin 1024) :
    k0_pay4 (k0_pay9 acc res x l) d (ix2 p q) = rowGrad (fun q => acc (ix2 p q) + res (ix2 p q)) (fun q => l (ix2 0 q))
      (fun q => x (ix2 p q)) (fun q => d (ix2 p q)) q := by
  unfold rowGrad
  rw [← pay6_apply]
  pointwise [k0_pay4, k0_pay9, k0_pay5]

variable (m : (ℓ : Loc nD τ sig) → Buf (Elt Ideal) ℓ) (ρ : Dev nD → PrngReg) (c : Dev nD)

/-- The arguments in memory. -/
abbrev du : FVec Ideal S8192x2816 .f32 := m ((c.tc : Thread nD τ).loc main_arg0)
abbrev w13 : FVec Ideal S5632x1024 .f32 := m ((c.tc : Thread nD τ).loc main_arg1)
abbrev dn : FVec Ideal S8192x1024 .f32 := m ((c.tc : Thread nD τ).loc main_arg2)
abbrev hin : FVec Ideal S8192x1024 .f32 := m ((c.tc : Thread nD τ).loc main_arg3)
abbrev ln : FVec Ideal S1024 .f32 := m ((c.tc : Thread nD τ).loc main_arg4)
abbrev dh : FVec Ideal S8192x1024 .f32 := m ((c.tc : Thread nD τ).loc main_arg5)

theorem V0 : V m c main_v0 = truncf .bf16 (du m c) bitsLt_bf16_f32 := by
  unfold V; after_reads_simp <;> rfl
theorem V1 : V m c main_v1 = truncf .bf16 (w13 m c) bitsLt_bf16_f32 := by
  unfold V; after_reads_simp <;> rfl
theorem V2 : V m c main_v2 = shapeCast S1x1024 (ln m c) shapeCasts_S1024_S1x1024 := by
  unfold V; after_reads_simp <;> rfl

theorem block_2 (t : Fin cfg0.N) (p : Fin 512) (q : Fin 1024) : iblk m c 2 t (ix2 p q) = dn m c (ix2 (row (t.val / 2) p) q) :=
  (read_2 (V m c main_arg2) t p q).trans (by rw [V_main_arg2])
theorem block_3 (t : Fin cfg0.N) (p : Fin 512) (q : Fin 1024) : iblk m c 3 t (ix2 p q) = hin m c (ix2 (row (t.val / 2) p) q) :=
  (read_3 (V m c main_arg3) t p q).trans (by rw [V_main_arg3])
theorem block_4 (t : Fin cfg0.N) (q : Fin 1024) : iblk m c 4 t (ix2 0 q) = ln m c (ix1 q) :=
  (read_4 (V m c main_v2) t 0 q).trans (by rw [V2]; pointwise [])
theorem block_5 (t : Fin cfg0.N) (p : Fin 512) (q : Fin 1024) : iblk m c 5 t (ix2 p q) = dh m c (ix2 (row (t.val / 2) p) q) :=
  (read_5 (V m c main_arg5) t p q).trans (by rw [V_main_arg5])

/-- The terms of an entry in block `b` of 512 rows of the product. -/
def term (A : FVec Ideal S8192x2816 .f32) (B : FVec Ideal S5632x1024 .f32) (p : Fin 512) (q : Fin 1024) (b : ℕ) (s : Fin 2816) : EReal :=
  A (ix2 (row b p) s) * B (ix2 (upRow s) q)

theorem chunk_eq (t : Fin cfg0.N) (p : Fin 512) (q : Fin 1024) :
    k0_pay1 (iblk m c 0 t) (iblk m c 1 t) (ix2 p q) = chunk 2 1408 (term (du m c) (w13 m c) p q) t.val := by
  refine (pay1_apply (iblk m c 0 t) (iblk m c 1 t) p q).trans (Finset.sum_congr rfl fun r _ => ?_)
  have e0 : iblk m c 0 t (ix2 p r) = V m c main_v0 (ix2 (row (t.val / 2) p) (col t.val r)) := read_0 (V m c main_v0) t p r
  have e1 : iblk m c 1 t (ix2 r q) = V m c main_v1 (ix2 (upRow (col t.val r)) q) := read_1 (V m c main_v1) t r q
  rw [e0, e1, V0, V1]
  rfl

/-- The whole product from what the point before left. -/
theorem acc_at (n : ℕ) (h : n + 1 < cfg0.N) (hn : n % 2 = 0) (p : Fin 512) (q : Fin 1024) :
    addf (outsAt0 m c n (by omega)).2.2 (k0_pay1 (iblk m c 0 ⟨n + 1, h⟩) (iblk m c 1 ⟨n + 1, h⟩)) (ix2 p q)
      = ∑ s, term (du m c) (w13 m c) p q (n / 2) s := by
  have e : (outsAt0 m c n (by omega)).2.2 (ix2 p q) = chunk 2 1408 (term (du m c) (w13 m c) p q) n := by
    rw [outsAt0_A m c ⟨n, by omega⟩ hn (by dsimp only; omega) (by dsimp only; omega)]
    dsimp only
    rw [first_acc]
    exact chunk_eq m c ⟨n, by omega⟩ p q
  show ((outsAt0 m c n (by omega)).2.2 (ix2 p q) + k0_pay1 (iblk m c 0 ⟨n + 1, h⟩) (iblk m c 1 ⟨n + 1, h⟩) (ix2 p q) : EReal) = _
  rw [e, chunk_eq]
  have := sum_sweep (N := n + 2) 2 1408 (fun k _ => if k % 2 = 0 then chunk 2 1408 (term (du m c) (w13 m c) p q) k
    else chunk 2 1408 (term (du m c) (w13 m c) p q) (k - 1) + chunk 2 1408 (term (du m c) (w13 m c) p q) k) (term (du m c) (w13 m c) p q)
    (fun k _ hk => if_pos hk) (fun k _ _ hk => by rw [if_neg hk, if_pos (by omega)]; rfl) (n + 1) (by omega) (by omega)
  rw [if_neg (by omega)] at this
  rw [show n / 2 = (n + 1) / 2 by omega]
  exact this

/-- The gradient of the normed rows. -/
def dNorm (A : FVec Ideal S8192x2816 .f32) (B : FVec Ideal S5632x1024 .f32) (R : FVec Ideal S8192x1024 .f32) (s : Fin 8192) (q : Fin 1024) : EReal :=
  (∑ n, A (ix2 s n) * B (ix2 (upRow n) q)) + R (ix2 s q)

/-- The gradient of the input. -/
def gradRows (A : FVec Ideal S8192x2816 .f32) (B : FVec Ideal S5632x1024 .f32) (R H : FVec Ideal S8192x1024 .f32) (l : FVec Ideal S1024 .f32)
    (D : FVec Ideal S8192x1024 .f32) : FVec Ideal S8192x1024 .f32 :=
  fun j => rowGrad (dNorm A B R (j 0)) (fun q => l (ix1 q)) (fun q => H (ix2 (j 0) q)) (fun q => D (ix2 (j 0) q)) (j 1)
/-- A row's share of the gradient of the norm's weights. -/
def share (A : FVec Ideal S8192x2816 .f32) (B : FVec Ideal S5632x1024 .f32) (R H : FVec Ideal S8192x1024 .f32) (q : Fin 1024) (s : Fin 8192) : EReal :=
  dNorm A B R s q * H (ix2 s q) * rs fun q => H (ix2 s q)
/-- The gradient of the norm's weights. -/
def gradWeights (A : FVec Ideal S8192x2816 .f32) (B : FVec Ideal S5632x1024 .f32) (R H : FVec Ideal S8192x1024 .f32) : FVec Ideal S1x1024 .f32 :=
  fun j => ∑ s, share A B R H (j 1) s

theorem val_at (n : ℕ) (h : n + 1 < cfg0.N) (hn : n % 2 = 0) (p : Fin 512) (q : Fin 1024) :
    (addf (outsAt0 m c n (by omega)).2.2 (k0_pay1 (iblk m c 0 ⟨n + 1, h⟩) (iblk m c 1 ⟨n + 1, h⟩)) (ix2 p q) + iblk m c 2 ⟨n + 1, h⟩ (ix2 p q) : EReal)
      = dNorm (du m c) (w13 m c) (dn m c) (row (n / 2) p) q := by
  rw [acc_at m c n h hn p q, block_2, show (n + 1) / 2 = n / 2 by omega]
  rfl

/-- The block of rows that the second point of a sweep stores. -/
theorem rows_at (n : ℕ) (h : n + 1 < cfg0.N) (hn : n % 2 = 0) (p : Fin 512) (q : Fin 1024) :
    (outsAt0 m c (n + 1) h).1 (ix2 p q)
      = gradRows (du m c) (w13 m c) (dn m c) (hin m c) (ln m c) (dh m c) (ix2 (row (n / 2) p) q) := by
  have key : k0_pay4 (k0_pay9 (addf (outsAt0 m c n (by omega)).2.2 (k0_pay1 (iblk m c 0 ⟨n + 1, h⟩) (iblk m c 1 ⟨n + 1, h⟩)))
      (iblk m c 2 ⟨n + 1, h⟩) (iblk m c 3 ⟨n + 1, h⟩) (iblk m c 4 ⟨n + 1, h⟩)) (iblk m c 5 ⟨n + 1, h⟩) (ix2 p q)
      = gradRows (du m c) (w13 m c) (dn m c) (hin m c) (ln m c) (dh m c) (ix2 (row (n / 2) p) q) := by
    refine (pay4_apply _ _ _ _ _ p q).trans ?_
    have hd : (n + 1) / 2 = n / 2 := by omega
    show rowGrad _ _ _ _ _ = rowGrad _ _ _ _ _
    congr 1
    · exact funext fun q => val_at m c n h hn p q
    · exact funext fun q => block_4 m c _ q
    · exact funext fun q => (block_3 m c _ p q).trans (by dsimp only; rw [hd]; rfl)
    · exact funext fun q => (block_5 m c _ p q).trans (by dsimp only; rw [hd]; rfl)
  by_cases h1 : n + 1 < 2
  · rw [outsAt0_B m c ⟨n + 1, h⟩ (by dsimp only; omega) (by dsimp only; omega) (by dsimp only; omega) h1 (by dsimp only; omega)]
    dsimp only
    rw [rows_B]
    exact key
  · rw [outsAt0_C m c ⟨n + 1, h⟩ (by dsimp only; omega) (by dsimp only; omega) (by dsimp only; omega) h1 (by dsimp only; omega)]
    dsimp only
    rw [rows_C]
    exact key

/-- A block's share of the gradient of the norm's weights. -/
theorem share_at (n : ℕ) (h : n + 1 < cfg0.N) (hn : n % 2 = 0) (q : Fin 1024) :
    k0_pay7 (addf (outsAt0 m c n (by omega)).2.2 (k0_pay1 (iblk m c 0 ⟨n + 1, h⟩) (iblk m c 1 ⟨n + 1, h⟩)))
      (iblk m c 2 ⟨n + 1, h⟩) (iblk m c 3 ⟨n + 1, h⟩) (ix2 0 q)
      = ∑ p : Fin 512, share (du m c) (w13 m c) (dn m c) (hin m c) q (row (n / 2) p) := by
  refine (pay7_apply _ _ _ q).trans (Finset.sum_congr rfl fun p _ => ?_)
  have hd : (n + 1) / 2 = n / 2 := by omega
  have hh : ∀ q, iblk m c 3 ⟨n + 1, h⟩ (ix2 p q) = hin m c (ix2 (row (n / 2) p) q) :=
    fun q => (block_3 m c _ p q).trans (by dsimp only; rw [hd])
  rw [val_at m c n h hn p q]
  unfold share
  simp only [hh]

/-- The weights' gradient after the blocks `0, …, k`. -/
theorem weights_at (q : Fin 1024) (k : ℕ) (h : 2 * k + 1 < cfg0.N) :
    (outsAt0 m c (2 * k + 1) h).2.1 (ix2 0 q)
      = ∑ b ∈ Finset.range (k + 1), ∑ p : Fin 512, share (du m c) (w13 m c) (dn m c) (hin m c) q (row b p) := by
  induction k with
  | zero =>
    rw [outsAt0_B m c ⟨2 * 0 + 1, h⟩ (by norm_num) (by norm_num) (by norm_num) (by norm_num) (by norm_num)]
    dsimp only
    rw [weights_B]
    refine (share_at m c 0 h (by decide) q).trans ?_
    simp
  | succ k ih =>
    rw [outsAt0_C m c ⟨2 * (k + 1) + 1, h⟩ (by dsimp only; omega) (by dsimp only; omega) (by dsimp only; omega) (by dsimp only; omega) (by dsimp only; omega)]
    dsimp only
    rw [weights_C]
    refine (pay8_apply _ _ _ _ q).trans ?_
    rw [Finset.sum_range_succ, ← ih (by omega)]
    congr 1
    · show (outsAt0 m c (2 * (k + 1)) _).2.1 (ix2 0 q) = _
      rw [outsAt0_A m c ⟨2 * (k + 1), by omega⟩ (by dsimp only; omega) (by dsimp only; omega) (by dsimp only; omega)]
      rfl
    · refine (share_at m c (2 * (k + 1)) h (by omega) q).trans ?_
      rw [show 2 * (k + 1) / 2 = k + 1 by omega]

theorem result_rows : Value.G6 m c = gradRows (du m c) (w13 m c) (dn m c) (hin m c) (ln m c) (dh m c) := by
  funext j
  obtain ⟨x, q, rfl⟩ : ∃ (x : Fin 8192) (q : Fin 1024), j = ix2 x q := ⟨_, _, eq_ix2 j⟩
  have hx := x.isLt
  have hq := q.isLt
  have hN : cfg0.N = 32 := N_0
  have hpt : Value.pt6Of (ix2 x q) = 2 * (x.val / 512) + 1 := by
    show 2 * (1 * (x.val / 512 - 0) + 1 * (q.val / 1024 - 0)) + 1 = _
    omega
  have hloc : Value.loc6Of (ix2 x q) = ix2 ⟨x.val % 512, Nat.mod_lt _ (by decide)⟩ q :=
    at_ix2 id _ _ _ rfl (Nat.mod_eq_of_lt hq)
  have hc : row (2 * (x.val / 512) / 2) ⟨x.val % 512, Nat.mod_lt _ (by decide)⟩ = x :=
    Fin.ext (by show 512 * (2 * (x.val / 512) / 2 % 16) + x.val % 512 = x.val; omega)
  unfold Value.G6
  rw [dif_pos (by rw [hpt, hN]; omega), ← Value.outsAt0_sweep m c _ (by rw [hpt, hN]; omega), hloc]
  simp only [hpt]
  refine (rows_at m c (2 * (x.val / 512)) (by rw [hN]; omega) (by omega) _ q).trans ?_
  rw [hc]

theorem result_weights : Value.G7 m c = gradWeights (du m c) (w13 m c) (dn m c) (hin m c) := by
  funext j
  obtain ⟨z, q, rfl⟩ : ∃ (z : Fin 1) (q : Fin 1024), j = ix2 z q := ⟨_, _, eq_ix2 j⟩
  obtain rfl : z = 0 := Subsingleton.elim _ _
  have hN : cfg0.N = 32 := N_0
  rw [Value.G7_last, ← Value.outsAt0_sweep]
  refine (weights_at m c q 15 (by omega)).trans ?_
  rw [Finset.sum_range]
  show _ = ∑ s : Fin (16 * 512), share (du m c) (w13 m c) (dn m c) (hin m c) q s
  rw [← sum_blocks 16 512]
  refine Finset.sum_congr rfl fun b _ => Finset.sum_congr rfl fun p _ => congrArg _ (Fin.ext ?_)
  show 512 * (b.val % 16) + p.val = 512 * b.val + p.val
  rw [Nat.mod_eq_of_lt b.isLt]

end Cert.Kernel5Ideal.Grad

namespace Cert.Reference5Ideal.Grad

open Idealize.ShloMosaic Idealize.ShloMosaic.TcCoe Idealize.ShloMosaic.Pointwise Idealize.SL.Sem Cert.Entry Cert.Accumulate Cert.Reference5Ideal
  Cert.Reference5Ideal.Gen
open Cert.Kernel5Ideal.Grad (width eps minusHalf meanSq rs rowGrad rowGrad_eq dNorm gradRows share gradWeights upRow)

variable (A : FVec Ideal S8192x2816 .f32) (B : FVec Ideal S5632x1024 .f32) (R H : FVec Ideal S8192x1024 .f32) (l : FVec Ideal S1024 .f32)
  (D : FVec Ideal S8192x1024 .f32)

/-- The gradient of the normed rows, -/
def rVal : FVec Ideal S8192x1024 .f32 :=
  addf R (Host.dotGeneral dot_S8192x2816_S1024x2816_S8192x1024_1_1_0_0_n_n none A (transpose S1024x2816 [1, 0]
    (extractStridedSlice S2816x1024 ![2816, 0] B slices_S5632x1024_S2816x1024_2816_0) transposes_S2816x1024_S1024x2816_1_0))
/-- the same times the norm's weights, -/
def rGy (v : FVec Ideal S8192x1024 .f32) : FVec Ideal S8192x1024 .f32 :=
  mulf v (broadcastInDim S8192x1024 ![0, 1] bcast_S1x1024_S8192x1024_0_1 (broadcastInDim S1x1024 ![1] bcast_S1024_S1x1024_1 l))
/-- the rows' mean squares and the constant, -/
def rMean : FVec Ideal S8192x1 .f32 :=
  addf (Host.divf (broadcastInDim S8192x1 ![0] bcast_S8192_S8192x1_0 (Host.reduceAdd (mulf H H) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
/-- and the derivative through the mean. -/
def rE (gy : FVec Ideal S8192x1024 .f32) (v : FVec Ideal S8192x1 .f32) : FVec Ideal S8192x1024 .f32 :=
  broadcastInDim S8192x1024 ![0] bcast_S8192_S8192x1024_0 (Host.reduceAdd (Host.divf (mulf (shapeCast S8192x1 (Host.reduceAdd (mulf H gy)
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt v) v)))
    (broadcastInDim S8192x1 ![] bcast_S_S8192x1 (constant S_ .f32 0x44800000#32))) (constant S_ .f32 0x00000000#32)
    reducesTo_S8192x1_S8192_d1 h_S_)

theorem rVal_apply (s : Fin 8192) (q : Fin 1024) : rVal A B R (ix2 s q) = dNorm A B R s q := by
  unfold dNorm
  rw [add_comm]
  pointwise [rVal, upRow]

theorem rGy_apply (v : FVec Ideal S8192x1024 .f32) (s : Fin 8192) (q : Fin 1024) : rGy l v (ix2 s q) = (v (ix2 s q) * l (ix1 q) : EReal) := by
  pointwise [rGy]

theorem rMean_apply (s : Fin 8192) : rMean H (ix2 s 0) = meanSq fun q => H (ix2 s q) := by
  unfold meanSq
  pointwise [rMean]

theorem rE_apply (gy : FVec Ideal S8192x1024 .f32) (v : FVec Ideal S8192x1 .f32) (s : Fin 8192) (q : Fin 1024) :
    rE H gy v (ix2 s q) = Ideal.div ((∑ q, (H (ix2 s q) * gy (ix2 s q) : EReal))
      * (minusHalf * Ideal.div (Ideal.rsqrt (v (ix2 s 0))) (v (ix2 s 0)))) width := by
  pointwise [rE]
  exact Fintype.sum_subsingleton _ 0

theorem value_rows :
    addf (addf (addf D (mulf (rGy l (rVal A B R)) (broadcastInDim S8192x1024 ![0, 1] bcast_S8192x1_S8192x1024_0_1 (Host.rsqrt (rMean H)))))
      (mulf H (rE H (rGy l (rVal A B R)) (rMean H)))) (mulf (rE H (rGy l (rVal A B R)) (rMean H)) H) = gradRows A B R H l D := by
  funext j
  obtain ⟨s, q, rfl⟩ : ∃ (s : Fin 8192) (q : Fin 1024), j = ix2 s q := ⟨_, _, eq_ix2 j⟩
  have hE := rE_apply H (rGy l (rVal A B R)) (rMean H) s q
  have hr : broadcastInDim S8192x1024 ![0, 1] bcast_S8192x1_S8192x1024_0_1 (Host.rsqrt (rMean H)) (ix2 s q) = rs fun q => H (ix2 s q) := by
    unfold rs
    rw [← rMean_apply]
    pointwise []
  simp only [rGy_apply, rVal_apply, rMean_apply] at hE
  show (D (ix2 s q) + rGy l (rVal A B R) (ix2 s q) * broadcastInDim S8192x1024 ![0, 1] bcast_S8192x1_S8192x1024_0_1 (Host.rsqrt (rMean H)) (ix2 s q)
    + H (ix2 s q) * rE H (rGy l (rVal A B R)) (rMean H) (ix2 s q) + rE H (rGy l (rVal A B R)) (rMean H) (ix2 s q) * H (ix2 s q) : EReal) = _
  rw [hr, rGy_apply, rVal_apply]
  exact rowGrad_eq (dNorm A B R s) (fun q => l (ix1 q)) (fun q => H (ix2 s q)) (fun q => D (ix2 s q)) q _ hE

theorem value_weights :
    shapeCast S1x1024 (Host.reduceAdd (shapeCast S1x1024 (Host.reduceAdd (mulf (mulf H (broadcastInDim S8192x1024 ![0, 1]
      bcast_S8192x1_S8192x1024_0_1 (Host.rsqrt (rMean H)))) (rVal A B R)) (constant S_ .f32 0x00000000#32) reducesTo_S8192x1024_S1024_d0 h_S_)
      shapeCasts_S1024_S1x1024) (constant S_ .f32 0x00000000#32) reducesTo_S1x1024_S1024_d0 h_S_) shapeCasts_S1024_S1x1024
      = gradWeights A B R H := by
  funext j
  obtain ⟨z, q, rfl⟩ : ∃ (z : Fin 1) (q : Fin 1024), j = ix2 z q := ⟨_, _, eq_ix2 j⟩
  trans (∑ s : Fin 8192, (H (ix2 s q) * Ideal.rsqrt (rMean H (ix2 s 0)) * rVal A B R (ix2 s q) : EReal))
  · pointwise []
    exact Fintype.sum_subsingleton _ 0
  · refine Finset.sum_congr rfl fun s _ => ?_
    rw [rVal_apply, rMean_apply, mul_comm]
    exact (mul_assoc _ _ _).symm

end Cert.Reference5Ideal.Grad

namespace Cert.Kernel5Ideal.Grad

open Idealize.ShloMosaic Idealize.SL.Sem Cert.Entry

theorem algebraic : Cert.algebraic_Kernel5Ideal_Reference5Ideal := by
  intro m g m' g' _ hargs
  refine ⟨fun c => gradRows (du m c) (w13 m c) (dn m c) (hin m c) (ln m c) (dh m c),
    fun c => gradWeights (du m c) (w13 m c) (dn m c) (hin m c),
    (θ_run defs _ _).mono (fun r h c => ?_) (Value.run (F := Ideal) m g),
    (θ_run Cert.Reference5Ideal.defs _ _).mono (fun r h c => ?_) (Cert.Reference5Ideal.Value.run (F := Ideal) m' g')⟩
  · exact ⟨(h c).1.trans (result_rows m c), (h c).2.1.trans (result_weights m c), (h c).2.2⟩
  · obtain ⟨e0, e1, e2, e3, e4, e5⟩ := hargs c
    refine ⟨(h c).1.trans ?_, (h c).2.1.trans ?_, (h c).2.2⟩
    · unfold Cert.Reference5Ideal.Value.res_main_v41
      rw [e0, e1, e2, e3, e4, e5]
      exact Cert.Reference5Ideal.Grad.value_rows _ _ _ _ _ _
    · rw [e0, e1, e2, e3]
      exact Cert.Reference5Ideal.Grad.value_weights _ _ _ _

end Cert.Kernel5Ideal.Grad

end
-- ==== Proof.UpWeight.lean ====
/-
  The weight gradient of the FFN's first product, one half of its columns: the transposed gradient of
  the gate (or of the up rows) times the normed rows, summed by an accumulator over eight blocks of rows.
-/
module

public import proofs.«01_k».proof.Proof.DownWeight
public import proofs.«01_k».proof.Proof.Gen.Kernel6Ideal.Value
public import proofs.«01_k».proof.Proof.Gen.Reference6Ideal.Run

@[expose] public section

set_option maxRecDepth 16384

noncomputable section

namespace Cert.Kernel6Ideal.Grad

open Idealize.ShloMosaic Idealize.ShloMosaic.TcCoe Idealize.ShloMosaic.Pointwise Idealize.SL.Sem Cert.Entry Cert.Accumulate Cert.Kernel6Ideal
  Cert.Kernel6Ideal.Gen
open Cert.Kernel3Ideal.Grad (row col)

section Stores

variable {F : FTy → Type} [FloatOps F] (c : Dev nD) (i : grid0.Coords)
  (a0 : Memref sig .tc .vmem S1024x1408 .bf16) (h0 : a0.IsWhole) (a1 : Memref sig .tc .vmem S1024x1024 .bf16) (h1 : a1.IsWhole)
  (a2 : Memref sig .tc .vmem S1408x1024 .bf16) (h2 : a2.IsWhole) (a3 : Memref sig .tc .vmem S1408x1024 .f32) (h3 : a3.IsWhole)
  (x : Vec F S1024x1408 .bf16) (y : Vec F S1024x1024 .bf16) (acc : Vec F S1408x1024 .f32)

/-- The first block of rows sets the accumulator. -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all,
    shapeCast_self]

/-- Each later one adds to it. -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all, shapeCast_self]

/-- The last stores the sum. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S1408x1024) _ zeros]
  unfold k0_pay3
  simp only [View.readAt_eq_ld, h0.read_unread, h1.read_unread, h3.read_unread, ld_all, shapeCast_self]

end Stores

/-! ## The blocks -/

theorem index_0 : ∀ t : Fin cfg0.N, win0_0.index t 0 = t.val % 8 ∧ win0_0.index t 1 = t.val / 8 := by decide +kernel
theorem index_1 : ∀ t : Fin cfg0.N, win0_1.index t 0 = t.val % 8 ∧ win0_1.index t 1 = 0 := by decide +kernel

theorem read_0 (A : FVec Ideal S8192x2816 .bf16) (t : Fin cfg0.N) (r : Fin 1024) (p : Fin 1408) :
    ((cfg0.win 0).blk t).view.read (Elt Ideal) A (ix2 r p) = A (ix2 (row t.val r) (col (t.val / 8) p)) := by
  obtain ⟨h0, h1⟩ := index_0 t
  have hN : cfg0.N = 16 := N_0
  have := t.isLt
  rw [View.read_apply]
  exact at_ix2 A _ _ _ (by show win0_0.index t 0 * 1024 + 1 * r.val = 1024 * (t.val % 8) + r.val; rw [h0]; omega)
    (by show win0_0.index t 1 * 1408 + 1 * p.val = 1408 * (t.val / 8 % 2) + p.val; rw [h1]; omega)

theorem read_1 (A : FVec Ideal S8192x1024 .bf16) (t : Fin cfg0.N) (r : Fin 1024) (q : Fin 1024) :
    ((cfg0.win 1).blk t).view.read (Elt Ideal) A (ix2 r q) = A (ix2 (row t.val r) q) := by
  obtain ⟨h0, h1⟩ := index_1 t
  rw [View.read_apply]
  exact at_ix2 A _ _ _ (by show win0_1.index t 0 * 1024 + 1 * r.val = 1024 * (t.val % 8) + r.val; rw [h0]; omega)
    (by show win0_1.index t 1 * 1024 + 1 * q.val = q.val; rw [h1]; omega)

theorem pay1_apply (x : Vec Ideal S1024x1408 .bf16) (y : Vec Ideal S1024x1024 .bf16) (p : Fin 1408) (q : Fin 1024) :
    k0_pay1 x y (ix2 p q) = ∑ r, (x (ix2 r p) * y (ix2 r q) : EReal) := by
  pointwise [k0_pay1]

theorem pay4_apply (x : Vec Ideal S1408x1024 .f32) (j : S1408x1024.Idx) : k0_pay4 x j = (x j : EReal) := by
  pointwise [k0_pay4]

variable (m : (ℓ : Loc nD τ sig) → Buf (Elt Ideal) ℓ) (ρ : Dev nD → PrngReg) (c : Dev nD)

/-- The gradient of the gate and the normed rows in memory. -/
abbrev dg : FVec Ideal S8192x2816 .f32 := m ((c.tc : Thread nD τ).loc main_arg0)
abbrev nr : FVec Ideal S8192x1024 .f32 := m ((c.tc : Thread nD τ).loc main_arg1)

theorem V0 : V m c main_v0 = truncf .bf16 (dg m c) bitsLt_bf16_f32 := by
  unfold V; after_reads_simp <;> rfl
theorem V1 : V m c main_v1 = truncf .bf16 (nr m c) bitsLt_bf16_f32 := by
  unfold V; after_reads_simp <;> rfl

/-- The terms of an entry in block `b` of 1408 rows of the product. -/
def term (A : FVec Ideal S8192x2816 .f32) (B : FVec Ideal S8192x1024 .f32) (p : Fin 1408) (q : Fin 1024) (b : ℕ) (s : Fin 8192) : EReal :=
  A (ix2 s (col b p)) * B (ix2 s q)

theorem chunk_eq (t : Fin cfg0.N) (p : Fin 1408) (q : Fin 1024) :
    k0_pay1 (iblk m c 0 t) (iblk m c 1 t) (ix2 p q) = chunk 8 1024 (term (dg m c) (nr m c) p q) t.val := by
  refine (pay1_apply (iblk m c 0 t) (iblk m c 1 t) p q).trans (Finset.sum_congr rfl fun r _ => ?_)
  have e0 : iblk m c 0 t (ix2 r p) = V m c main_v0 (ix2 (row t.val r) (col (t.val / 8) p)) := read_0 (V m c main_v0) t r p
  have e1 : iblk m c 1 t (ix2 r q) = V m c main_v1 (ix2 (row t.val r) q) := read_1 (V m c main_v1) t r q
  rw [e0, e1, V0, V1]
  rfl

/-- The block that the last point of a sweep stores. -/
theorem out_at (p : Fin 1408) (q : Fin 1024) (n : ℕ) (h : n < cfg0.N) (hn : n % 8 + 1 = 8) :
    (outsAt0 m c n h).1 (ix2 p q) = ∑ s, term (dg m c) (nr m c) p q (n / 8) s := by
  have hs := sum_sweep 8 1024 (fun n h => (if n % 8 = 7 then (outsAt0 m c n h).1 (ix2 p q) else (outsAt0 m c n h).2 (ix2 p q) : EReal))
    (term (dg m c) (nr m c) p q) ?_ ?_ n h hn
  · simpa only [if_pos (show n % 8 = 7 by omega)] using hs
  · intro n h hn
    rw [if_neg (by omega), outsAt0_A m c ⟨n, h⟩ hn (by dsimp only; omega) (by dsimp only; omega)]
    dsimp only
    rw [first_acc]
    exact chunk_eq m c ⟨n, h⟩ p q
  · intro n h h' hn
    have e := congrArg (fun z : EReal => ((outsAt0 m c n h).2 (ix2 p q) : EReal) + z) (chunk_eq m c ⟨n + 1, h'⟩ p q)
    rw [if_neg (show ¬n % 8 = 7 by omega)]
    split
    · rw [outsAt0_C m c ⟨n + 1, h'⟩ hn (by dsimp only; omega) ‹_›]
      dsimp only
      rw [last_out, pay4_apply]
      exact e
    · rw [outsAt0_B m c ⟨n + 1, h'⟩ hn (by dsimp only; omega) ‹_›]
      dsimp only
      rw [next_acc]
      exact e

/-- The gradient of the weights. -/
def grad (A : FVec Ideal S8192x2816 .f32) (B : FVec Ideal S8192x1024 .f32) : FVec Ideal S2816x1024 .bf16 :=
  fun j => ∑ s : Fin 8192, (A (ix2 s (j 0)) * B (ix2 s (j 1)) : EReal)

theorem result : Value.G2 m c = grad (dg m c) (nr m c) := by
  funext j
  obtain ⟨x, q, rfl⟩ : ∃ (x : Fin 2816) (q : Fin 1024), j = ix2 x q := ⟨_, _, eq_ix2 j⟩
  have hx := x.isLt
  have hq := q.isLt
  have hN : cfg0.N = 16 := N_0
  have hpt : Value.pt2Of (ix2 x q) = 8 * (x.val / 1408) + 7 := by
    show 8 * (1 * (x.val / 1408 - 0) + 1 * (q.val / 1024 - 0)) + 7 = _
    omega
  have hloc : Value.loc2Of (ix2 x q) = ix2 ⟨x.val % 1408, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  refine Finset.sum_congr rfl fun s _ => ?_
  have hc : col (Value.pt2Of (ix2 x q) / 8) ⟨x.val % 1408, Nat.mod_lt _ (by decide)⟩ = x :=
    Fin.ext (by show 1408 * (Value.pt2Of (ix2 x q) / 8 % 2) + x.val % 1408 = x.val; rw [hpt]; omega)
  unfold term
  rw [hc]
  rfl

end Cert.Kernel6Ideal.Grad

namespace Cert.Reference6Ideal.Grad

open Idealize.ShloMosaic Idealize.ShloMosaic.TcCoe Idealize.ShloMosaic.Pointwise Idealize.SL.Sem Cert.Entry Cert.Accumulate Cert.Reference6Ideal
  Cert.Reference6Ideal.Gen

/-- The gradient of `w ↦ B·wᵀ`. -/
theorem value (A : FVec Ideal S8192x2816 .f32) (B : FVec Ideal S8192x1024 .f32) :
    truncf .bf16 (transpose S2816x1024 [1, 0] (transpose S1024x2816 [1, 0]
      (Host.dotGeneral dot_S8192x2816_S8192x1024_S2816x1024_0_0_1_1_n_n none A B) transposes_S2816x1024_S1024x2816_1_0)
      transposes_S1024x2816_S2816x1024_1_0) bitsLt_bf16_f32 = Cert.Kernel6Ideal.Grad.grad A B := by
  funext j
  obtain ⟨x, q, rfl⟩ : ∃ (x : Fin 2816) (q : Fin 1024), j = ix2 x q := ⟨_, _, eq_ix2 j⟩
  show _ = ∑ s : Fin 8192, (A (ix2 s x) * B (ix2 s q) : EReal)
  pointwise []

end Cert.Reference6Ideal.Grad

namespace Cert.Kernel6Ideal.Grad

open Idealize.ShloMosaic Idealize.SL.Sem Cert.Entry

theorem algebraic : Cert.algebraic_Kernel6Ideal_Reference6Ideal := by
  intro m g m' g' _ hargs
  refine ⟨fun c => grad (dg m c) (nr m c), (θ_run defs _ _).mono (fun r h c => ?_) (Value.run (F := Ideal) m g),
    (θ_run Cert.Reference6Ideal.defs _ _).mono (fun r h c => ?_) (Cert.Reference6Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference6Ideal.Grad.value _ _

end Cert.Kernel6Ideal.Grad

end
-- ==== Proof.MergeGrad.lean ====
/-
  What the attention block's output passes back to the two mixers and their gates, in blocks of 512 rows: the
  rows' gradient times the transposed output weights, through the derivative of the gated sum.
-/
module

public import proofs.«01_k».proof.Proof.NormGrad
public import proofs.«01_k».proof.Proof.Swiglu
public import proofs.«01_k».proof.Proof.Gen.Kernel7Ideal.Value
public import proofs.«01_k».proof.Proof.Gen.Reference7Ideal.Run

@[expose] public section

set_option maxRecDepth 16384

noncomputable section

namespace Cert.Kernel7Ideal.Grad

open Idealize.ShloMosaic Idealize.ShloMosaic.TcCoe Idealize.ShloMosaic.Pointwise Idealize.SL.Sem Cert.Entry Cert.Accumulate Cert.Kernel7Ideal
  Cert.Kernel7Ideal.Gen
open Cert.Kernel5Ideal.Grad (row)
open Cert.Kernel2Ideal.Grad (ofBits_one)

section Stores

variable {F : FTy → Type} [FloatOps F] (c : Dev nD) (i : grid0.Coords)
  (a0 : Memref sig .tc .vmem S512x1024 .f32) (h0 : a0.IsWhole) (a1 : Memref sig .tc .vmem S1024x1024 .bf16) (h1 : a1.IsWhole)
  (a2 : Memref sig .tc .vmem S512x2048 .f32) (h2 : a2.IsWhole) (a3 : Memref sig .tc .vmem S512x1024 .f32) (h3 : a3.IsWhole)
  (a4 : Memref sig .tc .vmem S512x1024 .f32) (h4 : a4.IsWhole) (a5 : Memref sig .tc .vmem S512x2048 .bf16) (h5 : a5.IsWhole)
  (a6 : Memref sig .tc .vmem S512x1024 .bf16) (h6 : a6.IsWhole) (a7 : Memref sig .tc .vmem S512x1024 .bf16) (h7 : a7.IsWhole)
  (x0 : Vec F S512x1024 .f32) (x1 : Vec F S1024x1024 .bf16) (x2 : Vec F S512x2048 .f32) (x3 x4 : Vec F S512x1024 .f32)

theorem stored_5 : out0_A_5 c i a0 h0 a1 h1 a2 h2 a3 h3 a4 h4 a5 h5 a6 h6 a7 h7 x0 x1 x2 x3 x4 = k0_pay5 x0 x1 x2 x3 x4 := by
  unfold out0_A_5
  rw [View.read_writes_eq_canon _ _ _ (by apply cover0_A_5)]
  unfold kernelRun0_A
  dsimp only
  sl_unfold_words
  rw [View.canon_unit_zero zeros]
  simp only [View.readAt_eq_ld, h0.read_unread, h1.read_unread, h2.read_unread, h3.read_unread, h4.read_unread, ld_all]

theorem stored_6 : out0_A_6 c i a0 h0 a1 h1 a2 h2 a3 h3 a4 h4 a5 h5 a6 h6 a7 h7 x0 x1 x2 x3 x4 = k0_pay6 x0 x1 x2 := by
  unfold out0_A_6
  rw [View.read_writes_eq_canon _ _ _ (by apply cover0_A_6)]
  unfold kernelRun0_A
  dsimp only
  sl_unfold_words
  rw [View.canon_unit_zero zeros]
  simp only [View.readAt_eq_ld, h0.read_unread, h1.read_unread, h2.read_unread, ld_all]

theorem stored_7 : out0_A_7 c i a0 h0 a1 h1 a2 h2 a3 h3 a4 h4 a5 h5 a6 h6 a7 h7 x0 x1 x2 x3 x4 = k0_pay7 x0 x1 x2 := by
  unfold out0_A_7
  rw [View.read_writes_eq_canon _ _ _ (by apply cover0_A_7)]
  unfold kernelRun0_A
  dsimp only
  sl_unfold_words
  rw [View.canon_unit_zero zeros]
  simp only [View.readAt_eq_ld, h0.read_unread, h1.read_unread, h2.read_unread, ld_all]

end Stores

/-! ## The blocks -/

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 1 := by decide +kernel
theorem index_3 : ∀ t : Fin cfg0.N, win0_3.index t 0 = t.val ∧ win0_3.index t 1 = 0 := by decide +kernel
theorem index_4 : ∀ t : Fin cfg0.N, win0_4.index t 0 = t.val ∧ win0_4.index t 1 = 0 := by decide +kernel
theorem index_5 : ∀ t : Fin cfg0.N, win0_5.index t 0 = t.val ∧ win0_5.index t 1 = 0 := by decide +kernel
theorem index_6 : ∀ t : Fin cfg0.N, win0_6.index t 0 = t.val ∧ win0_6.index t 1 = 0 := by decide +kernel
theorem index_7 : ∀ t : Fin cfg0.N, win0_7.index t 0 = t.val ∧ win0_7.index t 1 = 0 := by decide +kernel

/-- A column of the gates, in the two halves and among the projected columns. -/
def lo (f : Fin 1024) : Fin 2048 := ⟨f.val, by omega⟩
def hi (f : Fin 1024) : Fin 2048 := ⟨1024 + f.val, by omega⟩
def gcol (f : Fin 2048) : Fin 8064 := ⟨2048 + f.val, by omega⟩

theorem hi_not_lt (k : Fin 1024) : ¬(hi k).val < 1024 := by show ¬(1024 + k.val < 1024); omega
theorem hi_sub (k : Fin 1024) (h : (hi k).val - 1024 < 1024) : (⟨(hi k).val - 1024, h⟩ : Fin 1024) = k :=
  Fin.ext (by show 1024 + k.val - 1024 = k.val; omega)

theorem column (f : Fin 2048) : (∃ k, f = lo k) ∨ ∃ k, f = hi k := by
  by_cases h : f.val < 1024
  · exact .inl ⟨⟨f.val, h⟩, rfl⟩
  · exact .inr ⟨⟨f.val - 1024, by omega⟩, Fin.ext (by show f.val = 1024 + (f.val - 1024); omega)⟩

theorem read_0 (A : FVec Ideal S8192x1024 .f32) (t : Fin cfg0.N) (p : Fin 512) (q : Fin 1024) :
    ((cfg0.win 0).blk t).view.read (Elt Ideal) A (ix2 p q) = A (ix2 (row t.val p) q) := by
  obtain ⟨h0, h1⟩ := index_0 t
  have hN : cfg0.N = 16 := N_0
  have := t.isLt
  rw [View.read_apply]
  exact at_ix2 A _ _ _ (by show win0_0.index t 0 * 512 + 1 * p.val = 512 * (t.val % 16) + p.val; rw [h0]; omega)
    (by show win0_0.index t 1 * 1024 + 1 * q.val = q.val; rw [h1]; omega)

theorem read_1 (A : FVec Ideal S1024x1024 .bf16) (t : Fin cfg0.N) (k q : Fin 1024) :
    ((cfg0.win 1).blk t).view.read (Elt Ideal) A (ix2 k q) = A (ix2 k q) := by
  obtain ⟨h0, h1⟩ := index_1 t
  rw [View.read_apply]
  exact at_ix2 A _ _ _ (by show win0_1.index t 0 * 1024 + 1 * k.val = k.val; rw [h0]; omega)
    (by show win0_1.index t 1 * 1024 + 1 * q.val = q.val; rw [h1]; omega)

theorem read_3 (A : FVec Ideal S8192x1024 .f32) (t : Fin cfg0.N) (p : Fin 512) (q : Fin 1024) :
    ((cfg0.win 3).blk t).view.read (Elt Ideal) A (ix2 p q) = A (ix2 (row t.val p) q) := by
  obtain ⟨h0, h1⟩ := index_3 t
  have hN : cfg0.N = 16 := N_0
  have := t.isLt
  rw [View.read_apply]
  exact at_ix2 A _ _ _ (by show win0_3.index t 0 * 512 + 1 * p.val = 512 * (t.val % 16) + p.val; rw [h0]; omega)
    (by show win0_3.index t 1 * 1024 + 1 * q.val = q.val; rw [h1]; omega)

theorem read_4 (A : FVec Ideal S8192x1024 .f32) (t : Fin cfg0.N) (p : Fin 512) (q : Fin 1024) :
    ((cfg0.win 4).blk t).view.read (Elt Ideal) A (ix2 p q) = A (ix2 (row t.val p) q) := by
  obtain ⟨h0, h1⟩ := index_4 t
  have hN : cfg0.N = 16 := N_0
  have := t.isLt
  rw [View.read_apply]
  exact at_ix2 A _ _ _ (by show win0_4.index t 0 * 512 + 1 * p.val = 512 * (t.val % 16) + p.val; rw [h0]; omega)
    (by show win0_4.index t 1 * 1024 + 1 * q.val = q.val; rw [h1]; omega)

theorem read_5 (A : FVec Ideal S8192x2048 .bf16) (t : Fin cfg0.N) (p : Fin 512) (f : Fin 2048) :
    ((cfg0.win 5).blk t).view.read (Elt Ideal) A (ix2 p f) = A (ix2 (row t.val p) f) := by
  obtain ⟨h0, h1⟩ := index_5 t
  have hN : cfg0.N = 16 := N_0
  have := t.isLt
  rw [View.read_apply]
  exact at_ix2 A _ _ _ (by show win0_5.index t 0 * 512 + 1 * p.val = 512 * (t.val % 16) + p.val; rw [h0]; omega)
    (by show win0_5.index t 1 * 2048 + 1 * f.val = f.val; rw [h1]; omega)

theorem read_6 (A : FVec Ideal S8192x1024 .bf16) (t : Fin cfg0.N) (p : Fin 512) (q : Fin 1024) :
    ((cfg0.win 6).blk t).view.read (Elt Ideal) A (ix2 p q) = A (ix2 (row t.val p) q) := by
  obtain ⟨h0, h1⟩ := index_6 t
  have hN : cfg0.N = 16 := N_0
  have := t.isLt
  rw [View.read_apply]
  exact at_ix2 A _ _ _ (by show win0_6.index t 0 * 512 + 1 * p.val = 512 * (t.val % 16) + p.val; rw [h0]; omega)
    (by show win0_6.index t 1 * 1024 + 1 * q.val = q.val; rw [h1]; omega)

theorem read_7 (A : FVec Ideal S8192x1024 .bf16) (t : Fin cfg0.N) (p : Fin 512) (q : Fin 1024) :
    ((cfg0.win 7).blk t).view.read (Elt Ideal) A (ix2 p q) = A (ix2 (row t.val p) q) := by
  obtain ⟨h0, h1⟩ := index_7 t
  have hN : cfg0.N = 16 := N_0
  have := t.isLt
  rw [View.read_apply]
  exact at_ix2 A _ _ _ (by show win0_7.index t 0 * 512 + 1 * p.val = 512 * (t.val % 16) + p.val; rw [h0]; omega)
    (by show win0_7.index t 1 * 1024 + 1 * q.val = q.val; rw [h1]; omega)

variable (m : (ℓ : Loc nD τ sig) → Buf (Elt Ideal) ℓ) (ρ : Dev nD → PrngReg) (c : Dev nD)

/-- The arguments in memory. -/
abbrev dh : FVec Ideal S8192x1024 .f32 := m ((c.tc : Thread nD τ).loc main_arg0)
abbrev wo : FVec Ideal S1024x1024 .f32 := m ((c.tc : Thread nD τ).loc main_arg1)
abbrev proj : FVec Ideal S8192x8064 .f32 := m ((c.tc : Thread nD τ).loc main_arg2)
abbrev ySsd : FVec Ideal S8192x1024 .f32 := m ((c.tc : Thread nD τ).loc main_arg3)
abbrev yMla : FVec Ideal S8192x1024 .f32 := m ((c.tc : Thread nD τ).loc main_arg4)

theorem V0 : V m c main_v0 = truncf .bf16 (wo m c) bitsLt_bf16_f32 := by
  unfold V; after_reads_simp <;> rfl

theorem block_0 (t : Fin cfg0.N) (p : Fin 512) (q : Fin 1024) : iblk m c 0 t (ix2 p q) = dh m c (ix2 (row t.val p) q) :=
  (read_0 (V m c main_arg0) t p q).trans (by rw [V_main_arg0])
theorem block_1 (t : Fin cfg0.N) (k q : Fin 1024) : iblk m c 1 t (ix2 k q) = wo m c (ix2 k q) :=
  (read_1 (V m c main_v0) t k q).trans (by rw [V0]; rfl)
theorem block_2 (t : Fin cfg0.N) (p : Fin 512) (f : Fin 2048) : X0_2 m c t (ix2 p f) = proj m c (ix2 (row t.val p) (gcol f)) := by
  obtain ⟨h0, h1⟩ := index_2 t
  have hN : cfg0.N = 16 := N_0
  have := t.isLt
  unfold X0_2 Pipeline.Window.fill
  rw [dif_pos (moved0_2 t (ix2 p f))]
  unfold iblk
  rw [View.read_apply]
  show V m c main_arg2 _ = _
  rw [V_main_arg2]
  show proj m c _ = proj m c _
  congr 1
  funext a
  apply Fin.ext
  match a with
  | ⟨0, _⟩ => show win0_2.index t 0 * 512 + 1 * p.val = 512 * (t.val % 16) + p.val; rw [h0]; omega
  | ⟨1, _⟩ => show win0_2.index t 1 * 2048 + 1 * f.val = 2048 + f.val; rw [h1]; omega
theorem block_3 (t : Fin cfg0.N) (p : Fin 512) (q : Fin 1024) : iblk m c 3 t (ix2 p q) = ySsd m c (ix2 (row t.val p) q) :=
  (read_3 (V m c main_arg3) t p q).trans (by rw [V_main_arg3])
theorem block_4 (t : Fin cfg0.N) (p : Fin 512) (q : Fin 1024) : iblk m c 4 t (ix2 p q) = yMla m c (ix2 (row t.val p) q) :=
  (read_4 (V m c main_arg4) t p q).trans (by rw [V_main_arg4])

/-! ## The derivative -/

/-- A gate's entry, from the gradient `d` of the gated sum, the mixer's output `y` and the gate's value `g`. -/
def dGate (d y g : EReal) : EReal := d * y * Ideal.logistic g * (1 - Ideal.logistic g)

theorem pay1_apply (x : Vec Ideal S512x1024 .f32) (w : Vec Ideal S1024x1024 .bf16) (p : Fin 512) (k : Fin 1024) :
    k0_pay1 x w (ix2 p k) = (∑ q, x (ix2 p q) * w (ix2 k q) : EReal) := by
  pointwise [k0_pay1]
theorem pay3_apply (g : Vec Ideal S512x2048 .f32) (p : Fin 512) (k : Fin 1024) : k0_pay3 g (ix2 p k) = Ideal.logistic (g (ix2 p (lo k))) := by
  pointwise [k0_pay3, k0_pay2]
  rfl
theorem pay4_apply (g : Vec Ideal S512x2048 .f32) (p : Fin 512) (k : Fin 1024) : k0_pay4 g (ix2 p k) = Ideal.logistic (g (ix2 p (hi k))) := by
  pointwise [k0_pay4, k0_pay2]
  rfl

theorem pay5_lo (x : Vec Ideal S512x1024 .f32) (w : Vec Ideal S1024x1024 .bf16) (g : Vec Ideal S512x2048 .f32) (ys ym : Vec Ideal S512x1024 .f32)
    (p : Fin 512) (k : Fin 1024) :
    k0_pay5 x w g ys ym (ix2 p (lo k)) = dGate (∑ q, x (ix2 p q) * w (ix2 k q) : EReal) (ys (ix2 p k)) (g (ix2 p (lo k))) := by
  unfold dGate
  rw [← pay1_apply, ← pay3_apply, ← ofBits_one]
  pointwise [k0_pay5]
  rw [dif_pos (show (lo k).val < 1024 from k.isLt)]
  rfl

theorem pay5_hi (x : Vec Ideal S512x1024 .f32) (w : Vec Ideal S1024x1024 .bf16) (g : Vec Ideal S512x2048 .f32) (ys ym : Vec Ideal S512x1024 .f32)
    (p : Fin 512) (k : Fin 1024) :
    k0_pay5 x w g ys ym (ix2 p (hi k)) = dGate (∑ q, x (ix2 p q) * w (ix2 k q) : EReal) (ym (ix2 p k)) (g (ix2 p (hi k))) := by
  unfold dGate
  rw [← pay1_apply, ← pay4_apply, ← ofBits_one]
  pointwise [k0_pay5]
  rw [dif_neg (hi_not_lt k)]
  rw [hi_sub]

theorem pay6_apply (x : Vec Ideal S512x1024 .f32) (w : Vec Ideal S1024x1024 .bf16) (g : Vec Ideal S512x2048 .f32) (p : Fin 512) (k : Fin 1024) :
    k0_pay6 x w g (ix2 p k) = (∑ q, x (ix2 p q) * w (ix2 k q) : EReal) * Ideal.logistic (g (ix2 p (lo k))) := by
  rw [← pay1_apply, ← pay3_apply]
  pointwise [k0_pay6]

theorem pay7_apply (x : Vec Ideal S512x1024 .f32) (w : Vec Ideal S1024x1024 .bf16) (g : Vec Ideal S512x2048 .f32) (p : Fin 512) (k : Fin 1024) :
    k0_pay7 x w g (ix2 p k) = (∑ q, x (ix2 p q) * w (ix2 k q) : EReal) * Ideal.logistic (g (ix2 p (hi k))) := by
  rw [← pay1_apply, ← pay4_apply]
  pointwise [k0_pay7]

/-- The gated sum's gradient, and the three it gives: of the gates and of the two mixers' outputs. -/
def mix (x : FVec Ideal S8192x1024 .f32) (w : FVec Ideal S1024x1024 .f32) (s : Fin 8192) (k : Fin 1024) : EReal :=
  ∑ q, x (ix2 s q) * w (ix2 k q)
def gradGates (x : FVec Ideal S8192x1024 .f32) (w : FVec Ideal S1024x1024 .f32) (g : FVec Ideal S8192x8064 .f32)
    (ys ym : FVec Ideal S8192x1024 .f32) : FVec Ideal S8192x2048 .bf16 := fun j =>
  if h : (j 1).val < 1024 then dGate (mix x w (j 0) ⟨(j 1).val, h⟩) (ys (ix2 (j 0) ⟨(j 1).val, h⟩)) (g (ix2 (j 0) (gcol (j 1))))
  else dGate (mix x w (j 0) ⟨(j 1).val - 1024, by have h1 : (j 1).val < 2048 := (j 1).isLt; omega⟩)
    (ym (ix2 (j 0) ⟨(j 1).val - 1024, by have h1 : (j 1).val < 2048 := (j 1).isLt; omega⟩)) (g (ix2 (j 0) (gcol (j 1))))
def gradSsd (x : FVec Ideal S8192x1024 .f32) (w : FVec Ideal S1024x1024 .f32) (g : FVec Ideal S8192x8064 .f32) : FVec Ideal S8192x1024 .bf16 :=
  fun j => mix x w (j 0) (j 1) * Ideal.logistic (g (ix2 (j 0) (gcol (lo (j 1)))))
def gradMla (x : FVec Ideal S8192x1024 .f32) (w : FVec Ideal S1024x1024 .f32) (g : FVec Ideal S8192x8064 .f32) : FVec Ideal S8192x1024 .bf16 :=
  fun j => mix x w (j 0) (j 1) * Ideal.logistic (g (ix2 (j 0) (gcol (hi (j 1)))))

theorem gradGates_lo (x : FVec Ideal S8192x1024 .f32) (w : FVec Ideal S1024x1024 .f32) (g : FVec Ideal S8192x8064 .f32)
    (ys ym : FVec Ideal S8192x1024 .f32) (s : Fin 8192) (k : Fin 1024) :
    gradGates x w g ys ym (ix2 s (lo k)) = dGate (mix x w s k) (ys (ix2 s k)) (g (ix2 s (gcol (lo k)))) :=
  dif_pos (k.isLt)

theorem gradGates_hi (x : FVec Ideal S8192x1024 .f32) (w : FVec Ideal S1024x1024 .f32) (g : FVec Ideal S8192x8064 .f32)
    (ys ym : FVec Ideal S8192x1024 .f32) (s : Fin 8192) (k : Fin 1024) :
    gradGates x w g ys ym (ix2 s (hi k)) = dGate (mix x w s k) (ym (ix2 s k)) (g (ix2 s (gcol (hi k)))) := by
  refine (dif_neg (hi_not_lt k)).trans ?_
  exact congrArg (fun e => dGate (mix x w s e) (ym (ix2 s e)) (g (ix2 s (gcol (hi k))))) (hi_sub k _)

/-- One block's rows and weights, and the gated sum's gradient from them. -/
def rows (t : Fin cfg0.N) : Vec Ideal S512x1024 .f32 := iblk m c 0 t
def weights (t : Fin cfg0.N) : Vec Ideal S1024x1024 .bf16 := iblk m c 1 t

theorem mix_block (t : Fin cfg0.N) (p : Fin 512) (k : Fin 1024) :
    (∑ q, (rows m c t (ix2 p q) * weights m c t (ix2 k q) : EReal)) = mix (dh m c) (wo m c) (row t.val p) k :=
  Finset.sum_congr rfl fun q _ => by unfold rows weights; rw [block_0, block_1]

theorem flushed_5 (t : Fin cfg0.N) : (dats m 0 c).flushed 5 t
    = ((cfg0.win 5).blk t).view.read (Elt Ideal) (gradGates (dh m c) (wo m c) (proj m c) (ySsd m c) (yMla m c)) := by
  rw [Value.flushed5_A, stored_5]
  funext j
  obtain ⟨p, f, rfl⟩ : ∃ (p : Fin 512) (f : Fin 2048), j = ix2 p f := ⟨_, _, eq_ix2 j⟩
  rw [read_5]
  show k0_pay5 (iblk m c 0 t) (iblk m c 1 t) (X0_2 m c t) (iblk m c 3 t) (iblk m c 4 t) (ix2 p f) = _
  rcases column f with ⟨k, rfl⟩ | ⟨k, rfl⟩
  · rw [gradGates_lo, ← mix_block, ← block_2, ← block_3]
    exact pay5_lo _ _ _ _ _ p k
  · rw [gradGates_hi, ← mix_block, ← block_2, ← block_4]
    exact pay5_hi _ _ _ _ _ p k

theorem flushed_6 (t : Fin cfg0.N) : (dats m 0 c).flushed 6 t
    = ((cfg0.win 6).blk t).view.read (Elt Ideal) (gradSsd (dh m c) (wo m c) (proj m c)) := by
  rw [Value.flushed6_A, stored_6]
  funext j
  obtain ⟨p, k, rfl⟩ : ∃ (p : Fin 512) (k : Fin 1024), j = ix2 p k := ⟨_, _, eq_ix2 j⟩
  rw [read_6]
  show k0_pay6 (iblk m c 0 t) (iblk m c 1 t) (X0_2 m c t) (ix2 p k)
    = mix (dh m c) (wo m c) (row t.val p) k * Ideal.logistic (proj m c (ix2 (row t.val p) (gcol (lo k))))
  rw [← mix_block, ← block_2]
  exact pay6_apply _ _ _ p k

theorem flushed_7 (t : Fin cfg0.N) : (dats m 0 c).flushed 7 t
    = ((cfg0.win 7).blk t).view.read (Elt Ideal) (gradMla (dh m c) (wo m c) (proj m c)) := by
  rw [Value.flushed7_A, stored_7]
  funext j
  obtain ⟨p, k, rfl⟩ : ∃ (p : Fin 512) (k : Fin 1024), j = ix2 p k := ⟨_, _, eq_ix2 j⟩
  rw [read_7]
  show k0_pay7 (iblk m c 0 t) (iblk m c 1 t) (X0_2 m c t) (ix2 p k)
    = mix (dh m c) (wo m c) (row t.val p) k * Ideal.logistic (proj m c (ix2 (row t.val p) (gcol (hi k))))
  rw [← mix_block, ← block_2]
  exact pay7_apply _ _ _ p k

/-- The point that writes a row's block. -/
theorem point_lt (s : Fin 8192) : s.val / 512 < cfg0.N := by
  have hN : cfg0.N = 16 := N_0
  omega

theorem final_5 : (dats m 0 c).arrAt 5 cfg0.N = gradGates (dh m c) (wo m c) (proj m c) (ySsd m c) (yMla m c) :=
  (dats m 0 c).arrAt_eq_of_cover 5 _ (fun t _ => flushed_5 m c t) fun i => by
    have b0 : (i 0 : Nat) < 8192 := (i 0).isLt
    have b1 : (i 1 : Nat) < 2048 := (i 1).isLt
    obtain ⟨h0, h1⟩ := index_5 ⟨_, point_lt (i 0)⟩
    refine ⟨⟨_, point_lt (i 0)⟩, flush0_5 _, ?_⟩
    show i ∈ ((View.whole main_v1_0).slice (win0_5.rect ⟨_, point_lt (i 0)⟩)).set
    rw [View.set_slice_whole, Rect.mem_set_unit]
    intro a
    match a with
    | ⟨0, _⟩ => show win0_5.index _ 0 * 512 ≤ (i 0 : Nat) ∧ (i 0 : Nat) < win0_5.index _ 0 * 512 + 512
                rw [h0]; dsimp only; omega
    | ⟨1, _⟩ => show win0_5.index _ 1 * 2048 ≤ (i 1 : Nat) ∧ (i 1 : Nat) < win0_5.index _ 1 * 2048 + 2048
                rw [h1]; omega

theorem final_6 : (dats m 0 c).arrAt 6 cfg0.N = gradSsd (dh m c) (wo m c) (proj m c) :=
  (dats m 0 c).arrAt_eq_of_cover 6 _ (fun t _ => flushed_6 m c t) fun i => by
    have b0 : (i 0 : Nat) < 8192 := (i 0).isLt
    have b1 : (i 1 : Nat) < 1024 := (i 1).isLt
    obtain ⟨h0, h1⟩ := index_6 ⟨_, point_lt (i 0)⟩
    refine ⟨⟨_, point_lt (i 0)⟩, flush0_6 _, ?_⟩
    show i ∈ ((View.whole main_v1_1).slice (win0_6.rect ⟨_, point_lt (i 0)⟩)).set
    rw [View.set_slice_whole, Rect.mem_set_unit]
    intro a
    match a with
    | ⟨0, _⟩ => show win0_6.index _ 0 * 512 ≤ (i 0 : Nat) ∧ (i 0 : Nat) < win0_6.index _ 0 * 512 + 512
                rw [h0]; dsimp only; omega
    | ⟨1, _⟩ => show win0_6.index _ 1 * 1024 ≤ (i 1 : Nat) ∧ (i 1 : Nat) < win0_6.index _ 1 * 1024 + 1024
                rw [h1]; omega

theorem final_7 : (dats m 0 c).arrAt 7 cfg0.N = gradMla (dh m c) (wo m c) (proj m c) :=
  (dats m 0 c).arrAt_eq_of_cover 7 _ (fun t _ => flushed_7 m c t) fun i => by
    have b0 : (i 0 : Nat) < 8192 := (i 0).isLt
    have b1 : (i 1 : Nat) < 1024 := (i 1).isLt
    obtain ⟨h0, h1⟩ := index_7 ⟨_, point_lt (i 0)⟩
    refine ⟨⟨_, point_lt (i 0)⟩, flush0_7 _, ?_⟩
    show i ∈ ((View.whole main_v1_2).slice (win0_7.rect ⟨_, point_lt (i 0)⟩)).set
    rw [View.set_slice_whole, Rect.mem_set_unit]
    intro a
    match a with
    | ⟨0, _⟩ => show win0_7.index _ 0 * 512 ≤ (i 0 : Nat) ∧ (i 0 : Nat) < win0_7.index _ 0 * 512 + 512
                rw [h0]; dsimp only; omega
    | ⟨1, _⟩ => show win0_7.index _ 1 * 1024 ≤ (i 1 : Nat) ∧ (i 1 : Nat) < win0_7.index _ 1 * 1024 + 1024
                rw [h1]; omega

end Cert.Kernel7Ideal.Grad

namespace Cert.Reference7Ideal.Grad

open Idealize.ShloMosaic Idealize.ShloMosaic.TcCoe Idealize.ShloMosaic.Pointwise Idealize.SL.Sem Cert.Entry Cert.Accumulate Cert.Reference7Ideal
  Cert.Reference7Ideal.Gen
open Cert.Kernel2Ideal.Grad (ofBits_one)
open Cert.Kernel7Ideal.Grad (lo hi gcol hi_not_lt hi_sub column dGate mix gradGates gradGates_lo gradGates_hi gradSsd gradMla)

/-- The gated sum's gradient and the gates' logistic. -/
def rMix (x : FVec Ideal S8192x1024 .f32) (w : FVec Ideal S1024x1024 .f32) : FVec Ideal S8192x1024 .f32 :=
  Host.dotGeneral dot_S8192x1024_S1024x1024_S8192x1024_1_1_0_0_n_n none x w
def rSig (g : FVec Ideal S8192x8064 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (extractStridedSlice S8192x2048 ![0, 2048] g slices_S8192x8064_S8192x2048_0_2048))))

theorem rMix_apply (x : FVec Ideal S8192x1024 .f32) (w : FVec Ideal S1024x1024 .f32) (s : Fin 8192) (k : Fin 1024) :
    rMix x w (ix2 s k) = mix x w s k := by
  unfold mix
  pointwise [rMix]

theorem rSig_apply (g : FVec Ideal S8192x8064 .f32) (s : Fin 8192) (f : Fin 2048) :
    rSig g (ix2 s f) = Ideal.logistic (g (ix2 s (gcol f))) := by
  unfold Ideal.logistic
  rw [← ofBits_one]
  pointwise [rSig]
  rfl

theorem value_ssd (x : FVec Ideal S8192x1024 .f32) (w : FVec Ideal S1024x1024 .f32) (g : FVec Ideal S8192x8064 .f32) :
    truncf .bf16 (mulf (extractStridedSlice S8192x1024 ![0, 0] (rSig g) slices_S8192x2048_S8192x1024_0_0) (rMix x w)) bitsLt_bf16_f32
      = gradSsd x w g := by
  funext j
  obtain ⟨s, k, rfl⟩ : ∃ (s : Fin 8192) (k : Fin 1024), j = ix2 s k := ⟨_, _, eq_ix2 j⟩
  show _ = mix x w s k * Ideal.logistic (g (ix2 s (gcol (lo k))))
  rw [← rMix_apply, ← rSig_apply, mul_comm]
  pointwise []
  rfl

theorem value_mla (x : FVec Ideal S8192x1024 .f32) (w : FVec Ideal S1024x1024 .f32) (g : FVec Ideal S8192x8064 .f32) :
    truncf .bf16 (mulf (extractStridedSlice S8192x1024 ![0, 1024] (rSig g) slices_S8192x2048_S8192x1024_0_1024) (rMix x w)) bitsLt_bf16_f32
      = gradMla x w g := by
  funext j
  obtain ⟨s, k, rfl⟩ : ∃ (s : Fin 8192) (k : Fin 1024), j = ix2 s k := ⟨_, _, eq_ix2 j⟩
  show _ = mix x w s k * Ideal.logistic (g (ix2 s (gcol (hi k))))
  rw [← rMix_apply, ← rSig_apply, mul_comm]
  pointwise []
  rfl

/-- The two halves of the gates' gradient, each padded to both. -/
def rGates (d ys ym : FVec Ideal S8192x1024 .f32) : FVec Ideal S8192x2048 .f32 :=
  addf (pad S8192x2048 ![0, 1024] ![0, 0] ![0, 0] (mulf d ym) (constant S_ .f32 0x00000000#32) pads_S8192x1024_S8192x2048_000_102400 h_S_)
    (pad S8192x2048 ![0, 0] ![0, 1024] ![0, 0] (mulf d ys) (constant S_ .f32 0x00000000#32) pads_S8192x1024_S8192x2048_000_010240 h_S_)

theorem rGates_lo (d ys ym : FVec Ideal S8192x1024 .f32) (s : Fin 8192) (k : Fin 1024) :
    rGates d ys ym (ix2 s (lo k)) = d (ix2 s k) * ys (ix2 s k) := by
  pointwise [rGates]
  rw [dif_neg (fun h => absurd h.1 (by show ¬1024 ≤ k.val; omega)), dif_pos (show (lo k).val < 1024 from k.isLt), zero_add]
  rfl

theorem rGates_hi (d ys ym : FVec Ideal S8192x1024 .f32) (s : Fin 8192) (k : Fin 1024) :
    rGates d ys ym (ix2 s (hi k)) = d (ix2 s k) * ym (ix2 s k) := by
  pointwise [rGates]
  rw [dif_pos ⟨not_lt.1 (hi_not_lt k), by show 1024 + k.val - 1024 < 1024; omega⟩, dif_neg (hi_not_lt k), add_zero, hi_sub]

theorem value_gates (x : FVec Ideal S8192x1024 .f32) (w : FVec Ideal S1024x1024 .f32) (g : FVec Ideal S8192x8064 .f32)
    (ys ym : FVec Ideal S8192x1024 .f32) :
    truncf .bf16 (mulf (rGates (rMix x w) ys ym) (mulf (rSig g)
      (subf (broadcastInDim S8192x2048 ![] bcast_S_S8192x2048 (constant S_ .f32 0x3F800000#32)) (rSig g)))) bitsLt_bf16_f32
      = gradGates x w g ys ym := by
  funext j
  obtain ⟨s, f, rfl⟩ : ∃ (s : Fin 8192) (f : Fin 2048), j = ix2 s f := ⟨_, _, eq_ix2 j⟩
  show (rGates (rMix x w) ys ym (ix2 s f) * (rSig g (ix2 s f) * (Ideal.ofBits FTy.f32 0x3F800000#32 - rSig g (ix2 s f))) : EReal) = _
  rw [ofBits_one, rSig_apply, ← mul_assoc]
  rcases column f with ⟨k, rfl⟩ | ⟨k, rfl⟩
  · rw [gradGates_lo, rGates_lo, rMix_apply]; rfl
  · rw [gradGates_hi, rGates_hi, rMix_apply]; rfl

end Cert.Reference7Ideal.Grad

namespace Cert.Kernel7Ideal.Grad

open Idealize.ShloMosaic Idealize.SL.Sem Cert.Entry

theorem algebraic : Cert.algebraic_Kernel7Ideal_Reference7Ideal := by
  intro m g m' g' _ hargs
  refine ⟨fun c => gradGates (dh m c) (wo m c) (proj m c) (ySsd m c) (yMla m c), fun c => gradSsd (dh m c) (wo m c) (proj m c),
    fun c => gradMla (dh m c) (wo m c) (proj m c),
    (θ_run defs _ _).mono (fun r h c => ?_) (Value.run_blocks (F := Ideal) m g),
    (θ_run Cert.Reference7Ideal.defs _ _).mono (fun r h c => ?_) (Cert.Reference7Ideal.Value.run (F := Ideal) m' g')⟩
  · exact ⟨(h c).1.trans (final_5 m c), (h c).2.1.trans (final_6 m c), (h c).2.2.1.trans (final_7 m c), (h c).2.2.2⟩
  · obtain ⟨e0, e1, e2, e3, e4⟩ := hargs c
    refine ⟨(h c).1.trans ?_, (h c).2.1.trans ?_, (h c).2.2.1.trans ?_, (h c).2.2.2⟩
    · rw [e0, e1, e2, e3, e4]
      exact Cert.Reference7Ideal.Grad.value_gates _ _ _ _ _
    · rw [e0, e1, e2]
      exact Cert.Reference7Ideal.Grad.value_ssd _ _ _
    · rw [e0, e1, e2]
      exact Cert.Reference7Ideal.Grad.value_mla _ _ _

end Cert.Kernel7Ideal.Grad

end
-- ==== Proof.ProjGrad.lean ====
/-
  What the input projection passes back to the block's input, in blocks of 512 rows: the gradient of the
  projected rows times the weights, summed over seven blocks of columns, then through the derivative of the
  root-mean-square norm; and the gradient of the norm's weights, which an accumulator sums over the blocks.
-/
module

public import proofs.«01_k».proof.Proof.NormGrad
public import proofs.«01_k».proof.Proof.Gen.Kernel8Ideal.Value
public import proofs.«01_k».proof.Proof.Gen.Reference8Ideal.Run

@[expose] public section

set_option maxRecDepth 16384

noncomputable section

namespace Cert.Kernel8Ideal.Grad

open Idealize.ShloMosaic Idealize.ShloMosaic.TcCoe Idealize.ShloMosaic.Pointwise Idealize.SL.Sem Cert.Entry Cert.Accumulate Cert.Kernel8Ideal
  Cert.Kernel8Ideal.Gen
open Cert.Kernel5Ideal.Grad (width eps meanSq rs rowGrad row)

section Stores

variable {F : FTy → Type} [FloatOps F] (c : Dev nD) (i : grid0.Coords)
  (a0 : Memref sig .tc .vmem S512x1152 .bf16) (h0 : a0.IsWhole) (a1 : Memref sig .tc .vmem S1152x1024 .bf16) (h1 : a1.IsWhole)
  (a2 : Memref sig .tc .vmem S512x1024 .f32) (h2 : a2.IsWhole) (a3 : Memref sig .tc .vmem S1x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole)
  (x0 : Vec F S512x1152 .bf16) (x1 : Vec F S1152x1024 .bf16) (x2 : Vec F S512x1024 .f32) (x3 : Vec F S1x1024 .f32)
  (x4 : Vec F S512x1024 .f32) (old : Vec F S1x1024 .f32) (acc : Vec F S512x1024 .f32)

/-- The first block of terms sets the accumulator. -/
theorem first_acc (hc0 : cond0_0 i) (hc1 : ¬cond0_1 i) (hc2 : ¬cond0_2 i) :
    sout0_A_0 c i a0 h0 a1 h1 a2 h2 a3 h3 a4 h4 a5 h5 a6 h6 a7 h7 hc0 hc1 hc2 x0 x1 x2 x3 x4 = k0_pay1 x0 x1 := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all,
    shapeCast_self]

/-- Each later one adds to it. -/
theorem next_acc (hc0 : ¬cond0_0 i) (hc1 : cond0_1 i) (hc2 : ¬cond0_2 i) :
    sout0_B_0 c i a0 h0 a1 h1 a2 h2 a3 h3 a4 h4 a5 h5 a6 h6 a7 h7 hc0 hc1 hc2 x0 x1 x2 x3 x4 acc = addf acc (k0_pay1 x0 x1) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h7.read_unread, ld_all, shapeCast_self]

/-- The last block of terms, at the first block of rows: the rows' gradient, -/
theorem rows_C (hc0 : ¬cond0_0 i) (hc1 : cond0_1 i) (hc2 : cond0_2 i) (hc3 : cond0_3 i) (hc4 : ¬cond0_4 i) :
    out0_C_5 c i a0 h0 a1 h1 a2 h2 a3 h3 a4 h4 a5 h5 a6 h6 a7 h7 hc0 hc1 hc2 hc3 hc4 x0 x1 x2 x3 x4 acc
      = k0_pay7 (addf acc (k0_pay1 x0 x1)) x2 x3 x4 := by
  unfold out0_C_5
  rw [View.read_writes_eq_canon _ _ _ (by apply cover0_C_5)]
  unfold kernelRun0_C
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h6.read_unread,
    h7.read_unread, ld_all, shapeCast_self]

/-- and the weights' gradient. -/
theorem weights_C (hc0 : ¬cond0_0 i) (hc1 : cond0_1 i) (hc2 : cond0_2 i) (hc3 : cond0_3 i) (hc4 : ¬cond0_4 i) :
    out0_C_6 c i a0 h0 a1 h1 a2 h2 a3 h3 a4 h4 a5 h5 a6 h6 a7 h7 hc0 hc1 hc2 hc3 hc4 x0 x1 x2 x3 x4 acc = k0_pay5 (addf acc (k0_pay1 x0 x1)) x2 := by
  unfold out0_C_6
  rw [View.read_writes_eq_canon _ _ _ (by apply cover0_C_6)]
  unfold kernelRun0_C
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h6.read_unread,
    h7.read_unread, ld_all, shapeCast_self]

/-- The last block of terms, at the other blocks of rows: the rows' gradient, -/
theorem rows_D (hc0 : ¬cond0_0 i) (hc1 : cond0_1 i) (hc2 : cond0_2 i) (hc3 : ¬cond0_3 i) (hc4 : cond0_4 i) :
    out0_D_5 c i a0 h0 a1 h1 a2 h2 a3 h3 a4 h4 a5 h5 a6 h6 a7 h7 hc0 hc1 hc2 hc3 hc4 x0 x1 x2 x3 x4 old acc
      = k0_pay7 (addf acc (k0_pay1 x0 x1)) x2 x3 x4 := by
  unfold out0_D_5
  rw [View.read_writes_eq_canon _ _ _ (by apply cover0_D_5)]
  unfold kernelRun0_D
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h6.read_unread,
    h7.read_unread, ld_all, shapeCast_self]

/-- and the weights' gradient. -/
theorem weights_D (hc0 : ¬cond0_0 i) (hc1 : cond0_1 i) (hc2 : cond0_2 i) (hc3 : ¬cond0_3 i) (hc4 : cond0_4 i) :
    out0_D_6 c i a0 h0 a1 h1 a2 h2 a3 h3 a4 h4 a5 h5 a6 h6 a7 h7 hc0 hc1 hc2 hc3 hc4 x0 x1 x2 x3 x4 old acc = k0_pay6 (addf acc (k0_pay1 x0 x1)) x2 old := by
  unfold out0_D_6
  rw [View.read_writes_eq_canon _ _ _ (by apply cover0_D_6)]
  unfold kernelRun0_D
  dsimp only
  sl_unfold_words
  rw [View.canon_unit_zero zeros, View.readCov_unit_zero (S := S512x1024) _ zeros]
  unfold k0_pay3
  simp only [View.readAt_eq_ld, h0.read_unread, h1.read_unread, h2.read_unread, h3.read_unread, h4.read_unread, h6.read_unread,
    h7.read_unread, ld_all, shapeCast_self]

end Stores

/-! ## The blocks -/

theorem index_0 : ∀ t : Fin cfg0.N, win0_0.index t 0 = t.val / 7 ∧ win0_0.index t 1 = t.val % 7 := by decide +kernel
theorem index_1 : ∀ t : Fin cfg0.N, win0_1.index t 0 = t.val % 7 ∧ win0_1.index t 1 = 0 := by decide +kernel
theorem index_2 : ∀ t : Fin cfg0.N, win0_2.index t 0 = t.val / 7 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = t.val / 7 ∧ win0_4.index t 1 = 0 := by decide +kernel

/-- Column `r` of block `n` of 1152 columns. -/
def col (n : ℕ) (r : Fin 1152) : Fin 8064 := ⟨1152 * (n % 7) + r.val, by omega⟩

theorem read_0 (A : FVec Ideal S8192x8064 .bf16) (t : Fin cfg0.N) (p : Fin 512) (r : Fin 1152) :
    ((cfg0.win 0).blk t).view.read (Elt Ideal) A (ix2 p r) = A (ix2 (row (t.val / 7) p) (col t.val r)) := by
  obtain ⟨h0, h1⟩ := index_0 t
  have hN : cfg0.N = 112 := N_0
  have := t.isLt
  rw [View.read_apply]
  exact at_ix2 A _ _ _ (by show win0_0.index t 0 * 512 + 1 * p.val = 512 * (t.val / 7 % 16) + p.val; rw [h0]; omega)
    (by show win0_0.index t 1 * 1152 + 1 * r.val = 1152 * (t.val % 7) + r.val; rw [h1]; omega)

theorem read_1 (A : FVec Ideal S8064x1024 .bf16) (t : Fin cfg0.N) (r : Fin 1152) (q : Fin 1024) :
    ((cfg0.win 1).blk t).view.read (Elt Ideal) A (ix2 r q) = A (ix2 (col t.val r) q) := by
  obtain ⟨h0, h1⟩ := index_1 t
  rw [View.read_apply]
  exact at_ix2 A _ _ _ (by show win0_1.index t 0 * 1152 + 1 * r.val = 1152 * (t.val % 7) + r.val; rw [h0]; omega)
    (by show win0_1.index t 1 * 1024 + 1 * q.val = q.val; rw [h1]; omega)

theorem read_2 (A : FVec Ideal S8192x1024 .f32) (t : Fin cfg0.N) (p : Fin 512) (q : Fin 1024) :
    ((cfg0.win 2).blk t).view.read (Elt Ideal) A (ix2 p q) = A (ix2 (row (t.val / 7) p) q) := by
  obtain ⟨h0, h1⟩ := index_2 t
  have hN : cfg0.N = 112 := N_0
  have := t.isLt
  rw [View.read_apply]
  exact at_ix2 A _ _ _ (by show win0_2.index t 0 * 512 + 1 * p.val = 512 * (t.val / 7 % 16) + p.val; rw [h0]; omega)
    (by show win0_2.index t 1 * 1024 + 1 * q.val = q.val; rw [h1]; omega)

theorem read_3 (A : FVec Ideal S1x1024 .f32) (t : Fin cfg0.N) (z : Fin 1) (q : Fin 1024) :
    ((cfg0.win 3).blk t).view.read (Elt Ideal) A (ix2 z q) = A (ix2 z q) := by
  obtain ⟨h0, h1⟩ := index_3 t
  rw [View.read_apply]
  exact at_ix2 A _ _ _ (by show win0_3.index t 0 * 1 + 1 * z.val = z.val; rw [h0]; omega)
    (by show win0_3.index t 1 * 1024 + 1 * q.val = q.val; rw [h1]; omega)

theorem read_4 (A : FVec Ideal S8192x1024 .f32) (t : Fin cfg0.N) (p : Fin 512) (q : Fin 1024) :
    ((cfg0.win 4).blk t).view.read (Elt Ideal) A (ix2 p q) = A (ix2 (row (t.val / 7) p) q) := by
  obtain ⟨h0, h1⟩ := index_4 t
  have hN : cfg0.N = 112 := N_0
  have := t.isLt
  rw [View.read_apply]
  exact at_ix2 A _ _ _ (by show win0_4.index t 0 * 512 + 1 * p.val = 512 * (t.val / 7 % 16) + p.val; rw [h0]; omega)
    (by show win0_4.index t 1 * 1024 + 1 * q.val = q.val; rw [h1]; omega)

theorem pay1_apply (x : Vec Ideal S512x1152 .bf16) (y : Vec Ideal S1152x1024 .bf16) (p : Fin 512) (q : Fin 1024) :
    k0_pay1 x y (ix2 p q) = ∑ r, (x (ix2 p r) * y (ix2 r q) : EReal) := by
  pointwise [k0_pay1]

theorem pay4_apply (x : Vec Ideal S512x1024 .f32) (p : Fin 512) :
    k0_pay4 x (ix2 p 0) = rs fun q => x (ix2 p q) := by
  unfold rs meanSq
  pointwise [k0_pay4]

theorem pay5_apply (acc x : Vec Ideal S512x1024 .f32) (q : Fin 1024) :
    k0_pay5 acc x (ix2 0 q) = ∑ p, (acc (ix2 p q) * x (ix2 p q) * rs (fun q => x (ix2 p q)) : EReal) := by
  trans (∑ p, (acc (ix2 p q) * x (ix2 p q) * k0_pay4 x (ix2 p 0) : EReal))
  · pointwise [k0_pay5]
  · exact Finset.sum_congr rfl fun p _ => by rw [pay4_apply]

theorem pay6_apply (acc x : Vec Ideal S512x1024 .f32) (old : Vec Ideal S1x1024 .f32) (q : Fin 1024) :
    k0_pay6 acc x old (ix2 0 q) = (old (ix2 0 q) + k0_pay5 acc x (ix2 0 q) : EReal) := by
  pointwise [k0_pay6]

theorem pay7_apply (acc x d : Vec Ideal S512x1024 .f32) (l : Vec Ideal S1x1024 .f32) (p : Fin 512) (q : Fin 1024) :
    k0_pay7 acc x l d (ix2 p q) = rowGrad (fun q => acc (ix2 p q)) (fun q => l (ix2 0 q))
      (fun q => x (ix2 p q)) (fun q => d (ix2 p q)) q := by
  unfold rowGrad
  rw [← pay4_apply]
  pointwise [k0_pay7]

variable (m : (ℓ : Loc nD τ sig) → Buf (Elt Ideal) ℓ) (ρ : Dev nD → PrngReg) (c : Dev nD)

/-- The arguments in memory. -/
abbrev dp : FVec Ideal S8192x8064 .f32 := m ((c.tc : Thread nD τ).loc main_arg0)
abbrev win : FVec Ideal S8064x1024 .f32 := m ((c.tc : Thread nD τ).loc main_arg1)
abbrev hin : FVec Ideal S8192x1024 .f32 := m ((c.tc : Thread nD τ).loc main_arg2)
abbrev ln : FVec Ideal S1024 .f32 := m ((c.tc : Thread nD τ).loc main_arg3)
abbrev dh : FVec Ideal S8192x1024 .f32 := m ((c.tc : Thread nD τ).loc main_arg4)

theorem V0 : V m c main_v0 = truncf .bf16 (dp m c) bitsLt_bf16_f32 := by
  unfold V; after_reads_simp <;> rfl
theorem V1 : V m c main_v1 = truncf .bf16 (win m c) bitsLt_bf16_f32 := by
  unfold V; after_reads_simp <;> rfl
theorem V2 : V m c main_v2 = shapeCast S1x1024 (ln m c) shapeCasts_S1024_S1x1024 := by
  unfold V; after_reads_simp <;> rfl

theorem block_2 (t : Fin cfg0.N) (p : Fin 512) (q : Fin 1024) : iblk m c 2 t (ix2 p q) = hin m c (ix2 (row (t.val / 7) p) q) :=
  (read_2 (V m c main_arg2) t p q).trans (by rw [V_main_arg2])
theorem block_3 (t : Fin cfg0.N) (q : Fin 1024) : iblk m c 3 t (ix2 0 q) = ln m c (ix1 q) :=
  (read_3 (V m c main_v2) t 0 q).trans (by rw [V2]; pointwise [])
theorem block_4 (t : Fin cfg0.N) (p : Fin 512) (q : Fin 1024) : iblk m c 4 t (ix2 p q) = dh m c (ix2 (row (t.val / 7) p) q) :=
  (read_4 (V m c main_arg4) t p q).trans (by rw [V_main_arg4])

/-- The terms of an entry in block `b` of 512 rows of the product. -/
def term (A : FVec Ideal S8192x8064 .f32) (B : FVec Ideal S8064x1024 .f32) (p : Fin 512) (q : Fin 1024) (b : ℕ) (s : Fin 8064) : EReal :=
  A (ix2 (row b p) s) * B (ix2 s q)

theorem chunk_eq (t : Fin cfg0.N) (p : Fin 512) (q : Fin 1024) :
    k0_pay1 (iblk m c 0 t) (iblk m c 1 t) (ix2 p q) = chunk 7 1152 (term (dp m c) (win m c) p q) t.val := by
  refine (pay1_apply (iblk m c 0 t) (iblk m c 1 t) p q).trans (Finset.sum_congr rfl fun r _ => ?_)
  have e0 : iblk m c 0 t (ix2 p r) = V m c main_v0 (ix2 (row (t.val / 7) p) (col t.val r)) := read_0 (V m c main_v0) t p r
  have e1 : iblk m c 1 t (ix2 r q) = V m c main_v1 (ix2 (col t.val r) q) := read_1 (V m c main_v1) t r q
  rw [e0, e1, V0, V1]
  rfl

/-- The whole product from what the point before the last left. -/
theorem acc_at (n : ℕ) (h : n + 1 < cfg0.N) (hn : n % 7 = 5) (p : Fin 512) (q : Fin 1024) :
    addf (outsAt0 m c n (by omega)).2.2 (k0_pay1 (iblk m c 0 ⟨n + 1, h⟩) (iblk m c 1 ⟨n + 1, h⟩)) (ix2 p q)
      = ∑ s, term (dp m c) (win m c) p q (n / 7) s := by
  have key := sum_sweep 7 1152 (fun k hk => if k % 7 = 6 then
      ((outsAt0 m c (k - 1) (by omega)).2.2 (ix2 p q) + chunk 7 1152 (term (dp m c) (win m c) p q) k : EReal)
    else ((outsAt0 m c k hk).2.2 (ix2 p q) : EReal)) (term (dp m c) (win m c) p q) ?_ ?_ (n + 1) h (by omega)
  · rw [if_pos (by omega)] at key
    rw [show n / 7 = (n + 1) / 7 by omega, ← key]
    exact congrArg (fun z : EReal => ((outsAt0 m c n (by omega)).2.2 (ix2 p q) : EReal) + z) (chunk_eq m c ⟨n + 1, h⟩ p q)
  · intro k hk hk0
    rw [if_neg (by omega), outsAt0_A m c ⟨k, hk⟩ hk0 (by dsimp only; omega) (by dsimp only; omega)]
    dsimp only
    rw [first_acc]
    exact chunk_eq m c ⟨k, hk⟩ p q
  · intro k hk hk' hk0
    rw [if_neg (c := k % 7 = 6) (by omega)]
    by_cases h6 : (k + 1) % 7 = 6
    · rw [if_pos h6]
      rfl
    · rw [if_neg h6, outsAt0_B m c ⟨k + 1, hk'⟩ hk0 (by dsimp only; omega) h6]
      dsimp only
      rw [next_acc]
      exact congrArg (fun z : EReal => ((outsAt0 m c k hk).2.2 (ix2 p q) : EReal) + z) (chunk_eq m c ⟨k + 1, hk'⟩ p q)

/-- The gradient of the normed rows. -/
def dNorm (A : FVec Ideal S8192x8064 .f32) (B : FVec Ideal S8064x1024 .f32) (s : Fin 8192) (q : Fin 1024) : EReal :=
  ∑ n, A (ix2 s n) * B (ix2 n q)

/-- The gradient of the input. -/
def gradRows (A : FVec Ideal S8192x8064 .f32) (B : FVec Ideal S8064x1024 .f32) (H : FVec Ideal S8192x1024 .f32) (l : FVec Ideal S1024 .f32)
    (D : FVec Ideal S8192x1024 .f32) : FVec Ideal S8192x1024 .f32 :=
  fun j => rowGrad (dNorm A B (j 0)) (fun q => l (ix1 q)) (fun q => H (ix2 (j 0) q)) (fun q => D (ix2 (j 0) q)) (j 1)
/-- A row's share of the gradient of the norm's weights. -/
def share (A : FVec Ideal S8192x8064 .f32) (B : FVec Ideal S8064x1024 .f32) (H : FVec Ideal S8192x1024 .f32) (q : Fin 1024) (s : Fin 8192) : EReal :=
  dNorm A B s q * H (ix2 s q) * rs fun q => H (ix2 s q)
/-- The gradient of the norm's weights. -/
def gradWeights (A : FVec Ideal S8192x8064 .f32) (B : FVec Ideal S8064x1024 .f32) (H : FVec Ideal S8192x1024 .f32) : FVec Ideal S1x1024 .f32 :=
  fun j => ∑ s, share A B H (j 1) s

/-- The block of rows that the last point of a sweep stores. -/
theorem rows_at (n : ℕ) (h : n + 1 < cfg0.N) (hn : n % 7 = 5) (p : Fin 512) (q : Fin 1024) :
    (outsAt0 m c (n + 1) h).1 (ix2 p q)
      = gradRows (dp m c) (win m c) (hin m c) (ln m c) (dh m c) (ix2 (row (n / 7) p) q) := by
  have key : k0_pay7 (addf (outsAt0 m c n (by omega)).2.2 (k0_pay1 (iblk m c 0 ⟨n + 1, h⟩) (iblk m c 1 ⟨n + 1, h⟩)))
      (iblk m c 2 ⟨n + 1, h⟩) (iblk m c 3 ⟨n + 1, h⟩) (iblk m c 4 ⟨n + 1, h⟩) (ix2 p q)
      = gradRows (dp m c) (win m c) (hin m c) (ln m c) (dh m c) (ix2 (row (n / 7) p) q) := by
    refine (pay7_apply _ _ _ _ p q).trans ?_
    have hd : (n + 1) / 7 = n / 7 := by omega
    show rowGrad _ _ _ _ _ = rowGrad _ _ _ _ _
    congr 1
    · exact funext fun q => acc_at m c n h hn p q
    · exact funext fun q => block_3 m c _ q
    · exact funext fun q => (block_2 m c _ p q).trans (by dsimp only; rw [hd]; rfl)
    · exact funext fun q => (block_4 m c _ p q).trans (by dsimp only; rw [hd]; rfl)
  by_cases h1 : n + 1 < 7
  · rw [outsAt0_C m c ⟨n + 1, h⟩ (by dsimp only; omega) (by dsimp only; omega) (by dsimp only; omega) h1 (by dsimp only; omega)]
    dsimp only
    rw [rows_C]
    exact key
  · rw [outsAt0_D m c ⟨n + 1, h⟩ (by dsimp only; omega) (by dsimp only; omega) (by dsimp only; omega) h1 (by dsimp only; omega)]
    dsimp only
    rw [rows_D]
    exact key

/-- A block's share of the gradient of the norm's weights. -/
theorem share_at (n : ℕ) (h : n + 1 < cfg0.N) (hn : n % 7 = 5) (q : Fin 1024) :
    k0_pay5 (addf (outsAt0 m c n (by omega)).2.2 (k0_pay1 (iblk m c 0 ⟨n + 1, h⟩) (iblk m c 1 ⟨n + 1, h⟩)))
      (iblk m c 2 ⟨n + 1, h⟩) (ix2 0 q)
      = ∑ p : Fin 512, share (dp m c) (win m c) (hin m c) q (row (n / 7) p) := by
  refine (pay5_apply _ _ q).trans (Finset.sum_congr rfl fun p _ => ?_)
  have hd : (n + 1) / 7 = n / 7 := by omega
  have hh : ∀ q, iblk m c 2 ⟨n + 1, h⟩ (ix2 p q) = hin m c (ix2 (row (n / 7) p) q) :=
    fun q => (block_2 m c _ p q).trans (by dsimp only; rw [hd])
  rw [acc_at m c n h hn p q]
  unfold share
  simp only [hh]
  rfl

/-- A point that is not the last of its sweep leaves the weights' gradient. -/
theorem kept (k j : ℕ) (hj : j < 7) (h : 7 * (k + 1) + j - 1 < cfg0.N) (h' : 7 * k + 6 < cfg0.N) :
    (outsAt0 m c (7 * (k + 1) + j - 1) h).2.1 = (outsAt0 m c (7 * k + 6) h').2.1 := by
  induction j with
  | zero => rfl
  | succ j ih =>
    have hl : 7 * (k + 1) + j < cfg0.N := by omega
    refine Eq.trans ?_ (ih (by omega) (by omega))
    show (outsAt0 m c (7 * (k + 1) + j) hl).2.1 = _
    by_cases h0 : (7 * (k + 1) + j) % 7 = 0
    · rw [outsAt0_A m c ⟨7 * (k + 1) + j, hl⟩ h0 (by dsimp only; omega) (by dsimp only; omega)]
      rfl
    · rw [outsAt0_B m c ⟨7 * (k + 1) + j, hl⟩ h0 (by dsimp only; omega) (by dsimp only; omega)]
      rfl

/-- The weights' gradient after the blocks `0, …, k`. -/
theorem weights_at (q : Fin 1024) (k : ℕ) (h : 7 * k + 6 < cfg0.N) :
    (outsAt0 m c (7 * k + 6) h).2.1 (ix2 0 q)
      = ∑ b ∈ Finset.range (k + 1), ∑ p : Fin 512, share (dp m c) (win m c) (hin m c) q (row b p) := by
  induction k with
  | zero =>
    rw [outsAt0_C m c ⟨7 * 0 + 6, h⟩ (by norm_num) (by norm_num) (by norm_num) (by norm_num) (by norm_num)]
    dsimp only
    rw [weights_C]
    refine (share_at m c 5 h (by decide) q).trans ?_
    simp
  | succ k ih =>
    rw [outsAt0_D m c ⟨7 * (k + 1) + 6, h⟩ (by dsimp only; omega) (by dsimp only; omega) (by dsimp only; omega) (by dsimp only; omega) (by dsimp only; omega)]
    dsimp only
    rw [weights_D]
    refine (pay6_apply _ _ _ q).trans ?_
    rw [Finset.sum_range_succ, ← ih (by omega)]
    congr 1
    · exact congrFun (kept m c k 6 (by decide) (by omega) (by omega)) (ix2 0 q)
    · refine (share_at m c (7 * (k + 1) + 5) h (by omega) q).trans ?_
      rw [show (7 * (k + 1) + 5) / 7 = k + 1 by omega]

theorem result_rows : Value.G5 m c = gradRows (dp m c) (win m c) (hin m c) (ln m c) (dh m c) := by
  funext j
  obtain ⟨x, q, rfl⟩ : ∃ (x : Fin 8192) (q : Fin 1024), j = ix2 x q := ⟨_, _, eq_ix2 j⟩
  have hx := x.isLt
  have hq := q.isLt
  have hN : cfg0.N = 112 := N_0
  have hpt : Value.pt5Of (ix2 x q) = 7 * (x.val / 512) + 5 + 1 := by
    show 7 * (1 * (x.val / 512 - 0) + 1 * (q.val / 1024 - 0)) + 6 = _
    omega
  have hloc : Value.loc5Of (ix2 x q) = ix2 ⟨x.val % 512, Nat.mod_lt _ (by decide)⟩ q :=
    at_ix2 id _ _ _ rfl (Nat.mod_eq_of_lt hq)
  have hc : row ((7 * (x.val / 512) + 5) / 7) ⟨x.val % 512, Nat.mod_lt _ (by decide)⟩ = x :=
    Fin.ext (by show 512 * ((7 * (x.val / 512) + 5) / 7 % 16) + x.val % 512 = x.val; omega)
  unfold Value.G5
  rw [dif_pos (by rw [hpt, hN]; omega), ← Value.outsAt0_sweep m c _ (by rw [hpt, hN]; omega), hloc]
  simp only [hpt]
  refine (rows_at m c (7 * (x.val / 512) + 5) (by rw [hN]; omega) (by omega) _ q).trans ?_
  rw [hc]

theorem result_weights : Value.G6 m c = gradWeights (dp m c) (win m c) (hin m c) := by
  funext j
  obtain ⟨z, q, rfl⟩ : ∃ (z : Fin 1) (q : Fin 1024), j = ix2 z q := ⟨_, _, eq_ix2 j⟩
  obtain rfl : z = 0 := Subsingleton.elim _ _
  have hN : cfg0.N = 112 := N_0
  rw [Value.G6_last, ← Value.outsAt0_sweep]
  refine (weights_at m c q 15 (by omega)).trans ?_
  rw [Finset.sum_range]
  show _ = ∑ s : Fin (16 * 512), share (dp m c) (win m c) (hin m c) q s
  rw [← sum_blocks 16 512]
  refine Finset.sum_congr rfl fun b _ => Finset.sum_congr rfl fun p _ => congrArg _ (Fin.ext ?_)
  show 512 * (b.val % 16) + p.val = 512 * b.val + p.val
  rw [Nat.mod_eq_of_lt b.isLt]

end Cert.Kernel8Ideal.Grad

namespace Cert.Reference8Ideal.Grad

open Idealize.ShloMosaic Idealize.ShloMosaic.TcCoe Idealize.ShloMosaic.Pointwise Idealize.SL.Sem Cert.Entry Cert.Accumulate Cert.Reference8Ideal
  Cert.Reference8Ideal.Gen
open Cert.Kernel5Ideal.Grad (width minusHalf meanSq rs rowGrad rowGrad_eq)
open Cert.Kernel8Ideal.Grad (dNorm gradRows share gradWeights)

variable (A : FVec Ideal S8192x8064 .f32) (B : FVec Ideal S8064x1024 .f32) (H : FVec Ideal S8192x1024 .f32) (l : FVec Ideal S1024 .f32)
  (D : FVec Ideal S8192x1024 .f32)

/-- The gradient of the normed rows, -/
def rVal : FVec Ideal S8192x1024 .f32 :=
  Host.dotGeneral dot_S8192x8064_S1024x8064_S8192x1024_1_1_0_0_n_n none A (transpose S1024x8064 [1, 0] B transposes_S8064x1024_S1024x8064_1_0)
/-- the same times the norm's weights, -/
def rGy (v : FVec Ideal S8192x1024 .f32) : FVec Ideal S8192x1024 .f32 :=
  mulf v (broadcastInDim S8192x1024 ![0, 1] bcast_S1x1024_S8192x1024_0_1 (broadcastInDim S1x1024 ![1] bcast_S1024_S1x1024_1 l))
/-- the rows' mean squares and the constant, -/
def rMean : FVec Ideal S8192x1 .f32 :=
  addf (Host.divf (broadcastInDim S8192x1 ![0] bcast_S8192_S8192x1_0 (Host.reduceAdd (mulf H H) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))
/-- and the derivative through the mean. -/
def rE (gy : FVec Ideal S8192x1024 .f32) (v : FVec Ideal S8192x1 .f32) : FVec Ideal S8192x1024 .f32 :=
  broadcastInDim S8192x1024 ![0] bcast_S8192_S8192x1024_0 (Host.reduceAdd (Host.divf (mulf (shapeCast S8192x1 (Host.reduceAdd (mulf H gy)
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt v) v)))
    (broadcastInDim S8192x1 ![] bcast_S_S8192x1 (constant S_ .f32 0x44800000#32))) (constant S_ .f32 0x00000000#32)
    reducesTo_S8192x1_S8192_d1 h_S_)

theorem rVal_apply (s : Fin 8192) (q : Fin 1024) : rVal A B (ix2 s q) = dNorm A B s q := by
  unfold dNorm
  pointwise [rVal]

theorem rGy_apply (v : FVec Ideal S8192x1024 .f32) (s : Fin 8192) (q : Fin 1024) : rGy l v (ix2 s q) = (v (ix2 s q) * l (ix1 q) : EReal) := by
  pointwise [rGy]

theorem rMean_apply (s : Fin 8192) : rMean H (ix2 s 0) = meanSq fun q => H (ix2 s q) := by
  unfold meanSq
  pointwise [rMean]

theorem rE_apply (gy : FVec Ideal S8192x1024 .f32) (v : FVec Ideal S8192x1 .f32) (s : Fin 8192) (q : Fin 1024) :
    rE H gy v (ix2 s q) = Ideal.div ((∑ q, (H (ix2 s q) * gy (ix2 s q) : EReal))
      * (minusHalf * Ideal.div (Ideal.rsqrt (v (ix2 s 0))) (v (ix2 s 0)))) width := by
  pointwise [rE]
  exact Fintype.sum_subsingleton _ 0

theorem value_rows :
    addf (addf (addf D (mulf (rGy l (rVal A B)) (broadcastInDim S8192x1024 ![0, 1] bcast_S8192x1_S8192x1024_0_1 (Host.rsqrt (rMean H)))))
      (mulf H (rE H (rGy l (rVal A B)) (rMean H)))) (mulf (rE H (rGy l (rVal A B)) (rMean H)) H) = gradRows A B H l D := by
  funext j
  obtain ⟨s, q, rfl⟩ : ∃ (s : Fin 8192) (q : Fin 1024), j = ix2 s q := ⟨_, _, eq_ix2 j⟩
  have hE := rE_apply H (rGy l (rVal A B)) (rMean H) s q
  have hr : broadcastInDim S8192x1024 ![0, 1] bcast_S8192x1_S8192x1024_0_1 (Host.rsqrt (rMean H)) (ix2 s q) = rs fun q => H (ix2 s q) := by
    unfold rs
    rw [← rMean_apply]
    pointwise []
  simp only [rGy_apply, rVal_apply, rMean_apply] at hE
  show (D (ix2 s q) + rGy l (rVal A B) (ix2 s q) * broadcastInDim S8192x1024 ![0, 1] bcast_S8192x1_S8192x1024_0_1 (Host.rsqrt (rMean H)) (ix2 s q)
    + H (ix2 s q) * rE H (rGy l (rVal A B)) (rMean H) (ix2 s q) + rE H (rGy l (rVal A B)) (rMean H) (ix2 s q) * H (ix2 s q) : EReal) = _
  rw [hr, rGy_apply, rVal_apply]
  exact rowGrad_eq (dNorm A B s) (fun q => l (ix1 q)) (fun q => H (ix2 s q)) (fun q => D (ix2 s q)) q _ hE

theorem value_weights :
    shapeCast S1x1024 (Host.reduceAdd (shapeCast S1x1024 (Host.reduceAdd (mulf (mulf H (broadcastInDim S8192x1024 ![0, 1]
      bcast_S8192x1_S8192x1024_0_1 (Host.rsqrt (rMean H)))) (rVal A B)) (constant S_ .f32 0x00000000#32) reducesTo_S8192x1024_S1024_d0 h_S_)
      shapeCasts_S1024_S1x1024) (constant S_ .f32 0x00000000#32) reducesTo_S1x1024_S1024_d0 h_S_) shapeCasts_S1024_S1x1024
      = gradWeights A B H := by
  funext j
  obtain ⟨z, q, rfl⟩ : ∃ (z : Fin 1) (q : Fin 1024), j = ix2 z q := ⟨_, _, eq_ix2 j⟩
  trans (∑ s : Fin 8192, (H (ix2 s q) * Ideal.rsqrt (rMean H (ix2 s 0)) * rVal A B (ix2 s q) : EReal))
  · pointwise []
    exact Fintype.sum_subsingleton _ 0
  · refine Finset.sum_congr rfl fun s _ => ?_
    rw [rVal_apply, rMean_apply, mul_comm]
    exact (mul_assoc _ _ _).symm

end Cert.Reference8Ideal.Grad

namespace Cert.Kernel8Ideal.Grad

open Idealize.ShloMosaic Idealize.SL.Sem Cert.Entry

theorem algebraic : Cert.algebraic_Kernel8Ideal_Reference8Ideal := by
  intro m g m' g' _ hargs
  refine ⟨fun c => gradRows (dp m c) (win m c) (hin m c) (ln m c) (dh m c),
    fun c => gradWeights (dp m c) (win m c) (hin m c),
    (θ_run defs _ _).mono (fun r h c => ?_) (Value.run (F := Ideal) m g),
    (θ_run Cert.Reference8Ideal.defs _ _).mono (fun r h c => ?_) (Cert.Reference8Ideal.Value.run (F := Ideal) m' g')⟩
  · exact ⟨(h c).1.trans (result_rows m c), (h c).2.1.trans (result_weights m c), (h c).2.2⟩
  · obtain ⟨e0, e1, e2, e3, e4⟩ := hargs c
    refine ⟨(h c).1.trans ?_, (h c).2.1.trans ?_, (h c).2.2⟩
    · unfold Cert.Reference8Ideal.Value.res_main_v39
      rw [e0, e1, e2, e3, e4]
      exact Cert.Reference8Ideal.Grad.value_rows _ _ _ _ _
    · rw [e0, e1, e2]
      exact Cert.Reference8Ideal.Grad.value_weights _ _ _

end Cert.Kernel8Ideal.Grad

end
-- ==== Proof.ProjWeight.lean ====
/-
  The weight gradient of the input projection: the transposed gradient of the projected rows times the
  normed rows, summed by an accumulator over eight blocks of rows.
-/
module

public import proofs.«01_k».proof.Proof.DownWeight
public import proofs.«01_k».proof.Proof.Gen.Kernel9Ideal.Value
public import proofs.«01_k».proof.Proof.Gen.Reference9Ideal.Run

@[expose] public section

set_option maxRecDepth 16384

noncomputable section

namespace Cert.Kernel9Ideal.Grad

open Idealize.ShloMosaic Idealize.ShloMosaic.TcCoe Idealize.ShloMosaic.Pointwise Idealize.SL.Sem Cert.Entry Cert.Accumulate Cert.Kernel9Ideal
  Cert.Kernel9Ideal.Gen
open Cert.Kernel3Ideal.Grad (row)

section Stores

variable {F : FTy → Type} [FloatOps F] (c : Dev nD) (i : grid0.Coords)
  (a0 : Memref sig .tc .vmem S1024x896 .bf16) (h0 : a0.IsWhole) (a1 : Memref sig .tc .vmem S1024x1024 .bf16) (h1 : a1.IsWhole)
  (a2 : Memref sig .tc .vmem S896x1024 .bf16) (h2 : a2.IsWhole) (a3 : Memref sig .tc .vmem S896x1024 .f32) (h3 : a3.IsWhole)
  (x : Vec F S1024x896 .bf16) (y : Vec F S1024x1024 .bf16) (acc : Vec F S896x1024 .f32)

/-- The first block of rows sets the accumulator. -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all,
    shapeCast_self]

/-- Each later one adds to it. -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all, shapeCast_self]

/-- The last stores the sum. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S896x1024) _ zeros]
  unfold k0_pay3
  simp only [View.readAt_eq_ld, h0.read_unread, h1.read_unread, h3.read_unread, ld_all, shapeCast_self]

end Stores

/-! ## The blocks -/

/-- Column `p` of block `b` of 896 columns. -/
def col (b : ℕ) (p : Fin 896) : Fin 8064 := ⟨896 * (b % 9) + p.val, by omega⟩

theorem index_0 : ∀ t : Fin cfg0.N, win0_0.index t 0 = t.val % 8 ∧ win0_0.index t 1 = t.val / 8 := by decide +kernel
theorem index_1 : ∀ t : Fin cfg0.N, win0_1.index t 0 = t.val % 8 ∧ win0_1.index t 1 = 0 := by decide +kernel

theorem read_0 (A : FVec Ideal S8192x8064 .bf16) (t : Fin cfg0.N) (r : Fin 1024) (p : Fin 896) :
    ((cfg0.win 0).blk t).view.read (Elt Ideal) A (ix2 r p) = A (ix2 (row t.val r) (col (t.val / 8) p)) := by
  obtain ⟨h0, h1⟩ := index_0 t
  have hN : cfg0.N = 72 := N_0
  have := t.isLt
  rw [View.read_apply]
  exact at_ix2 A _ _ _ (by show win0_0.index t 0 * 1024 + 1 * r.val = 1024 * (t.val % 8) + r.val; rw [h0]; omega)
    (by show win0_0.index t 1 * 896 + 1 * p.val = 896 * (t.val / 8 % 9) + p.val; rw [h1]; omega)

theorem read_1 (A : FVec Ideal S8192x1024 .bf16) (t : Fin cfg0.N) (r : Fin 1024) (q : Fin 1024) :
    ((cfg0.win 1).blk t).view.read (Elt Ideal) A (ix2 r q) = A (ix2 (row t.val r) q) := by
  obtain ⟨h0, h1⟩ := index_1 t
  rw [View.read_apply]
  exact at_ix2 A _ _ _ (by show win0_1.index t 0 * 1024 + 1 * r.val = 1024 * (t.val % 8) + r.val; rw [h0]; omega)
    (by show win0_1.index t 1 * 1024 + 1 * q.val = q.val; rw [h1]; omega)

theorem pay1_apply (x : Vec Ideal S1024x896 .bf16) (y : Vec Ideal S1024x1024 .bf16) (p : Fin 896) (q : Fin 1024) :
    k0_pay1 x y (ix2 p q) = ∑ r, (x (ix2 r p) * y (ix2 r q) : EReal) := by
  pointwise [k0_pay1]

theorem pay4_apply (x : Vec Ideal S896x1024 .f32) (j : S896x1024.Idx) : k0_pay4 x j = (x j : EReal) := by
  pointwise [k0_pay4]

variable (m : (ℓ : Loc nD τ sig) → Buf (Elt Ideal) ℓ) (ρ : Dev nD → PrngReg) (c : Dev nD)

/-- The gradient of the projected rows and the normed rows in memory. -/
abbrev dp : FVec Ideal S8192x8064 .f32 := m ((c.tc : Thread nD τ).loc main_arg0)
abbrev nr : FVec Ideal S8192x1024 .f32 := m ((c.tc : Thread nD τ).loc main_arg1)

theorem V0 : V m c main_v0 = truncf .bf16 (dp m c) bitsLt_bf16_f32 := by
  unfold V; after_reads_simp <;> rfl
theorem V1 : V m c main_v1 = truncf .bf16 (nr m c) bitsLt_bf16_f32 := by
  unfold V; after_reads_simp <;> rfl

/-- The terms of an entry in block `b` of 896 rows of the product. -/
def term (A : FVec Ideal S8192x8064 .f32) (B : FVec Ideal S8192x1024 .f32) (p : Fin 896) (q : Fin 1024) (b : ℕ) (s : Fin 8192) : EReal :=
  A (ix2 s (col b p)) * B (ix2 s q)

theorem chunk_eq (t : Fin cfg0.N) (p : Fin 896) (q : Fin 1024) :
    k0_pay1 (iblk m c 0 t) (iblk m c 1 t) (ix2 p q) = chunk 8 1024 (term (dp m c) (nr m c) p q) t.val := by
  refine (pay1_apply (iblk m c 0 t) (iblk m c 1 t) p q).trans (Finset.sum_congr rfl fun r _ => ?_)
  have e0 : iblk m c 0 t (ix2 r p) = V m c main_v0 (ix2 (row t.val r) (col (t.val / 8) p)) := read_0 (V m c main_v0) t r p
  have e1 : iblk m c 1 t (ix2 r q) = V m c main_v1 (ix2 (row t.val r) q) := read_1 (V m c main_v1) t r q
  rw [e0, e1, V0, V1]
  rfl

/-- The block that the last point of a sweep stores. -/
theorem out_at (p : Fin 896) (q : Fin 1024) (n : ℕ) (h : n < cfg0.N) (hn : n % 8 + 1 = 8) :
    (outsAt0 m c n h).1 (ix2 p q) = ∑ s, term (dp m c) (nr m c) p q (n / 8) s := by
  have hs := sum_sweep 8 1024 (fun n h => (if n % 8 = 7 then (outsAt0 m c n h).1 (ix2 p q) else (outsAt0 m c n h).2 (ix2 p q) : EReal))
    (term (dp m c) (nr m c) p q) ?_ ?_ n h hn
  · simpa only [if_pos (show n % 8 = 7 by omega)] using hs
  · intro n h hn
    rw [if_neg (by omega), outsAt0_A m c ⟨n, h⟩ hn (by dsimp only; omega) (by dsimp only; omega)]
    dsimp only
    rw [first_acc]
    exact chunk_eq m c ⟨n, h⟩ p q
  · intro n h h' hn
    have e := congrArg (fun z : EReal => ((outsAt0 m c n h).2 (ix2 p q) : EReal) + z) (chunk_eq m c ⟨n + 1, h'⟩ p q)
    rw [if_neg (show ¬n % 8 = 7 by omega)]
    split
    · rw [outsAt0_C m c ⟨n + 1, h'⟩ hn (by dsimp only; omega) ‹_›]
      dsimp only
      rw [last_out, pay4_apply]
      exact e
    · rw [outsAt0_B m c ⟨n + 1, h'⟩ hn (by dsimp only; omega) ‹_›]
      dsimp only
      rw [next_acc]
      exact e

/-- The gradient of the weights. -/
def grad (A : FVec Ideal S8192x8064 .f32) (B : FVec Ideal S8192x1024 .f32) : FVec Ideal S8064x1024 .bf16 :=
  fun j => ∑ s : Fin 8192, (A (ix2 s (j 0)) * B (ix2 s (j 1)) : EReal)

theorem result : Value.G2 m c = grad (dp m c) (nr m c) := by
  funext j
  obtain ⟨x, q, rfl⟩ : ∃ (x : Fin 8064) (q : Fin 1024), j = ix2 x q := ⟨_, _, eq_ix2 j⟩
  have hx := x.isLt
  have hq := q.isLt
  have hN : cfg0.N = 72 := N_0
  have hpt : Value.pt2Of (ix2 x q) = 8 * (x.val / 896) + 7 := by
    show 8 * (1 * (x.val / 896 - 0) + 1 * (q.val / 1024 - 0)) + 7 = _
    omega
  have hloc : Value.loc2Of (ix2 x q) = ix2 ⟨x.val % 896, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  refine Finset.sum_congr rfl fun s _ => ?_
  have hc : col (Value.pt2Of (ix2 x q) / 8) ⟨x.val % 896, Nat.mod_lt _ (by decide)⟩ = x :=
    Fin.ext (by show 896 * (Value.pt2Of (ix2 x q) / 8 % 9) + x.val % 896 = x.val; rw [hpt]; omega)
  unfold term
  rw [hc]
  rfl

end Cert.Kernel9Ideal.Grad

namespace Cert.Reference9Ideal.Grad

open Idealize.ShloMosaic Idealize.ShloMosaic.TcCoe Idealize.ShloMosaic.Pointwise Idealize.SL.Sem Cert.Entry Cert.Accumulate Cert.Reference9Ideal
  Cert.Reference9Ideal.Gen

/-- The gradient of `w ↦ B·wᵀ`. -/
theorem value (A : FVec Ideal S8192x8064 .f32) (B : FVec Ideal S8192x1024 .f32) :
    truncf .bf16 (transpose S8064x1024 [1, 0] (transpose S1024x8064 [1, 0]
      (Host.dotGeneral dot_S8192x8064_S8192x1024_S8064x1024_0_0_1_1_n_n none A B) transposes_S8064x1024_S1024x8064_1_0)
      transposes_S1024x8064_S8064x1024_1_0) bitsLt_bf16_f32 = Cert.Kernel9Ideal.Grad.grad A B := by
  funext j
  obtain ⟨x, q, rfl⟩ : ∃ (x : Fin 8064) (q : Fin 1024), j = ix2 x q := ⟨_, _, eq_ix2 j⟩
  show _ = ∑ s : Fin 8192, (A (ix2 s x) * B (ix2 s q) : EReal)
  pointwise []

end Cert.Reference9Ideal.Grad

namespace Cert.Kernel9Ideal.Grad

open Idealize.ShloMosaic Idealize.SL.Sem Cert.Entry

theorem algebraic : Cert.algebraic_Kernel9Ideal_Reference9Ideal := by
  intro m g m' g' _ hargs
  refine ⟨fun c => grad (dp m c) (nr m c), (θ_run defs _ _).mono (fun r h c => ?_) (Value.run (F := Ideal) m g),
    (θ_run Cert.Reference9Ideal.defs _ _).mono (fun r h c => ?_) (Cert.Reference9Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference9Ideal.Grad.value _ _

end Cert.Kernel9Ideal.Grad

end
-- ==== Proof.ConvGrad.lean ====
/-
  What a causal depthwise convolution and its silu pass back, in blocks of 512 rows and 512 columns: the gradients of
  the input, of the four taps and of the bias. The rows next to a block, before it and after it, are staged beside it.
-/
module

public import proofs.«01_k».proof.Proof.NormGrad
public import proofs.«01_k».proof.Proof.Swiglu
public import proofs.«01_k».proof.Proof.Gen.Kernel10Ideal.Value
public import proofs.«01_k».proof.Proof.Gen.Reference10Ideal.Run

@[expose] public section

set_option maxRecDepth 16384

noncomputable section

namespace Cert.Kernel10Ideal.Grad

open Idealize.ShloMosaic Idealize.ShloMosaic.TcCoe Idealize.ShloMosaic.Pointwise Idealize.SL.Sem Cert.Entry Cert.Accumulate Cert.Kernel10Ideal
  Cert.Kernel10Ideal.Gen
open Cert.Kernel2Ideal.Grad (ofBits_one)

section Stores

variable {F : FTy → Type} [FloatOps F] (c : Dev nD) (i : grid0.Coords)
  (a0 : Memref sig .tc .vmem S512x512 .f32) (h0 : a0.IsWhole) (a1 : Memref sig .tc .vmem S8x512 .f32) (h1 : a1.IsWhole)
  (a2 : Memref sig .tc .vmem S8x512 .f32) (h2 : a2.IsWhole) (a3 : Memref sig .tc .vmem S512x512 .f32) (h3 : a3.IsWhole)
  (a4 : Memref sig .tc .vmem S8x512 .f32) (h4 : a4.IsWhole) (a5 : Memref sig .tc .vmem S4x512 .f32) (h5 : a5.IsWhole)
  (a6 : Memref sig .tc .vmem S1x512 .f32) (h6 : a6.IsWhole) (a7 : Memref sig .tc .vmem S512x512 .bf16) (h7 : a7.IsWhole)
  (a8 : Memref sig .tc .vmem S4x512 .f32) (h8 : a8.IsWhole) (a9 : Memref sig .tc .vmem S1x512 .f32) (h9 : a9.IsWhole)
  (a10 : Memref sig .tc .vmem S528x512 .f32) (h10 : a10.IsWhole) (a11 : Memref sig .tc .vmem S520x512 .f32) (h11 : a11.IsWhole)
  (x0 : Vec F S512x512 .f32) (x1 x2 : Vec F S8x512 .f32) (x3 : Vec F S512x512 .f32) (x4 : Vec F S8x512 .f32)
  (x5 : Vec F S4x512 .f32) (x6 : Vec F S1x512 .f32) (x8 : Vec F S4x512 .f32) (x9 : Vec F S1x512 .f32)

/-- The buffer of the inputs: 8 rows before the block, its 512 rows, 8 rows after it. -/
def xbuf : Vec F S528x512 .f32 := View.canon
  [⟨Rect.unit ![520, 0] S8x512.size inb_S528x512_S8x512_520_0, k0_pay4 x2⟩,
   ⟨Rect.unit ![8, 0] S512x512.size inb_S528x512_S512x512_8_0, k0_pay3 x0⟩,
   ⟨Rect.unit ![0, 0] S8x512.size inb_S528x512_S8x512_0_0, k0_pay2 i x1⟩]

/-- The four taps, and the sum of the bias and the first two products. -/
def tap0 : Vec F S1x512 .f32 := View.ld x5 (Rect.unit ![0, 0] S1x512.size inb_S4x512_S1x512_0_0)
def tap1 : Vec F S1x512 .f32 := View.ld x5 (Rect.unit ![1, 0] S1x512.size inb_S4x512_S1x512_1_0)
def tap2 : Vec F S1x512 .f32 := View.ld x5 (Rect.unit ![2, 0] S1x512.size inb_S4x512_S1x512_2_0)
def tap3 : Vec F S1x512 .f32 := View.ld x5 (Rect.unit ![3, 0] S1x512.size inb_S4x512_S1x512_3_0)
def half (X : Vec F S528x512 .f32) : Vec F S520x512 .f32 := k0_pay5 x6 (tap0 x5)
  (View.ld X (Rect.unit ![5, 0] S520x512.size inb_S528x512_S520x512_5_0)) (tap1 x5)
  (View.ld X (Rect.unit ![6, 0] S520x512.size inb_S528x512_S520x512_6_0))

/-- The buffer of the gradients before the silu: the block's 512 rows and 8 rows after it. -/
def dbuf (X : Vec F S528x512 .f32) : Vec F S520x512 .f32 := View.canon
  [⟨Rect.unit ![512, 0] S8x512.size inb_S520x512_S8x512_512_0, k0_pay8 (BitVec.ofNat 32 (i 1).val) (half x5 x6 X) (tap2 x5)
      (View.ld X (Rect.unit ![7, 0] S520x512.size inb_S528x512_S520x512_7_0)) (tap3 x5)
      (View.ld X (Rect.unit ![8, 0] S520x512.size inb_S528x512_S520x512_8_0)) x4⟩,
   ⟨Rect.unit ![0, 0] S512x512.size inb_S520x512_S512x512_0_0, k0_pay7 (half x5 x6 X) (tap2 x5)
      (View.ld X (Rect.unit ![7, 0] S520x512.size inb_S528x512_S520x512_7_0)) (tap3 x5)
      (View.ld X (Rect.unit ![8, 0] S520x512.size inb_S528x512_S520x512_8_0)) x3⟩]

/-- What a point stores of the input's gradient, and what it adds to the bias' and the taps'. -/
def dxOf (D : Vec F S520x512 .f32) : Vec F S512x512 .bf16 := k0_pay10 k0_pay9
  (tap0 x5) (View.ld D (Rect.unit ![3, 0] S512x512.size inb_S520x512_S512x512_3_0))
  (tap1 x5) (View.ld D (Rect.unit ![2, 0] S512x512.size inb_S520x512_S512x512_2_0))
  (tap2 x5) (View.ld D (Rect.unit ![1, 0] S512x512.size inb_S520x512_S512x512_1_0))
  (tap3 x5) (View.ld D (Rect.unit ![0, 0] S512x512.size inb_S520x512_S512x512_0_0))
def dTop (D : Vec F S520x512 .f32) : Vec F S512x512 .f32 := View.ld D (Rect.unit ![0, 0] S512x512.size inb_S520x512_S512x512_0_0)

theorem stored_7A (q0 q1 q2 q3 q4 q5 q6 q7 q8 q9) : out0_A_7 c i a0 h0 a1 h1 a2 h2 a3 h3 a4 h4 a5 h5 a6 h6 a7 h7 a8 h8 a9 h9 a10 h10 a11 h11
    q0 q1 q2 q3 q4 q5 q6 q7 q8 q9 x0 x1 x2 x3 x4 x5 x6 = dxOf x5 (dbuf i x3 x4 x5 x6 (xbuf i x0 x1 x2)) := by
  unfold out0_A_7
  rw [View.read_writes_eq_canon _ _ _ (by apply cover0_A_7)]
  unfold kernelRun0_A
  dsimp only
  sl_unfold_words
  refine (View.canon_unit_zero zeros _ _).trans ?_
  simp only [View.readAt_eq_ld, h0.read_unread, h1.read_unread, h2.read_unread, h3.read_unread, h4.read_unread, h5.read_unread,
    h6.read_unread, View.readCov_eq_canon', ld_all]
  rfl

theorem stored_7B (q0 q1 q2 q3 q4 q5 q6 q7 q8 q9) : out0_B_7 c i a0 h0 a1 h1 a2 h2 a3 h3 a4 h4 a5 h5 a6 h6 a7 h7 a8 h8 a9 h9 a10 h10 a11 h11
    q0 q1 q2 q3 q4 q5 q6 q7 q8 q9 x0 x1 x2 x3 x4 x5 x6 x8 x9 = dxOf x5 (dbuf i x3 x4 x5 x6 (xbuf i x0 x1 x2)) := by
  unfold out0_B_7
  rw [View.read_writes_eq_canon _ _ _ (by apply cover0_B_7)]
  unfold kernelRun0_B
  dsimp only
  sl_unfold_words
  refine (View.canon_unit_zero zeros _ _).trans ?_
  simp only [View.readAt_eq_ld, h0.read_unread, h1.read_unread, h2.read_unread, h3.read_unread, h4.read_unread, h5.read_unread,
    h6.read_unread, View.readCov_eq_canon', ld_all]
  rfl

theorem stored_9A (q0 q1 q2 q3 q4 q5 q6 q7 q8 q9) : out0_A_9 c i a0 h0 a1 h1 a2 h2 a3 h3 a4 h4 a5 h5 a6 h6 a7 h7 a8 h8 a9 h9 a10 h10 a11 h11
    q0 q1 q2 q3 q4 q5 q6 q7 q8 q9 x0 x1 x2 x3 x4 x5 x6 = k0_pay11 (dTop (dbuf i x3 x4 x5 x6 (xbuf i x0 x1 x2))) := by
  unfold out0_A_9
  rw [View.read_writes_eq_canon _ _ _ (by apply cover0_A_9)]
  unfold kernelRun0_A
  dsimp only
  sl_unfold_words
  refine (View.canon_unit_zero zeros _ _).trans ?_
  simp only [View.readAt_eq_ld, h0.read_unread, h1.read_unread, h2.read_unread, h3.read_unread, h4.read_unread, h5.read_unread,
    h6.read_unread, h9.read_unread, View.readCov_eq_canon', ld_all]
  unfold dTop
  rfl

theorem stored_9B (q0 q1 q2 q3 q4 q5 q6 q7 q8 q9) : out0_B_9 c i a0 h0 a1 h1 a2 h2 a3 h3 a4 h4 a5 h5 a6 h6 a7 h7 a8 h8 a9 h9 a10 h10 a11 h11
    q0 q1 q2 q3 q4 q5 q6 q7 q8 q9 x0 x1 x2 x3 x4 x5 x6 x8 x9 = k0_pay12 (dTop (dbuf i x3 x4 x5 x6 (xbuf i x0 x1 x2))) x9 := by
  unfold out0_B_9
  rw [View.read_writes_eq_canon _ _ _ (by apply cover0_B_9)]
  unfold kernelRun0_B
  dsimp only
  sl_unfold_words
  refine (View.canon_unit_zero zeros _ _).trans ?_
  simp only [View.readAt_eq_ld, h0.read_unread, h1.read_unread, h2.read_unread, h3.read_unread, h4.read_unread, h5.read_unread,
    h6.read_unread, h9.read_unread, View.readCov_eq_canon', ld_all]
  unfold dTop
  rfl

/-- The block's inputs that tap `k` meets, 5 + `k` rows into the buffer. -/
def x5w (X : Vec F S528x512 .f32) : Vec F S512x512 .f32 := View.ld X (Rect.unit ![5, 0] S512x512.size inb_S528x512_S512x512_5_0)
def x6w (X : Vec F S528x512 .f32) : Vec F S512x512 .f32 := View.ld X (Rect.unit ![6, 0] S512x512.size inb_S528x512_S512x512_6_0)
def x7w (X : Vec F S528x512 .f32) : Vec F S512x512 .f32 := View.ld X (Rect.unit ![7, 0] S512x512.size inb_S528x512_S512x512_7_0)
def x8w (X : Vec F S528x512 .f32) : Vec F S512x512 .f32 := View.ld X (Rect.unit ![8, 0] S512x512.size inb_S528x512_S512x512_8_0)

/-- The taps' gradients, a row each, at a sweep's first point and at a later one. -/
def dwFirst (D : Vec F S520x512 .f32) (X : Vec F S528x512 .f32) : Vec F S4x512 .f32 := View.canon
  [⟨Rect.unit ![3, 0] S1x512.size inb_S4x512_S1x512_3_0, k0_pay19 (dTop D) (x8w X)⟩,
   ⟨Rect.unit ![2, 0] S1x512.size inb_S4x512_S1x512_2_0, k0_pay17 (dTop D) (x7w X)⟩,
   ⟨Rect.unit ![1, 0] S1x512.size inb_S4x512_S1x512_1_0, k0_pay15 (dTop D) (x6w X)⟩,
   ⟨Rect.unit ![0, 0] S1x512.size inb_S4x512_S1x512_0_0, k0_pay13 (dTop D) (x5w X)⟩]
def dwNext (D : Vec F S520x512 .f32) (X : Vec F S528x512 .f32) (old : Vec F S4x512 .f32) : Vec F S4x512 .f32 := View.canon
  [⟨Rect.unit ![3, 0] S1x512.size inb_S4x512_S1x512_3_0, k0_pay1 (k0_pay19 (dTop D) (x8w X)) (tap3 old)⟩,
   ⟨Rect.unit ![2, 0] S1x512.size inb_S4x512_S1x512_2_0, k0_pay18 (dTop D) (x7w X) (tap2 old)⟩,
   ⟨Rect.unit ![1, 0] S1x512.size inb_S4x512_S1x512_1_0, k0_pay16 (dTop D) (x6w X) (tap1 old)⟩,
   ⟨Rect.unit ![0, 0] S1x512.size inb_S4x512_S1x512_0_0, k0_pay14 (k0_pay13 (dTop D) (x5w X)) (tap0 old)⟩]

theorem stored_8A (q0 q1 q2 q3 q4 q5 q6 q7 q8 q9) : out0_A_8 c i a0 h0 a1 h1 a2 h2 a3 h3 a4 h4 a5 h5 a6 h6 a7 h7 a8 h8 a9 h9 a10 h10 a11 h11
    q0 q1 q2 q3 q4 q5 q6 q7 q8 q9 x0 x1 x2 x3 x4 x5 x6 = dwFirst (dbuf i x3 x4 x5 x6 (xbuf i x0 x1 x2)) (xbuf i x0 x1 x2) := by
  unfold out0_A_8
  rw [View.read_writes_eq_canon _ _ _ (by apply cover0_A_8)]
  unfold kernelRun0_A
  dsimp only
  sl_unfold_words
  simp only [View.readAt_eq_ld, h0.read_unread, h1.read_unread, h2.read_unread, h3.read_unread, h4.read_unread, h5.read_unread,
    h6.read_unread, h8.read_unread, View.readCov_eq_canon', ld_all]
  unfold dwFirst dTop x5w x6w x7w x8w
  rfl

theorem stored_8B (q0 q1 q2 q3 q4 q5 q6 q7 q8 q9) : out0_B_8 c i a0 h0 a1 h1 a2 h2 a3 h3 a4 h4 a5 h5 a6 h6 a7 h7 a8 h8 a9 h9 a10 h10 a11 h11
    q0 q1 q2 q3 q4 q5 q6 q7 q8 q9 x0 x1 x2 x3 x4 x5 x6 x8 x9 = dwNext (dbuf i x3 x4 x5 x6 (xbuf i x0 x1 x2)) (xbuf i x0 x1 x2) x8 := by
  unfold out0_B_8
  rw [View.read_writes_eq_canon _ _ _ (by apply cover0_B_8)]
  unfold kernelRun0_B
  dsimp only
  sl_unfold_words
  simp only [View.readAt_eq_ld, h0.read_unread, h1.read_unread, h2.read_unread, h3.read_unread, h4.read_unread, h5.read_unread,
    h6.read_unread, h8.read_unread, View.readCov_eq_canon', ld_all]
  unfold dwNext dTop x5w x6w x7w x8w
  rfl

end Stores

/-! ## Rows of a buffer -/

theorem emb_row {A B : ℕ} (o : ℕ) (inb) (r : Fin B) (f : Fin 512) (h : o + r.val < A) :
    (Rect.unit (s := ⟨2, ![A, 512]⟩) ![o, 0] ![B, 512] inb).emb (ix2 r f) = ix2 ⟨o + r.val, h⟩ f := by
  funext a
  apply Fin.ext
  match a with
  | ⟨0, _⟩ => show o + 1 * r.val = o + r.val; omega
  | ⟨1, _⟩ => show 0 + 1 * f.val = f.val; omega

theorem ld_row {A B : ℕ} (X : Vec Ideal ⟨2, ![A, 512]⟩ .f32) (o : ℕ) (inb) (r : Fin B) (f : Fin 512) (h : o + r.val < A) :
    View.ld X (Rect.unit (s := ⟨2, ![A, 512]⟩) ![o, 0] ![B, 512] inb) (ix2 r f) = X (ix2 ⟨o + r.val, h⟩ f) :=
  congrArg X (emb_row o inb r f h)

theorem canon_in {A B : ℕ} (o : ℕ) (inb) (p : Vec Ideal ⟨2, ![B, 512]⟩ .f32) (L : List (View.Piece (Elt Ideal) ⟨2, ![A, 512]⟩ .f32))
    (r : Fin B) (f : Fin 512) (s : Fin A) (h : s.val = o + r.val) :
    View.canon ((⟨Rect.unit (s := ⟨2, ![A, 512]⟩) ![o, 0] ![B, 512] inb, p⟩ : View.Piece (Elt Ideal) ⟨2, ![A, 512]⟩ .f32) :: L) (ix2 s f)
      = p (ix2 r f) := by
  have e := View.canon_cons_emb (Rect.unit (s := ⟨2, ![A, 512]⟩) ![o, 0] ![B, 512] inb) p L (ix2 r f)
  rw [emb_row o inb r f (by omega)] at e
  rw [show s = ⟨o + r.val, by omega⟩ from Fin.ext h]
  exact e

theorem canon_out {A B : ℕ} (o : ℕ) (inb) (p : Vec Ideal ⟨2, ![B, 512]⟩ .f32) (L : List (View.Piece (Elt Ideal) ⟨2, ![A, 512]⟩ .f32))
    (f : Fin 512) (s : Fin A) (h : s.val < o ∨ o + B ≤ s.val) :
    View.canon ((⟨Rect.unit (s := ⟨2, ![A, 512]⟩) ![o, 0] ![B, 512] inb, p⟩ : View.Piece (Elt Ideal) ⟨2, ![A, 512]⟩ .f32) :: L) (ix2 s f)
      = View.canon L (ix2 s f) := by
  refine View.canon_cons_of_not_mem _ _ fun hm => ?_
  have hm' : ix2 s f ∈ (Rect.unit (s := ⟨2, ![A, 512]⟩) ![o, 0] ![B, 512] inb).set := hm
  rw [Rect.mem_set_unit] at hm'
  have h1 : o ≤ s.val ∧ s.val < o + B := hm' 0
  omega

theorem offset {A : ℕ} (o B : ℕ) (r : Fin A) (h : o ≤ r.val) (h' : r.val < o + B) : ∃ (k : Fin B) (hk : o + k.val < A), r = ⟨o + k.val, hk⟩ :=
  ⟨⟨r.val - o, by omega⟩, by dsimp only; omega, Fin.ext (by dsimp only; omega)⟩

section Rows

variable (i : grid0.Coords) (x0 : Vec Ideal S512x512 .f32) (x1 x2 : Vec Ideal S8x512 .f32) (x3 : Vec Ideal S512x512 .f32)
  (x4 : Vec Ideal S8x512 .f32) (x5 x8 : Vec Ideal S4x512 .f32) (x6 : Vec Ideal S1x512 .f32) (X : Vec Ideal S528x512 .f32)
  (D : Vec Ideal S520x512 .f32) (f : Fin 512)

theorem pay2_apply (r : Fin 8) : k0_pay2 i x1 (ix2 r f)
    = Scalar.select (Scalar.cmpi .sgt (BitVec.ofNat 32 (i 1).val) 0#32) (x1 (ix2 r f) : EReal) 0 := by
  pointwise [k0_pay2]
theorem xbuf_before (r : Fin 8) : xbuf i x0 x1 x2 (ix2 ⟨r.val, by omega⟩ f) = k0_pay2 i x1 (ix2 r f) :=
  (canon_out 520 _ _ _ f _ (by dsimp only; omega)).trans ((canon_out 8 _ _ _ f _ (by dsimp only; omega)).trans
    (canon_in 0 _ _ _ r f _ (by dsimp only; omega)))
theorem xbuf_block (r : Fin 512) : xbuf i x0 x1 x2 (ix2 ⟨8 + r.val, by omega⟩ f) = x0 (ix2 r f) :=
  (canon_out 520 _ _ _ f _ (by dsimp only; omega)).trans ((canon_in 8 _ _ _ r f _ rfl).trans (by pointwise [k0_pay3]))
theorem xbuf_after (r : Fin 8) : xbuf i x0 x1 x2 (ix2 ⟨520 + r.val, by omega⟩ f) = x2 (ix2 r f) :=
  (canon_in 520 _ _ _ r f _ rfl).trans (by pointwise [k0_pay4])

theorem tap0_apply (u : Fin 1) : tap0 x5 (ix2 u f) = x5 (ix2 0 f) :=
  (ld_row x5 0 _ u f (by omega)).trans (congrArg (fun k => x5 (ix2 k f)) (Fin.ext (by show 0 + u.val = 0; omega)))
theorem tap1_apply (u : Fin 1) : tap1 x5 (ix2 u f) = x5 (ix2 1 f) :=
  (ld_row x5 1 _ u f (by omega)).trans (congrArg (fun k => x5 (ix2 k f)) (Fin.ext (by show 1 + u.val = 1; omega)))
theorem tap2_apply (u : Fin 1) : tap2 x5 (ix2 u f) = x5 (ix2 2 f) :=
  (ld_row x5 2 _ u f (by omega)).trans (congrArg (fun k => x5 (ix2 k f)) (Fin.ext (by show 2 + u.val = 2; omega)))
theorem tap3_apply (u : Fin 1) : tap3 x5 (ix2 u f) = x5 (ix2 3 f) :=
  (ld_row x5 3 _ u f (by omega)).trans (congrArg (fun k => x5 (ix2 k f)) (Fin.ext (by show 3 + u.val = 3; omega)))

/-- The convolution at a row, and the silu's derivative. -/
def conv (w : Fin 4 → EReal) (b y0 y1 y2 y3 : EReal) : EReal := b + w 0 * y0 + w 1 * y1 + w 2 * y2 + w 3 * y3
theorem conv_congr {w w' : Fin 4 → EReal} {b b' y0 y0' y1 y1' y2 y2' y3 y3' : EReal} (hw : ∀ k, w k = w' k) (hb : b = b') (h0 : y0 = y0')
    (h1 : y1 = y1') (h2 : y2 = y2') (h3 : y3 = y3') : conv w b y0 y1 y2 y3 = conv w' b' y0' y1' y2' y3' := by
  rw [funext hw, hb, h0, h1, h2, h3]
def slope (y : EReal) : EReal := Ideal.logistic y * (1 + y * (1 - Ideal.logistic y))
def convAt (r : Fin 520) : EReal := conv (fun k => x5 (ix2 k f)) (x6 (ix2 0 f)) (X (ix2 ⟨5 + r.val, by omega⟩ f))
  (X (ix2 ⟨6 + r.val, by omega⟩ f)) (X (ix2 ⟨7 + r.val, by omega⟩ f)) (X (ix2 ⟨8 + r.val, by omega⟩ f))

theorem pay6_apply (r : Fin 520) : k0_pay6 (half x5 x6 X) (tap2 x5)
      (View.ld X (Rect.unit ![7, 0] S520x512.size inb_S528x512_S520x512_7_0)) (tap3 x5)
      (View.ld X (Rect.unit ![8, 0] S520x512.size inb_S528x512_S520x512_8_0)) (ix2 r f) = slope (convAt x5 x6 X f r) := by
  unfold slope convAt conv
  dsimp only
  rw [← ld_row X 5 inb_S528x512_S520x512_5_0 r f, ← ld_row X 6 inb_S528x512_S520x512_6_0 r f,
    ← ld_row X 7 inb_S528x512_S520x512_7_0 r f, ← ld_row X 8 inb_S528x512_S520x512_8_0 r f,
    ← tap0_apply x5 f 0, ← tap1_apply x5 f 0, ← tap2_apply x5 f 0, ← tap3_apply x5 f 0, ← ofBits_one]
  pointwise [k0_pay6, half, k0_pay5]

theorem dbuf_block (r : Fin 512) : dbuf i x3 x4 x5 x6 X (ix2 ⟨r.val, by omega⟩ f)
    = x3 (ix2 r f) * slope (convAt x5 x6 X f ⟨r.val, by omega⟩) := by
  refine (canon_out 512 _ _ _ f _ (by dsimp only; omega)).trans ((canon_in 0 _ _ _ r f _ (by dsimp only; omega)).trans ?_)
  rw [← pay6_apply]
  pointwise [k0_pay7]

theorem dbuf_after (r : Fin 8) : dbuf i x3 x4 x5 x6 X (ix2 ⟨512 + r.val, by omega⟩ f)
    = Scalar.select (Scalar.cmpi .slt (BitVec.ofNat 32 (i 1).val) 15#32) (x4 (ix2 r f) * slope (convAt x5 x6 X f ⟨512 + r.val, by omega⟩) : EReal) 0 := by
  refine (canon_in 512 _ _ _ r f _ rfl).trans ?_
  rw [← pay6_apply]
  pointwise [k0_pay8]

theorem dxOf_apply (r : Fin 512) : dxOf x5 D (ix2 r f) = 0 + x5 (ix2 0 f) * D (ix2 ⟨3 + r.val, by omega⟩ f) + x5 (ix2 1 f) * D (ix2 ⟨2 + r.val, by omega⟩ f)
    + x5 (ix2 2 f) * D (ix2 ⟨1 + r.val, by omega⟩ f) + x5 (ix2 3 f) * D (ix2 ⟨0 + r.val, by omega⟩ f) := by
  rw [← ld_row D 3 inb_S520x512_S512x512_3_0 r f, ← ld_row D 2 inb_S520x512_S512x512_2_0 r f,
    ← ld_row D 1 inb_S520x512_S512x512_1_0 r f, ← ld_row D 0 inb_S520x512_S512x512_0_0 r f,
    ← tap0_apply x5 f 0, ← tap1_apply x5 f 0, ← tap2_apply x5 f 0, ← tap3_apply x5 f 0]
  pointwise [dxOf, k0_pay10, k0_pay9]

/-- A tap's share: the rows' sum of the gradient times the inputs it meets. -/
def tapSum (o : ℕ) (h : o ≤ 8) : EReal := ∑ r : Fin 512, D (ix2 ⟨r.val, by omega⟩ f) * X (ix2 ⟨o + r.val, by omega⟩ f)
def rowSum : EReal := ∑ r : Fin 512, D (ix2 ⟨r.val, by omega⟩ f)

theorem dTop_apply (r : Fin 512) : dTop D (ix2 r f) = D (ix2 ⟨r.val, by omega⟩ f) :=
  (ld_row D 0 _ r f (by omega)).trans (congrArg (fun k => D (ix2 k f)) (Fin.ext (by dsimp only; omega)))

theorem pay11_apply : k0_pay11 (dTop D) (ix2 0 f) = rowSum D f := by
  unfold rowSum
  simp only [← dTop_apply]
  pointwise [k0_pay11]
theorem pay12_apply (old : Vec Ideal S1x512 .f32) : k0_pay12 (dTop D) old (ix2 0 f) = (old (ix2 0 f) + rowSum D f : EReal) := by
  rw [← pay11_apply]
  pointwise [k0_pay12]

theorem tap_sum (y : Vec Ideal S512x512 .f32) (o : ℕ) (h : o ≤ 8) (hy : ∀ r : Fin 512, y (ix2 r f) = X (ix2 ⟨o + r.val, by omega⟩ f)) :
    (∑ r, (dTop D (ix2 r f) * y (ix2 r f) : EReal)) = tapSum X D f o h :=
  Finset.sum_congr rfl fun r _ => by rw [dTop_apply, hy]

theorem pay13_apply : k0_pay13 (dTop D) (x5w X) (ix2 0 f) = tapSum X D f 5 (by decide) := by
  rw [← tap_sum X D f (x5w X) 5 _ (fun r => ld_row X 5 _ r f _)]
  pointwise [k0_pay13]
theorem pay15_apply : k0_pay15 (dTop D) (x6w X) (ix2 0 f) = tapSum X D f 6 (by decide) := by
  rw [← tap_sum X D f (x6w X) 6 _ (fun r => ld_row X 6 _ r f _)]
  pointwise [k0_pay15]
theorem pay17_apply : k0_pay17 (dTop D) (x7w X) (ix2 0 f) = tapSum X D f 7 (by decide) := by
  rw [← tap_sum X D f (x7w X) 7 _ (fun r => ld_row X 7 _ r f _)]
  pointwise [k0_pay17]
theorem pay19_apply : k0_pay19 (dTop D) (x8w X) (ix2 0 f) = tapSum X D f 8 (by decide) := by
  rw [← tap_sum X D f (x8w X) 8 _ (fun r => ld_row X 8 _ r f _)]
  pointwise [k0_pay19]

/-- Four rows stored one by one, read at a row. -/
theorem canon_rows (inb3 inb2 inb1 inb0) (p3 p2 p1 p0 : Vec Ideal S1x512 .f32) (k : Fin 4) :
    View.canon (s := S4x512) [(⟨Rect.unit (s := ⟨2, ![4, 512]⟩) ![3, 0] ![1, 512] inb3, p3⟩ : View.Piece (Elt Ideal) ⟨2, ![4, 512]⟩ .f32),
      ⟨Rect.unit (s := ⟨2, ![4, 512]⟩) ![2, 0] ![1, 512] inb2, p2⟩, ⟨Rect.unit (s := ⟨2, ![4, 512]⟩) ![1, 0] ![1, 512] inb1, p1⟩,
      ⟨Rect.unit (s := ⟨2, ![4, 512]⟩) ![0, 0] ![1, 512] inb0, p0⟩] (ix2 k f) = (![p0, p1, p2, p3] k) (ix2 0 f) := by
  match k with
  | 3 => exact canon_in 3 _ _ _ 0 f 3 rfl
  | 2 => exact (canon_out 3 _ _ _ f 2 (.inl (by decide))).trans (canon_in 2 _ _ _ 0 f 2 rfl)
  | 1 => exact (canon_out 3 _ _ _ f 1 (.inl (by decide))).trans ((canon_out 2 _ _ _ f 1 (.inl (by decide))).trans (canon_in 1 _ _ _ 0 f 1 rfl))
  | 0 => exact (canon_out 3 _ _ _ f 0 (.inl (by decide))).trans ((canon_out 2 _ _ _ f 0 (.inl (by decide))).trans
      ((canon_out 1 _ _ _ f 0 (.inl (by decide))).trans (canon_in 0 _ _ _ 0 f 0 rfl)))

theorem dwFirst_apply (k : Fin 4) : dwFirst D X (ix2 k f) = tapSum X D f (5 + k.val) (by omega) := by
  refine (canon_rows f _ _ _ _ _ _ _ _ k).trans ?_
  match k with
  | 0 => exact pay13_apply X D f
  | 1 => exact pay15_apply X D f
  | 2 => exact pay17_apply X D f
  | 3 => exact pay19_apply X D f

theorem dwNext_apply (old : Vec Ideal S4x512 .f32) (k : Fin 4) :
    dwNext D X old (ix2 k f) = (old (ix2 k f) + tapSum X D f (5 + k.val) (by omega) : EReal) := by
  refine (canon_rows f _ _ _ _ _ _ _ _ k).trans ?_
  match k with
  | 0 =>
    refine Eq.trans ?_ (congrArg₂ (fun a b : EReal => a + b) (tap0_apply old f 0) (pay13_apply X D f))
    show k0_pay14 _ _ (ix2 0 f) = _
    pointwise [k0_pay14]
  | 1 =>
    refine Eq.trans ?_ (congrArg₂ (fun a b : EReal => a + b) (tap1_apply old f 0) (pay15_apply X D f))
    show k0_pay16 _ _ _ (ix2 0 f) = _
    pointwise [k0_pay16]
  | 2 =>
    refine Eq.trans ?_ (congrArg₂ (fun a b : EReal => a + b) (tap2_apply old f 0) (pay17_apply X D f))
    show k0_pay18 _ _ _ (ix2 0 f) = _
    pointwise [k0_pay18]
  | 3 =>
    refine Eq.trans ?_ (congrArg₂ (fun a b : EReal => a + b) (tap3_apply old f 0) (pay19_apply X D f))
    show k0_pay1 _ _ (ix2 0 f) = _
    pointwise [k0_pay1]

end Rows

/-! ## The blocks -/

theorem index_0 : ∀ t : Fin cfg0.N, win0_0.index t 0 = t.val % 16 ∧ win0_0.index t 1 = 8 + t.val / 16 := by decide +kernel
theorem index_1 : ∀ t : Fin cfg0.N, win0_1.index t 0 = 64 * (t.val % 16) - 1 ∧ win0_1.index t 1 = 8 + t.val / 16 := by decide +kernel
theorem index_2 : ∀ t : Fin cfg0.N, win0_2.index t 0 = min (64 * (t.val % 16) + 64) 1023 ∧ win0_2.index t 1 = 8 + t.val / 16 := by decide +kernel
theorem index_3 : ∀ t : Fin cfg0.N, win0_3.index t 0 = t.val % 16 ∧ win0_3.index t 1 = t.val / 16 := by decide +kernel
theorem index_4 : ∀ t : Fin cfg0.N, win0_4.index t 0 = min (64 * (t.val % 16) + 64) 1023 ∧ win0_4.index t 1 = t.val / 16 := by decide +kernel
theorem index_5 : ∀ t : Fin cfg0.N, win0_5.index t 0 = 0 ∧ win0_5.index t 1 = t.val / 16 := by decide +kernel
theorem index_6 : ∀ t : Fin cfg0.N, win0_6.index t 0 = 0 ∧ win0_6.index t 1 = t.val / 16 := by decide +kernel
theorem index_7 : ∀ t : Fin cfg0.N, win0_7.index t 0 = t.val % 16 ∧ win0_7.index t 1 = t.val / 16 := by decide +kernel
theorem index_8 : ∀ t : Fin cfg0.N, win0_8.index t 0 = 0 ∧ win0_8.index t 1 = t.val / 16 := by decide +kernel
theorem index_9 : ∀ t : Fin cfg0.N, win0_9.index t 0 = 0 ∧ win0_9.index t 1 = t.val / 16 := by decide +kernel

theorem not_first : ∀ t : Fin cfg0.N, Scalar.cmpi .sgt (BitVec.ofNat 32 (grid0.coords t 1).val) 0#32 = if t.val % 16 = 0 then 0#1 else 1#1 := by
  decide +kernel
theorem not_last : ∀ t : Fin cfg0.N, Scalar.cmpi .slt (BitVec.ofNat 32 (grid0.coords t 1).val) 15#32 = if t.val % 16 = 15 then 0#1 else 1#1 := by
  decide +kernel

/-- Column `f` of channel block `b`, and a channel's column in the projection. -/
def chan (b : ℕ) (f : Fin 512) : Fin 3072 := ⟨512 * (b % 6) + f.val, by omega⟩
def pcol (q : Fin 3072) : Fin 8064 := ⟨4096 + q.val, by omega⟩
/-- Row `p` of row block `b`. -/
def row (b : ℕ) (p : Fin 512) : Fin 8192 := ⟨512 * (b % 16) + p.val, by omega⟩

variable (m : (ℓ : Loc nD τ sig) → Buf (Elt Ideal) ℓ) (ρ : Dev nD → PrngReg) (c : Dev nD)

/-- The arguments in memory. -/
abbrev proj : FVec Ideal S8192x8064 .f32 := m ((c.tc : Thread nD τ).loc main_arg0)
abbrev cw : FVec Ideal S4x3072 .f32 := m ((c.tc : Thread nD τ).loc main_arg1)
abbrev cb : FVec Ideal S3072 .f32 := m ((c.tc : Thread nD τ).loc main_arg2)
abbrev dy : FVec Ideal S8192x3072 .f32 := m ((c.tc : Thread nD τ).loc main_arg3)

theorem V0 : V m c main_v0 = shapeCast S1x3072 (cb m c) shapeCasts_S3072_S1x3072 := by
  unfold V; after_reads_simp <;> rfl

theorem block_0 (t : Fin cfg0.N) (p : Fin 512) (f : Fin 512) : X0_0 m c t (ix2 p f) = proj m c (ix2 (row t.val p) (pcol (chan (t.val / 16) f))) := by
  obtain ⟨h0, h1⟩ := index_0 t
  have hN : cfg0.N = 96 := N_0
  have := t.isLt
  unfold X0_0 Pipeline.Window.fill
  rw [dif_pos (moved0_0 t (ix2 p f))]
  unfold iblk
  rw [View.read_apply]
  show V m c main_arg0 _ = _
  rw [V_main_arg0]
  show proj m c _ = proj m c _
  congr 1
  funext a
  apply Fin.ext
  match a with
  | ⟨0, _⟩ => show win0_0.index t 0 * 512 + 1 * p.val = 512 * (t.val % 16) + p.val; rw [h0]; omega
  | ⟨1, _⟩ => show win0_0.index t 1 * 512 + 1 * f.val = 4096 + (512 * (t.val / 16 % 6) + f.val); rw [h1]; omega

theorem block_1 (t : Fin cfg0.N) (p : Fin 8) (f : Fin 512) (h : t.val % 16 ≠ 0) :
    X0_1 m c t (ix2 p f) = proj m c (ix2 ⟨512 * (t.val % 16) + p.val - 8, by omega⟩ (pcol (chan (t.val / 16) f))) := by
  obtain ⟨h0, h1⟩ := index_1 t
  have hN : cfg0.N = 96 := N_0
  have := t.isLt
  unfold X0_1 Pipeline.Window.fill
  rw [dif_pos (moved0_1 t (ix2 p f))]
  unfold iblk
  rw [View.read_apply]
  show V m c main_arg0 _ = _
  rw [V_main_arg0]
  show proj m c _ = proj m c _
  congr 1
  funext a
  apply Fin.ext
  match a with
  | ⟨0, _⟩ => show win0_1.index t 0 * 8 + 1 * p.val = 512 * (t.val % 16) + p.val - 8; rw [h0]; omega
  | ⟨1, _⟩ => show win0_1.index t 1 * 512 + 1 * f.val = 4096 + (512 * (t.val / 16 % 6) + f.val); rw [h1]; omega

theorem block_2 (t : Fin cfg0.N) (p : Fin 8) (f : Fin 512) (h : t.val % 16 ≠ 15) :
    X0_2 m c t (ix2 p f) = proj m c (ix2 ⟨512 * (t.val % 16) + 512 + p.val, by omega⟩ (pcol (chan (t.val / 16) f))) := by
  obtain ⟨h0, h1⟩ := index_2 t
  have hN : cfg0.N = 96 := N_0
  have := t.isLt
  unfold X0_2 Pipeline.Window.fill
  rw [dif_pos (moved0_2 t (ix2 p f))]
  unfold iblk
  rw [View.read_apply]
  show V m c main_arg0 _ = _
  rw [V_main_arg0]
  show proj m c _ = proj m c _
  congr 1
  funext a
  apply Fin.ext
  match a with
  | ⟨0, _⟩ => show win0_2.index t 0 * 8 + 1 * p.val = 512 * (t.val % 16) + 512 + p.val; rw [h0]; omega
  | ⟨1, _⟩ => show win0_2.index t 1 * 512 + 1 * f.val = 4096 + (512 * (t.val / 16 % 6) + f.val); rw [h1]; omega

theorem block_3 (t : Fin cfg0.N) (p : Fin 512) (f : Fin 512) : iblk m c 3 t (ix2 p f) = dy m c (ix2 (row t.val p) (chan (t.val / 16) f)) := by
  obtain ⟨h0, h1⟩ := index_3 t
  have hN : cfg0.N = 96 := N_0
  have := t.isLt
  unfold iblk
  rw [View.read_apply]
  show V m c main_arg3 _ = _
  rw [V_main_arg3]
  show dy m c _ = dy m c _
  congr 1
  funext a
  apply Fin.ext
  match a with
  | ⟨0, _⟩ => show win0_3.index t 0 * 512 + 1 * p.val = 512 * (t.val % 16) + p.val; rw [h0]; omega
  | ⟨1, _⟩ => show win0_3.index t 1 * 512 + 1 * f.val = 512 * (t.val / 16 % 6) + f.val; rw [h1]; omega

theorem block_4 (t : Fin cfg0.N) (p : Fin 8) (f : Fin 512) (h : t.val % 16 ≠ 15) :
    iblk m c 4 t (ix2 p f) = dy m c (ix2 ⟨512 * (t.val % 16) + 512 + p.val, by omega⟩ (chan (t.val / 16) f)) := by
  obtain ⟨h0, h1⟩ := index_4 t
  have hN : cfg0.N = 96 := N_0
  have := t.isLt
  unfold iblk
  rw [View.read_apply]
  show V m c main_arg3 _ = _
  rw [V_main_arg3]
  show dy m c _ = dy m c _
  congr 1
  funext a
  apply Fin.ext
  match a with
  | ⟨0, _⟩ => show win0_4.index t 0 * 8 + 1 * p.val = 512 * (t.val % 16) + 512 + p.val; rw [h0]; omega
  | ⟨1, _⟩ => show win0_4.index t 1 * 512 + 1 * f.val = 512 * (t.val / 16 % 6) + f.val; rw [h1]; omega

theorem block_5 (t : Fin cfg0.N) (k : Fin 4) (f : Fin 512) : iblk m c 5 t (ix2 k f) = cw m c (ix2 k (chan (t.val / 16) f)) := by
  obtain ⟨h0, h1⟩ := index_5 t
  have hN : cfg0.N = 96 := N_0
  have := t.isLt
  unfold iblk
  rw [View.read_apply]
  show V m c main_arg1 _ = _
  rw [V_main_arg1]
  show cw m c _ = cw m c _
  congr 1
  funext a
  apply Fin.ext
  match a with
  | ⟨0, _⟩ => show win0_5.index t 0 * 4 + 1 * k.val = k.val; rw [h0]; omega
  | ⟨1, _⟩ => show win0_5.index t 1 * 512 + 1 * f.val = 512 * (t.val / 16 % 6) + f.val; rw [h1]; omega

theorem read_6 (A : FVec Ideal S1x3072 .f32) (t : Fin cfg0.N) (f : Fin 512) :
    ((cfg0.win 6).blk t).view.read (Elt Ideal) A (ix2 0 f) = A (ix2 0 (chan (t.val / 16) f)) := by
  obtain ⟨h0, h1⟩ := index_6 t
  have hN : cfg0.N = 96 := N_0
  have := t.isLt
  rw [View.read_apply]
  exact at_ix2 A _ _ _ (by show win0_6.index t 0 * 1 + 1 * 0 = 0; rw [h0])
    (by show win0_6.index t 1 * 512 + 1 * f.val = 512 * (t.val / 16 % 6) + f.val; rw [h1]; omega)

theorem block_6 (t : Fin cfg0.N) (f : Fin 512) : iblk m c 6 t (ix2 0 f) = cb m c (ix1 (chan (t.val / 16) f)) :=
  (read_6 (V m c main_v0) t f).trans (by rw [V0]; pointwise [])

theorem read_7 (A : FVec Ideal S8192x3072 .bf16) (t : Fin cfg0.N) (p : Fin 512) (f : Fin 512) :
    ((cfg0.win 7).blk t).view.read (Elt Ideal) A (ix2 p f) = A (ix2 (row t.val p) (chan (t.val / 16) f)) := by
  obtain ⟨h0, h1⟩ := index_7 t
  have hN : cfg0.N = 96 := N_0
  have := t.isLt
  rw [View.read_apply]
  exact at_ix2 A _ _ _ (by show win0_7.index t 0 * 512 + 1 * p.val = 512 * (t.val % 16) + p.val; rw [h0]; omega)
    (by show win0_7.index t 1 * 512 + 1 * f.val = 512 * (t.val / 16 % 6) + f.val; rw [h1]; omega)

theorem read_8 (A : FVec Ideal S4x3072 .f32) (t : Fin cfg0.N) (k : Fin 4) (f : Fin 512) :
    ((cfg0.win 8).blk t).view.read (Elt Ideal) A (ix2 k f) = A (ix2 k (chan (t.val / 16) f)) := by
  obtain ⟨h0, h1⟩ := index_8 t
  have hN : cfg0.N = 96 := N_0
  have := t.isLt
  rw [View.read_apply]
  exact at_ix2 A _ _ _ (by show win0_8.index t 0 * 4 + 1 * k.val = k.val; rw [h0]; omega)
    (by show win0_8.index t 1 * 512 + 1 * f.val = 512 * (t.val / 16 % 6) + f.val; rw [h1]; omega)

theorem read_9 (A : FVec Ideal S1x3072 .f32) (t : Fin cfg0.N) (f : Fin 512) :
    ((cfg0.win 9).blk t).view.read (Elt Ideal) A (ix2 0 f) = A (ix2 0 (chan (t.val / 16) f)) := by
  obtain ⟨h0, h1⟩ := index_9 t
  have hN : cfg0.N = 96 := N_0
  have := t.isLt
  rw [View.read_apply]
  exact at_ix2 A _ _ _ (by show win0_9.index t 0 * 1 + 1 * 0 = 0; rw [h0])
    (by show win0_9.index t 1 * 512 + 1 * f.val = 512 * (t.val / 16 % 6) + f.val; rw [h1]; omega)

/-! ## The gradients -/

section Gradients

variable (P : FVec Ideal S8192x8064 .f32) (W : FVec Ideal S4x3072 .f32) (B : FVec Ideal S3072 .f32) (G : FVec Ideal S8192x3072 .f32)

/-- Channel `q`'s input 8 rows before row `n`: 0 beyond the ends. -/
def xin (q : Fin 3072) (n : ℕ) : EReal := if h : 8 ≤ n ∧ n < 8200 then P (ix2 ⟨n - 8, by omega⟩ (pcol q)) else 0
/-- The convolution at row `n`, and the gradient that reaches it. -/
def pre (q : Fin 3072) (n : ℕ) : EReal :=
  conv (fun k => W (ix2 k q)) (B (ix1 q)) (xin P q (n + 5)) (xin P q (n + 6)) (xin P q (n + 7)) (xin P q (n + 8))
def dpre (q : Fin 3072) (n : ℕ) : EReal := if h : n < 8192 then G (ix2 ⟨n, h⟩ q) * slope (pre P W B q n) else 0

/-- The gradients of the inputs, of the taps and of the bias. -/
def gradX : FVec Ideal S8192x3072 .bf16 := fun j =>
  (0 + W (ix2 0 (j 1)) * dpre P W B G (j 1) ((j 0).val + 3) + W (ix2 1 (j 1)) * dpre P W B G (j 1) ((j 0).val + 2)
    + W (ix2 2 (j 1)) * dpre P W B G (j 1) ((j 0).val + 1) + W (ix2 3 (j 1)) * dpre P W B G (j 1) (j 0).val : EReal)
def gradW : FVec Ideal S4x3072 .f32 := fun j =>
  (∑ n : Fin 8192, dpre P W B G (j 1) n.val * xin P (j 1) (n.val + (5 + (j 0).val)) : EReal)
def gradB : FVec Ideal S1x3072 .f32 := fun j => (∑ n : Fin 8192, dpre P W B G (j 1) n.val : EReal)

theorem xin_eq (q : Fin 3072) (n : ℕ) (s : Fin 8192) (h : n = s.val + 8) : xin P q n = P (ix2 s (pcol q)) := by
  subst h
  exact (dif_pos ⟨by omega, by omega⟩).trans (congrArg (fun k => P (ix2 k (pcol q))) (Fin.ext (by dsimp only; omega)))
theorem xin_before (q : Fin 3072) (n : ℕ) (h : n < 8) : xin P q n = 0 := dif_neg (by omega)
theorem dpre_eq (q : Fin 3072) (n : ℕ) (s : Fin 8192) (h : n = s.val) : dpre P W B G q n = G (ix2 s q) * slope (pre P W B q n) := by
  subst h
  exact dif_pos s.isLt
theorem dpre_after (q : Fin 3072) (n : ℕ) (h : 8192 ≤ n) : dpre P W B G q n = 0 := dif_neg (by omega)

end Gradients

/-- A point's two buffers. -/
def xAt (t : Fin cfg0.N) : Vec Ideal S528x512 .f32 := xbuf (grid0.coords t) (X0_0 m c t) (X0_1 m c t) (X0_2 m c t)
def dAt (t : Fin cfg0.N) : Vec Ideal S520x512 .f32 :=
  dbuf (grid0.coords t) (iblk m c 3 t) (iblk m c 4 t) (iblk m c 5 t) (iblk m c 6 t) (xAt m c t)

theorem xAt_apply (t : Fin cfg0.N) (r : Fin 528) (f : Fin 512) (h : r.val < 520 ∨ t.val % 16 ≠ 15) :
    xAt m c t (ix2 r f) = xin (proj m c) (chan (t.val / 16) f) (512 * (t.val % 16) + r.val) := by
  by_cases h8 : r.val < 8
  · refine (xbuf_before (grid0.coords t) (X0_0 m c t) (X0_1 m c t) (X0_2 m c t) f ⟨r.val, h8⟩).trans ?_
    rw [pay2_apply, not_first]
    unfold Scalar.select
    by_cases h0 : t.val % 16 = 0
    · rw [if_pos h0, if_neg (by decide), xin_before _ _ _ (by omega)]
    · rw [if_neg h0, if_pos (by decide), block_1 m c t _ f h0]
      exact (xin_eq _ _ _ _ (by dsimp only; omega)).symm
  · by_cases h520 : r.val < 520
    · obtain ⟨r', _, rfl⟩ := offset 8 512 r (by omega) (by omega)
      rw [xin_eq _ _ _ (row t.val r') (by unfold row; dsimp only; omega), ← block_0]
      exact xbuf_block (grid0.coords t) (X0_0 m c t) (X0_1 m c t) (X0_2 m c t) f r'
    · obtain ⟨r', _, rfl⟩ := offset 520 8 r (by omega) (by omega)
      have h15 : t.val % 16 ≠ 15 := by rcases h with h | h; exacts [absurd h h520, h]
      refine (xbuf_after (grid0.coords t) (X0_0 m c t) (X0_1 m c t) (X0_2 m c t) f r').trans ?_
      rw [block_2 m c t _ f h15]
      exact (xin_eq _ _ _ _ (by dsimp only; omega)).symm

theorem convAt_apply (t : Fin cfg0.N) (r : Fin 520) (f : Fin 512) (h : r.val < 512 ∨ t.val % 16 ≠ 15) :
    convAt (iblk m c 5 t) (iblk m c 6 t) (xAt m c t) f r = pre (proj m c) (cw m c) (cb m c) (chan (t.val / 16) f) (512 * (t.val % 16) + r.val) := by
  refine conv_congr (fun k => block_5 m c t k f) (block_6 m c t f) ?_ ?_ ?_ ?_
  all_goals
    refine (xAt_apply m c t _ f (by dsimp only; omega)).trans (congrArg _ ?_)
    dsimp only
    omega

theorem dAt_apply (t : Fin cfg0.N) (r : Fin 520) (f : Fin 512) : dAt m c t (ix2 r f)
    = dpre (proj m c) (cw m c) (cb m c) (dy m c) (chan (t.val / 16) f) (512 * (t.val % 16) + r.val) := by
  by_cases h : r.val < 512
  · refine (dbuf_block (grid0.coords t) (iblk m c 3 t) (iblk m c 4 t) (iblk m c 5 t) (iblk m c 6 t) (xAt m c t) f ⟨r.val, h⟩).trans ?_
    rw [convAt_apply m c t _ f (.inl h), block_3, dpre_eq _ _ _ _ _ (512 * (t.val % 16) + r.val) (row t.val ⟨r.val, h⟩) rfl]
  · obtain ⟨r', _, rfl⟩ := offset 512 8 r (by omega) (by omega)
    refine (dbuf_after (grid0.coords t) (iblk m c 3 t) (iblk m c 4 t) (iblk m c 5 t) (iblk m c 6 t) (xAt m c t) f r').trans ?_
    rw [not_last]
    unfold Scalar.select
    by_cases h15 : t.val % 16 = 15
    · rw [if_pos h15, if_neg (by decide), dpre_after _ _ _ _ _ _ (by dsimp only; omega)]
    · rw [if_neg h15, if_pos (by decide), convAt_apply m c t _ f (.inr h15), block_4 m c t _ f h15]
      exact (dpre_eq _ _ _ _ _ _ _ (by dsimp only; omega)).symm

/-! ## What a point stores -/

theorem flushed_7 (t : Fin cfg0.N) : (dats m 0 c).flushed 7 t
    = ((cfg0.win 7).blk t).view.read (Elt Ideal) (gradX (proj m c) (cw m c) (cb m c) (dy m c)) := by
  have key : ∀ (p f : Fin 512), dxOf (iblk m c 5 t) (dAt m c t) (ix2 p f)
      = gradX (proj m c) (cw m c) (cb m c) (dy m c) (ix2 (row t.val p) (chan (t.val / 16) f)) := fun p f => by
    refine (dxOf_apply (iblk m c 5 t) (dAt m c t) f p).trans ?_
    rw [dAt_apply, dAt_apply, dAt_apply, dAt_apply, block_5, block_5, block_5, block_5]
    show _ = (0 + _ * dpre _ _ _ _ _ (512 * (t.val % 16) + p.val + 3) + _ * dpre _ _ _ _ _ (512 * (t.val % 16) + p.val + 2)
      + _ * dpre _ _ _ _ _ (512 * (t.val % 16) + p.val + 1) + _ * dpre _ _ _ _ _ (512 * (t.val % 16) + p.val) : EReal)
    rw [show 512 * (t.val % 16) + p.val + 3 = 512 * (t.val % 16) + (3 + p.val) by omega,
      show 512 * (t.val % 16) + p.val + 2 = 512 * (t.val % 16) + (2 + p.val) by omega,
      show 512 * (t.val % 16) + p.val + 1 = 512 * (t.val % 16) + (1 + p.val) by omega,
      show 512 * (t.val % 16) + p.val = 512 * (t.val % 16) + (0 + p.val) by omega]
    rfl
  by_cases h : t.val % 16 = 0
  · have hn : ¬1 ≤ t.val % 16 := by omega
    rw [Value.flushed7_A m c t h hn h hn h hn h hn h hn, stored_7A]
    funext j
    obtain ⟨p, f, rfl⟩ : ∃ (p : Fin 512) (f : Fin 512), j = ix2 p f := ⟨_, _, eq_ix2 j⟩
    rw [read_7]
    exact key p f
  · have hn : 1 ≤ t.val % 16 := by omega
    rw [Value.flushed7_B m c t h hn h hn h hn h hn h hn, stored_7B]
    funext j
    obtain ⟨p, f, rfl⟩ : ∃ (p : Fin 512) (f : Fin 512), j = ix2 p f := ⟨_, _, eq_ix2 j⟩
    rw [read_7]
    exact key p f

/-- A row's share of a tap's gradient and of the bias's. -/
def tapTerm (P : FVec Ideal S8192x8064 .f32) (W : FVec Ideal S4x3072 .f32) (B : FVec Ideal S3072 .f32) (G : FVec Ideal S8192x3072 .f32)
    (k : Fin 4) (f : Fin 512) (b : ℕ) (n : Fin 8192) : EReal := dpre P W B G (chan b f) n.val * xin P (chan b f) (n.val + (5 + k.val))
def rowTerm (P : FVec Ideal S8192x8064 .f32) (W : FVec Ideal S4x3072 .f32) (B : FVec Ideal S3072 .f32) (G : FVec Ideal S8192x3072 .f32)
    (f : Fin 512) (b : ℕ) (n : Fin 8192) : EReal := dpre P W B G (chan b f) n.val

theorem tapSum_at (t : Fin cfg0.N) (k : Fin 4) (f : Fin 512) : tapSum (xAt m c t) (dAt m c t) f (5 + k.val) (by omega)
    = chunk 16 512 (tapTerm (proj m c) (cw m c) (cb m c) (dy m c) k f) t.val := by
  refine Finset.sum_congr rfl fun r _ => ?_
  rw [dAt_apply, xAt_apply m c t _ f (.inl (by dsimp only; omega))]
  show _ = dpre _ _ _ _ _ (512 * (t.val % 16) + r.val) * xin _ _ (512 * (t.val % 16) + r.val + (5 + k.val))
  rw [show 512 * (t.val % 16) + r.val + (5 + k.val) = 512 * (t.val % 16) + (5 + k.val + r.val) by omega]

theorem rowSum_at (t : Fin cfg0.N) (f : Fin 512) : rowSum (dAt m c t) f
    = chunk 16 512 (rowTerm (proj m c) (cw m c) (cb m c) (dy m c) f) t.val :=
  Finset.sum_congr rfl fun r _ => dAt_apply m c t _ f

theorem taps_at (k : Fin 4) (f : Fin 512) (n : ℕ) (h : n < cfg0.N) (hn : n % 16 + 1 = 16) : (outsAt0 m c n h).2.1 (ix2 k f)
    = ∑ i, tapTerm (proj m c) (cw m c) (cb m c) (dy m c) k f (n / 16) i := by
  refine sum_sweep 16 512 (fun n h => (outsAt0 m c n h).2.1 (ix2 k f)) _ (fun n h hz => ?_) (fun n h h' hz => ?_) n h hn
  · have hz' : ¬1 ≤ n % 16 := by omega
    rw [outsAt0_A m c ⟨n, h⟩ hz hz' hz hz' hz hz' hz hz' hz hz']
    dsimp only
    rw [stored_8A]
    exact (dwFirst_apply _ _ f k).trans (tapSum_at m c ⟨n, h⟩ k f)
  · have hz' : 1 ≤ (n + 1) % 16 := by omega
    rw [outsAt0_B m c ⟨n + 1, h'⟩ hz hz' hz hz' hz hz' hz hz' hz hz']
    dsimp only
    rw [stored_8B]
    exact (dwNext_apply _ _ f _ k).trans (congrArg (fun e : EReal => (outsAt0 m c n h).2.1 (ix2 k f) + e) (tapSum_at m c ⟨n + 1, h'⟩ k f))

theorem bias_at (f : Fin 512) (n : ℕ) (h : n < cfg0.N) (hn : n % 16 + 1 = 16) : (outsAt0 m c n h).2.2 (ix2 0 f)
    = ∑ i, rowTerm (proj m c) (cw m c) (cb m c) (dy m c) f (n / 16) i := by
  refine sum_sweep 16 512 (fun n h => (outsAt0 m c n h).2.2 (ix2 0 f)) _ (fun n h hz => ?_) (fun n h h' hz => ?_) n h hn
  · have hz' : ¬1 ≤ n % 16 := by omega
    rw [outsAt0_A m c ⟨n, h⟩ hz hz' hz hz' hz hz' hz hz' hz hz']
    dsimp only
    rw [stored_9A]
    exact (pay11_apply _ f).trans (rowSum_at m c ⟨n, h⟩ f)
  · have hz' : 1 ≤ (n + 1) % 16 := by omega
    rw [outsAt0_B m c ⟨n + 1, h'⟩ hz hz' hz hz' hz hz' hz hz' hz hz']
    dsimp only
    rw [stored_9B]
    exact (pay12_apply _ f _).trans (congrArg (fun e : EReal => (outsAt0 m c n h).2.2 (ix2 0 f) + e) (rowSum_at m c ⟨n + 1, h'⟩ f))

theorem flushed_8 (t : Fin cfg0.N) (hf : (cfg0.win 8).flush t = true) : (dats m 0 c).flushed 8 t
    = ((cfg0.win 8).blk t).view.read (Elt Ideal) (gradW (proj m c) (cw m c) (cb m c) (dy m c)) := by
  have h15 : t.val % 16 = 15 := (flush0_8 t).mp hf
  rw [Value.flushed8]
  funext j
  obtain ⟨k, f, rfl⟩ : ∃ (k : Fin 4) (f : Fin 512), j = ix2 k f := ⟨_, _, eq_ix2 j⟩
  rw [read_8]
  exact taps_at m c k f t.val t.isLt (by omega)

theorem flushed_9 (t : Fin cfg0.N) (hf : (cfg0.win 9).flush t = true) : (dats m 0 c).flushed 9 t
    = ((cfg0.win 9).blk t).view.read (Elt Ideal) (gradB (proj m c) (cw m c) (cb m c) (dy m c)) := by
  have h15 : t.val % 16 = 15 := (flush0_9 t).mp hf
  rw [Value.flushed9]
  funext j
  obtain ⟨z, f, rfl⟩ : ∃ (z : Fin 1) (f : Fin 512), j = ix2 z f := ⟨_, _, eq_ix2 j⟩
  obtain rfl : z = 0 := Subsingleton.elim _ _
  rw [read_9]
  exact bias_at m c f t.val t.isLt (by omega)

theorem final_7 : (dats m 0 c).arrAt 7 cfg0.N = gradX (proj m c) (cw m c) (cb m c) (dy m c) :=
  (dats m 0 c).arrAt_eq_of_cover 7 _ (fun t _ => flushed_7 m c t) fun i => by
    have b0 : (i 0 : Nat) < 8192 := (i 0).isLt
    have b1 : (i 1 : Nat) < 3072 := (i 1).isLt
    have hN : cfg0.N = 96 := N_0
    have ht : 16 * ((i 1 : Nat) / 512) + (i 0 : Nat) / 512 < cfg0.N := by omega
    obtain ⟨h0, h1⟩ := index_7 ⟨_, ht⟩
    refine ⟨⟨_, ht⟩, flush0_7 _, ?_⟩
    show i ∈ ((View.whole main_v1_0).slice (win0_7.rect ⟨_, ht⟩)).set
    rw [View.set_slice_whole, Rect.mem_set_unit]
    intro a
    match a with
    | ⟨0, _⟩ => show win0_7.index _ 0 * 512 ≤ (i 0 : Nat) ∧ (i 0 : Nat) < win0_7.index _ 0 * 512 + 512
                rw [h0]; dsimp only; omega
    | ⟨1, _⟩ => show win0_7.index _ 1 * 512 ≤ (i 1 : Nat) ∧ (i 1 : Nat) < win0_7.index _ 1 * 512 + 512
                rw [h1]; dsimp only; omega

theorem final_8 : (dats m 0 c).arrAt 8 cfg0.N = gradW (proj m c) (cw m c) (cb m c) (dy m c) :=
  (dats m 0 c).arrAt_eq_of_cover 8 _ (flushed_8 m c) fun i => by
    have b0 : (i 0 : Nat) < 4 := (i 0).isLt
    have b1 : (i 1 : Nat) < 3072 := (i 1).isLt
    have hN : cfg0.N = 96 := N_0
    have ht : 16 * ((i 1 : Nat) / 512) + 15 < cfg0.N := by omega
    obtain ⟨h0, h1⟩ := index_8 ⟨_, ht⟩
    refine ⟨⟨_, ht⟩, (flush0_8 _).mpr (by dsimp only; omega), ?_⟩
    show i ∈ ((View.whole main_v1_1).slice (win0_8.rect ⟨_, ht⟩)).set
    rw [View.set_slice_whole, Rect.mem_set_unit]
    intro a
    match a with
    | ⟨0, _⟩ => show win0_8.index _ 0 * 4 ≤ (i 0 : Nat) ∧ (i 0 : Nat) < win0_8.index _ 0 * 4 + 4
                rw [h0]; omega
    | ⟨1, _⟩ => show win0_8.index _ 1 * 512 ≤ (i 1 : Nat) ∧ (i 1 : Nat) < win0_8.index _ 1 * 512 + 512
                rw [h1]; dsimp only; omega

theorem final_9 : (dats m 0 c).arrAt 9 cfg0.N = gradB (proj m c) (cw m c) (cb m c) (dy m c) :=
  (dats m 0 c).arrAt_eq_of_cover 9 _ (flushed_9 m c) fun i => by
    have b0 : (i 0 : Nat) < 1 := (i 0).isLt
    have b1 : (i 1 : Nat) < 3072 := (i 1).isLt
    have hN : cfg0.N = 96 := N_0
    have ht : 16 * ((i 1 : Nat) / 512) + 15 < cfg0.N := by omega
    obtain ⟨h0, h1⟩ := index_9 ⟨_, ht⟩
    refine ⟨⟨_, ht⟩, (flush0_9 _).mpr (by dsimp only; omega), ?_⟩
    show i ∈ ((View.whole main_v1_2).slice (win0_9.rect ⟨_, ht⟩)).set
    rw [View.set_slice_whole, Rect.mem_set_unit]
    intro a
    match a with
    | ⟨0, _⟩ => show win0_9.index _ 0 * 1 ≤ (i 0 : Nat) ∧ (i 0 : Nat) < win0_9.index _ 0 * 1 + 1
                rw [h0]; omega
    | ⟨1, _⟩ => show win0_9.index _ 1 * 512 ≤ (i 1 : Nat) ∧ (i 1 : Nat) < win0_9.index _ 1 * 512 + 512
                rw [h1]; dsimp only; omega

end Cert.Kernel10Ideal.Grad

namespace Cert.Pre_finite_cotangent.Grad

open Idealize.ShloMosaic

/-- The precondition's shape relations. -/
instance facts : Cert.Pre_finite_cotangent.Facts where
  bcast_S_S8192x3072 := by decide
  reducesTo_S8192x3072_S_d0_1 := by decide
  h_S_ := by decide

open Cert.Pre_finite_cotangent Cert.Pre_finite_cotangent.Facts

instance : Subsingleton S_.Idx := ⟨fun a b => funext fun i => i.elim0⟩

theorem reals (a0 : FVec Ideal S8192x8064 .f32) (a1 : FVec Ideal S4x3072 .f32) (a2 : FVec Ideal S3072 .f32) (a3 : FVec Ideal S8192x3072 .f32)
    (h : Cert.Pre_finite_cotangent.fn (F := Ideal) a0 a1 a2 a3 = fun _ => 1#1) (j) : a3 j = (((a3 j : EReal).toReal : ℝ) : EReal) := by
  have h0 := congrFun h (fun i => i.elim0)
  unfold Cert.Pre_finite_cotangent.fn at h0
  dsimp only at h0
  exact Cert.Pre_finite.Attn.real_of_lt _ (Host.reduce_andi_all _ _ _ _ _ h0 j)

end Cert.Pre_finite_cotangent.Grad

namespace Cert.Reference10Ideal.Grad

open Idealize.ShloMosaic Idealize.ShloMosaic.TcCoe Idealize.ShloMosaic.Pointwise Idealize.SL.Sem Cert.Entry Cert.Accumulate Cert.Reference10Ideal
  Cert.Reference10Ideal.Gen
open Cert.Kernel2Ideal.Grad (ofBits_one gate_derivative)
open Cert.Kernel10Ideal.Grad (pcol conv conv_congr slope xin pre dpre gradX gradW gradB xin_eq xin_before dpre_eq dpre_after)

variable (P : FVec Ideal S8192x8064 .f32) (W : FVec Ideal S4x3072 .f32) (B : FVec Ideal S3072 .f32) (G : FVec Ideal S8192x3072 .f32)

/-- The inputs after three rows of zeros, and the rows that tap `k` meets. -/
def rX : FVec Ideal S8195x3072 .f32 := concatenate S8195x3072 0 [⟨S3x3072, (broadcastInDim S3x3072 ![] bcast_S_S3x3072 (constant S_ .f32 0x00000000#32))⟩, ⟨S8192x3072, (extractStridedSlice S8192x3072 ![0, 4096] P slices_S8192x8064_S8192x3072_0_4096)⟩] concatenates_S3x3072_S8192x3072_S8195x3072_d0
def x0 : FVec Ideal S8192x3072 .f32 := extractStridedSlice S8192x3072 ![0, 0] (rX P) slices_S8195x3072_S8192x3072_0_0
def x1 : FVec Ideal S8192x3072 .f32 := extractStridedSlice S8192x3072 ![1, 0] (rX P) slices_S8195x3072_S8192x3072_1_0
def x2 : FVec Ideal S8192x3072 .f32 := extractStridedSlice S8192x3072 ![2, 0] (rX P) slices_S8195x3072_S8192x3072_2_0
def x3 : FVec Ideal S8192x3072 .f32 := extractStridedSlice S8192x3072 ![3, 0] (rX P) slices_S8195x3072_S8192x3072_3_0
/-- The taps and the bias, for every row. -/
def w0 : FVec Ideal S8192x3072 .f32 := broadcastInDim S8192x3072 ![0, 1] bcast_S1x3072_S8192x3072_0_1 (extractStridedSlice S1x3072 ![0, 0] W slices_S4x3072_S1x3072_0_0)
def w1 : FVec Ideal S8192x3072 .f32 := broadcastInDim S8192x3072 ![0, 1] bcast_S1x3072_S8192x3072_0_1 (extractStridedSlice S1x3072 ![1, 0] W slices_S4x3072_S1x3072_1_0)
def w2 : FVec Ideal S8192x3072 .f32 := broadcastInDim S8192x3072 ![0, 1] bcast_S1x3072_S8192x3072_0_1 (extractStridedSlice S1x3072 ![2, 0] W slices_S4x3072_S1x3072_2_0)
def w3 : FVec Ideal S8192x3072 .f32 := broadcastInDim S8192x3072 ![0, 1] bcast_S1x3072_S8192x3072_0_1 (extractStridedSlice S1x3072 ![3, 0] W slices_S4x3072_S1x3072_3_0)
def rB : FVec Ideal S8192x3072 .f32 := broadcastInDim S8192x3072 ![0, 1] bcast_S1x3072_S8192x3072_0_1 (broadcastInDim S1x3072 ![1] bcast_S3072_S1x3072_1 B)
/-- The convolution, its logistic and the gradient that reaches it. -/
def rPre : FVec Ideal S8192x3072 .f32 :=
  addf (addf (addf (addf (rB B) (mulf (x0 P) (w0 W))) (mulf (x1 P) (w1 W))) (mulf (x2 P) (w2 W))) (mulf (x3 P) (w3 W))
def ones : FVec Ideal S8192x3072 .f32 := broadcastInDim S8192x3072 ![] bcast_S_S8192x3072 (constant S_ .f32 0x3F800000#32)
def rSig (y : FVec Ideal S8192x3072 .f32) : FVec Ideal S8192x3072 .f32 := Host.divf ones (addf ones (Host.exp (Host.negf y)))
def rD (y : FVec Ideal S8192x3072 .f32) : FVec Ideal S8192x3072 .f32 := addf (mulf G (rSig y)) (mulf (mulf y G) (mulf (rSig y) (subf ones (rSig y))))

theorem rX_apply (n : Fin 8195) (q : Fin 3072) : rX P (ix2 n q) = xin P q (n.val + 5) := by
  pointwise [rX]
  by_cases h : n.val < 3
  · rw [dif_pos h, xin_before P q _ (by omega)]
  · rw [dif_neg h]
    exact (xin_eq P q _ ⟨n.val - 3, by omega⟩ (by dsimp only; omega)).symm

theorem x0_apply (s : Fin 8192) (q : Fin 3072) : x0 P (ix2 s q) = xin P q (s.val + 5) := by
  have e : x0 P (ix2 s q) = rX P (ix2 ⟨0 + s.val, by omega⟩ q) := by pointwise [x0]
  rw [e, rX_apply, show 0 + s.val + 5 = s.val + 5 by omega]
theorem x1_apply (s : Fin 8192) (q : Fin 3072) : x1 P (ix2 s q) = xin P q (s.val + 6) := by
  have e : x1 P (ix2 s q) = rX P (ix2 ⟨1 + s.val, by omega⟩ q) := by pointwise [x1]
  rw [e, rX_apply, show 1 + s.val + 5 = s.val + 6 by omega]
theorem x2_apply (s : Fin 8192) (q : Fin 3072) : x2 P (ix2 s q) = xin P q (s.val + 7) := by
  have e : x2 P (ix2 s q) = rX P (ix2 ⟨2 + s.val, by omega⟩ q) := by pointwise [x2]
  rw [e, rX_apply, show 2 + s.val + 5 = s.val + 7 by omega]
theorem x3_apply (s : Fin 8192) (q : Fin 3072) : x3 P (ix2 s q) = xin P q (s.val + 8) := by
  have e : x3 P (ix2 s q) = rX P (ix2 ⟨3 + s.val, by omega⟩ q) := by pointwise [x3]
  rw [e, rX_apply, show 3 + s.val + 5 = s.val + 8 by omega]

theorem w0_apply (s : Fin 8192) (q : Fin 3072) : w0 W (ix2 s q) = W (ix2 0 q) := by pointwise [w0]
theorem w1_apply (s : Fin 8192) (q : Fin 3072) : w1 W (ix2 s q) = W (ix2 1 q) := by pointwise [w1]
theorem w2_apply (s : Fin 8192) (q : Fin 3072) : w2 W (ix2 s q) = W (ix2 2 q) := by pointwise [w2]
theorem w3_apply (s : Fin 8192) (q : Fin 3072) : w3 W (ix2 s q) = W (ix2 3 q) := by pointwise [w3]
theorem rB_apply (s : Fin 8192) (q : Fin 3072) : rB B (ix2 s q) = B (ix1 q) := by pointwise [rB]

theorem rPre_apply (s : Fin 8192) (q : Fin 3072) : rPre P W B (ix2 s q) = pre P W B q s.val := by
  show (rB B (ix2 s q) + x0 P (ix2 s q) * w0 W (ix2 s q) + x1 P (ix2 s q) * w1 W (ix2 s q) + x2 P (ix2 s q) * w2 W (ix2 s q)
    + x3 P (ix2 s q) * w3 W (ix2 s q) : EReal) = _
  rw [rB_apply, x0_apply, x1_apply, x2_apply, x3_apply, w0_apply, w1_apply, w2_apply, w3_apply, mul_comm (xin P q (s.val + 5)),
    mul_comm (xin P q (s.val + 6)), mul_comm (xin P q (s.val + 7)), mul_comm (xin P q (s.val + 8))]
  rfl

theorem rSig_apply (y : FVec Ideal S8192x3072 .f32) (j : S8192x3072.Idx) : rSig y j = Ideal.logistic (y j) := by
  unfold Ideal.logistic
  rw [← ofBits_one]
  pointwise [rSig, ones]

theorem rD_apply (hG : ∀ j, G j = (((G j : EReal).toReal : ℝ) : EReal)) (s : Fin 8192) (q : Fin 3072) :
    rD G (rPre P W B) (ix2 s q) = dpre P W B G q s.val := by
  show (G (ix2 s q) * rSig (rPre P W B) (ix2 s q) + rPre P W B (ix2 s q) * G (ix2 s q)
    * (rSig (rPre P W B) (ix2 s q) * (Ideal.ofBits FTy.f32 0x3F800000#32 - rSig (rPre P W B) (ix2 s q))) : EReal) = _
  rw [ofBits_one, rSig_apply, rPre_apply, dpre_eq P W B G q s.val s rfl, hG (ix2 s q)]
  refine (gate_derivative _ _).symm.trans ?_
  rw [mul_assoc]
  rfl

/-- The inputs' gradient, each tap's part padded to the rows it reaches. -/
def rdX (d v0 v1 v2 v3 : FVec Ideal S8192x3072 .f32) : FVec Ideal S8192x3072 .bf16 :=
  truncf .bf16 (extractStridedSlice S8192x3072 ![3, 0] (addf (addf (addf (pad S8195x3072 ![3, 0] ![0, 0] ![0, 0] (mulf d v3) (constant S_ .f32 0x00000000#32) pads_S8192x3072_S8195x3072_300_000 h_S_) (pad S8195x3072 ![2, 0] ![1, 0] ![0, 0] (mulf d v2) (constant S_ .f32 0x00000000#32) pads_S8192x3072_S8195x3072_210_000 h_S_)) (pad S8195x3072 ![1, 0] ![2, 0] ![0, 0] (mulf d v1) (constant S_ .f32 0x00000000#32) pads_S8192x3072_S8195x3072_120_000 h_S_)) (pad S8195x3072 ![0, 0] ![3, 0] ![0, 0] (mulf d v0) (constant S_ .f32 0x00000000#32) pads_S8192x3072_S8195x3072_030_000 h_S_)) slices_S8195x3072_S8192x3072_3_0) bitsLt_bf16_f32

/-- A tap's gradient as a row, and the four of them, each padded to four rows. -/
def rTap (x d : FVec Ideal S8192x3072 .f32) : FVec Ideal S1x3072 .f32 :=
  shapeCast _ (Host.reduceAdd (mulf x d) (constant S_ .f32 0x00000000#32) reducesTo_S8192x3072_S3072_d0 h_S_) shapeCasts_S3072_S1x3072
def rdW (t0 t1 t2 t3 : FVec Ideal S1x3072 .f32) : FVec Ideal S4x3072 .f32 :=
  addf (addf (addf (pad S4x3072 ![3, 0] ![0, 0] ![0, 0] t3 (constant S_ .f32 0x00000000#32) pads_S1x3072_S4x3072_300_000 h_S_) (pad S4x3072 ![2, 0] ![1, 0] ![0, 0] t2 (constant S_ .f32 0x00000000#32) pads_S1x3072_S4x3072_210_000 h_S_)) (pad S4x3072 ![1, 0] ![2, 0] ![0, 0] t1 (constant S_ .f32 0x00000000#32) pads_S1x3072_S4x3072_120_000 h_S_)) (pad S4x3072 ![0, 0] ![3, 0] ![0, 0] t0 (constant S_ .f32 0x00000000#32) pads_S1x3072_S4x3072_030_000 h_S_)
def rdB (d : FVec Ideal S8192x3072 .f32) : FVec Ideal S1x3072 .f32 :=
  shapeCast _ (Host.reduceAdd (shapeCast _ (Host.reduceAdd d (constant S_ .f32 0x00000000#32) reducesTo_S8192x3072_S3072_d0 h_S_) shapeCasts_S3072_S1x3072) (constant S_ .f32 0x00000000#32) reducesTo_S1x3072_S3072_d0 h_S_) shapeCasts_S3072_S1x3072

theorem rdX_apply (d v0 v1 v2 v3 : FVec Ideal S8192x3072 .f32) (s : Fin 8192) (q : Fin 3072) : rdX d v0 v1 v2 v3 (ix2 s q)
    = ((if h : s.val < 8192 then (mulf d v3 (ix2 ⟨s.val, h⟩ q) : EReal) else 0)
      + (if h : s.val + 1 < 8192 then (mulf d v2 (ix2 ⟨s.val + 1, h⟩ q) : EReal) else 0)
      + (if h : s.val + 2 < 8192 then (mulf d v1 (ix2 ⟨s.val + 2, h⟩ q) : EReal) else 0)
      + (if h : s.val + 3 < 8192 then (mulf d v0 (ix2 ⟨s.val + 3, h⟩ q) : EReal) else 0) : EReal) := by
  pointwise [rdX]
  simp only [show 3 + s.val = s.val + 3 by omega, show s.val + 3 - 2 = s.val + 1 by omega, show s.val + 3 - 1 = s.val + 2 by omega,
    show (2 ≤ s.val + 3) = True from eq_true (by omega), show (1 ≤ s.val + 3) = True from eq_true (by omega), true_and]

theorem rdW_apply (t0 t1 t2 t3 : FVec Ideal S1x3072 .f32) (k : Fin 4) (q : Fin 3072) : rdW t0 t1 t2 t3 (ix2 k q) = (![t0, t1, t2, t3] k) (ix2 0 q) := by
  match k with
  | 0 => pointwise [rdW]
  | 1 => pointwise [rdW]
  | 2 => pointwise [rdW]
  | 3 => pointwise [rdW]

section Values

variable (hG : ∀ j, G j = (((G j : EReal).toReal : ℝ) : EReal))
include hG

/-- A tap's product at a row, and beyond the last. -/
theorem tap_row (w : FVec Ideal S8192x3072 .f32) (q : Fin 3072) (v : EReal) (hw : ∀ s, w (ix2 s q) = v) (n : ℕ) :
    (if h : n < 8192 then (mulf (rD G (rPre P W B)) w (ix2 ⟨n, h⟩ q) : EReal) else 0) = v * dpre P W B G q n := by
  by_cases h : n < 8192
  · rw [dif_pos h]
    show (rD G (rPre P W B) (ix2 ⟨n, h⟩ q) * w (ix2 ⟨n, h⟩ q) : EReal) = _
    rw [rD_apply P W B G hG, hw, mul_comm]
  · rw [dif_neg h, dpre_after _ _ _ _ _ _ (not_lt.1 h), mul_zero]

theorem value_x : rdX (rD G (rPre P W B)) (w0 W) (w1 W) (w2 W) (w3 W) = gradX P W B G := by
  funext j
  obtain ⟨s, q, rfl⟩ : ∃ (s : Fin 8192) (q : Fin 3072), j = ix2 s q := ⟨_, _, eq_ix2 j⟩
  rw [rdX_apply, tap_row P W B G hG _ q _ (fun s => w3_apply W s q), tap_row P W B G hG _ q _ (fun s => w2_apply W s q),
    tap_row P W B G hG _ q _ (fun s => w1_apply W s q), tap_row P W B G hG _ q _ (fun s => w0_apply W s q)]
  show _ = (0 + W (ix2 0 q) * dpre P W B G q (s.val + 3) + W (ix2 1 q) * dpre P W B G q (s.val + 2)
    + W (ix2 2 q) * dpre P W B G q (s.val + 1) + W (ix2 3 q) * dpre P W B G q s.val : EReal)
  abel

theorem rTap_apply (x : FVec Ideal S8192x3072 .f32) (k : ℕ) (q : Fin 3072) (hx : ∀ s, x (ix2 s q) = xin P q (s.val + k)) :
    rTap x (rD G (rPre P W B)) (ix2 0 q) = ∑ n : Fin 8192, dpre P W B G q n.val * xin P q (n.val + k) := by
  trans (∑ n, (x (ix2 n q) * rD G (rPre P W B) (ix2 n q) : EReal))
  · generalize rD G (rPre P W B) = d
    pointwise [rTap]
  · exact Finset.sum_congr rfl fun n _ => by rw [hx, rD_apply P W B G hG, mul_comm]

theorem value_w : rdW (rTap (x0 P) (rD G (rPre P W B))) (rTap (x1 P) (rD G (rPre P W B))) (rTap (x2 P) (rD G (rPre P W B)))
    (rTap (x3 P) (rD G (rPre P W B))) = gradW P W B G := by
  funext j
  obtain ⟨k, q, rfl⟩ : ∃ (k : Fin 4) (q : Fin 3072), j = ix2 k q := ⟨_, _, eq_ix2 j⟩
  refine (rdW_apply _ _ _ _ k q).trans ?_
  match k with
  | 0 => exact rTap_apply P W B G hG _ 5 q fun s => x0_apply P s q
  | 1 => exact rTap_apply P W B G hG _ 6 q fun s => x1_apply P s q
  | 2 => exact rTap_apply P W B G hG _ 7 q fun s => x2_apply P s q
  | 3 => exact rTap_apply P W B G hG _ 8 q fun s => x3_apply P s q

theorem value_b : rdB (rD G (rPre P W B)) = gradB P W B G := by
  funext j
  obtain ⟨z, q, rfl⟩ : ∃ (z : Fin 1) (q : Fin 3072), j = ix2 z q := ⟨_, _, eq_ix2 j⟩
  obtain rfl : z = 0 := Subsingleton.elim _ _
  trans (∑ n, (rD G (rPre P W B) (ix2 n q) : EReal))
  · generalize rD G (rPre P W B) = d
    pointwise [rdB]
    simp
  · exact Finset.sum_congr rfl fun n _ => rD_apply P W B G hG n q

end Values

end Cert.Reference10Ideal.Grad

namespace Cert.Kernel10Ideal.Grad

open Idealize.ShloMosaic Idealize.SL.Sem Cert.Entry

theorem algebraic : Cert.algebraic_Kernel10Ideal_Reference10Ideal_pre_finite_cotangent := by
  intro m g m' g' hpre hargs
  refine ⟨fun c => gradX (proj m c) (cw m c) (cb m c) (dy m c), fun c => gradW (proj m c) (cw m c) (cb m c) (dy m c),
    fun c => gradB (proj m c) (cw m c) (cb m c) (dy m c),
    (θ_run defs _ _).mono (fun r h c => ?_) (Value.run_blocks (F := Ideal) m g),
    (θ_run Cert.Reference10Ideal.defs _ _).mono (fun r h c => ?_) (Cert.Reference10Ideal.Value.run (F := Ideal) m' g')⟩
  · exact ⟨(h c).1.trans (final_7 m c), (h c).2.1.trans (final_8 m c), (h c).2.2.1.trans (final_9 m c), (h c).2.2.2⟩
  · obtain ⟨e0, e1, e2, e3⟩ := hargs c
    have hG := Cert.Pre_finite_cotangent.Grad.reals _ _ _ _ (hpre c)
    refine ⟨(h c).1.trans ?_, (h c).2.1.trans ?_, (h c).2.2.1.trans ?_, (h c).2.2.2⟩
    · unfold Cert.Reference10Ideal.Value.res_main_v67
      rw [e0, e1, e2, e3]
      exact Cert.Reference10Ideal.Grad.value_x _ _ _ _ hG
    · unfold Cert.Reference10Ideal.Value.res_main_v62
      rw [e0, e1, e2, e3]
      exact Cert.Reference10Ideal.Grad.value_w _ _ _ _ hG
    · unfold Cert.Reference10Ideal.Value.res_main_v68
      rw [e0, e1, e2, e3]
      exact Cert.Reference10Ideal.Grad.value_b _ _ _ _ hG

end Cert.Kernel10Ideal.Grad
-- ==== Proof.SsdOutGrad.lean ====
/-
  What the scan's output product passes back to the normed rows: the gradient of the product times the
  transposed weights, in blocks of 1024 rows by 1024 columns.
-/
module

public import proofs.«01_k».proof.Proof.Entry
public import proofs.«01_k».proof.Proof.Accumulate
public import proofs.«01_k».proof.Proof.Gen.Kernel11Ideal.Value
public import proofs.«01_k».proof.Proof.Gen.Reference11Ideal.Run

@[expose] public section

set_option maxRecDepth 16384

noncomputable section

namespace Cert.Kernel11Ideal.Grad

open Idealize.ShloMosaic Idealize.ShloMosaic.TcCoe Idealize.ShloMosaic.Pointwise Idealize.SL.Sem Cert.Entry Cert.Accumulate Cert.Kernel11Ideal
  Cert.Kernel11Ideal.Gen

theorem index_0 : ∀ t : Fin cfg0.N, win0_0.index t 0 = t.val % 8 ∧ win0_0.index t 1 = 0 := by decide +kernel
theorem index_1 : ∀ t : Fin cfg0.N, win0_1.index t 0 = t.val / 8 ∧ win0_1.index t 1 = 0 := by decide +kernel
theorem index_2 : ∀ t : Fin cfg0.N, win0_2.index t 0 = t.val % 8 ∧ win0_2.index t 1 = t.val / 8 := by decide +kernel

/-- Row `p` of point `t`'s block of 1024 rows, and column `f` of its block of 1024 columns. -/
def row (t : ℕ) (p : Fin 1024) : Fin 8192 := ⟨1024 * (t % 8) + p.val, by omega⟩
def col (t : ℕ) (f : Fin 1024) : Fin 2048 := ⟨1024 * (t / 8 % 2) + f.val, by omega⟩

theorem read_0 (A : FVec Ideal S8192x1024 .bf16) (t : Fin cfg0.N) (p : Fin 1024) (q : Fin 1024) :
    ((cfg0.win 0).blk t).view.read (Elt Ideal) A (ix2 p q) = A (ix2 (row t.val p) q) := by
  obtain ⟨h0, h1⟩ := index_0 t
  rw [View.read_apply]
  exact at_ix2 A _ _ _ (by show win0_0.index t 0 * 1024 + 1 * p.val = 1024 * (t.val % 8) + p.val; rw [h0]; omega)
    (by show win0_0.index t 1 * 1024 + 1 * q.val = q.val; rw [h1]; omega)

theorem read_1 (A : FVec Ideal S2048x1024 .bf16) (t : Fin cfg0.N) (f : Fin 1024) (q : Fin 1024) :
    ((cfg0.win 1).blk t).view.read (Elt Ideal) A (ix2 f q) = A (ix2 (col t.val f) q) := by
  obtain ⟨h0, h1⟩ := index_1 t
  have hN : cfg0.N = 16 := N_0
  have := t.isLt
  rw [View.read_apply]
  exact at_ix2 A _ _ _ (by show win0_1.index t 0 * 1024 + 1 * f.val = 1024 * (t.val / 8 % 2) + f.val; rw [h0]; omega)
    (by show win0_1.index t 1 * 1024 + 1 * q.val = q.val; rw [h1]; omega)

theorem read_2 (A : FVec Ideal S8192x2048 .bf16) (t : Fin cfg0.N) (p : Fin 1024) (f : Fin 1024) :
    ((cfg0.win 2).blk t).view.read (Elt Ideal) A (ix2 p f) = A (ix2 (row t.val p) (col t.val f)) := by
  obtain ⟨h0, h1⟩ := index_2 t
  have hN : cfg0.N = 16 := N_0
  have := t.isLt
  rw [View.read_apply]
  exact at_ix2 A _ _ _ (by show win0_2.index t 0 * 1024 + 1 * p.val = 1024 * (t.val % 8) + p.val; rw [h0]; omega)
    (by show win0_2.index t 1 * 1024 + 1 * f.val = 1024 * (t.val / 8 % 2) + f.val; rw [h1]; omega)

theorem pay1_apply (x : Vec Ideal S1024x1024 .bf16) (w : Vec Ideal S1024x1024 .bf16) (p : Fin 1024) (f : Fin 1024) :
    k0_pay1 x w (ix2 p f) = ∑ q, (x (ix2 p q) * w (ix2 f q) : EReal) := by
  pointwise [k0_pay1]

variable (m : (ℓ : Loc nD τ sig) → Buf (Elt Ideal) ℓ) (ρ : Dev nD → PrngReg) (c : Dev nD)

/-- The gradient of the product and the weights in memory. -/
abbrev dy : FVec Ideal S8192x1024 .f32 := m ((c.tc : Thread nD τ).loc main_arg0)
abbrev w : FVec Ideal S2048x1024 .f32 := m ((c.tc : Thread nD τ).loc main_arg1)

theorem V0 : V m c main_v0 = truncf .bf16 (dy m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p : Fin 1024) (q : Fin 1024) : iblk m c 0 t (ix2 p q) = dy m c (ix2 (row t.val p) q) :=
  (read_0 (V m c main_v0) t p q).trans (by rw [V0]; rfl)
theorem block_1 (t : Fin cfg0.N) (f : Fin 1024) (q : Fin 1024) : iblk m c 1 t (ix2 f q) = w m c (ix2 (col t.val f) q) :=
  (read_1 (V m c main_v1) t f q).trans (by rw [V1]; rfl)

/-- The gradient of the rows. -/
def grad (A : FVec Ideal S8192x1024 .f32) (B : FVec Ideal S2048x1024 .f32) : FVec Ideal S8192x2048 .bf16 :=
  fun j => ∑ q : Fin 1024, (A (ix2 (j 0) q) * B (ix2 (j 1) q) : EReal)

theorem flushed (t : Fin cfg0.N) :
    (dats m 0 c).flushed 2 t = ((cfg0.win 2).blk t).view.read (Elt Ideal) (grad (dy m c) (w m c)) := by
  rw [Value.flushed2]
  funext j
  obtain ⟨p, f, rfl⟩ : ∃ (p : Fin 1024) (f : Fin 1024), j = ix2 p f := ⟨_, _, eq_ix2 j⟩
  rw [read_2]
  show out0_2 (iblk m c 0 t) (iblk m c 1 t) (ix2 p f) = _
  unfold out0_2
  rw [View.canon_unit_zero zeros, ld_all, ld_all]
  refine (pay1_apply _ _ p f).trans (Finset.sum_congr rfl fun q _ => ?_)
  rw [block_0, block_1]
  rfl

/-- The point that writes an entry's block. -/
theorem point_lt (i : S8192x2048.Idx) : 8 * ((i 1 : Nat) / 1024) + (i 0 : Nat) / 1024 < cfg0.N := by
  have hN : cfg0.N = 16 := N_0
  have b0 : (i 0 : Nat) < 8192 := (i 0).isLt
  have b1 : (i 1 : Nat) < 2048 := (i 1).isLt
  omega

theorem final : (dats m 0 c).arrAt 2 cfg0.N = grad (dy m c) (w m c) :=
  (dats m 0 c).arrAt_eq_of_cover 2 _ (fun t _ => flushed m c t) fun i => by
    have b0 : (i 0 : Nat) < 8192 := (i 0).isLt
    obtain ⟨h0, h1⟩ := index_2 ⟨_, point_lt i⟩
    refine ⟨⟨_, point_lt i⟩, flush0_2 _, ?_⟩
    show i ∈ ((View.whole main_v2).slice (win0_2.rect ⟨_, point_lt i⟩)).set
    rw [View.set_slice_whole, Rect.mem_set_unit]
    intro a
    match a with
    | ⟨0, _⟩ => show win0_2.index _ 0 * 1024 ≤ (i 0 : Nat) ∧ (i 0 : Nat) < win0_2.index _ 0 * 1024 + 1024
                rw [h0]; dsimp only; omega
    | ⟨1, _⟩ => show win0_2.index _ 1 * 1024 ≤ (i 1 : Nat) ∧ (i 1 : Nat) < win0_2.index _ 1 * 1024 + 1024
                rw [h1]; dsimp only; omega

end Cert.Kernel11Ideal.Grad

namespace Cert.Reference11Ideal.Grad

open Idealize.ShloMosaic Idealize.ShloMosaic.TcCoe Idealize.ShloMosaic.Pointwise Idealize.SL.Sem Cert.Entry Cert.Reference11Ideal
  Cert.Reference11Ideal.Gen

/-- The gradient of `v ↦ v·W`. -/
theorem value (A : FVec Ideal S8192x1024 .f32) (B : FVec Ideal S2048x1024 .f32) :
    truncf .bf16 (Host.dotGeneral dot_S8192x1024_S2048x1024_S8192x2048_1_1_0_0_n_n none A B) bitsLt_bf16_f32
      = Cert.Kernel11Ideal.Grad.grad A B := by
  funext j
  obtain ⟨x, f, rfl⟩ : ∃ (x : Fin 8192) (f : Fin 2048), j = ix2 x f := ⟨_, _, eq_ix2 j⟩
  show _ = ∑ q : Fin 1024, (A (ix2 x q) * B (ix2 f q) : EReal)
  pointwise []

end Cert.Reference11Ideal.Grad

namespace Cert.Kernel11Ideal.Grad

open Idealize.ShloMosaic Idealize.SL.Sem Cert.Entry

theorem algebraic : Cert.algebraic_Kernel11Ideal_Reference11Ideal := by
  intro m g m' g' _ hargs
  refine ⟨fun c => grad (dy m c) (w m c), (θ_run defs _ _).mono (fun r h c => ?_) (Value.run_blocks (F := Ideal) m g),
    (θ_run Cert.Reference11Ideal.defs _ _).mono (fun r h c => ?_) (Cert.Reference11Ideal.Value.run (F := Ideal) m' g')⟩
  · exact ⟨(h c).1.trans (final m c), (h c).2⟩
  · obtain ⟨e0, e1⟩ := hargs c
    refine ⟨(h c).1.trans ?_, (h c).2⟩
    rw [e0, e1]
    exact Cert.Reference11Ideal.Grad.value _ _

end Cert.Kernel11Ideal.Grad

end
-- ==== Proof.SsdOutWeight.lean ====
/-
  The gradient of the weights after the scan: the transposed normed rows times the gradient of their
  product, summed by an accumulator over eight blocks of rows.
-/
module

public import proofs.«01_k».proof.Proof.DownWeight
public import proofs.«01_k».proof.Proof.Gen.Kernel12Ideal.Value
public import proofs.«01_k».proof.Proof.Gen.Reference12Ideal.Run

@[expose] public section

set_option maxRecDepth 16384

noncomputable section

namespace Cert.Kernel12Ideal.Grad

open Idealize.ShloMosaic Idealize.ShloMosaic.TcCoe Idealize.ShloMosaic.Pointwise Idealize.SL.Sem Cert.Entry Cert.Accumulate Cert.Kernel12Ideal
  Cert.Kernel12Ideal.Gen
open Cert.Kernel3Ideal.Grad (row)

section Stores

variable {F : FTy → Type} [FloatOps F] (c : Dev nD) (i : grid0.Coords)
  (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .f32) (h3 : a3.IsWhole)
  (x : Vec F S1024x1024 .bf16) (y : Vec F S1024x1024 .bf16) (acc : Vec F S1024x1024 .f32)

/-- The first block of rows sets the accumulator. -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- Each later one adds to it. -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all,
    shapeCast_self]

/-- The last stores the sum. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S1024x1024) _ zeros]
  unfold k0_pay3
  simp only [View.readAt_eq_ld, h0.read_unread, h1.read_unread, h3.read_unread, ld_all,
    shapeCast_self]

end Stores

/-! ## The blocks -/

/-- Column `p` of block `b` of 1024 columns. -/
def col (b : ℕ) (p : Fin 1024) : Fin 2048 := ⟨1024 * (b % 2) + p.val, by omega⟩

theorem index_0 : ∀ t : Fin cfg0.N, win0_0.index t 0 = t.val % 8 ∧ win0_0.index t 1 = t.val / 8 := by decide +kernel
theorem index_1 : ∀ t : Fin cfg0.N, win0_1.index t 0 = t.val % 8 ∧ win0_1.index t 1 = 0 := by decide +kernel

theorem read_0 (A : FVec Ideal S8192x2048 .bf16) (t : Fin cfg0.N) (r : Fin 1024) (p : Fin 1024) :
    ((cfg0.win 0).blk t).view.read (Elt Ideal) A (ix2 r p) = A (ix2 (row t.val r) (col (t.val / 8) p)) := by
  obtain ⟨h0, h1⟩ := index_0 t
  have hN : cfg0.N = 16 := N_0
  have := t.isLt
  rw [View.read_apply]
  exact at_ix2 A _ _ _ (by show win0_0.index t 0 * 1024 + 1 * r.val = 1024 * (t.val % 8) + r.val; rw [h0]; omega)
    (by show win0_0.index t 1 * 1024 + 1 * p.val = 1024 * (t.val / 8 % 2) + p.val; rw [h1]; omega)

theorem read_1 (A : FVec Ideal S8192x1024 .bf16) (t : Fin cfg0.N) (r : Fin 1024) (q : Fin 1024) :
    ((cfg0.win 1).blk t).view.read (Elt Ideal) A (ix2 r q) = A (ix2 (row t.val r) q) := by
  obtain ⟨h0, h1⟩ := index_1 t
  rw [View.read_apply]
  exact at_ix2 A _ _ _ (by show win0_1.index t 0 * 1024 + 1 * r.val = 1024 * (t.val % 8) + r.val; rw [h0]; omega)
    (by show win0_1.index t 1 * 1024 + 1 * q.val = q.val; rw [h1]; omega)

theorem pay1_apply (x : Vec Ideal S1024x1024 .bf16) (y : Vec Ideal S1024x1024 .bf16) (p : Fin 1024) (q : Fin 1024) :
    k0_pay1 x y (ix2 p q) = ∑ r, (x (ix2 r p) * y (ix2 r q) : EReal) := by
  pointwise [k0_pay1]

theorem pay4_apply (x : Vec Ideal S1024x1024 .f32) (j : S1024x1024.Idx) : k0_pay4 x j = (x j : EReal) := by
  pointwise [k0_pay4]

variable (m : (ℓ : Loc nD τ sig) → Buf (Elt Ideal) ℓ) (ρ : Dev nD → PrngReg) (c : Dev nD)

/-- The normed rows and the gradient of the product in memory. -/
abbrev yn : FVec Ideal S8192x2048 .f32 := m ((c.tc : Thread nD τ).loc main_arg0)
abbrev dy : FVec Ideal S8192x1024 .f32 := m ((c.tc : Thread nD τ).loc main_arg1)

theorem V0 : V m c main_v0 = truncf .bf16 (yn m c) bitsLt_bf16_f32 := by
  unfold V; after_reads_simp <;> rfl
theorem V1 : V m c main_v1 = truncf .bf16 (dy m c) bitsLt_bf16_f32 := by
  unfold V; after_reads_simp <;> rfl

/-- The terms of an entry in block `b` of 1024 rows of the product. -/
def term (A : FVec Ideal S8192x2048 .f32) (B : FVec Ideal S8192x1024 .f32) (p : Fin 1024) (q : Fin 1024) (b : ℕ) (s : Fin 8192) : EReal :=
  A (ix2 s (col b p)) * B (ix2 s q)

theorem chunk_eq (t : Fin cfg0.N) (p : Fin 1024) (q : Fin 1024) :
    k0_pay1 (iblk m c 0 t) (iblk m c 1 t) (ix2 p q) = chunk 8 1024 (term (yn m c) (dy m c) p q) t.val := by
  refine (pay1_apply (iblk m c 0 t) (iblk m c 1 t) p q).trans (Finset.sum_congr rfl fun r _ => ?_)
  have e0 : iblk m c 0 t (ix2 r p) = V m c main_v0 (ix2 (row t.val r) (col (t.val / 8) p)) := read_0 (V m c main_v0) t r p
  have e1 : iblk m c 1 t (ix2 r q) = V m c main_v1 (ix2 (row t.val r) q) := read_1 (V m c main_v1) t r q
  rw [e0, e1, V0, V1]
  rfl

/-- The block that the last point of a sweep stores. -/
theorem out_at (p : Fin 1024) (q : Fin 1024) (n : ℕ) (h : n < cfg0.N) (hn : n % 8 + 1 = 8) :
    (outsAt0 m c n h).1 (ix2 p q) = ∑ s, term (yn m c) (dy m c) p q (n / 8) s := by
  have hs := sum_sweep 8 1024 (fun n h => (if n % 8 = 7 then (outsAt0 m c n h).1 (ix2 p q) else (outsAt0 m c n h).2 (ix2 p q) : EReal))
    (term (yn m c) (dy m c) p q) ?_ ?_ n h hn
  · simpa only [if_pos (show n % 8 = 7 by omega)] using hs
  · intro n h hn
    rw [if_neg (by omega), outsAt0_A m c ⟨n, h⟩ hn (by dsimp only; omega) (by dsimp only; omega)]
    dsimp only
    rw [first_acc]
    exact chunk_eq m c ⟨n, h⟩ p q
  · intro n h h' hn
    have e := congrArg (fun z : EReal => ((outsAt0 m c n h).2 (ix2 p q) : EReal) + z) (chunk_eq m c ⟨n + 1, h'⟩ p q)
    rw [if_neg (show ¬n % 8 = 7 by omega)]
    split
    · rw [outsAt0_C m c ⟨n + 1, h'⟩ hn (by dsimp only; omega) ‹_›]
      dsimp only
      rw [last_out, pay4_apply]
      exact e
    · rw [outsAt0_B m c ⟨n + 1, h'⟩ hn (by dsimp only; omega) ‹_›]
      dsimp only
      rw [next_acc]
      exact e

/-- The gradient of the weights. -/
def grad (A : FVec Ideal S8192x2048 .f32) (B : FVec Ideal S8192x1024 .f32) : FVec Ideal S2048x1024 .bf16 :=
  fun j => ∑ s : Fin 8192, (A (ix2 s (j 0)) * B (ix2 s (j 1)) : EReal)

theorem result : Value.G2 m c = grad (yn m c) (dy m c) := by
  funext j
  obtain ⟨x, q, rfl⟩ : ∃ (x : Fin 2048) (q : Fin 1024), j = ix2 x q := ⟨_, _, eq_ix2 j⟩
  have hx := x.isLt
  have hq := q.isLt
  have hN : cfg0.N = 16 := N_0
  have hpt : Value.pt2Of (ix2 x q) = 8 * (x.val / 1024) + 7 := by
    show 8 * (1 * (x.val / 1024 - 0) + 1 * (q.val / 1024 - 0)) + 7 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  refine Finset.sum_congr rfl fun s _ => ?_
  have hc : col (Value.pt2Of (ix2 x q) / 8) ⟨x.val % 1024, Nat.mod_lt _ (by decide)⟩ = x :=
    Fin.ext (by show 1024 * (Value.pt2Of (ix2 x q) / 8 % 2) + x.val % 1024 = x.val; rw [hpt]; omega)
  unfold term
  rw [hc]
  rfl

end Cert.Kernel12Ideal.Grad

namespace Cert.Reference12Ideal.Grad

open Idealize.ShloMosaic Idealize.ShloMosaic.TcCoe Idealize.ShloMosaic.Pointwise Idealize.SL.Sem Cert.Entry Cert.Accumulate Cert.Reference12Ideal
  Cert.Reference12Ideal.Gen

/-- The gradient of `w ↦ A·w`. -/
theorem value (A : FVec Ideal S8192x2048 .f32) (B : FVec Ideal S8192x1024 .f32) :
    truncf .bf16 (transpose S2048x1024 [1, 0] (Host.dotGeneral dot_S8192x1024_S8192x2048_S1024x2048_0_0_1_1_n_n none B A)
      transposes_S1024x2048_S2048x1024_1_0) bitsLt_bf16_f32 = Cert.Kernel12Ideal.Grad.grad A B := by
  funext j
  obtain ⟨x, q, rfl⟩ : ∃ (x : Fin 2048) (q : Fin 1024), j = ix2 x q := ⟨_, _, eq_ix2 j⟩
  trans (∑ s : Fin 8192, (B (ix2 s q) * A (ix2 s x) : EReal))
  · pointwise []
  · exact Finset.sum_congr rfl fun s _ => mul_comm _ _

end Cert.Reference12Ideal.Grad

namespace Cert.Kernel12Ideal.Grad

open Idealize.ShloMosaic Idealize.SL.Sem Cert.Entry

theorem algebraic : Cert.algebraic_Kernel12Ideal_Reference12Ideal := by
  intro m g m' g' _ hargs
  refine ⟨fun c => grad (yn m c) (dy m c), (θ_run defs _ _).mono (fun r h c => ?_) (Value.run (F := Ideal) m g),
    (θ_run Cert.Reference12Ideal.defs _ _).mono (fun r h c => ?_) (Cert.Reference12Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference12Ideal.Grad.value _ _

end Cert.Kernel12Ideal.Grad

end
-- ==== Proof.OutWeight.lean ====
/-
  The gradient of the mixers' output weights: the transposed gated sum times the gradient of its
  product, summed by an accumulator over eight blocks of rows.
-/
module

public import proofs.«01_k».proof.Proof.DownWeight
public import proofs.«01_k».proof.Proof.Gen.Kernel13Ideal.Value
public import proofs.«01_k».proof.Proof.Gen.Reference13Ideal.Run

@[expose] public section

set_option maxRecDepth 16384

noncomputable section

namespace Cert.Kernel13Ideal.Grad

open Idealize.ShloMosaic Idealize.ShloMosaic.TcCoe Idealize.ShloMosaic.Pointwise Idealize.SL.Sem Cert.Entry Cert.Accumulate Cert.Kernel13Ideal
  Cert.Kernel13Ideal.Gen
open Cert.Kernel3Ideal.Grad (row)

section Stores

variable {F : FTy → Type} [FloatOps F] (c : Dev nD) (i : grid0.Coords)
  (a0 : Memref sig .tc .vmem S1024x1024 .bf16) (h0 : a0.IsWhole) (a1 : Memref sig .tc .vmem S1024x1024 .f32) (h1 : a1.IsWhole)
  (a2 : Memref sig .tc .vmem S1024x1024 .bf16) (h2 : a2.IsWhole) (a3 : Memref sig .tc .vmem S1024x1024 .f32) (h3 : a3.IsWhole)
  (x : Vec F S1024x1024 .bf16) (y : Vec F S1024x1024 .f32) (acc : Vec F S1024x1024 .f32)

/-- The first block of rows sets the accumulator. -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- Each later one adds to it. -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all,
    shapeCast_self]

/-- The last stores the sum. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S1024x1024) _ zeros]
  unfold k0_pay3
  simp only [View.readAt_eq_ld, h0.read_unread, h1.read_unread, h3.read_unread, ld_all,
    shapeCast_self]

end Stores

/-! ## The blocks -/

theorem index_0 : ∀ t : Fin cfg0.N, win0_0.index t 0 = t.val % 8 ∧ win0_0.index t 1 = 0 := by decide +kernel
theorem index_1 : ∀ t : Fin cfg0.N, win0_1.index t 0 = t.val % 8 ∧ win0_1.index t 1 = 0 := by decide +kernel

theorem read_0 (A : FVec Ideal S8192x1024 .bf16) (t : Fin cfg0.N) (r : Fin 1024) (p : Fin 1024) :
    ((cfg0.win 0).blk t).view.read (Elt Ideal) A (ix2 r p) = A (ix2 (row t.val r) p) := by
  obtain ⟨h0, h1⟩ := index_0 t
  have hN : cfg0.N = 8 := N_0
  have := t.isLt
  rw [View.read_apply]
  exact at_ix2 A _ _ _ (by show win0_0.index t 0 * 1024 + 1 * r.val = 1024 * (t.val % 8) + r.val; rw [h0]; omega)
    (by show win0_0.index t 1 * 1024 + 1 * p.val = p.val; rw [h1]; omega)

theorem read_1 (A : FVec Ideal S8192x1024 .f32) (t : Fin cfg0.N) (r : Fin 1024) (q : Fin 1024) :
    ((cfg0.win 1).blk t).view.read (Elt Ideal) A (ix2 r q) = A (ix2 (row t.val r) q) := by
  obtain ⟨h0, h1⟩ := index_1 t
  rw [View.read_apply]
  exact at_ix2 A _ _ _ (by show win0_1.index t 0 * 1024 + 1 * r.val = 1024 * (t.val % 8) + r.val; rw [h0]; omega)
    (by show win0_1.index t 1 * 1024 + 1 * q.val = q.val; rw [h1]; omega)

theorem pay1_apply (x : Vec Ideal S1024x1024 .bf16) (y : Vec Ideal S1024x1024 .f32) (p : Fin 1024) (q : Fin 1024) :
    k0_pay1 x y (ix2 p q) = ∑ r, (x (ix2 r p) * y (ix2 r q) : EReal) := by
  pointwise [k0_pay1]

theorem pay4_apply (x : Vec Ideal S1024x1024 .f32) (j : S1024x1024.Idx) : k0_pay4 x j = (x j : EReal) := by
  pointwise [k0_pay4]

variable (m : (ℓ : Loc nD τ sig) → Buf (Elt Ideal) ℓ) (ρ : Dev nD → PrngReg) (c : Dev nD)

/-- The gated sum of the mixers and the gradient of its product in memory. -/
abbrev mg : FVec Ideal S8192x1024 .f32 := m ((c.tc : Thread nD τ).loc main_arg0)
abbrev dh : FVec Ideal S8192x1024 .f32 := m ((c.tc : Thread nD τ).loc main_arg1)

theorem V0 : V m c main_v0 = truncf .bf16 (mg m c) bitsLt_bf16_f32 := by
  unfold V; after_reads_simp <;> rfl

/-- The terms of an entry in block `b` of 1024 rows of the product. -/
def term (A : FVec Ideal S8192x1024 .f32) (B : FVec Ideal S8192x1024 .f32) (p : Fin 1024) (q : Fin 1024) (b : ℕ) (s : Fin 8192) : EReal :=
  A (ix2 s p) * B (ix2 s q)

theorem chunk_eq (t : Fin cfg0.N) (p : Fin 1024) (q : Fin 1024) :
    k0_pay1 (iblk m c 0 t) (iblk m c 1 t) (ix2 p q) = chunk 8 1024 (term (mg m c) (dh m c) p q) t.val := by
  refine (pay1_apply (iblk m c 0 t) (iblk m c 1 t) p q).trans (Finset.sum_congr rfl fun r _ => ?_)
  have e0 : iblk m c 0 t (ix2 r p) = V m c main_v0 (ix2 (row t.val r) p) := read_0 (V m c main_v0) t r p
  have e1 : iblk m c 1 t (ix2 r q) = V m c main_arg1 (ix2 (row t.val r) q) := read_1 (V m c main_arg1) t r q
  rw [e0, e1, V0, V_main_arg1]
  rfl

/-- The block that the last point of a sweep stores. -/
theorem out_at (p : Fin 1024) (q : Fin 1024) (n : ℕ) (h : n < cfg0.N) (hn : n % 8 + 1 = 8) :
    (outsAt0 m c n h).1 (ix2 p q) = ∑ s, term (mg m c) (dh m c) p q (n / 8) s := by
  have hN : cfg0.N = 8 := N_0
  have hs := sum_sweep 8 1024 (fun n h => (if n % 8 = 7 then (outsAt0 m c n h).1 (ix2 p q) else (outsAt0 m c n h).2 (ix2 p q) : EReal))
    (term (mg m c) (dh m c) p q) ?_ ?_ n h hn
  · simpa only [if_pos (show n % 8 = 7 by omega)] using hs
  · intro n h hn
    rw [if_neg (by omega), outsAt0_A m c ⟨n, h⟩ hn (by dsimp only; omega) (by dsimp only; omega)]
    dsimp only
    rw [first_acc]
    exact chunk_eq m c ⟨n, h⟩ p q
  · intro n h h' hn
    have e := congrArg (fun z : EReal => ((outsAt0 m c n h).2 (ix2 p q) : EReal) + z) (chunk_eq m c ⟨n + 1, h'⟩ p q)
    rw [if_neg (show ¬n % 8 = 7 by omega)]
    split
    · rw [outsAt0_C m c ⟨n + 1, h'⟩ hn (by dsimp only; omega) ‹_›]
      dsimp only
      rw [last_out, pay4_apply]
      exact e
    · rw [outsAt0_B m c ⟨n + 1, h'⟩ hn (by dsimp only; omega) ‹_›]
      dsimp only
      rw [next_acc]
      exact e

/-- The gradient of the weights. -/
def grad (A : FVec Ideal S8192x1024 .f32) (B : FVec Ideal S8192x1024 .f32) : FVec Ideal S1024x1024 .bf16 :=
  fun j => ∑ s : Fin 8192, (A (ix2 s (j 0)) * B (ix2 s (j 1)) : EReal)

theorem result : Value.G2 m c = grad (mg m c) (dh m c) := by
  funext j
  obtain ⟨x, q, rfl⟩ : ∃ (x : Fin 1024) (q : Fin 1024), j = ix2 x q := ⟨_, _, eq_ix2 j⟩
  have hx := x.isLt
  have hq := q.isLt
  have hN : cfg0.N = 8 := N_0
  have hpt : Value.pt2Of (ix2 x q) = 8 * (x.val / 1024) + 7 := by
    show 8 * (1 * (x.val / 1024 - 0) + 1 * (q.val / 1024 - 0)) + 7 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  refine Finset.sum_congr rfl fun s _ => ?_
  have hc : (⟨x.val % 1024, Nat.mod_lt _ (by decide)⟩ : Fin 1024) = x := Fin.ext (Nat.mod_eq_of_lt hx)
  unfold term
  rw [hc]
  rfl

end Cert.Kernel13Ideal.Grad

namespace Cert.Reference13Ideal.Grad

open Idealize.ShloMosaic Idealize.ShloMosaic.TcCoe Idealize.ShloMosaic.Pointwise Idealize.SL.Sem Cert.Entry Cert.Accumulate Cert.Reference13Ideal
  Cert.Reference13Ideal.Gen

/-- The gradient of `w ↦ A·w`. -/
theorem value (A : FVec Ideal S8192x1024 .f32) (B : FVec Ideal S8192x1024 .f32) :
    truncf .bf16 (transpose S1024x1024 [1, 0] (Host.dotGeneral dot_S8192x1024_S8192x1024_S1024x1024_0_0_1_1_n_n none B A)
      transposes_S1024x1024_S1024x1024_1_0) bitsLt_bf16_f32 = Cert.Kernel13Ideal.Grad.grad A B := by
  funext j
  obtain ⟨x, q, rfl⟩ : ∃ (x : Fin 1024) (q : Fin 1024), j = ix2 x q := ⟨_, _, eq_ix2 j⟩
  trans (∑ s : Fin 8192, (B (ix2 s q) * A (ix2 s x) : EReal))
  · pointwise []
  · exact Finset.sum_congr rfl fun s _ => mul_comm _ _

end Cert.Reference13Ideal.Grad

namespace Cert.Kernel13Ideal.Grad

open Idealize.ShloMosaic Idealize.SL.Sem Cert.Entry

theorem algebraic : Cert.algebraic_Kernel13Ideal_Reference13Ideal := by
  intro m g m' g' _ hargs
  refine ⟨fun c => grad (mg m c) (dh m c), (θ_run defs _ _).mono (fun r h c => ?_) (Value.run (F := Ideal) m g),
    (θ_run Cert.Reference13Ideal.defs _ _).mono (fun r h c => ?_) (Cert.Reference13Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference13Ideal.Grad.value _ _

end Cert.Kernel13Ideal.Grad

end
-- ==== Proof.FfnUp.lean ====
/-
  The FFN's first product and its gate: in blocks of 512 rows by 1408 columns, the normed rows times both
  halves of the transposed weights, and the gated product of the two.
-/
module

public import proofs.«01_k».proof.Proof.Swiglu
public import proofs.«01_k».proof.Proof.Gen.Kernel14Ideal.Value
public import proofs.«01_k».proof.Proof.Gen.Reference14Ideal.Run

@[expose] public section

set_option maxRecDepth 16384

noncomputable section

namespace Cert.Kernel14Ideal.Up

open Idealize.ShloMosaic Idealize.ShloMosaic.TcCoe Idealize.ShloMosaic.Pointwise Idealize.SL.Sem Cert.Entry Cert.Accumulate Cert.Kernel14Ideal
  Cert.Kernel14Ideal.Gen
open Cert.Kernel2Ideal.Grad (row col)

theorem index_0 : ∀ t : Fin cfg0.N, win0_0.index t 0 = t.val % 16 ∧ win0_0.index t 1 = 0 := by decide +kernel
theorem index_1 : ∀ t : Fin cfg0.N, win0_1.index t 0 = t.val / 16 ∧ win0_1.index t 1 = 0 := by decide +kernel
theorem index_2 : ∀ t : Fin cfg0.N, win0_2.index t 0 = t.val / 16 + 2 ∧ win0_2.index t 1 = 0 := by decide +kernel
theorem index_3 : ∀ t : Fin cfg0.N, win0_3.index t 0 = t.val % 16 ∧ win0_3.index t 1 = t.val / 16 := by decide +kernel
theorem index_4 : ∀ t : Fin cfg0.N, win0_4.index t 0 = t.val % 16 ∧ win0_4.index t 1 = t.val / 16 := by decide +kernel
theorem index_5 : ∀ t : Fin cfg0.N, win0_5.index t 0 = t.val % 16 ∧ win0_5.index t 1 = t.val / 16 := by decide +kernel

/-- A column's row of the transposed weights, in the gate's half and in the other. -/
def gateRow (f : Fin 2816) : Fin 5632 := ⟨f.val, by omega⟩
def upRow (f : Fin 2816) : Fin 5632 := ⟨2816 + f.val, by omega⟩

theorem read_0 (A : FVec Ideal S8192x1024 .bf16) (t : Fin cfg0.N) (p : Fin 512) (q : Fin 1024) :
    ((cfg0.win 0).blk t).view.read (Elt Ideal) A (ix2 p q) = A (ix2 (row t.val p) q) := by
  obtain ⟨h0, h1⟩ := index_0 t
  rw [View.read_apply]
  exact at_ix2 A _ _ _ (by show win0_0.index t 0 * 512 + 1 * p.val = 512 * (t.val % 16) + p.val; rw [h0]; omega)
    (by show win0_0.index t 1 * 1024 + 1 * q.val = q.val; rw [h1]; omega)

theorem read_1 (A : FVec Ideal S5632x1024 .bf16) (t : Fin cfg0.N) (f : Fin 1408) (q : Fin 1024) :
    ((cfg0.win 1).blk t).view.read (Elt Ideal) A (ix2 f q) = A (ix2 (gateRow (col t.val f)) q) := by
  obtain ⟨h0, h1⟩ := index_1 t
  have hN : cfg0.N = 32 := N_0
  have := t.isLt
  rw [View.read_apply]
  exact at_ix2 A _ _ _ (by show win0_1.index t 0 * 1408 + 1 * f.val = 1408 * (t.val / 16 % 2) + f.val; rw [h0]; omega)
    (by show win0_1.index t 1 * 1024 + 1 * q.val = q.val; rw [h1]; omega)

theorem read_2 (A : FVec Ideal S5632x1024 .bf16) (t : Fin cfg0.N) (f : Fin 1408) (q : Fin 1024) :
    ((cfg0.win 2).blk t).view.read (Elt Ideal) A (ix2 f q) = A (ix2 (upRow (col t.val f)) q) := by
  obtain ⟨h0, h1⟩ := index_2 t
  have hN : cfg0.N = 32 := N_0
  have := t.isLt
  rw [View.read_apply]
  exact at_ix2 A _ _ _ (by show win0_2.index t 0 * 1408 + 1 * f.val = 2816 + (1408 * (t.val / 16 % 2) + f.val); rw [h0]; omega)
    (by show win0_2.index t 1 * 1024 + 1 * q.val = q.val; rw [h1]; omega)

/-- Where an entry of point `t`'s block of a result lies in the array. -/
theorem place {i : Fin cfg0.N → Fin 2 → ℕ} (t : Fin cfg0.N) (h : i t 0 = t.val % 16 ∧ i t 1 = t.val / 16) (p : Fin 512) (f : Fin 1408) :
    i t 0 * 512 + 1 * p.val = (row t.val p).val ∧ i t 1 * 1408 + 1 * f.val = (col t.val f).val := by
  have hN : cfg0.N = 32 := N_0
  have := t.isLt
  obtain ⟨h0, h1⟩ := h
  refine ⟨?_, ?_⟩
  · show _ = 512 * (t.val % 16) + p.val
    rw [h0]; omega
  · show _ = 1408 * (t.val / 16 % 2) + f.val
    rw [h1]; omega

theorem read_3 (A : FVec Ideal S8192x2816 .bf16) (t : Fin cfg0.N) (p : Fin 512) (f : Fin 1408) :
    ((cfg0.win 3).blk t).view.read (Elt Ideal) A (ix2 p f) = A (ix2 (row t.val p) (col t.val f)) := by
  rw [View.read_apply]
  exact at_ix2 A _ _ _ (by exact (place (i := win0_3.index) t (index_3 t) p f).1)
    (by exact (place (i := win0_3.index) t (index_3 t) p f).2)

theorem read_4 (A : FVec Ideal S8192x2816 .bf16) (t : Fin cfg0.N) (p : Fin 512) (f : Fin 1408) :
    ((cfg0.win 4).blk t).view.read (Elt Ideal) A (ix2 p f) = A (ix2 (row t.val p) (col t.val f)) := by
  rw [View.read_apply]
  exact at_ix2 A _ _ _ (by exact (place (i := win0_4.index) t (index_4 t) p f).1)
    (by exact (place (i := win0_4.index) t (index_4 t) p f).2)

theorem read_5 (A : FVec Ideal S8192x2816 .bf16) (t : Fin cfg0.N) (p : Fin 512) (f : Fin 1408) :
    ((cfg0.win 5).blk t).view.read (Elt Ideal) A (ix2 p f) = A (ix2 (row t.val p) (col t.val f)) := by
  rw [View.read_apply]
  exact at_ix2 A _ _ _ (by exact (place (i := win0_5.index) t (index_5 t) p f).1)
    (by exact (place (i := win0_5.index) t (index_5 t) p f).2)

/-- A row times a row of the transposed weights, and the gated product of two such. -/
def dot (x w : Fin 1024 → EReal) : EReal := ∑ q, x q * w q
def gated (g u : EReal) : EReal := g * Ideal.logistic g * u

theorem pay5_apply (x : Vec Ideal S512x1024 .bf16) (w : Vec Ideal S1408x1024 .bf16) (p : Fin 512) (f : Fin 1408) :
    k0_pay5 x w (ix2 p f) = dot (fun q => x (ix2 p q)) (fun q => w (ix2 f q)) := by
  unfold dot
  pointwise [k0_pay5, k0_pay2, k0_pay1]

theorem pay6_apply (x : Vec Ideal S512x1024 .bf16) (w : Vec Ideal S1408x1024 .bf16) (p : Fin 512) (f : Fin 1408) :
    k0_pay6 x w (ix2 p f) = dot (fun q => x (ix2 p q)) (fun q => w (ix2 f q)) := by
  unfold dot
  pointwise [k0_pay6, k0_pay3, k0_pay1]

theorem pay4_apply (x : Vec Ideal S512x1024 .bf16) (w v : Vec Ideal S1408x1024 .bf16) (p : Fin 512) (f : Fin 1408) :
    k0_pay4 x w v (ix2 p f)
      = gated (dot (fun q => x (ix2 p q)) (fun q => w (ix2 f q))) (dot (fun q => x (ix2 p q)) (fun q => v (ix2 f q))) := by
  rw [← pay5_apply, ← pay6_apply]
  unfold gated
  pointwise [k0_pay4, k0_pay5, k0_pay6]

variable (m : (ℓ : Loc nD τ sig) → Buf (Elt Ideal) ℓ) (ρ : Dev nD → PrngReg) (c : Dev nD)

/-- The normed rows and the transposed weights in memory. -/
abbrev n : FVec Ideal S8192x1024 .f32 := m ((c.tc : Thread nD τ).loc main_arg0)
abbrev w13 : FVec Ideal S5632x1024 .f32 := m ((c.tc : Thread nD τ).loc main_arg1)

theorem V0 : V m c main_v0 = truncf .bf16 (n m c) bitsLt_bf16_f32 := by
  unfold V; after_reads_simp <;> rfl
theorem V1 : V m c main_v1 = truncf .bf16 (w13 m c) bitsLt_bf16_f32 := by
  unfold V; after_reads_simp <;> rfl

theorem block_0 (t : Fin cfg0.N) (p : Fin 512) (q : Fin 1024) : iblk m c 0 t (ix2 p q) = n m c (ix2 (row t.val p) q) :=
  (read_0 (V m c main_v0) t p q).trans (by rw [V0]; rfl)
theorem block_1 (t : Fin cfg0.N) (f : Fin 1408) (q : Fin 1024) : iblk m c 1 t (ix2 f q) = w13 m c (ix2 (gateRow (col t.val f)) q) :=
  (read_1 (V m c main_v1) t f q).trans (by rw [V1]; rfl)
theorem block_2 (t : Fin cfg0.N) (f : Fin 1408) (q : Fin 1024) : iblk m c 2 t (ix2 f q) = w13 m c (ix2 (upRow (col t.val f)) q) :=
  (read_2 (V m c main_v1) t f q).trans (by rw [V1]; rfl)

/-- The three results. -/
def gate (x : FVec Ideal S8192x1024 .f32) (w : FVec Ideal S5632x1024 .f32) : FVec Ideal S8192x2816 .bf16 :=
  fun j => dot (fun q => x (ix2 (j 0) q)) (fun q => w (ix2 (gateRow (j 1)) q))
def up (x : FVec Ideal S8192x1024 .f32) (w : FVec Ideal S5632x1024 .f32) : FVec Ideal S8192x2816 .bf16 :=
  fun j => dot (fun q => x (ix2 (j 0) q)) (fun q => w (ix2 (upRow (j 1)) q))
def act (x : FVec Ideal S8192x1024 .f32) (w : FVec Ideal S5632x1024 .f32) : FVec Ideal S8192x2816 .bf16 :=
  fun j => gated (gate x w j) (up x w j)

/-- The blocks' products are the arrays' products. -/
theorem dot_gate (t : Fin cfg0.N) (p : Fin 512) (f : Fin 1408) :
    dot (fun q => iblk m c 0 t (ix2 p q)) (fun q => iblk m c 1 t (ix2 f q)) = gate (n m c) (w13 m c) (ix2 (row t.val p) (col t.val f)) :=
  congrArg₂ dot (funext fun q => block_0 m c t p q) (funext fun q => block_1 m c t f q)
theorem dot_up (t : Fin cfg0.N) (p : Fin 512) (f : Fin 1408) :
    dot (fun q => iblk m c 0 t (ix2 p q)) (fun q => iblk m c 2 t (ix2 f q)) = up (n m c) (w13 m c) (ix2 (row t.val p) (col t.val f)) :=
  congrArg₂ dot (funext fun q => block_0 m c t p q) (funext fun q => block_2 m c t f q)

theorem flushed_3 (t : Fin cfg0.N) :
    (dats m 0 c).flushed 3 t = ((cfg0.win 3).blk t).view.read (Elt Ideal) (act (n m c) (w13 m c)) := by
  rw [Value.flushed3]
  funext j
  obtain ⟨p, f, rfl⟩ : ∃ (p : Fin 512) (f : Fin 1408), j = ix2 p f := ⟨_, _, eq_ix2 j⟩
  rw [read_3]
  show out0_3 (iblk m c 0 t) (iblk m c 1 t) (iblk m c 2 t) (ix2 p f) = _
  unfold out0_3
  rw [View.canon_unit_zero zeros, ld_all, ld_all, ld_all]
  refine (pay4_apply _ _ _ p f).trans ?_
  rw [dot_gate, dot_up]
  rfl

theorem flushed_4 (t : Fin cfg0.N) :
    (dats m 0 c).flushed 4 t = ((cfg0.win 4).blk t).view.read (Elt Ideal) (gate (n m c) (w13 m c)) := by
  rw [Value.flushed4]
  funext j
  obtain ⟨p, f, rfl⟩ : ∃ (p : Fin 512) (f : Fin 1408), j = ix2 p f := ⟨_, _, eq_ix2 j⟩
  rw [read_4]
  show out0_4 (iblk m c 0 t) (iblk m c 1 t) (iblk m c 2 t) (ix2 p f) = _
  unfold out0_4
  rw [View.canon_unit_zero zeros, ld_all, ld_all]
  exact (pay5_apply _ _ p f).trans (dot_gate m c t p f)

theorem flushed_5 (t : Fin cfg0.N) :
    (dats m 0 c).flushed 5 t = ((cfg0.win 5).blk t).view.read (Elt Ideal) (up (n m c) (w13 m c)) := by
  rw [Value.flushed5]
  funext j
  obtain ⟨p, f, rfl⟩ : ∃ (p : Fin 512) (f : Fin 1408), j = ix2 p f := ⟨_, _, eq_ix2 j⟩
  rw [read_5]
  show out0_5 (iblk m c 0 t) (iblk m c 1 t) (iblk m c 2 t) (ix2 p f) = _
  unfold out0_5
  rw [View.canon_unit_zero zeros, ld_all, ld_all]
  exact (pay6_apply _ _ p f).trans (dot_up m c t p f)

/-- The point that writes an entry's block, and the block's bounds. -/
theorem point_lt (i : S8192x2816.Idx) : 16 * ((i 1 : Nat) / 1408) + (i 0 : Nat) / 512 < cfg0.N := by
  have hN : cfg0.N = 32 := N_0
  have b0 : (i 0 : Nat) < 8192 := (i 0).isLt
  have b1 : (i 1 : Nat) < 2816 := (i 1).isLt
  omega
theorem bounds (i : S8192x2816.Idx) {e : Fin cfg0.N → Fin 2 → ℕ}
    (h : e ⟨_, point_lt i⟩ 0 = (16 * ((i 1 : Nat) / 1408) + (i 0 : Nat) / 512) % 16
      ∧ e ⟨_, point_lt i⟩ 1 = (16 * ((i 1 : Nat) / 1408) + (i 0 : Nat) / 512) / 16) :
    (e ⟨_, point_lt i⟩ 0 * 512 ≤ (i 0 : Nat) ∧ (i 0 : Nat) < e ⟨_, point_lt i⟩ 0 * 512 + 512)
      ∧ (e ⟨_, point_lt i⟩ 1 * 1408 ≤ (i 1 : Nat) ∧ (i 1 : Nat) < e ⟨_, point_lt i⟩ 1 * 1408 + 1408) := by
  have b0 : (i 0 : Nat) < 8192 := (i 0).isLt
  obtain ⟨h0, h1⟩ := h
  rw [h0, h1]
  omega

theorem final_3 : (dats m 0 c).arrAt 3 cfg0.N = act (n m c) (w13 m c) :=
  (dats m 0 c).arrAt_eq_of_cover 3 _ (fun t _ => flushed_3 m c t) fun i => by
    refine ⟨⟨_, point_lt i⟩, flush0_3 _, ?_⟩
    show i ∈ ((View.whole main_v2_0).slice (win0_3.rect ⟨_, point_lt i⟩)).set
    rw [View.set_slice_whole, Rect.mem_set_unit]
    intro a
    match a with
    | ⟨0, _⟩ => exact (bounds i (e := win0_3.index) (index_3 _)).1
    | ⟨1, _⟩ => exact (bounds i (e := win0_3.index) (index_3 _)).2

theorem final_4 : (dats m 0 c).arrAt 4 cfg0.N = gate (n m c) (w13 m c) :=
  (dats m 0 c).arrAt_eq_of_cover 4 _ (fun t _ => flushed_4 m c t) fun i => by
    refine ⟨⟨_, point_lt i⟩, flush0_4 _, ?_⟩
    show i ∈ ((View.whole main_v2_1).slice (win0_4.rect ⟨_, point_lt i⟩)).set
    rw [View.set_slice_whole, Rect.mem_set_unit]
    intro a
    match a with
    | ⟨0, _⟩ => exact (bounds i (e := win0_4.index) (index_4 _)).1
    | ⟨1, _⟩ => exact (bounds i (e := win0_4.index) (index_4 _)).2

theorem final_5 : (dats m 0 c).arrAt 5 cfg0.N = up (n m c) (w13 m c) :=
  (dats m 0 c).arrAt_eq_of_cover 5 _ (fun t _ => flushed_5 m c t) fun i => by
    refine ⟨⟨_, point_lt i⟩, flush0_5 _, ?_⟩
    show i ∈ ((View.whole main_v2_2).slice (win0_5.rect ⟨_, point_lt i⟩)).set
    rw [View.set_slice_whole, Rect.mem_set_unit]
    intro a
    match a with
    | ⟨0, _⟩ => exact (bounds i (e := win0_5.index) (index_5 _)).1
    | ⟨1, _⟩ => exact (bounds i (e := win0_5.index) (index_5 _)).2

end Cert.Kernel14Ideal.Up

namespace Cert.Reference14Ideal.Up

open Idealize.ShloMosaic Idealize.ShloMosaic.TcCoe Idealize.ShloMosaic.Pointwise Idealize.SL.Sem Cert.Entry Cert.Accumulate Cert.Reference14Ideal
  Cert.Reference14Ideal.Gen
open Cert.Kernel2Ideal.Grad (ofBits_one)
open Cert.Kernel14Ideal.Up (gate up act dot gated gateRow upRow)

/-- The product of both halves. -/
def rProd (x : FVec Ideal S8192x1024 .f32) (w : FVec Ideal S5632x1024 .f32) : FVec Ideal S8192x5632 .f32 :=
  Host.dotGeneral dot_S8192x1024_S1024x5632_S8192x5632_1_0_0_1_n_n none x (transpose S1024x5632 [1, 0] w transposes_S5632x1024_S1024x5632_1_0)
def rGate (x : FVec Ideal S8192x1024 .f32) (w : FVec Ideal S5632x1024 .f32) : FVec Ideal S8192x2816 .f32 :=
  extractStridedSlice S8192x2816 ![0, 0] (rProd x w) slices_S8192x5632_S8192x2816_0_0
def rUp (x : FVec Ideal S8192x1024 .f32) (w : FVec Ideal S5632x1024 .f32) : FVec Ideal S8192x2816 .f32 :=
  extractStridedSlice S8192x2816 ![0, 2816] (rProd x w) slices_S8192x5632_S8192x2816_0_2816

theorem value_gate (x : FVec Ideal S8192x1024 .f32) (w : FVec Ideal S5632x1024 .f32) :
    truncf .bf16 (rGate x w) bitsLt_bf16_f32 = gate x w := by
  funext j
  obtain ⟨s, f, rfl⟩ : ∃ (s : Fin 8192) (f : Fin 2816), j = ix2 s f := ⟨_, _, eq_ix2 j⟩
  show _ = ∑ q : Fin 1024, (x (ix2 s q) * w (ix2 (gateRow f) q) : EReal)
  pointwise [rGate, rProd, gateRow]

theorem value_up (x : FVec Ideal S8192x1024 .f32) (w : FVec Ideal S5632x1024 .f32) :
    truncf .bf16 (rUp x w) bitsLt_bf16_f32 = up x w := by
  funext j
  obtain ⟨s, f, rfl⟩ : ∃ (s : Fin 8192) (f : Fin 2816), j = ix2 s f := ⟨_, _, eq_ix2 j⟩
  show _ = ∑ q : Fin 1024, (x (ix2 s q) * w (ix2 (upRow f) q) : EReal)
  pointwise [rUp, rProd, upRow]

/-- The gated product. -/
theorem value_act (x : FVec Ideal S8192x1024 .f32) (w : FVec Ideal S5632x1024 .f32) :
    truncf .bf16 (mulf (mulf (rGate x w) (Host.divf (broadcastInDim S8192x2816 ![] bcast_S_S8192x2816 (constant S_ .f32 0x3F800000#32))
      (addf (broadcastInDim S8192x2816 ![] bcast_S_S8192x2816 (constant S_ .f32 0x3F800000#32)) (Host.exp (Host.negf (rGate x w)))))) (rUp x w)) bitsLt_bf16_f32
      = act x w := by
  funext j
  have hg : (gate x w j : EReal) = rGate x w j := (congrFun (value_gate x w) j).symm
  have hu : (up x w j : EReal) = rUp x w j := (congrFun (value_up x w) j).symm
  show _ = gated (gate x w j) (up x w j)
  rw [hg, hu]
  unfold gated Ideal.logistic
  rw [← ofBits_one]
  pointwise []

end Cert.Reference14Ideal.Up

namespace Cert.Kernel14Ideal.Up

open Idealize.ShloMosaic Idealize.SL.Sem Cert.Entry

theorem algebraic : Cert.algebraic_Kernel14Ideal_Reference14Ideal := by
  intro m g m' g' _ hargs
  refine ⟨fun c => act (n m c) (w13 m c), fun c => gate (n m c) (w13 m c), fun c => up (n m c) (w13 m c),
    (θ_run defs _ _).mono (fun r h c => ?_) (Value.run_blocks (F := Ideal) m g),
    (θ_run Cert.Reference14Ideal.defs _ _).mono (fun r h c => ?_) (Cert.Reference14Ideal.Value.run (F := Ideal) m' g')⟩
  · exact ⟨(h c).1.trans (final_3 m c), (h c).2.1.trans (final_4 m c), (h c).2.2.1.trans (final_5 m c), (h c).2.2.2⟩
  · obtain ⟨e0, e1⟩ := hargs c
    refine ⟨(h c).1.trans ?_, (h c).2.1.trans ?_, (h c).2.2.1.trans ?_, (h c).2.2.2⟩ <;> rw [e0, e1]
    · exact Cert.Reference14Ideal.Up.value_act _ _
    · exact Cert.Reference14Ideal.Up.value_gate _ _
    · exact Cert.Reference14Ideal.Up.value_up _ _

end Cert.Kernel14Ideal.Up

end
-- ==== Proof.ProjIn.lean ====
/-
  The input projection: the normed rows times the transposed weights, in blocks of 1024 rows by 1152 columns.
-/
module

public import proofs.«01_k».proof.Proof.Entry
public import proofs.«01_k».proof.Proof.Accumulate
public import proofs.«01_k».proof.Proof.Gen.Kernel15Ideal.Value
public import proofs.«01_k».proof.Proof.Gen.Reference15Ideal.Run

@[expose] public section

set_option maxRecDepth 16384

noncomputable section

namespace Cert.Kernel15Ideal.Proj

open Idealize.ShloMosaic Idealize.ShloMosaic.TcCoe Idealize.ShloMosaic.Pointwise Idealize.SL.Sem Cert.Entry Cert.Accumulate Cert.Kernel15Ideal
  Cert.Kernel15Ideal.Gen

theorem index_0 : ∀ t : Fin cfg0.N, win0_0.index t 0 = t.val % 8 ∧ win0_0.index t 1 = 0 := by decide +kernel
theorem index_1 : ∀ t : Fin cfg0.N, win0_1.index t 0 = t.val / 8 ∧ win0_1.index t 1 = 0 := by decide +kernel
theorem index_2 : ∀ t : Fin cfg0.N, win0_2.index t 0 = t.val % 8 ∧ win0_2.index t 1 = t.val / 8 := by decide +kernel

/-- Row `p` of point `t`'s block of 1024 rows, and column `f` of its block of 1152 columns. -/
def row (t : ℕ) (p : Fin 1024) : Fin 8192 := ⟨1024 * (t % 8) + p.val, by omega⟩
def col (t : ℕ) (f : Fin 1152) : Fin 8064 := ⟨1152 * (t / 8 % 7) + f.val, by omega⟩

theorem read_0 (A : FVec Ideal S8192x1024 .bf16) (t : Fin cfg0.N) (p : Fin 1024) (q : Fin 1024) :
    ((cfg0.win 0).blk t).view.read (Elt Ideal) A (ix2 p q) = A (ix2 (row t.val p) q) := by
  obtain ⟨h0, h1⟩ := index_0 t
  rw [View.read_apply]
  exact at_ix2 A _ _ _ (by show win0_0.index t 0 * 1024 + 1 * p.val = 1024 * (t.val % 8) + p.val; rw [h0]; omega)
    (by show win0_0.index t 1 * 1024 + 1 * q.val = q.val; rw [h1]; omega)

theorem read_1 (A : FVec Ideal S8064x1024 .bf16) (t : Fin cfg0.N) (f : Fin 1152) (q : Fin 1024) :
    ((cfg0.win 1).blk t).view.read (Elt Ideal) A (ix2 f q) = A (ix2 (col t.val f) q) := by
  obtain ⟨h0, h1⟩ := index_1 t
  have hN : cfg0.N = 56 := N_0
  have := t.isLt
  rw [View.read_apply]
  exact at_ix2 A _ _ _ (by show win0_1.index t 0 * 1152 + 1 * f.val = 1152 * (t.val / 8 % 7) + f.val; rw [h0]; omega)
    (by show win0_1.index t 1 * 1024 + 1 * q.val = q.val; rw [h1]; omega)

theorem read_2 (A : FVec Ideal S8192x8064 .f32) (t : Fin cfg0.N) (p : Fin 1024) (f : Fin 1152) :
    ((cfg0.win 2).blk t).view.read (Elt Ideal) A (ix2 p f) = A (ix2 (row t.val p) (col t.val f)) := by
  obtain ⟨h0, h1⟩ := index_2 t
  have hN : cfg0.N = 56 := N_0
  have := t.isLt
  rw [View.read_apply]
  exact at_ix2 A _ _ _ (by show win0_2.index t 0 * 1024 + 1 * p.val = 1024 * (t.val % 8) + p.val; rw [h0]; omega)
    (by show win0_2.index t 1 * 1152 + 1 * f.val = 1152 * (t.val / 8 % 7) + f.val; rw [h1]; omega)

theorem pay1_apply (x : Vec Ideal S1024x1024 .bf16) (w : Vec Ideal S1152x1024 .bf16) (p : Fin 1024) (f : Fin 1152) :
    k0_pay1 x w (ix2 p f) = ∑ q, (x (ix2 p q) * w (ix2 f q) : EReal) := by
  pointwise [k0_pay1]

variable (m : (ℓ : Loc nD τ sig) → Buf (Elt Ideal) ℓ) (ρ : Dev nD → PrngReg) (c : Dev nD)

/-- The normed rows and the weights in memory. -/
abbrev u : FVec Ideal S8192x1024 .f32 := m ((c.tc : Thread nD τ).loc main_arg0)
abbrev w : FVec Ideal S8064x1024 .f32 := m ((c.tc : Thread nD τ).loc main_arg1)

theorem V0 : V m c main_v0 = truncf .bf16 (u m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p : Fin 1024) (q : Fin 1024) : iblk m c 0 t (ix2 p q) = u m c (ix2 (row t.val p) q) :=
  (read_0 (V m c main_v0) t p q).trans (by rw [V0]; rfl)
theorem block_1 (t : Fin cfg0.N) (f : Fin 1152) (q : Fin 1024) : iblk m c 1 t (ix2 f q) = w m c (ix2 (col t.val f) q) :=
  (read_1 (V m c main_v1) t f q).trans (by rw [V1]; rfl)

/-- The product. -/
def proj (A : FVec Ideal S8192x1024 .f32) (B : FVec Ideal S8064x1024 .f32) : FVec Ideal S8192x8064 .f32 :=
  fun j => ∑ q : Fin 1024, (A (ix2 (j 0) q) * B (ix2 (j 1) q) : EReal)

theorem flushed (t : Fin cfg0.N) :
    (dats m 0 c).flushed 2 t = ((cfg0.win 2).blk t).view.read (Elt Ideal) (proj (u m c) (w m c)) := by
  rw [Value.flushed2]
  funext j
  obtain ⟨p, f, rfl⟩ : ∃ (p : Fin 1024) (f : Fin 1152), j = ix2 p f := ⟨_, _, eq_ix2 j⟩
  rw [read_2]
  show out0_2 (iblk m c 0 t) (iblk m c 1 t) (ix2 p f) = _
  unfold out0_2
  rw [View.canon_unit_zero zeros, ld_all, ld_all]
  refine (pay1_apply _ _ p f).trans (Finset.sum_congr rfl fun q _ => ?_)
  rw [block_0, block_1]
  rfl

/-- The point that writes an entry's block. -/
theorem point_lt (i : S8192x8064.Idx) : 8 * ((i 1 : Nat) / 1152) + (i 0 : Nat) / 1024 < cfg0.N := by
  have hN : cfg0.N = 56 := N_0
  have b0 : (i 0 : Nat) < 8192 := (i 0).isLt
  have b1 : (i 1 : Nat) < 8064 := (i 1).isLt
  omega

theorem final : (dats m 0 c).arrAt 2 cfg0.N = proj (u m c) (w m c) :=
  (dats m 0 c).arrAt_eq_of_cover 2 _ (fun t _ => flushed m c t) fun i => by
    have b0 : (i 0 : Nat) < 8192 := (i 0).isLt
    obtain ⟨h0, h1⟩ := index_2 ⟨_, point_lt i⟩
    refine ⟨⟨_, point_lt i⟩, flush0_2 _, ?_⟩
    show i ∈ ((View.whole main_v2).slice (win0_2.rect ⟨_, point_lt i⟩)).set
    rw [View.set_slice_whole, Rect.mem_set_unit]
    intro a
    match a with
    | ⟨0, _⟩ => show win0_2.index _ 0 * 1024 ≤ (i 0 : Nat) ∧ (i 0 : Nat) < win0_2.index _ 0 * 1024 + 1024
                rw [h0]; dsimp only; omega
    | ⟨1, _⟩ => show win0_2.index _ 1 * 1152 ≤ (i 1 : Nat) ∧ (i 1 : Nat) < win0_2.index _ 1 * 1152 + 1152
                rw [h1]; dsimp only; omega

end Cert.Kernel15Ideal.Proj

namespace Cert.Reference15Ideal.Proj

open Idealize.ShloMosaic Idealize.ShloMosaic.TcCoe Idealize.ShloMosaic.Pointwise Idealize.SL.Sem Cert.Entry Cert.Reference15Ideal
  Cert.Reference15Ideal.Gen

/-- The product with the transposed weights. -/
theorem value (A : FVec Ideal S8192x1024 .f32) (B : FVec Ideal S8064x1024 .f32) :
    Host.dotGeneral dot_S8192x1024_S1024x8064_S8192x8064_1_0_0_1_n_n none A
      (transpose S1024x8064 [1, 0] B transposes_S8064x1024_S1024x8064_1_0) = Cert.Kernel15Ideal.Proj.proj A B := by
  funext j
  obtain ⟨x, f, rfl⟩ : ∃ (x : Fin 8192) (f : Fin 8064), j = ix2 x f := ⟨_, _, eq_ix2 j⟩
  show _ = ∑ q : Fin 1024, (A (ix2 x q) * B (ix2 f q) : EReal)
  pointwise []

end Cert.Reference15Ideal.Proj

namespace Cert.Kernel15Ideal.Proj

open Idealize.ShloMosaic Idealize.SL.Sem Cert.Entry

theorem algebraic : Cert.algebraic_Kernel15Ideal_Reference15Ideal := by
  intro m g m' g' _ hargs
  refine ⟨fun c => proj (u m c) (w m c), (θ_run defs _ _).mono (fun r h c => ?_) (Value.run_blocks (F := Ideal) m g),
    (θ_run Cert.Reference15Ideal.defs _ _).mono (fun r h c => ?_) (Cert.Reference15Ideal.Value.run (F := Ideal) m' g')⟩
  · exact ⟨(h c).1.trans (final m c), (h c).2⟩
  · obtain ⟨e0, e1⟩ := hargs c
    refine ⟨(h c).1.trans ?_, (h c).2⟩
    rw [e0, e1]
    exact Cert.Reference15Ideal.Proj.value _ _

end Cert.Kernel15Ideal.Proj

end
-- ==== Proof.FfnDown.lean ====
/-
  The FFN's second product: the activations times the second weights, in two blocks of 1408 terms that an
  accumulator sums, half of it, and the residual rows.
-/
module

public import proofs.«01_k».proof.Proof.Entry
public import proofs.«01_k».proof.Proof.Accumulate
public import proofs.«01_k».proof.Proof.Gen.Kernel16Ideal.Value
public import proofs.«01_k».proof.Proof.Gen.Reference16Ideal.Run

@[expose] public section

set_option maxRecDepth 16384

noncomputable section

namespace Cert.Kernel16Ideal.Down

open Idealize.ShloMosaic Idealize.ShloMosaic.TcCoe Idealize.ShloMosaic.Pointwise Idealize.SL.Sem Cert.Entry Cert.Accumulate Cert.Kernel16Ideal
  Cert.Kernel16Ideal.Gen

section Stores

variable {F : FTy → Type} [FloatOps F] (c : Dev nD) (i : grid0.Coords)
  (a0 : Memref sig .tc .vmem S512x1408 .bf16) (h0 : a0.IsWhole) (a1 : Memref sig .tc .vmem S1408x1024 .bf16) (h1 : a1.IsWhole)
  (a2 : Memref sig .tc .vmem S512x1024 .f32) (h2 : a2.IsWhole) (a3 : Memref sig .tc .vmem S512x1024 .f32) (h3 : a3.IsWhole)
  (a4 : Memref sig .tc .vmem S512x1024 .f32) (h4 : a4.IsWhole)
  (x : Vec F S512x1408 .bf16) (y : Vec F S1408x1024 .bf16) (z acc : Vec F S512x1024 .f32)

/-- The first block of terms sets the accumulator, -/
theorem first_acc (hc0 : cond0_0 i) (hc1 : ¬cond0_1 i) (hc2 : ¬cond0_2 i) :
    sout0_A_0 c i a0 h0 a1 h1 a2 h2 a3 h3 a4 h4 hc0 hc1 hc2 x y z = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all,
    shapeCast_self]

/-- the second adds to it, -/
theorem last_acc (hc0 : ¬cond0_0 i) (hc1 : cond0_1 i) (hc2 : cond0_2 i) :
    sout0_B_0 c i a0 h0 a1 h1 a2 h2 a3 h3 a4 h4 hc0 hc1 hc2 x y z acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h2.read_unread, h4.read_unread, ld_all, shapeCast_self]

/-- and stores half of the accumulator, plus the residual rows. -/
theorem last_out (hc0 : ¬cond0_0 i) (hc1 : cond0_1 i) (hc2 : cond0_2 i) :
    out0_B_3 c i a0 h0 a1 h1 a2 h2 a3 h3 a4 h4 hc0 hc1 hc2 x y z acc = k0_pay4 (addf acc (k0_pay1 x y)) z := by
  unfold out0_B_3
  rw [View.read_writes_eq_canon _ _ _ (by apply cover0_B_3)]
  unfold kernelRun0_B
  dsimp only
  sl_unfold_words
  rw [View.canon_unit_zero zeros, View.readCov_unit_zero (S := S512x1024) _ zeros]
  unfold k0_pay3
  simp only [View.readAt_eq_ld, h0.read_unread, h1.read_unread, h2.read_unread, h4.read_unread, ld_all, shapeCast_self]

end Stores

/-! ## The blocks -/

theorem index_0 : ∀ t : Fin cfg0.N, win0_0.index t 0 = t.val / 2 ∧ win0_0.index t 1 = t.val % 2 := by decide +kernel
theorem index_2 : ∀ t : Fin cfg0.N, win0_2.index t 0 = t.val / 2 ∧ win0_2.index t 1 = 0 := by decide +kernel
theorem index_1 : ∀ t : Fin cfg0.N, win0_1.index t 0 = t.val % 2 ∧ win0_1.index t 1 = 0 := by decide +kernel

/-- Row `p` of block `b` of 512 rows. -/
def row (b : ℕ) (p : Fin 512) : Fin 8192 := ⟨512 * (b % 16) + p.val, by omega⟩
/-- Column `r` of block `n` of 1408 columns. -/
def col (n : ℕ) (r : Fin 1408) : Fin 2816 := ⟨1408 * (n % 2) + r.val, by omega⟩

theorem read_0 (A : FVec Ideal S8192x2816 .bf16) (t : Fin cfg0.N) (p : Fin 512) (r : Fin 1408) :
    ((cfg0.win 0).blk t).view.read (Elt Ideal) A (ix2 p r) = A (ix2 (row (t.val / 2) p) (col t.val r)) := by
  obtain ⟨h0, h1⟩ := index_0 t
  have hN : cfg0.N = 32 := N_0
  have := t.isLt
  rw [View.read_apply]
  exact at_ix2 A _ _ _ (by show win0_0.index t 0 * 512 + 1 * p.val = 512 * (t.val / 2 % 16) + p.val; rw [h0]; omega)
    (by show win0_0.index t 1 * 1408 + 1 * r.val = 1408 * (t.val % 2) + r.val; rw [h1]; omega)

theorem read_1 (A : FVec Ideal S2816x1024 .bf16) (t : Fin cfg0.N) (r : Fin 1408) (q : Fin 1024) :
    ((cfg0.win 1).blk t).view.read (Elt Ideal) A (ix2 r q) = A (ix2 (col t.val r) q) := by
  obtain ⟨h0, h1⟩ := index_1 t
  rw [View.read_apply]
  exact at_ix2 A _ _ _ (by show win0_1.index t 0 * 1408 + 1 * r.val = 1408 * (t.val % 2) + r.val; rw [h0]; omega)
    (by show win0_1.index t 1 * 1024 + 1 * q.val = q.val; rw [h1]; omega)

theorem read_2 (A : FVec Ideal S8192x1024 .f32) (t : Fin cfg0.N) (p : Fin 512) (q : Fin 1024) :
    ((cfg0.win 2).blk t).view.read (Elt Ideal) A (ix2 p q) = A (ix2 (row (t.val / 2) p) q) := by
  obtain ⟨h0, h1⟩ := index_2 t
  have hN : cfg0.N = 32 := N_0
  have := t.isLt
  rw [View.read_apply]
  exact at_ix2 A _ _ _ (by show win0_2.index t 0 * 512 + 1 * p.val = 512 * (t.val / 2 % 16) + p.val; rw [h0]; omega)
    (by show win0_2.index t 1 * 1024 + 1 * q.val = q.val; rw [h1]; omega)

theorem pay1_apply (x : Vec Ideal S512x1408 .bf16) (y : Vec Ideal S1408x1024 .bf16) (p : Fin 512) (q : Fin 1024) :
    k0_pay1 x y (ix2 p q) = ∑ r, (x (ix2 p r) * y (ix2 r q) : EReal) := by
  pointwise [k0_pay1]

theorem pay4_apply (x y : Vec Ideal S512x1024 .f32) (j : S512x1024.Idx) : k0_pay4 x y j = (x j * half + y j : EReal) := by
  pointwise [k0_pay4]

variable (m : (ℓ : Loc nD τ sig) → Buf (Elt Ideal) ℓ) (ρ : Dev nD → PrngReg) (c : Dev nD)

/-- The activations, the weights and the residual rows in memory. -/
abbrev act : FVec Ideal S8192x2816 .f32 := m ((c.tc : Thread nD τ).loc main_arg0)
abbrev w2 : FVec Ideal S2816x1024 .f32 := m ((c.tc : Thread nD τ).loc main_arg1)
abbrev h : FVec Ideal S8192x1024 .f32 := m ((c.tc : Thread nD τ).loc main_arg2)

theorem V0 : V m c main_v0 = truncf .bf16 (act m c) bitsLt_bf16_f32 := by
  unfold V; after_reads_simp <;> rfl
theorem V1 : V m c main_v1 = truncf .bf16 (w2 m c) bitsLt_bf16_f32 := by
  unfold V; after_reads_simp <;> rfl

/-- The terms of an entry in block `b` of 512 rows of the product. -/
def term (A : FVec Ideal S8192x2816 .f32) (B : FVec Ideal S2816x1024 .f32) (p : Fin 512) (q : Fin 1024) (b : ℕ) (s : Fin 2816) : EReal :=
  A (ix2 (row b p) s) * B (ix2 s q)

theorem chunk_eq (t : Fin cfg0.N) (p : Fin 512) (q : Fin 1024) :
    k0_pay1 (iblk m c 0 t) (iblk m c 1 t) (ix2 p q) = chunk 2 1408 (term (act m c) (w2 m c) p q) t.val := by
  refine (pay1_apply (iblk m c 0 t) (iblk m c 1 t) p q).trans (Finset.sum_congr rfl fun r _ => ?_)
  have e0 : iblk m c 0 t (ix2 p r) = V m c main_v0 (ix2 (row (t.val / 2) p) (col t.val r)) := read_0 (V m c main_v0) t p r
  have e1 : iblk m c 1 t (ix2 r q) = V m c main_v1 (ix2 (col t.val r) q) := read_1 (V m c main_v1) t r q
  rw [e0, e1, V0, V1]
  rfl

/-- The block that the second point of a sweep stores. -/
theorem out_at (p : Fin 512) (q : Fin 1024) (n : ℕ) (h : n < cfg0.N) (hn : n % 2 + 1 = 2) :
    (outsAt0 m c n h).1 (ix2 p q) = (∑ s, term (act m c) (w2 m c) p q (n / 2) s) * half + Down.h m c (ix2 (row (n / 2) p) q) := by
  have ha : (outsAt0 m c n h).2 (ix2 p q) = ∑ s, term (act m c) (w2 m c) p q (n / 2) s := by
    refine sum_sweep 2 1408 (fun n h => ((outsAt0 m c n h).2 (ix2 p q) : EReal)) (term (act m c) (w2 m c) p q) ?_ ?_ n h hn
    · intro n h hn
      rw [outsAt0_A m c ⟨n, h⟩ hn (by dsimp only; omega) (by dsimp only; omega)]
      dsimp only
      rw [first_acc]
      exact chunk_eq m c ⟨n, h⟩ p q
    · intro n h h' hn
      rw [outsAt0_B m c ⟨n + 1, h'⟩ hn (by dsimp only; omega) (by dsimp only; omega)]
      dsimp only
      rw [last_acc]
      exact congrArg (fun z : EReal => ((outsAt0 m c n h).2 (ix2 p q) : EReal) + z) (chunk_eq m c ⟨n + 1, h'⟩ p q)
  rw [outsAt0_B m c ⟨n, h⟩ (by dsimp only; omega) (by dsimp only; omega) (by dsimp only; omega)] at ha ⊢
  dsimp only at ha ⊢
  rw [last_acc] at ha
  rw [last_out, pay4_apply]
  have e2 : iblk m c 2 ⟨n, h⟩ (ix2 p q) = V m c main_arg2 (ix2 (row (n / 2) p) q) := read_2 (V m c main_arg2) ⟨n, h⟩ p q
  rw [V_main_arg2] at e2
  exact congrArg₂ (fun y z : EReal => y * half + z) ha e2

/-- The rows after the FFN. -/
def down (A : FVec Ideal S8192x2816 .f32) (B : FVec Ideal S2816x1024 .f32) (H : FVec Ideal S8192x1024 .f32) : FVec Ideal S8192x1024 .f32 :=
  fun j => (∑ s : Fin 2816, (A (ix2 (j 0) s) * B (ix2 s (j 1)) : EReal)) * half + H j

theorem result : Value.G3 m c = down (act m c) (w2 m c) (h m c) := by
  funext j
  obtain ⟨x, q, rfl⟩ : ∃ (x : Fin 8192) (q : Fin 1024), j = ix2 x q := ⟨_, _, eq_ix2 j⟩
  have hx := x.isLt
  have hq := q.isLt
  have hN : cfg0.N = 32 := N_0
  have hpt : Value.pt3Of (ix2 x q) = 2 * (x.val / 512) + 1 := by
    show 2 * (1 * (x.val / 512 - 0) + 1 * (q.val / 1024 - 0)) + 1 = _
    omega
  have hloc : Value.loc3Of (ix2 x q) = ix2 ⟨x.val % 512, Nat.mod_lt _ (by decide)⟩ q :=
    at_ix2 id _ _ _ rfl (Nat.mod_eq_of_lt hq)
  unfold Value.G3
  rw [dif_pos (by rw [hpt, hN]; omega), ← Value.outsAt0_sweep, hloc]
  refine (out_at m c _ _ _ (by rw [hpt, hN]; omega) (by rw [hpt]; omega)).trans ?_
  have hc : row (Value.pt3Of (ix2 x q) / 2) ⟨x.val % 512, Nat.mod_lt _ (by decide)⟩ = x :=
    Fin.ext (by show 512 * (Value.pt3Of (ix2 x q) / 2 % 16) + x.val % 512 = x.val; rw [hpt]; omega)
  unfold term
  rw [hc]
  rfl

end Cert.Kernel16Ideal.Down

namespace Cert.Reference16Ideal.Down

open Idealize.ShloMosaic Idealize.ShloMosaic.TcCoe Idealize.ShloMosaic.Pointwise Idealize.SL.Sem Cert.Entry Cert.Accumulate Cert.Reference16Ideal Cert.Reference16Ideal.Gen

theorem value (A : FVec Ideal S8192x2816 .f32) (B : FVec Ideal S2816x1024 .f32) (H : FVec Ideal S8192x1024 .f32) :
    addf H (mulf (broadcastInDim S8192x1024 ![] bcast_S_S8192x1024 (constant S_ .f32 0x3F000000#32))
      (Host.dotGeneral dot_S8192x2816_S2816x1024_S8192x1024_1_0_0_1_n_n none A B)) = Cert.Kernel16Ideal.Down.down A B H := by
  funext j
  obtain ⟨x, q, rfl⟩ : ∃ (x : Fin 8192) (q : Fin 1024), j = ix2 x q := ⟨_, _, eq_ix2 j⟩
  trans (H (ix2 x q) + half * ∑ s : Fin 2816, (A (ix2 x s) * B (ix2 s q) : EReal) : EReal)
  · pointwise []
  · rw [add_comm, mul_comm half]
    rfl

end Cert.Reference16Ideal.Down

namespace Cert.Kernel16Ideal.Down

open Idealize.ShloMosaic Idealize.SL.Sem Cert.Entry

theorem algebraic : Cert.algebraic_Kernel16Ideal_Reference16Ideal := by
  intro m g m' g' _ hargs
  refine ⟨fun c => down (act m c) (w2 m c) (h m c), (θ_run defs _ _).mono (fun r h c => ?_) (Value.run (F := Ideal) m g),
    (θ_run Cert.Reference16Ideal.defs _ _).mono (fun r h c => ?_) (Cert.Reference16Ideal.Value.run (F := Ideal) m' g')⟩
  · exact ⟨(h c).1.trans (result m c), (h c).2⟩
  · obtain ⟨e0, e1, e2⟩ := hargs c
    refine ⟨(h c).1.trans ?_, (h c).2⟩
    rw [e0, e1, e2]
    exact Cert.Reference16Ideal.Down.value _ _ _

end Cert.Kernel16Ideal.Down

end
-- ==== Proof.AttnOutGrad.lean ====
/-
  What the attention's output product passes back to the attention's rows: the gradient of the product times
  the transposed weights, in blocks of 512 rows.
-/
module

public import proofs.«01_k».proof.Proof.NormGrad
public import proofs.«01_k».proof.Proof.Gen.Kernel17Ideal.Value
public import proofs.«01_k».proof.Proof.Gen.Reference17Ideal.Run

@[expose] public section

set_option maxRecDepth 16384

noncomputable section

namespace Cert.Kernel17Ideal.Grad

open Idealize.ShloMosaic Idealize.ShloMosaic.TcCoe Idealize.ShloMosaic.Pointwise Idealize.SL.Sem Cert.Accumulate Cert.Entry
  Cert.Kernel17Ideal Cert.Kernel17Ideal.Gen
open Cert.Kernel5Ideal.Grad (row)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_3 : ∀ t : Fin cfg0.N, win0_3.index t 0 = t.val ∧ win0_3.index t 1 = 0 := by decide +kernel

variable (m : (ℓ : Loc nD τ sig) → Buf (Elt Ideal) ℓ) (ρ : Dev nD → PrngReg) (c : Dev nD)

/-- The gradient of the product and the weights in memory. -/
abbrev dy : FVec Ideal S8192x1024 .f32 := m ((c.tc : Thread nD τ).loc main_arg0)
abbrev w : FVec Ideal S1024x1024 .f32 := m ((c.tc : Thread nD τ).loc main_arg1)

theorem V0 : V m c main_v0 = truncf .bf16 (dy m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p : Fin 512) (q : Fin 1024) : iblk m c 0 t (ix2 p q) = dy m c (ix2 (row t.val p) q) := by
  obtain ⟨h0, h1⟩ := index_0 t
  have hN : cfg0.N = 16 := N_0
  have := t.isLt
  unfold iblk
  rw [View.read_apply]
  show V m c main_v0 _ = _
  rw [V0]
  exact at_ix2 (dy m c) _ (row t.val p) q (by show win0_0.index t 0 * 512 + 1 * p.val = 512 * (t.val % 16) + p.val; rw [h0]; omega)
    (by show win0_0.index t 1 * 1024 + 1 * q.val = q.val; rw [h1]; omega)

theorem block_1 (t : Fin cfg0.N) (k q : Fin 1024) : iblk m c 1 t (ix2 k q) = w m c (ix2 k q) := by
  obtain ⟨h0, h1⟩ := index_1 t
  unfold iblk
  rw [View.read_apply]
  show V m c main_v1 _ = _
  rw [V1]
  exact at_ix2 (w m c) _ k q (by show win0_1.index t 0 * 1024 + 1 * k.val = k.val; rw [h0]; omega)
    (by show win0_1.index t 1 * 1024 + 1 * q.val = q.val; rw [h1]; omega)

theorem pay1_apply (x : Vec Ideal S512x1024 .bf16) (y : Vec Ideal S1024x1024 .bf16) (p : Fin 512) (k : Fin 1024) :
    k0_pay1 x y (ix2 p k) = (∑ q, x (ix2 p q) * y (ix2 k q) : EReal) := by
  pointwise [k0_pay1]

/-- The gradient of the rows. -/
def grad (A : FVec Ideal S8192x1024 .f32) (B : FVec Ideal S1024x1024 .f32) : FVec Ideal S8192x1024 .bf16 :=
  fun j => ∑ q : Fin 1024, (A (ix2 (j 0) q) * B (ix2 (j 1) q) : EReal)

theorem flushed (t : Fin cfg0.N) : (dats m 0 c).flushed 3 t = ((cfg0.win 3).blk t).view.read (Elt Ideal) (grad (dy m c) (w m c)) := by
  obtain ⟨h0, h1⟩ := index_3 t
  have hN : cfg0.N = 16 := N_0
  have := t.isLt
  rw [Value.flushed3]
  funext j
  obtain ⟨p, k, rfl⟩ : ∃ (p : Fin 512) (k : Fin 1024), j = ix2 p k := ⟨_, _, eq_ix2 j⟩
  rw [View.read_apply]
  show out0_3 (iblk m c 0 t) (iblk m c 1 t) (iblk m c 2 t) (ix2 p k) = grad (dy m c) (w m c) _
  unfold out0_3
  rw [View.canon_unit_zero zeros, ld_all, ld_all]
  refine (pay1_apply _ _ p k).trans (Eq.trans ?_ (at_ix2 (grad (dy m c) (w m c)) _ (row t.val p) k
    (by show win0_3.index t 0 * 512 + 1 * p.val = 512 * (t.val % 16) + p.val; rw [h0]; omega)
    (by show win0_3.index t 1 * 1024 + 1 * k.val = k.val; rw [h1]; omega)).symm)
  refine Finset.sum_congr rfl fun q _ => ?_
  rw [block_0, block_1]
  rfl

theorem point_lt (s : Fin 8192) : s.val / 512 < cfg0.N := by
  have hN : cfg0.N = 16 := N_0
  omega

theorem final : (dats m 0 c).arrAt 3 cfg0.N = grad (dy m c) (w m c) :=
  (dats m 0 c).arrAt_eq_of_cover 3 _ (fun t _ => flushed m c t) fun i => by
    have b0 : (i 0 : Nat) < 8192 := (i 0).isLt
    have b1 : (i 1 : Nat) < 1024 := (i 1).isLt
    obtain ⟨h0, h1⟩ := index_3 ⟨_, point_lt (i 0)⟩
    refine ⟨⟨_, point_lt (i 0)⟩, flush0_3 _, ?_⟩
    show i ∈ ((View.whole main_v3_0).slice (win0_3.rect ⟨_, point_lt (i 0)⟩)).set
    rw [View.set_slice_whole, Rect.mem_set_unit]
    intro a
    match a with
    | ⟨0, _⟩ => show win0_3.index _ 0 * 512 ≤ (i 0 : Nat) ∧ (i 0 : Nat) < win0_3.index _ 0 * 512 + 512
                rw [h0]; dsimp only; omega
    | ⟨1, _⟩ => show win0_3.index _ 1 * 1024 ≤ (i 1 : Nat) ∧ (i 1 : Nat) < win0_3.index _ 1 * 1024 + 1024
                rw [h1]; omega

end Cert.Kernel17Ideal.Grad

namespace Cert.Reference17Ideal.Grad

open Idealize.ShloMosaic Idealize.ShloMosaic.TcCoe Idealize.ShloMosaic.Pointwise Idealize.SL.Sem Cert.Reference17Ideal
  Cert.Reference17Ideal.Gen

/-- The gradient of `o ↦ o·W`. -/
theorem value (A : FVec Ideal S8192x1024 .f32) (B : FVec Ideal S1024x1024 .f32) :
    truncf .bf16 (Host.dotGeneral dot_S8192x1024_S1024x1024_S8192x1024_1_1_0_0_n_n none A B) bitsLt_bf16_f32
      = Cert.Kernel17Ideal.Grad.grad A B := by
  funext j
  obtain ⟨x, f, rfl⟩ : ∃ (x : Fin 8192) (f : Fin 1024), j = ix2 x f := ⟨_, _, eq_ix2 j⟩
  show _ = ∑ q : Fin 1024, (A (ix2 x q) * B (ix2 f q) : EReal)
  pointwise []

end Cert.Reference17Ideal.Grad

namespace Cert.Kernel17Ideal.Grad

open Idealize.ShloMosaic Idealize.SL.Sem

theorem algebraic : Cert.algebraic_Kernel17Ideal_Reference17Ideal := by
  intro m g m' g' _ hargs
  refine ⟨fun c => grad (dy m c) (w m c), (θ_run defs _ _).mono (fun r h c => ?_) (Value.run_blocks (F := Ideal) m g),
    (θ_run Cert.Reference17Ideal.defs _ _).mono (fun r h c => ?_) (Cert.Reference17Ideal.Value.run (F := Ideal) m' g')⟩
  · exact ⟨(h c).1.trans (final m c), (h c).2.2⟩
  · obtain ⟨e0, e1, _⟩ := hargs c
    refine ⟨(h c).1.trans ?_, (h c).2⟩
    rw [e0, e1]
    exact Cert.Reference17Ideal.Grad.value _ _

end Cert.Kernel17Ideal.Grad

end
-- ==== Proof.MlaOutWeight.lean ====
/-
  The gradient of the attention's output weights: the transposed rows of the attention times the gradient of
  their product, summed by an accumulator over eight blocks of rows.
-/
module

public import proofs.«01_k».proof.Proof.OutWeight
public import proofs.«01_k».proof.Proof.Gen.Kernel18Ideal.Value
public import proofs.«01_k».proof.Proof.Gen.Reference18Ideal.Run

@[expose] public section

set_option maxRecDepth 16384

noncomputable section

namespace Cert.Kernel18Ideal.Grad

open Idealize.ShloMosaic Idealize.ShloMosaic.TcCoe Idealize.ShloMosaic.Pointwise Idealize.SL.Sem Cert.Accumulate Cert.Entry Cert.Kernel18Ideal
  Cert.Kernel18Ideal.Gen
open Cert.Kernel3Ideal.Grad (row)
open Cert.Kernel13Ideal.Grad (term grad)

section Stores

variable {F : FTy → Type} [FloatOps F] (c : Dev nD) (i : grid0.Coords)
  (a0 : Memref sig .tc .vmem S1024x1024 .bf16) (h0 : a0.IsWhole) (a1 : Memref sig .tc .vmem S1024x1024 .bf16) (h1 : a1.IsWhole)
  (a2 : Memref sig .tc .vmem S1024x1024 .bf16) (h2 : a2.IsWhole) (a3 : Memref sig .tc .vmem S1024x1024 .f32) (h3 : a3.IsWhole)
  (x y : Vec F S1024x1024 .bf16) (acc : Vec F S1024x1024 .f32)

/-- The first block of rows sets the accumulator. -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- Each later one adds to it. -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all,
    shapeCast_self]

/-- The last stores the sum. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S1024x1024) _ zeros]
  unfold k0_pay3
  simp only [View.readAt_eq_ld, h0.read_unread, h1.read_unread, h3.read_unread, ld_all,
    shapeCast_self]

end Stores

/-! ## The blocks -/

theorem index_0 : ∀ t : Fin cfg0.N, win0_0.index t 0 = t.val % 8 ∧ win0_0.index t 1 = 0 := by decide +kernel
theorem index_1 : ∀ t : Fin cfg0.N, win0_1.index t 0 = t.val % 8 ∧ win0_1.index t 1 = 0 := by decide +kernel

theorem pay1_apply (x y : Vec Ideal S1024x1024 .bf16) (p : Fin 1024) (q : Fin 1024) :
    k0_pay1 x y (ix2 p q) = ∑ r, (x (ix2 r p) * y (ix2 r q) : EReal) := by
  pointwise [k0_pay1]

theorem pay4_apply (x : Vec Ideal S1024x1024 .f32) (j : S1024x1024.Idx) : k0_pay4 x j = (x j : EReal) := by
  pointwise [k0_pay4]

variable (m : (ℓ : Loc nD τ sig) → Buf (Elt Ideal) ℓ) (ρ : Dev nD → PrngReg) (c : Dev nD)

/-- The attention's rows and the gradient of their product in memory. -/
abbrev o : FVec Ideal S8192x1024 .f32 := m ((c.tc : Thread nD τ).loc main_arg0)
abbrev dy : FVec Ideal S8192x1024 .f32 := m ((c.tc : Thread nD τ).loc main_arg1)

theorem V0 : V m c main_v0 = truncf .bf16 (o m c) bitsLt_bf16_f32 := by
  unfold V; after_reads_simp <;> rfl

theorem V1 : V m c main_v1 = truncf .bf16 (dy m c) bitsLt_bf16_f32 := by
  unfold V; after_reads_simp <;> rfl

theorem block_0 (t : Fin cfg0.N) (r p : Fin 1024) : iblk m c 0 t (ix2 r p) = o m c (ix2 (row t.val r) p) := by
  obtain ⟨h0, h1⟩ := index_0 t
  unfold iblk
  rw [View.read_apply]
  show V m c main_v0 _ = _
  rw [V0]
  exact at_ix2 (o m c) _ (row t.val r) p (by show win0_0.index t 0 * 1024 + 1 * r.val = 1024 * (t.val % 8) + r.val; rw [h0]; omega)
    (by show win0_0.index t 1 * 1024 + 1 * p.val = p.val; rw [h1]; omega)
theorem block_1 (t : Fin cfg0.N) (r q : Fin 1024) : iblk m c 1 t (ix2 r q) = dy m c (ix2 (row t.val r) q) := by
  obtain ⟨h0, h1⟩ := index_1 t
  unfold iblk
  rw [View.read_apply]
  show V m c main_v1 _ = _
  rw [V1]
  exact at_ix2 (dy m c) _ (row t.val r) q (by show win0_1.index t 0 * 1024 + 1 * r.val = 1024 * (t.val % 8) + r.val; rw [h0]; omega)
    (by show win0_1.index t 1 * 1024 + 1 * q.val = q.val; rw [h1]; omega)

theorem chunk_eq (t : Fin cfg0.N) (p : Fin 1024) (q : Fin 1024) :
    k0_pay1 (iblk m c 0 t) (iblk m c 1 t) (ix2 p q) = chunk 8 1024 (term (o m c) (dy m c) p q) t.val := by
  refine (pay1_apply (iblk m c 0 t) (iblk m c 1 t) p q).trans (Finset.sum_congr rfl fun r _ => ?_)
  rw [block_0, block_1]
  rfl

/-- The block that the last point of a sweep stores. -/
theorem out_at (p : Fin 1024) (q : Fin 1024) (n : ℕ) (h : n < cfg0.N) (hn : n % 8 + 1 = 8) :
    (outsAt0 m c n h).1 (ix2 p q) = ∑ s, term (o m c) (dy m c) p q (n / 8) s := by
  have hN : cfg0.N = 8 := N_0
  have hs := sum_sweep 8 1024 (fun n h => (if n % 8 = 7 then (outsAt0 m c n h).1 (ix2 p q) else (outsAt0 m c n h).2 (ix2 p q) : EReal))
    (term (o m c) (dy m c) p q) ?_ ?_ n h hn
  · simpa only [if_pos (show n % 8 = 7 by omega)] using hs
  · intro n h hn
    rw [if_neg (by omega), outsAt0_A m c ⟨n, h⟩ hn (by dsimp only; omega) (by dsimp only; omega)]
    dsimp only
    rw [first_acc]
    exact chunk_eq m c ⟨n, h⟩ p q
  · intro n h h' hn
    have e := congrArg (fun z : EReal => ((outsAt0 m c n h).2 (ix2 p q) : EReal) + z) (chunk_eq m c ⟨n + 1, h'⟩ p q)
    rw [if_neg (show ¬n % 8 = 7 by omega)]
    split
    · rw [outsAt0_C m c ⟨n + 1, h'⟩ hn (by dsimp only; omega) ‹_›]
      dsimp only
      rw [last_out, pay4_apply]
      exact e
    · rw [outsAt0_B m c ⟨n + 1, h'⟩ hn (by dsimp only; omega) ‹_›]
      dsimp only
      rw [next_acc]
      exact e

theorem result : Value.G2 m c = grad (o m c) (dy m c) := by
  funext j
  obtain ⟨x, q, rfl⟩ : ∃ (x : Fin 1024) (q : Fin 1024), j = ix2 x q := ⟨_, _, eq_ix2 j⟩
  have hx := x.isLt
  have hq := q.isLt
  have hN : cfg0.N = 8 := N_0
  have hpt : Value.pt2Of (ix2 x q) = 8 * (x.val / 1024) + 7 := by
    show 8 * (1 * (x.val / 1024 - 0) + 1 * (q.val / 1024 - 0)) + 7 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  refine Finset.sum_congr rfl fun s _ => ?_
  have hc : (⟨x.val % 1024, Nat.mod_lt _ (by decide)⟩ : Fin 1024) = x := Fin.ext (Nat.mod_eq_of_lt hx)
  unfold term
  rw [hc]
  rfl

end Cert.Kernel18Ideal.Grad

namespace Cert.Kernel18Ideal.Grad

open Idealize.ShloMosaic Idealize.SL.Sem
open Cert.Kernel13Ideal.Grad (grad)

theorem algebraic : Cert.algebraic_Kernel18Ideal_Reference18Ideal := by
  intro m g m' g' _ hargs
  refine ⟨fun c => grad (o m c) (dy m c), (θ_run defs _ _).mono (fun r h c => ?_) (Value.run (F := Ideal) m g),
    (θ_run Cert.Reference18Ideal.defs _ _).mono (fun r h c => ?_) (Cert.Reference18Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference13Ideal.Grad.value _ _

end Cert.Kernel18Ideal.Grad

end
-- ==== Proof.SsdOut.lean ====
/-
  The scan's output product: in blocks of 1024 rows, two blocks of 1024 terms that an accumulator sums.
-/
module

public import proofs.«01_k».proof.Proof.DownWeight
public import proofs.«01_k».proof.Proof.Gen.Kernel19Ideal.Value
public import proofs.«01_k».proof.Proof.Gen.Reference19Ideal.Run

@[expose] public section

set_option maxRecDepth 16384

noncomputable section

namespace Cert.Kernel19Ideal.Out

open Idealize.ShloMosaic Idealize.ShloMosaic.TcCoe Idealize.ShloMosaic.Pointwise Idealize.SL.Sem Cert.Accumulate Cert.Entry
  Cert.Kernel19Ideal Cert.Kernel19Ideal.Gen
open Cert.Kernel3Ideal.Grad (row)

section Stores

variable {F : FTy → Type} [FloatOps F] (c : Dev nD) (i : grid0.Coords)
  (a0 : Memref sig .tc .vmem S1024x1024 .bf16) (h0 : a0.IsWhole) (a1 : Memref sig .tc .vmem S1024x1024 .bf16) (h1 : a1.IsWhole)
  (a2 : Memref sig .tc .vmem S1024x1024 .f32) (h2 : a2.IsWhole) (a3 : Memref sig .tc .vmem S1024x1024 .f32) (h3 : a3.IsWhole)
  (x y : Vec F S1024x1024 .bf16) (acc : Vec F S1024x1024 .f32)

/-- The first block of terms sets the accumulator, -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- and the second stores the sum of both. -/
theorem last_out (hc0 : ¬cond0_0 i) (hc1 : cond0_1 i) (hc2 : cond0_2 i) :
    out0_B_2 c i a0 h0 a1 h1 a2 h2 a3 h3 hc0 hc1 hc2 x y acc = addf acc (k0_pay1 x y) := by
  unfold out0_B_2
  rw [View.read_writes_eq_canon _ _ _ (by apply cover0_B_2)]
  unfold kernelRun0_B
  dsimp only
  sl_unfold_words
  rw [View.canon_unit_zero zeros, View.readCov_unit_zero (S := S1024x1024) _ zeros]
  unfold k0_pay3
  simp only [View.readAt_eq_ld, h0.read_unread, h1.read_unread, h3.read_unread, ld_all,
    shapeCast_self]

end Stores

/-! ## The blocks -/

theorem index_0 : ∀ t : Fin cfg0.N, win0_0.index t 0 = t.val / 2 ∧ win0_0.index t 1 = t.val % 2 := by decide +kernel
theorem index_1 : ∀ t : Fin cfg0.N, win0_1.index t 0 = t.val % 2 ∧ win0_1.index t 1 = 0 := by decide +kernel

/-- Term `r` of block `n` of 1024 terms. -/
def col (n : ℕ) (r : Fin 1024) : Fin 2048 := ⟨1024 * (n % 2) + r.val, by omega⟩

variable (m : (ℓ : Loc nD τ sig) → Buf (Elt Ideal) ℓ) (ρ : Dev nD → PrngReg) (c : Dev nD)

/-- The normed rows and the weights in memory. -/
abbrev yn : FVec Ideal S8192x2048 .f32 := m ((c.tc : Thread nD τ).loc main_arg0)
abbrev w : FVec Ideal S2048x1024 .f32 := m ((c.tc : Thread nD τ).loc main_arg1)

theorem V0 : V m c main_v0 = truncf .bf16 (yn m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p r : Fin 1024) : iblk m c 0 t (ix2 p r) = yn m c (ix2 (row (t.val / 2) p) (col t.val r)) := by
  obtain ⟨h0, h1⟩ := index_0 t
  have hN : cfg0.N = 16 := N_0
  have := t.isLt
  unfold iblk
  rw [View.read_apply]
  show V m c main_v0 _ = _
  rw [V0]
  exact at_ix2 (yn m c) _ (row (t.val / 2) p) (col t.val r)
    (by show win0_0.index t 0 * 1024 + 1 * p.val = 1024 * (t.val / 2 % 8) + p.val; rw [h0]; omega)
    (by show win0_0.index t 1 * 1024 + 1 * r.val = 1024 * (t.val % 2) + r.val; rw [h1]; omega)

theorem block_1 (t : Fin cfg0.N) (r q : Fin 1024) : iblk m c 1 t (ix2 r q) = w m c (ix2 (col t.val r) q) := by
  obtain ⟨h0, h1⟩ := index_1 t
  unfold iblk
  rw [View.read_apply]
  show V m c main_v1 _ = _
  rw [V1]
  exact at_ix2 (w m c) _ (col t.val r) q (by show win0_1.index t 0 * 1024 + 1 * r.val = 1024 * (t.val % 2) + r.val; rw [h0]; omega)
    (by show win0_1.index t 1 * 1024 + 1 * q.val = q.val; rw [h1]; omega)

theorem pay1_apply (x y : Vec Ideal S1024x1024 .bf16) (p q : Fin 1024) :
    k0_pay1 x y (ix2 p q) = ∑ r, (x (ix2 p r) * y (ix2 r q) : EReal) := by
  pointwise [k0_pay1]

/-- The terms of an entry in block `b` of 1024 rows of the product. -/
def term (A : FVec Ideal S8192x2048 .f32) (B : FVec Ideal S2048x1024 .f32) (p q : Fin 1024) (b : ℕ) (s : Fin 2048) : EReal :=
  A (ix2 (row b p) s) * B (ix2 s q)

theorem chunk_eq (t : Fin cfg0.N) (p q : Fin 1024) :
    k0_pay1 (iblk m c 0 t) (iblk m c 1 t) (ix2 p q) = chunk 2 1024 (term (yn m c) (w m c) p q) t.val := by
  refine (pay1_apply (iblk m c 0 t) (iblk m c 1 t) p q).trans (Finset.sum_congr rfl fun r _ => ?_)
  rw [block_0, block_1]
  rfl

/-- The block that the second point of a sweep stores. -/
theorem out_at (p q : Fin 1024) (n : ℕ) (h : n < cfg0.N) (hn : n % 2 + 1 = 2) :
    (outsAt0 m c n h).1 (ix2 p q) = ∑ s, term (yn m c) (w m c) p q (n / 2) s := by
  obtain ⟨n, rfl⟩ : ∃ k, n = k + 1 := ⟨n - 1, by omega⟩
  have h' : n < cfg0.N := by omega
  have hs := sum_sweep 2 1024 (fun n h => (if n % 2 = 0 then (outsAt0 m c n h).2 (ix2 p q) else (outsAt0 m c n h).1 (ix2 p q) : EReal))
    (term (yn m c) (w m c) p q) ?_ ?_ (n + 1) h hn
  · simpa only [if_neg (show ¬(n + 1) % 2 = 0 by omega)] using hs
  · intro n h hn
    rw [if_pos hn, outsAt0_A m c ⟨n, h⟩ hn (by dsimp only; omega) (by dsimp only; omega)]
    dsimp only
    rw [first_acc]
    exact chunk_eq m c ⟨n, h⟩ p q
  · intro n h h' hn
    rw [if_neg hn, if_pos (show n % 2 = 0 by omega), outsAt0_B m c ⟨n + 1, h'⟩ hn (by dsimp only; omega) (by dsimp only; omega)]
    dsimp only
    rw [last_out]
    exact congrArg (fun z : EReal => ((outsAt0 m c n h).2 (ix2 p q) : EReal) + z) (chunk_eq m c ⟨n + 1, h'⟩ p q)

/-- The product. -/
def prod (A : FVec Ideal S8192x2048 .f32) (B : FVec Ideal S2048x1024 .f32) : FVec Ideal S8192x1024 .f32 :=
  fun j => ∑ s : Fin 2048, (A (ix2 (j 0) s) * B (ix2 s (j 1)) : EReal)

theorem result : Value.G2 m c = prod (yn m c) (w m c) := by
  funext j
  obtain ⟨x, q, rfl⟩ : ∃ (x : Fin 8192) (q : Fin 1024), j = ix2 x q := ⟨_, _, eq_ix2 j⟩
  have hx := x.isLt
  have hq := q.isLt
  have hN : cfg0.N = 16 := N_0
  have hpt : Value.pt2Of (ix2 x q) = 2 * (x.val / 1024) + 1 := by
    show 2 * (1 * (x.val / 1024 - 0) + 1 * (q.val / 1024 - 0)) + 1 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  have hc : row (Value.pt2Of (ix2 x q) / 2) ⟨x.val % 1024, Nat.mod_lt _ (by decide)⟩ = x :=
    Fin.ext (by show 1024 * (Value.pt2Of (ix2 x q) / 2 % 8) + x.val % 1024 = x.val; rw [hpt]; omega)
  unfold term
  rw [hc]
  rfl

end Cert.Kernel19Ideal.Out

namespace Cert.Reference19Ideal.Out

open Idealize.ShloMosaic Idealize.ShloMosaic.TcCoe Idealize.ShloMosaic.Pointwise Idealize.SL.Sem Cert.Reference19Ideal
  Cert.Reference19Ideal.Gen

theorem value (A : FVec Ideal S8192x2048 .f32) (B : FVec Ideal S2048x1024 .f32) :
    Host.dotGeneral dot_S8192x2048_S2048x1024_S8192x1024_1_0_0_1_n_n none A B = Cert.Kernel19Ideal.Out.prod A B := by
  funext j
  obtain ⟨x, k, rfl⟩ : ∃ (x : Fin 8192) (k : Fin 1024), j = ix2 x k := ⟨_, _, eq_ix2 j⟩
  show _ = ∑ q : Fin 2048, (A (ix2 x q) * B (ix2 q k) : EReal)
  pointwise []

end Cert.Reference19Ideal.Out

namespace Cert.Kernel19Ideal.Out

open Idealize.ShloMosaic Idealize.SL.Sem

theorem algebraic : Cert.algebraic_Kernel19Ideal_Reference19Ideal := by
  intro m g m' g' _ hargs
  refine ⟨fun c => prod (yn m c) (w m c), (θ_run defs _ _).mono (fun r h c => ?_) (Value.run (F := Ideal) m g),
    (θ_run Cert.Reference19Ideal.defs _ _).mono (fun r h c => ?_) (Cert.Reference19Ideal.Value.run (F := Ideal) m' g')⟩
  · exact ⟨(h c).1.trans (result m c), (h c).2⟩
  · obtain ⟨e0, e1⟩ := hargs c
    refine ⟨(h c).1.trans ?_, (h c).2⟩
    rw [e0, e1]
    exact Cert.Reference19Ideal.Out.value _ _

end Cert.Kernel19Ideal.Out

end
-- ==== Proof.MergeOut.lean ====
/-
  The gated sum of the two mixers and its product with the output weights, plus the residual rows, in blocks of
  512 rows.
-/
module

public import proofs.«01_k».proof.Proof.MergeGrad
public import proofs.«01_k».proof.Proof.Gen.Kernel20Ideal.Value
public import proofs.«01_k».proof.Proof.Gen.Reference20Ideal.Run

@[expose] public section

set_option maxRecDepth 16384

noncomputable section

namespace Cert.Kernel20Ideal.Out

open Idealize.ShloMosaic Idealize.ShloMosaic.TcCoe Idealize.ShloMosaic.Pointwise Idealize.SL.Sem Cert.Accumulate Cert.Entry
  Cert.Kernel20Ideal Cert.Kernel20Ideal.Gen
open Cert.Kernel5Ideal.Grad (row)
open Cert.Kernel7Ideal.Grad (lo hi gcol)

section Stores

variable {F : FTy → Type} [FloatOps F] (c : Dev nD) (i : grid0.Coords)
  (a0 : Memref sig .tc .vmem S512x2048 .f32) (h0 : a0.IsWhole) (a1 : Memref sig .tc .vmem S512x1024 .f32) (h1 : a1.IsWhole)
  (a2 : Memref sig .tc .vmem S512x1024 .f32) (h2 : a2.IsWhole) (a3 : Memref sig .tc .vmem S1024x1024 .bf16) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole)
  (x0 : Vec F S512x2048 .f32) (x1 x2 : Vec F S512x1024 .f32) (x3 : Vec F S1024x1024 .bf16) (x4 : Vec F S512x1024 .f32)

theorem stored_5 : out0_A_5 c i a0 h0 a1 h1 a2 h2 a3 h3 a4 h4 a5 h5 a6 h6 x0 x1 x2 x3 x4 = k0_pay2 x0 x1 x2 x4 x3 := by
  unfold out0_A_5
  rw [View.read_writes_eq_canon _ _ _ (by apply cover0_A_5)]
  unfold kernelRun0_A
  dsimp only
  sl_unfold_words
  rw [View.canon_unit_zero zeros]
  simp only [View.readAt_eq_ld, h0.read_unread, h1.read_unread, h2.read_unread, h3.read_unread, h4.read_unread, ld_all]

theorem stored_6 : out0_A_6 c i a0 h0 a1 h1 a2 h2 a3 h3 a4 h4 a5 h5 a6 h6 x0 x1 x2 x3 x4 = k0_pay1 x0 x1 x2 := by
  unfold out0_A_6
  rw [View.read_writes_eq_canon _ _ _ (by apply cover0_A_6)]
  unfold kernelRun0_A
  dsimp only
  sl_unfold_words
  rw [View.canon_unit_zero zeros]
  simp only [View.readAt_eq_ld, h0.read_unread, h1.read_unread, h2.read_unread, ld_all]

end Stores

/-! ## The blocks -/

theorem index_0 : ∀ t : Fin cfg0.N, win0_0.index t 0 = t.val ∧ win0_0.index t 1 = 1 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = t.val ∧ win0_4.index t 1 = 0 := by decide +kernel
theorem index_5 : ∀ t : Fin cfg0.N, win0_5.index t 0 = t.val ∧ win0_5.index t 1 = 0 := by decide +kernel
theorem index_6 : ∀ t : Fin cfg0.N, win0_6.index t 0 = t.val ∧ win0_6.index t 1 = 0 := by decide +kernel

/-- Where an entry of point `t`'s block of rows lies in the array. -/
theorem place (i : Fin cfg0.N → Fin 2 → ℕ) (t : Fin cfg0.N) (h : i t 0 = t.val ∧ i t 1 = 0) (p : Fin 512) (q : Fin 1024) :
    i t 0 * 512 + 1 * p.val = (row t.val p).val ∧ i t 1 * 1024 + 1 * q.val = q.val := by
  have hN : cfg0.N = 16 := N_0
  have := t.isLt
  obtain ⟨h0, h1⟩ := h
  refine ⟨?_, by rw [h1]; omega⟩
  show _ = 512 * (t.val % 16) + p.val
  rw [h0]; omega

variable (m : (ℓ : Loc nD τ sig) → Buf (Elt Ideal) ℓ) (ρ : Dev nD → PrngReg) (c : Dev nD)

/-- The arguments in memory. -/
abbrev proj : FVec Ideal S8192x8064 .f32 := m ((c.tc : Thread nD τ).loc main_arg0)
abbrev ySsd : FVec Ideal S8192x1024 .f32 := m ((c.tc : Thread nD τ).loc main_arg1)
abbrev yMla : FVec Ideal S8192x1024 .f32 := m ((c.tc : Thread nD τ).loc main_arg2)
abbrev wo : FVec Ideal S1024x1024 .f32 := m ((c.tc : Thread nD τ).loc main_arg3)
abbrev h : FVec Ideal S8192x1024 .f32 := m ((c.tc : Thread nD τ).loc main_arg4)

theorem V0 : V m c main_v0 = truncf .bf16 (wo m c) bitsLt_bf16_f32 := by
  unfold V; after_reads_simp <;> rfl

theorem block_0 (t : Fin cfg0.N) (p : Fin 512) (f : Fin 2048) : X0_0 m c t (ix2 p f) = proj m c (ix2 (row t.val p) (gcol f)) := by
  obtain ⟨h0, h1⟩ := index_0 t
  have hN : cfg0.N = 16 := N_0
  have := t.isLt
  unfold X0_0 Pipeline.Window.fill
  rw [dif_pos (moved0_0 t (ix2 p f))]
  unfold iblk
  rw [View.read_apply]
  show V m c main_arg0 _ = _
  rw [V_main_arg0]
  exact at_ix2 (proj m c) _ (row t.val p) (gcol f) (by show win0_0.index t 0 * 512 + 1 * p.val = 512 * (t.val % 16) + p.val; rw [h0]; omega)
    (by show win0_0.index t 1 * 2048 + 1 * f.val = 2048 + f.val; rw [h1]; omega)

theorem block_1 (t : Fin cfg0.N) (p : Fin 512) (q : Fin 1024) : iblk m c 1 t (ix2 p q) = ySsd m c (ix2 (row t.val p) q) := by
  unfold iblk
  rw [View.read_apply]
  show V m c main_arg1 _ = _
  rw [V_main_arg1]
  exact at_ix2 (ySsd m c) _ _ q (place win0_1.index t (index_1 t) p q).1 (place win0_1.index t (index_1 t) p q).2
theorem block_2 (t : Fin cfg0.N) (p : Fin 512) (q : Fin 1024) : iblk m c 2 t (ix2 p q) = yMla m c (ix2 (row t.val p) q) := by
  unfold iblk
  rw [View.read_apply]
  show V m c main_arg2 _ = _
  rw [V_main_arg2]
  exact at_ix2 (yMla m c) _ _ q (place win0_2.index t (index_2 t) p q).1 (place win0_2.index t (index_2 t) p q).2
theorem block_3 (t : Fin cfg0.N) (k q : Fin 1024) : iblk m c 3 t (ix2 k q) = wo m c (ix2 k q) := by
  obtain ⟨h0, h1⟩ := index_3 t
  unfold iblk
  rw [View.read_apply]
  show V m c main_v0 _ = _
  rw [V0]
  exact at_ix2 (wo m c) _ k q (by show win0_3.index t 0 * 1024 + 1 * k.val = k.val; rw [h0]; omega)
    (by show win0_3.index t 1 * 1024 + 1 * q.val = q.val; rw [h1]; omega)
theorem block_4 (t : Fin cfg0.N) (p : Fin 512) (q : Fin 1024) : iblk m c 4 t (ix2 p q) = Out.h m c (ix2 (row t.val p) q) := by
  unfold iblk
  rw [View.read_apply]
  show V m c main_arg4 _ = _
  rw [V_main_arg4]
  exact at_ix2 (Out.h m c) _ _ q (place win0_4.index t (index_4 t) p q).1 (place win0_4.index t (index_4 t) p q).2

/-! ## The sum and its product -/

theorem pay1_apply (g : Vec Ideal S512x2048 .f32) (ys ym : Vec Ideal S512x1024 .f32) (p : Fin 512) (k : Fin 1024) :
    k0_pay1 g ys ym (ix2 p k)
      = (Ideal.logistic (g (ix2 p (lo k))) * ys (ix2 p k) + Ideal.logistic (g (ix2 p (hi k))) * ym (ix2 p k) : EReal) := by
  pointwise [k0_pay1]
  rfl

theorem pay2_apply (g : Vec Ideal S512x2048 .f32) (ys ym z : Vec Ideal S512x1024 .f32) (w : Vec Ideal S1024x1024 .bf16) (p : Fin 512)
    (q : Fin 1024) : k0_pay2 g ys ym z w (ix2 p q) = (z (ix2 p q) + ∑ k, k0_pay1 g ys ym (ix2 p k) * w (ix2 k q) : EReal) := by
  pointwise [k0_pay2]

/-- The gated sum, and the rows after its product. -/
def merged (g : FVec Ideal S8192x8064 .f32) (ys ym : FVec Ideal S8192x1024 .f32) : FVec Ideal S8192x1024 .bf16 := fun j =>
  (Ideal.logistic (g (ix2 (j 0) (gcol (lo (j 1))))) * ys (ix2 (j 0) (j 1))
    + Ideal.logistic (g (ix2 (j 0) (gcol (hi (j 1))))) * ym (ix2 (j 0) (j 1)) : EReal)
def out (g : FVec Ideal S8192x8064 .f32) (ys ym : FVec Ideal S8192x1024 .f32) (w : FVec Ideal S1024x1024 .f32)
    (z : FVec Ideal S8192x1024 .f32) : FVec Ideal S8192x1024 .f32 := fun j =>
  (z (ix2 (j 0) (j 1)) + ∑ k : Fin 1024, merged g ys ym (ix2 (j 0) k) * w (ix2 k (j 1)) : EReal)

theorem merged_block (t : Fin cfg0.N) (p : Fin 512) (k : Fin 1024) :
    k0_pay1 (X0_0 m c t) (iblk m c 1 t) (iblk m c 2 t) (ix2 p k) = merged (proj m c) (ySsd m c) (yMla m c) (ix2 (row t.val p) k) := by
  refine (pay1_apply _ _ _ p k).trans ?_
  rw [block_0, block_0, block_1, block_2]
  rfl

theorem flushed_5 (t : Fin cfg0.N) : (dats m 0 c).flushed 5 t
    = ((cfg0.win 5).blk t).view.read (Elt Ideal) (out (proj m c) (ySsd m c) (yMla m c) (wo m c) (h m c)) := by
  rw [Value.flushed5_A, stored_5]
  funext j
  obtain ⟨p, q, rfl⟩ : ∃ (p : Fin 512) (q : Fin 1024), j = ix2 p q := ⟨_, _, eq_ix2 j⟩
  rw [View.read_apply]
  refine Eq.trans ?_ (at_ix2 (out (proj m c) (ySsd m c) (yMla m c) (wo m c) (h m c)) _ (row t.val p) q
    (place win0_5.index t (index_5 t) p q).1 (place win0_5.index t (index_5 t) p q).2).symm
  refine (pay2_apply (X0_0 m c t) (iblk m c 1 t) (iblk m c 2 t) (iblk m c 4 t) (iblk m c 3 t) p q).trans ?_
  rw [block_4]
  refine congrArg (fun e : EReal => (Out.h m c (ix2 (row t.val p) q) + e : EReal)) (Finset.sum_congr rfl fun k _ => ?_)
  rw [merged_block, block_3]
  rfl

theorem flushed_6 (t : Fin cfg0.N) : (dats m 0 c).flushed 6 t
    = ((cfg0.win 6).blk t).view.read (Elt Ideal) (merged (proj m c) (ySsd m c) (yMla m c)) := by
  rw [Value.flushed6_A, stored_6]
  funext j
  obtain ⟨p, k, rfl⟩ : ∃ (p : Fin 512) (k : Fin 1024), j = ix2 p k := ⟨_, _, eq_ix2 j⟩
  rw [View.read_apply]
  refine Eq.trans ?_ (at_ix2 (merged (proj m c) (ySsd m c) (yMla m c)) _ (row t.val p) k
    (place win0_6.index t (index_6 t) p k).1 (place win0_6.index t (index_6 t) p k).2).symm
  exact merged_block m c t p k

/-- The point that writes a row's block, and the block's bounds. -/
theorem point_lt (i : S8192x1024.Idx) : (i 0 : Nat) / 512 < cfg0.N := by
  have hN : cfg0.N = 16 := N_0
  have b0 : (i 0 : Nat) < 8192 := (i 0).isLt
  omega
theorem bounds (i : S8192x1024.Idx) (e : Fin cfg0.N → Fin 2 → ℕ)
    (h : e ⟨_, point_lt i⟩ 0 = (i 0 : Nat) / 512 ∧ e ⟨_, point_lt i⟩ 1 = 0) :
    (e ⟨_, point_lt i⟩ 0 * 512 ≤ (i 0 : Nat) ∧ (i 0 : Nat) < e ⟨_, point_lt i⟩ 0 * 512 + 512)
      ∧ (e ⟨_, point_lt i⟩ 1 * 1024 ≤ (i 1 : Nat) ∧ (i 1 : Nat) < e ⟨_, point_lt i⟩ 1 * 1024 + 1024) := by
  have b1 : (i 1 : Nat) < 1024 := (i 1).isLt
  obtain ⟨h0, h1⟩ := h
  rw [h0, h1]
  omega

theorem final_5 : (dats m 0 c).arrAt 5 cfg0.N = out (proj m c) (ySsd m c) (yMla m c) (wo m c) (h m c) :=
  (dats m 0 c).arrAt_eq_of_cover 5 _ (fun t _ => flushed_5 m c t) fun i => by
    refine ⟨⟨_, point_lt i⟩, flush0_5 _, ?_⟩
    show i ∈ ((View.whole main_v1_0).slice (win0_5.rect ⟨_, point_lt i⟩)).set
    rw [View.set_slice_whole, Rect.mem_set_unit]
    intro a
    match a with
    | ⟨0, _⟩ => exact (bounds i win0_5.index (index_5 _)).1
    | ⟨1, _⟩ => exact (bounds i win0_5.index (index_5 _)).2

theorem final_6 : (dats m 0 c).arrAt 6 cfg0.N = merged (proj m c) (ySsd m c) (yMla m c) :=
  (dats m 0 c).arrAt_eq_of_cover 6 _ (fun t _ => flushed_6 m c t) fun i => by
    refine ⟨⟨_, point_lt i⟩, flush0_6 _, ?_⟩
    show i ∈ ((View.whole main_v1_1).slice (win0_6.rect ⟨_, point_lt i⟩)).set
    rw [View.set_slice_whole, Rect.mem_set_unit]
    intro a
    match a with
    | ⟨0, _⟩ => exact (bounds i win0_6.index (index_6 _)).1
    | ⟨1, _⟩ => exact (bounds i win0_6.index (index_6 _)).2

end Cert.Kernel20Ideal.Out

namespace Cert.Reference20Ideal.Out

open Idealize.ShloMosaic Idealize.ShloMosaic.TcCoe Idealize.ShloMosaic.Pointwise Idealize.SL.Sem Cert.Reference20Ideal
  Cert.Reference20Ideal.Gen
open Cert.Kernel7Ideal.Grad (lo hi gcol)
open Cert.Reference7Ideal.Grad (rSig rSig_apply)
open Cert.Kernel20Ideal.Out (merged out)

/-- The gated sum, from the gates' logistic. -/
def rSum (s : FVec Ideal S8192x2048 .f32) (ys ym : FVec Ideal S8192x1024 .f32) : FVec Ideal S8192x1024 .f32 :=
  addf (mulf (extractStridedSlice S8192x1024 ![0, 0] s slices_S8192x2048_S8192x1024_0_0) ys)
    (mulf (extractStridedSlice S8192x1024 ![0, 1024] s slices_S8192x2048_S8192x1024_0_1024) ym)

theorem rSum_apply (s : FVec Ideal S8192x2048 .f32) (ys ym : FVec Ideal S8192x1024 .f32) (x : Fin 8192) (k : Fin 1024) :
    rSum s ys ym (ix2 x k) = (s (ix2 x (lo k)) * ys (ix2 x k) + s (ix2 x (hi k)) * ym (ix2 x k) : EReal) := by
  pointwise [rSum]
  rfl

theorem value_merged (g : FVec Ideal S8192x8064 .f32) (ys ym : FVec Ideal S8192x1024 .f32) :
    truncf .bf16 (rSum (rSig g) ys ym) bitsLt_bf16_f32 = merged g ys ym := by
  funext j
  obtain ⟨x, k, rfl⟩ : ∃ (x : Fin 8192) (k : Fin 1024), j = ix2 x k := ⟨_, _, eq_ix2 j⟩
  refine (rSum_apply (rSig g) ys ym x k).trans ?_
  rw [rSig_apply, rSig_apply]
  rfl

theorem value_out (g : FVec Ideal S8192x8064 .f32) (ys ym : FVec Ideal S8192x1024 .f32) (w : FVec Ideal S1024x1024 .f32)
    (z : FVec Ideal S8192x1024 .f32) :
    addf z (Host.dotGeneral dot_S8192x1024_S1024x1024_S8192x1024_1_0_0_1_n_n none (rSum (rSig g) ys ym) w) = out g ys ym w z := by
  funext j
  obtain ⟨x, q, rfl⟩ : ∃ (x : Fin 8192) (q : Fin 1024), j = ix2 x q := ⟨_, _, eq_ix2 j⟩
  trans (z (ix2 x q) + ∑ k : Fin 1024, rSum (rSig g) ys ym (ix2 x k) * w (ix2 k q) : EReal)
  · pointwise []
  · refine congrArg (fun e : EReal => (z (ix2 x q) + e : EReal)) (Finset.sum_congr rfl fun k _ => ?_)
    exact congrArg (fun e : EReal => (e * w (ix2 k q) : EReal)) (congrFun (value_merged g ys ym) (ix2 x k))

end Cert.Reference20Ideal.Out

namespace Cert.Kernel20Ideal.Out

open Idealize.ShloMosaic Idealize.SL.Sem

theorem algebraic : Cert.algebraic_Kernel20Ideal_Reference20Ideal := by
  intro m g m' g' _ hargs
  refine ⟨fun c => out (proj m c) (ySsd m c) (yMla m c) (wo m c) (h m c), fun c => merged (proj m c) (ySsd m c) (yMla m c),
    (θ_run defs _ _).mono (fun r h c => ?_) (Value.run_blocks (F := Ideal) m g),
    (θ_run Cert.Reference20Ideal.defs _ _).mono (fun r h c => ?_) (Cert.Reference20Ideal.Value.run (F := Ideal) m' g')⟩
  · exact ⟨(h c).1.trans (final_5 m c), (h c).2.1.trans (final_6 m c), (h c).2.2⟩
  · obtain ⟨e0, e1, e2, e3, e4⟩ := hargs c
    refine ⟨(h c).1.trans ?_, (h c).2.1.trans ?_, (h c).2.2⟩
    · rw [e0, e1, e2, e3, e4]
      exact Cert.Reference20Ideal.Out.value_out _ _ _ _ _
    · rw [e0, e1, e2]
      exact Cert.Reference20Ideal.Out.value_merged _ _ _

end Cert.Kernel20Ideal.Out

end
-- ==== Proof.MlaOut.lean ====
/-
  The attention's output product, in blocks of 1024 rows.
-/
module

public import proofs.«01_k».proof.Proof.DownWeight
public import proofs.«01_k».proof.Proof.Gen.Kernel21Ideal.Value
public import proofs.«01_k».proof.Proof.Gen.Reference21Ideal.Run

@[expose] public section

set_option maxRecDepth 16384

noncomputable section

namespace Cert.Kernel21Ideal.Out

open Idealize.ShloMosaic Idealize.ShloMosaic.TcCoe Idealize.ShloMosaic.Pointwise Idealize.SL.Sem Cert.Accumulate Cert.Entry
  Cert.Kernel21Ideal Cert.Kernel21Ideal.Gen
open Cert.Kernel3Ideal.Grad (row)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

variable (m : (ℓ : Loc nD τ sig) → Buf (Elt Ideal) ℓ) (ρ : Dev nD → PrngReg) (c : Dev nD)

/-- The attention's rows and the weights in memory. -/
abbrev o : FVec Ideal S8192x1024 .f32 := m ((c.tc : Thread nD τ).loc main_arg0)
abbrev w : FVec Ideal S1024x1024 .f32 := m ((c.tc : Thread nD τ).loc main_arg1)

theorem V0 : V m c main_v0 = truncf .bf16 (o m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p q : Fin 1024) : iblk m c 0 t (ix2 p q) = o m c (ix2 (row t.val p) q) := by
  obtain ⟨h0, h1⟩ := index_0 t
  have hN : cfg0.N = 8 := N_0
  have := t.isLt
  unfold iblk
  rw [View.read_apply]
  show V m c main_v0 _ = _
  rw [V0]
  exact at_ix2 (o m c) _ (row t.val p) q (by show win0_0.index t 0 * 1024 + 1 * p.val = 1024 * (t.val % 8) + p.val; rw [h0]; omega)
    (by show win0_0.index t 1 * 1024 + 1 * q.val = q.val; rw [h1]; omega)

theorem block_1 (t : Fin cfg0.N) (q k : Fin 1024) : iblk m c 1 t (ix2 q k) = w m c (ix2 q k) := by
  obtain ⟨h0, h1⟩ := index_1 t
  unfold iblk
  rw [View.read_apply]
  show V m c main_v1 _ = _
  rw [V1]
  exact at_ix2 (w m c) _ q k (by show win0_1.index t 0 * 1024 + 1 * q.val = q.val; rw [h0]; omega)
    (by show win0_1.index t 1 * 1024 + 1 * k.val = k.val; rw [h1]; omega)

theorem pay1_apply (x y : Vec Ideal S1024x1024 .bf16) (p k : Fin 1024) :
    k0_pay1 x y (ix2 p k) = (∑ q, x (ix2 p q) * y (ix2 q k) : EReal) := by
  pointwise [k0_pay1]

/-- The product. -/
def prod (A : FVec Ideal S8192x1024 .f32) (B : FVec Ideal S1024x1024 .f32) : FVec Ideal S8192x1024 .f32 :=
  fun j => ∑ q : Fin 1024, (A (ix2 (j 0) q) * B (ix2 q (j 1)) : EReal)

theorem flushed (t : Fin cfg0.N) : (dats m 0 c).flushed 2 t = ((cfg0.win 2).blk t).view.read (Elt Ideal) (prod (o m c) (w m c)) := by
  obtain ⟨h0, h1⟩ := index_2 t
  have hN : cfg0.N = 8 := N_0
  have := t.isLt
  rw [Value.flushed2]
  funext j
  obtain ⟨p, k, rfl⟩ : ∃ (p : Fin 1024) (k : Fin 1024), j = ix2 p k := ⟨_, _, eq_ix2 j⟩
  rw [View.read_apply]
  show out0_2 (iblk m c 0 t) (iblk m c 1 t) (ix2 p k) = prod (o m c) (w m c) _
  unfold out0_2
  rw [View.canon_unit_zero zeros, ld_all, ld_all]
  refine (pay1_apply _ _ p k).trans (Eq.trans ?_ (at_ix2 (prod (o m c) (w m c)) _ (row t.val p) k
    (by show win0_2.index t 0 * 1024 + 1 * p.val = 1024 * (t.val % 8) + p.val; rw [h0]; omega)
    (by show win0_2.index t 1 * 1024 + 1 * k.val = k.val; rw [h1]; omega)).symm)
  refine Finset.sum_congr rfl fun q _ => ?_
  rw [block_0, block_1]
  rfl

theorem point_lt (s : Fin 8192) : s.val / 1024 < cfg0.N := by
  have hN : cfg0.N = 8 := N_0
  omega

theorem final : (dats m 0 c).arrAt 2 cfg0.N = prod (o m c) (w m c) :=
  (dats m 0 c).arrAt_eq_of_cover 2 _ (fun t _ => flushed m c t) fun i => by
    have b0 : (i 0 : Nat) < 8192 := (i 0).isLt
    have b1 : (i 1 : Nat) < 1024 := (i 1).isLt
    obtain ⟨h0, h1⟩ := index_2 ⟨_, point_lt (i 0)⟩
    refine ⟨⟨_, point_lt (i 0)⟩, flush0_2 _, ?_⟩
    show i ∈ ((View.whole main_v2).slice (win0_2.rect ⟨_, point_lt (i 0)⟩)).set
    rw [View.set_slice_whole, Rect.mem_set_unit]
    intro a
    match a with
    | ⟨0, _⟩ => show win0_2.index _ 0 * 1024 ≤ (i 0 : Nat) ∧ (i 0 : Nat) < win0_2.index _ 0 * 1024 + 1024
                rw [h0]; dsimp only; omega
    | ⟨1, _⟩ => show win0_2.index _ 1 * 1024 ≤ (i 1 : Nat) ∧ (i 1 : Nat) < win0_2.index _ 1 * 1024 + 1024
                rw [h1]; omega

end Cert.Kernel21Ideal.Out

namespace Cert.Reference21Ideal.Out

open Idealize.ShloMosaic Idealize.ShloMosaic.TcCoe Idealize.ShloMosaic.Pointwise Idealize.SL.Sem Cert.Reference21Ideal
  Cert.Reference21Ideal.Gen

theorem value (A : FVec Ideal S8192x1024 .f32) (B : FVec Ideal S1024x1024 .f32) :
    Host.dotGeneral dot_S8192x1024_S1024x1024_S8192x1024_1_0_0_1_n_n none A B = Cert.Kernel21Ideal.Out.prod A B := by
  funext j
  obtain ⟨x, k, rfl⟩ : ∃ (x : Fin 8192) (k : Fin 1024), j = ix2 x k := ⟨_, _, eq_ix2 j⟩
  show _ = ∑ q : Fin 1024, (A (ix2 x q) * B (ix2 q k) : EReal)
  pointwise []

end Cert.Reference21Ideal.Out

namespace Cert.Kernel21Ideal.Out

open Idealize.ShloMosaic Idealize.SL.Sem

theorem algebraic : Cert.algebraic_Kernel21Ideal_Reference21Ideal := by
  intro m g m' g' _ hargs
  refine ⟨fun c => prod (o m c) (w m c), (θ_run defs _ _).mono (fun r h c => ?_) (Value.run_blocks (F := Ideal) m g),
    (θ_run Cert.Reference21Ideal.defs _ _).mono (fun r h c => ?_) (Cert.Reference21Ideal.Value.run (F := Ideal) m' g')⟩
  · exact ⟨(h c).1.trans (final m c), (h c).2⟩
  · obtain ⟨e0, e1⟩ := hargs c
    refine ⟨(h c).1.trans ?_, (h c).2⟩
    rw [e0, e1]
    exact Cert.Reference21Ideal.Out.value _ _

end Cert.Kernel21Ideal.Out

end
-- ==== Proof.Product.lean ====
/-
  The products of two matrices over the extended reals.
-/
module

public import Idealize.ShloMosaic.Lib.Pointwise

@[expose] public section

noncomputable section

namespace Cert.Product

open Idealize.ShloMosaic Idealize.ShloMosaic.Pointwise

/-- The product with a transposed matrix, and with a matrix. -/
def mulT {a b k : ℕ} (A : (⟨2, ![a, k]⟩ : Shape).Idx → EReal) (B : (⟨2, ![b, k]⟩ : Shape).Idx → EReal) :
    (⟨2, ![a, b]⟩ : Shape).Idx → EReal := fun j => ∑ q : Fin k, A (ix2 (j 0) q) * B (ix2 (j 1) q)
def mul {a b k : ℕ} (A : (⟨2, ![a, k]⟩ : Shape).Idx → EReal) (B : (⟨2, ![k, b]⟩ : Shape).Idx → EReal) :
    (⟨2, ![a, b]⟩ : Shape).Idx → EReal := fun j => ∑ q : Fin k, A (ix2 (j 0) q) * B (ix2 q (j 1))

/-- The product of a transposed matrix. -/
def tmul {a b k : ℕ} (A : (⟨2, ![k, a]⟩ : Shape).Idx → EReal) (B : (⟨2, ![k, b]⟩ : Shape).Idx → EReal) :
    (⟨2, ![a, b]⟩ : Shape).Idx → EReal := fun j => ∑ q : Fin k, A (ix2 q (j 0)) * B (ix2 q (j 1))

end Cert.Product

end
-- ==== Proof.HeadsGrad.lean ====
/-
  The gradients of the normed rows through `w_uq` and `w_ukv`: in blocks of 1024 rows, two blocks of 1024 terms that an
  accumulator sums.
-/
module

public import proofs.«01_k».proof.Proof.Product
public import proofs.«01_k».proof.Proof.SsdOut
public import proofs.«01_k».proof.Proof.Gen.Kernel22Ideal.Value
public import proofs.«01_k».proof.Proof.Gen.Reference22Ideal.Run
public import proofs.«01_k».proof.Proof.Gen.Kernel24Ideal.Value
public import proofs.«01_k».proof.Proof.Gen.Reference24Ideal.Run

@[expose] public section

set_option maxRecDepth 16384

noncomputable section

namespace Cert.Kernel22Ideal.Grad

open Idealize.ShloMosaic Idealize.ShloMosaic.TcCoe Idealize.ShloMosaic.Pointwise Idealize.SL.Sem Cert.Accumulate Cert.Entry Cert.Product
  Cert.Kernel22Ideal Cert.Kernel22Ideal.Gen
open Cert.Kernel3Ideal.Grad (row)
open Cert.Kernel19Ideal.Out (col)

section Stores

variable {F : FTy → Type} [FloatOps F] (c : Dev nD) (i : grid0.Coords)
  (a0 : Memref sig .tc .vmem S1024x1024 .bf16) (h0 : a0.IsWhole) (a1 : Memref sig .tc .vmem S1024x512 .bf16) (h1 : a1.IsWhole)
  (a2 : Memref sig .tc .vmem S1024x512 .bf16) (h2 : a2.IsWhole) (a3 : Memref sig .tc .vmem S1024x512 .f32) (h3 : a3.IsWhole)
  (x : Vec F S1024x1024 .bf16) (y : Vec F S1024x512 .bf16) (acc : Vec F S1024x512 .f32)

/-- The first block of terms sets the accumulator, -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- and the second stores the sum of both. -/
theorem last_out (hc0 : ¬cond0_0 i) (hc1 : cond0_1 i) (hc2 : cond0_2 i) :
    out0_B_2 c i a0 h0 a1 h1 a2 h2 a3 h3 hc0 hc1 hc2 x y acc = k0_pay4 (addf acc (k0_pay1 x y)) := by
  unfold out0_B_2
  rw [View.read_writes_eq_canon _ _ _ (by apply cover0_B_2)]
  unfold kernelRun0_B
  dsimp only
  sl_unfold_words
  rw [View.canon_unit_zero zeros, View.readCov_unit_zero (S := S1024x512) _ zeros]
  unfold k0_pay3
  simp only [View.readAt_eq_ld, h0.read_unread, h1.read_unread, h3.read_unread, ld_all, shapeCast_self]

end Stores

theorem index_0 : ∀ t : Fin cfg0.N, win0_0.index t 0 = t.val / 2 ∧ win0_0.index t 1 = t.val % 2 := by decide +kernel
theorem index_1 : ∀ t : Fin cfg0.N, win0_1.index t 0 = t.val % 2 ∧ win0_1.index t 1 = 0 := by decide +kernel

variable (m : (ℓ : Loc nD τ sig) → Buf (Elt Ideal) ℓ) (ρ : Dev nD → PrngReg) (c : Dev nD)

/-- The gradient of the product and `w_uq` in memory. -/
abbrev dq : FVec Ideal S8192x2048 .f32 := m ((c.tc : Thread nD τ).loc main_arg0)
abbrev w : FVec Ideal S2048x512 .f32 := m ((c.tc : Thread nD τ).loc main_arg1)

theorem V0 : V m c main_v0 = truncf .bf16 (dq m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p r : Fin 1024) : iblk m c 0 t (ix2 p r) = dq m c (ix2 (row (t.val / 2) p) (col t.val r)) := by
  obtain ⟨h0, h1⟩ := index_0 t
  have hN : cfg0.N = 16 := N_0
  have := t.isLt
  unfold iblk
  rw [View.read_apply]
  show V m c main_v0 _ = _
  rw [V0]
  exact at_ix2 (dq m c) _ _ _ (by show win0_0.index t 0 * 1024 + 1 * p.val = 1024 * (t.val / 2 % 8) + p.val; rw [h0]; omega)
    (by show win0_0.index t 1 * 1024 + 1 * r.val = 1024 * (t.val % 2) + r.val; rw [h1]; omega)

theorem block_1 (t : Fin cfg0.N) (r : Fin 1024) (q : Fin 512) : iblk m c 1 t (ix2 r q) = w m c (ix2 (col t.val r) q) := by
  obtain ⟨h0, h1⟩ := index_1 t
  unfold iblk
  rw [View.read_apply]
  show V m c main_v1 _ = _
  rw [V1]
  exact at_ix2 (w m c) _ _ q (by show win0_1.index t 0 * 1024 + 1 * r.val = 1024 * (t.val % 2) + r.val; rw [h0]; omega)
    (by show win0_1.index t 1 * 512 + 1 * q.val = q.val; rw [h1]; omega)

theorem pay1_apply (x : Vec Ideal S1024x1024 .bf16) (y : Vec Ideal S1024x512 .bf16) (p : Fin 1024) (q : Fin 512) :
    k0_pay1 x y (ix2 p q) = ∑ r, (x (ix2 p r) * y (ix2 r q) : EReal) := by
  pointwise [k0_pay1]

/-- The terms of an entry in block `b` of 1024 rows of the product. -/
def term {w : ℕ} (A : FVec Ideal S8192x2048 .f32) (B : (⟨2, ![2048, w]⟩ : Shape).Idx → EReal) (p : Fin 1024) (q : Fin w) (b : ℕ)
    (s : Fin 2048) : EReal := A (ix2 (row b p) s) * B (ix2 s q)

theorem chunk_eq (t : Fin cfg0.N) (p : Fin 1024) (q : Fin 512) :
    k0_pay1 (iblk m c 0 t) (iblk m c 1 t) (ix2 p q) = chunk 2 1024 (term (dq m c) (w m c) p q) t.val := by
  refine (pay1_apply (iblk m c 0 t) (iblk m c 1 t) p q).trans (Finset.sum_congr rfl fun r _ => ?_)
  rw [block_0, block_1]
  rfl

/-- The block that the second point of a sweep stores. -/
theorem out_at (p : Fin 1024) (q : Fin 512) (n : ℕ) (h : n < cfg0.N) (hn : n % 2 + 1 = 2) :
    (outsAt0 m c n h).1 (ix2 p q) = ∑ s, term (dq m c) (w m c) p q (n / 2) s := by
  obtain ⟨n, rfl⟩ : ∃ k, n = k + 1 := ⟨n - 1, by omega⟩
  have hs := sum_sweep 2 1024 (fun n h => (if n % 2 = 0 then (outsAt0 m c n h).2 (ix2 p q) else (outsAt0 m c n h).1 (ix2 p q) : EReal))
    (term (dq m c) (w m c) p q) ?_ ?_ (n + 1) h hn
  · simpa only [if_neg (show ¬(n + 1) % 2 = 0 by omega)] using hs
  · intro n h hn
    rw [if_pos hn, outsAt0_A m c ⟨n, h⟩ hn (by dsimp only; omega) (by dsimp only; omega)]
    dsimp only
    rw [first_acc]
    exact chunk_eq m c ⟨n, h⟩ p q
  · intro n h h' hn
    rw [if_neg hn, if_pos (show n % 2 = 0 by omega), outsAt0_B m c ⟨n + 1, h'⟩ hn (by dsimp only; omega) (by dsimp only; omega)]
    dsimp only
    rw [last_out]
    exact congrArg (fun z : EReal => ((outsAt0 m c n h).2 (ix2 p q) : EReal) + z) (chunk_eq m c ⟨n + 1, h'⟩ p q)

theorem result : Value.G2 m c = mul (dq m c) (w m c) := by
  funext j
  obtain ⟨x, q, rfl⟩ : ∃ (x : Fin 8192) (q : Fin 512), j = ix2 x q := ⟨_, _, eq_ix2 j⟩
  have hx := x.isLt
  have hq := q.isLt
  have hN : cfg0.N = 16 := N_0
  have hpt : Value.pt2Of (ix2 x q) = 2 * (x.val / 1024) + 1 := by
    show 2 * (1 * (x.val / 1024 - 0) + 1 * (q.val / 512 - 0)) + 1 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  have hc : row (Value.pt2Of (ix2 x q) / 2) ⟨x.val % 1024, Nat.mod_lt _ (by decide)⟩ = x :=
    Fin.ext (by show 1024 * (Value.pt2Of (ix2 x q) / 2 % 8) + x.val % 1024 = x.val; rw [hpt]; omega)
  unfold term
  rw [hc]
  rfl

open Cert.Reference22Ideal Cert.Reference22Ideal.Gen in
/-- The gradient of `n ↦ n·Bᵀ`. -/
theorem value (A : FVec Ideal S8192x2048 .f32) (B : FVec Ideal S2048x512 .f32) :
    truncf .bf16 (Host.dotGeneral dot_S8192x2048_S512x2048_S8192x512_1_1_0_0_n_n none A (transpose S512x2048 [1, 0] B
      transposes_S2048x512_S512x2048_1_0)) Cert.Reference22Ideal.Gen.bitsLt_bf16_f32 = mul A B := by
  funext j
  obtain ⟨x, q, rfl⟩ : ∃ (x : Fin 8192) (q : Fin 512), j = ix2 x q := ⟨_, _, eq_ix2 j⟩
  show _ = ∑ s : Fin 2048, (A (ix2 x s) * B (ix2 s q) : EReal)
  pointwise []

theorem algebraic : Cert.algebraic_Kernel22Ideal_Reference22Ideal := by
  intro m g m' g' _ hargs
  refine ⟨fun c => mul (dq m c) (w m c), (θ_run defs _ _).mono (fun r h c => ?_) (Value.run (F := Ideal) m g),
    (θ_run Cert.Reference22Ideal.defs _ _).mono (fun r h c => ?_) (Cert.Reference22Ideal.Value.run (F := Ideal) m' g')⟩
  · exact ⟨(h c).1.trans (result m c), (h c).2⟩
  · obtain ⟨e0, e1⟩ := hargs c
    refine ⟨(h c).1.trans ?_, (h c).2⟩
    rw [e0, e1]
    exact value _ _

end Cert.Kernel22Ideal.Grad

namespace Cert.Kernel24Ideal.Grad

open Idealize.ShloMosaic Idealize.ShloMosaic.TcCoe Idealize.ShloMosaic.Pointwise Idealize.SL.Sem Cert.Accumulate Cert.Entry Cert.Product
  Cert.Kernel24Ideal Cert.Kernel24Ideal.Gen
open Cert.Kernel3Ideal.Grad (row)
open Cert.Kernel19Ideal.Out (col)
open Cert.Kernel22Ideal.Grad (term)

section Stores

variable {F : FTy → Type} [FloatOps F] (c : Dev nD) (i : grid0.Coords)
  (a0 : Memref sig .tc .vmem S1024x1024 .bf16) (h0 : a0.IsWhole) (a1 : Memref sig .tc .vmem S1024x256 .bf16) (h1 : a1.IsWhole)
  (a2 : Memref sig .tc .vmem S1024x256 .bf16) (h2 : a2.IsWhole) (a3 : Memref sig .tc .vmem S1024x256 .f32) (h3 : a3.IsWhole)
  (x : Vec F S1024x1024 .bf16) (y : Vec F S1024x256 .bf16) (acc : Vec F S1024x256 .f32)

/-- The first block of terms sets the accumulator, -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- and the second stores the sum of both. -/
theorem last_out (hc0 : ¬cond0_0 i) (hc1 : cond0_1 i) (hc2 : cond0_2 i) :
    out0_B_2 c i a0 h0 a1 h1 a2 h2 a3 h3 hc0 hc1 hc2 x y acc = k0_pay4 (addf acc (k0_pay1 x y)) := by
  unfold out0_B_2
  rw [View.read_writes_eq_canon _ _ _ (by apply cover0_B_2)]
  unfold kernelRun0_B
  dsimp only
  sl_unfold_words
  rw [View.canon_unit_zero zeros, View.readCov_unit_zero (S := S1024x256) _ zeros]
  unfold k0_pay3
  simp only [View.readAt_eq_ld, h0.read_unread, h1.read_unread, h3.read_unread, ld_all, shapeCast_self]

end Stores

theorem index_0 : ∀ t : Fin cfg0.N, win0_0.index t 0 = t.val / 2 ∧ win0_0.index t 1 = t.val % 2 := by decide +kernel
theorem index_1 : ∀ t : Fin cfg0.N, win0_1.index t 0 = t.val % 2 ∧ win0_1.index t 1 = 0 := by decide +kernel

variable (m : (ℓ : Loc nD τ sig) → Buf (Elt Ideal) ℓ) (ρ : Dev nD → PrngReg) (c : Dev nD)

/-- The gradient of the product and `w_ukv` in memory. -/
abbrev dkv : FVec Ideal S8192x2048 .f32 := m ((c.tc : Thread nD τ).loc main_arg0)
abbrev w : FVec Ideal S2048x256 .f32 := m ((c.tc : Thread nD τ).loc main_arg1)

theorem V0 : V m c main_v0 = truncf .bf16 (dkv m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p r : Fin 1024) : iblk m c 0 t (ix2 p r) = dkv m c (ix2 (row (t.val / 2) p) (col t.val r)) := by
  obtain ⟨h0, h1⟩ := index_0 t
  have hN : cfg0.N = 16 := N_0
  have := t.isLt
  unfold iblk
  rw [View.read_apply]
  show V m c main_v0 _ = _
  rw [V0]
  exact at_ix2 (dkv m c) _ _ _ (by show win0_0.index t 0 * 1024 + 1 * p.val = 1024 * (t.val / 2 % 8) + p.val; rw [h0]; omega)
    (by show win0_0.index t 1 * 1024 + 1 * r.val = 1024 * (t.val % 2) + r.val; rw [h1]; omega)

theorem block_1 (t : Fin cfg0.N) (r : Fin 1024) (q : Fin 256) : iblk m c 1 t (ix2 r q) = w m c (ix2 (col t.val r) q) := by
  obtain ⟨h0, h1⟩ := index_1 t
  unfold iblk
  rw [View.read_apply]
  show V m c main_v1 _ = _
  rw [V1]
  exact at_ix2 (w m c) _ _ q (by show win0_1.index t 0 * 1024 + 1 * r.val = 1024 * (t.val % 2) + r.val; rw [h0]; omega)
    (by show win0_1.index t 1 * 256 + 1 * q.val = q.val; rw [h1]; omega)

theorem pay1_apply (x : Vec Ideal S1024x1024 .bf16) (y : Vec Ideal S1024x256 .bf16) (p : Fin 1024) (q : Fin 256) :
    k0_pay1 x y (ix2 p q) = ∑ r, (x (ix2 p r) * y (ix2 r q) : EReal) := by
  pointwise [k0_pay1]

theorem chunk_eq (t : Fin cfg0.N) (p : Fin 1024) (q : Fin 256) :
    k0_pay1 (iblk m c 0 t) (iblk m c 1 t) (ix2 p q) = chunk 2 1024 (term (dkv m c) (w m c) p q) t.val := by
  refine (pay1_apply (iblk m c 0 t) (iblk m c 1 t) p q).trans (Finset.sum_congr rfl fun r _ => ?_)
  rw [block_0, block_1]
  rfl

/-- The block that the second point of a sweep stores. -/
theorem out_at (p : Fin 1024) (q : Fin 256) (n : ℕ) (h : n < cfg0.N) (hn : n % 2 + 1 = 2) :
    (outsAt0 m c n h).1 (ix2 p q) = ∑ s, term (dkv m c) (w m c) p q (n / 2) s := by
  obtain ⟨n, rfl⟩ : ∃ k, n = k + 1 := ⟨n - 1, by omega⟩
  have hs := sum_sweep 2 1024 (fun n h => (if n % 2 = 0 then (outsAt0 m c n h).2 (ix2 p q) else (outsAt0 m c n h).1 (ix2 p q) : EReal))
    (term (dkv m c) (w m c) p q) ?_ ?_ (n + 1) h hn
  · simpa only [if_neg (show ¬(n + 1) % 2 = 0 by omega)] using hs
  · intro n h hn
    rw [if_pos hn, outsAt0_A m c ⟨n, h⟩ hn (by dsimp only; omega) (by dsimp only; omega)]
    dsimp only
    rw [first_acc]
    exact chunk_eq m c ⟨n, h⟩ p q
  · intro n h h' hn
    rw [if_neg hn, if_pos (show n % 2 = 0 by omega), outsAt0_B m c ⟨n + 1, h'⟩ hn (by dsimp only; omega) (by dsimp only; omega)]
    dsimp only
    rw [last_out]
    exact congrArg (fun z : EReal => ((outsAt0 m c n h).2 (ix2 p q) : EReal) + z) (chunk_eq m c ⟨n + 1, h'⟩ p q)

theorem result : Value.G2 m c = mul (dkv m c) (w m c) := by
  funext j
  obtain ⟨x, q, rfl⟩ : ∃ (x : Fin 8192) (q : Fin 256), j = ix2 x q := ⟨_, _, eq_ix2 j⟩
  have hx := x.isLt
  have hq := q.isLt
  have hN : cfg0.N = 16 := N_0
  have hpt : Value.pt2Of (ix2 x q) = 2 * (x.val / 1024) + 1 := by
    show 2 * (1 * (x.val / 1024 - 0) + 1 * (q.val / 256 - 0)) + 1 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  have hc : row (Value.pt2Of (ix2 x q) / 2) ⟨x.val % 1024, Nat.mod_lt _ (by decide)⟩ = x :=
    Fin.ext (by show 1024 * (Value.pt2Of (ix2 x q) / 2 % 8) + x.val % 1024 = x.val; rw [hpt]; omega)
  unfold term
  rw [hc]
  rfl

open Cert.Reference24Ideal Cert.Reference24Ideal.Gen in
/-- The gradient of `n ↦ n·Bᵀ`. -/
theorem value (A : FVec Ideal S8192x2048 .f32) (B : FVec Ideal S2048x256 .f32) :
    truncf .bf16 (Host.dotGeneral dot_S8192x2048_S256x2048_S8192x256_1_1_0_0_n_n none A (transpose S256x2048 [1, 0] B
      transposes_S2048x256_S256x2048_1_0)) Cert.Reference24Ideal.Gen.bitsLt_bf16_f32 = mul A B := by
  funext j
  obtain ⟨x, q, rfl⟩ : ∃ (x : Fin 8192) (q : Fin 256), j = ix2 x q := ⟨_, _, eq_ix2 j⟩
  show _ = ∑ s : Fin 2048, (A (ix2 x s) * B (ix2 s q) : EReal)
  pointwise []

theorem algebraic : Cert.algebraic_Kernel24Ideal_Reference24Ideal := by
  intro m g m' g' _ hargs
  refine ⟨fun c => mul (dkv m c) (w m c), (θ_run defs _ _).mono (fun r h c => ?_) (Value.run (F := Ideal) m g),
    (θ_run Cert.Reference24Ideal.defs _ _).mono (fun r h c => ?_) (Cert.Reference24Ideal.Value.run (F := Ideal) m' g')⟩
  · exact ⟨(h c).1.trans (result m c), (h c).2⟩
  · obtain ⟨e0, e1⟩ := hargs c
    refine ⟨(h c).1.trans ?_, (h c).2⟩
    rw [e0, e1]
    exact value _ _

end Cert.Kernel24Ideal.Grad

end
-- ==== Proof.HeadsUp.lean ====
/-
  The products with the transposed `w_uq` and `w_ukv`, in blocks of 1024 rows and 1024 columns.
-/
module

public import proofs.«01_k».proof.Proof.Product
public import proofs.«01_k».proof.Proof.SsdOutWeight
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run

@[expose] public section

set_option maxRecDepth 16384

noncomputable section

namespace Cert.Kernel26Ideal.Up

open Idealize.ShloMosaic Idealize.ShloMosaic.TcCoe Idealize.ShloMosaic.Pointwise Idealize.SL.Sem Cert.Accumulate Cert.Entry Cert.Product
  Cert.Kernel26Ideal Cert.Kernel26Ideal.Gen
open Cert.Kernel3Ideal.Grad (row)
open Cert.Kernel12Ideal.Grad (col)

theorem index_0 : ∀ t : Fin cfg0.N, win0_0.index t 0 = t.val % 8 ∧ win0_0.index t 1 = 0 := by decide +kernel
theorem index_1 : ∀ t : Fin cfg0.N, win0_1.index t 0 = t.val / 8 ∧ win0_1.index t 1 = 0 := by decide +kernel
theorem index_2 : ∀ t : Fin cfg0.N, win0_2.index t 0 = t.val % 8 ∧ win0_2.index t 1 = t.val / 8 := by decide +kernel

variable (m : (ℓ : Loc nD τ sig) → Buf (Elt Ideal) ℓ) (ρ : Dev nD → PrngReg) (c : Dev nD)

/-- The normed rows and `w_uq` in memory. -/
abbrev qn : FVec Ideal S8192x512 .f32 := m ((c.tc : Thread nD τ).loc main_arg0)
abbrev w : FVec Ideal S2048x512 .f32 := m ((c.tc : Thread nD τ).loc main_arg1)

theorem V0 : V m c main_v0 = truncf .bf16 (qn m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p : Fin 1024) (q : Fin 512) : iblk m c 0 t (ix2 p q) = qn m c (ix2 (row t.val p) q) := by
  obtain ⟨h0, h1⟩ := index_0 t
  unfold iblk
  rw [View.read_apply]
  show V m c main_v0 _ = _
  rw [V0]
  exact at_ix2 (qn m c) _ _ q (by show win0_0.index t 0 * 1024 + 1 * p.val = 1024 * (t.val % 8) + p.val; rw [h0]; omega)
    (by show win0_0.index t 1 * 512 + 1 * q.val = q.val; rw [h1]; omega)

theorem block_1 (t : Fin cfg0.N) (f : Fin 1024) (q : Fin 512) : iblk m c 1 t (ix2 f q) = w m c (ix2 (col (t.val / 8) f) q) := by
  obtain ⟨h0, h1⟩ := index_1 t
  have hN : cfg0.N = 16 := N_0
  have := t.isLt
  unfold iblk
  rw [View.read_apply]
  show V m c main_v1 _ = _
  rw [V1]
  exact at_ix2 (w m c) _ _ q (by show win0_1.index t 0 * 1024 + 1 * f.val = 1024 * (t.val / 8 % 2) + f.val; rw [h0]; omega)
    (by show win0_1.index t 1 * 512 + 1 * q.val = q.val; rw [h1]; omega)

theorem pay1_apply (x y : Vec Ideal S1024x512 .bf16) (p f : Fin 1024) :
    k0_pay1 x y (ix2 p f) = (∑ q, x (ix2 p q) * y (ix2 f q) : EReal) := by
  pointwise [k0_pay1]

theorem flushed (t : Fin cfg0.N) : (dats m 0 c).flushed 2 t = ((cfg0.win 2).blk t).view.read (Elt Ideal) (mulT (qn m c) (w m c)) := by
  obtain ⟨h0, h1⟩ := index_2 t
  have hN : cfg0.N = 16 := N_0
  have := t.isLt
  rw [Value.flushed2]
  funext j
  obtain ⟨p, f, rfl⟩ : ∃ (p f : Fin 1024), j = ix2 p f := ⟨_, _, eq_ix2 j⟩
  rw [View.read_apply]
  show out0_2 (iblk m c 0 t) (iblk m c 1 t) (ix2 p f) = mulT (qn m c) (w m c) _
  unfold out0_2
  rw [View.canon_unit_zero zeros, ld_all, ld_all]
  refine (pay1_apply _ _ p f).trans (Eq.trans ?_ (at_ix2 (mulT (qn m c) (w m c)) _ (row t.val p) (col (t.val / 8) f)
    (by show win0_2.index t 0 * 1024 + 1 * p.val = 1024 * (t.val % 8) + p.val; rw [h0]; omega)
    (by show win0_2.index t 1 * 1024 + 1 * f.val = 1024 * (t.val / 8 % 2) + f.val; rw [h1]; omega)).symm)
  refine Finset.sum_congr rfl fun q _ => ?_
  rw [block_0, block_1]
  rfl

/-- The point that writes an entry's block. -/
theorem point_lt (i : S8192x2048.Idx) : 8 * ((i 1 : Nat) / 1024) + (i 0 : Nat) / 1024 < cfg0.N := by
  have hN : cfg0.N = 16 := N_0
  have b0 : (i 0 : Nat) < 8192 := (i 0).isLt
  have b1 : (i 1 : Nat) < 2048 := (i 1).isLt
  omega

theorem final : (dats m 0 c).arrAt 2 cfg0.N = mulT (qn m c) (w m c) :=
  (dats m 0 c).arrAt_eq_of_cover 2 _ (fun t _ => flushed m c t) fun i => by
    have b0 : (i 0 : Nat) < 8192 := (i 0).isLt
    obtain ⟨h0, h1⟩ := index_2 ⟨_, point_lt i⟩
    refine ⟨⟨_, point_lt i⟩, flush0_2 _, ?_⟩
    show i ∈ ((View.whole main_v2).slice (win0_2.rect ⟨_, point_lt i⟩)).set
    rw [View.set_slice_whole, Rect.mem_set_unit]
    intro a
    match a with
    | ⟨0, _⟩ => show win0_2.index _ 0 * 1024 ≤ (i 0 : Nat) ∧ (i 0 : Nat) < win0_2.index _ 0 * 1024 + 1024
                rw [h0]; dsimp only; omega
    | ⟨1, _⟩ => show win0_2.index _ 1 * 1024 ≤ (i 1 : Nat) ∧ (i 1 : Nat) < win0_2.index _ 1 * 1024 + 1024
                rw [h1]; dsimp only; omega

open Cert.Reference26Ideal Cert.Reference26Ideal.Gen in
theorem value (A : FVec Ideal S8192x512 .f32) (B : FVec Ideal S2048x512 .f32) :
    Host.dotGeneral dot_S8192x512_S512x2048_S8192x2048_1_0_0_1_n_n none A (transpose S512x2048 [1, 0] B
      transposes_S2048x512_S512x2048_1_0) = mulT A B := by
  funext j
  obtain ⟨x, f, rfl⟩ : ∃ (x : Fin 8192) (f : Fin 2048), j = ix2 x f := ⟨_, _, eq_ix2 j⟩
  show _ = ∑ q : Fin 512, (A (ix2 x q) * B (ix2 f q) : EReal)
  pointwise []

theorem algebraic : Cert.algebraic_Kernel26Ideal_Reference26Ideal := by
  intro m g m' g' _ hargs
  refine ⟨fun c => mulT (qn m c) (w m c), (θ_run defs _ _).mono (fun r h c => ?_) (Value.run_blocks (F := Ideal) m g),
    (θ_run Cert.Reference26Ideal.defs _ _).mono (fun r h c => ?_) (Cert.Reference26Ideal.Value.run (F := Ideal) m' g')⟩
  · exact ⟨(h c).1.trans (final m c), (h c).2⟩
  · obtain ⟨e0, e1⟩ := hargs c
    refine ⟨(h c).1.trans ?_, (h c).2⟩
    rw [e0, e1]
    exact value _ _

end Cert.Kernel26Ideal.Up

namespace Cert.Kernel27Ideal.Up

open Idealize.ShloMosaic Idealize.ShloMosaic.TcCoe Idealize.ShloMosaic.Pointwise Idealize.SL.Sem Cert.Accumulate Cert.Entry Cert.Product
  Cert.Kernel27Ideal Cert.Kernel27Ideal.Gen
open Cert.Kernel3Ideal.Grad (row)
open Cert.Kernel12Ideal.Grad (col)

theorem index_0 : ∀ t : Fin cfg0.N, win0_0.index t 0 = t.val % 8 ∧ win0_0.index t 1 = 0 := by decide +kernel
theorem index_1 : ∀ t : Fin cfg0.N, win0_1.index t 0 = t.val / 8 ∧ win0_1.index t 1 = 0 := by decide +kernel
theorem index_2 : ∀ t : Fin cfg0.N, win0_2.index t 0 = t.val % 8 ∧ win0_2.index t 1 = t.val / 8 := by decide +kernel

variable (m : (ℓ : Loc nD τ sig) → Buf (Elt Ideal) ℓ) (ρ : Dev nD → PrngReg) (c : Dev nD)

/-- The normed rows and `w_ukv` in memory. -/
abbrev kvn : FVec Ideal S8192x256 .f32 := m ((c.tc : Thread nD τ).loc main_arg0)
abbrev w : FVec Ideal S2048x256 .f32 := m ((c.tc : Thread nD τ).loc main_arg1)

theorem V0 : V m c main_v0 = truncf .bf16 (kvn m c) bitsLt_bf16_f32 := by
  unfold V; after_reads_simp <;> rfl
theorem V1 : V m c main_v1 = truncf .bf16 (w m c) bitsLt_bf16_f32 := by
  unfold V; after_reads_simp <;> rfl

theorem block_0 (t : Fin cfg0.N) (p : Fin 1024) (q : Fin 256) : iblk m c 0 t (ix2 p q) = kvn m c (ix2 (row t.val p) q) := by
  obtain ⟨h0, h1⟩ := index_0 t
  unfold iblk
  rw [View.read_apply]
  show V m c main_v0 _ = _
  rw [V0]
  exact at_ix2 (kvn m c) _ _ q (by show win0_0.index t 0 * 1024 + 1 * p.val = 1024 * (t.val % 8) + p.val; rw [h0]; omega)
    (by show win0_0.index t 1 * 256 + 1 * q.val = q.val; rw [h1]; omega)

theorem block_1 (t : Fin cfg0.N) (f : Fin 1024) (q : Fin 256) : iblk m c 1 t (ix2 f q) = w m c (ix2 (col (t.val / 8) f) q) := by
  obtain ⟨h0, h1⟩ := index_1 t
  have hN : cfg0.N = 16 := N_0
  have := t.isLt
  unfold iblk
  rw [View.read_apply]
  show V m c main_v1 _ = _
  rw [V1]
  exact at_ix2 (w m c) _ _ q (by show win0_1.index t 0 * 1024 + 1 * f.val = 1024 * (t.val / 8 % 2) + f.val; rw [h0]; omega)
    (by show win0_1.index t 1 * 256 + 1 * q.val = q.val; rw [h1]; omega)

theorem pay1_apply (x y : Vec Ideal S1024x256 .bf16) (p f : Fin 1024) :
    k0_pay1 x y (ix2 p f) = (∑ q, x (ix2 p q) * y (ix2 f q) : EReal) := by
  pointwise [k0_pay1]

theorem flushed (t : Fin cfg0.N) : (dats m 0 c).flushed 2 t = ((cfg0.win 2).blk t).view.read (Elt Ideal) (mulT (kvn m c) (w m c)) := by
  obtain ⟨h0, h1⟩ := index_2 t
  have hN : cfg0.N = 16 := N_0
  have := t.isLt
  rw [Value.flushed2]
  funext j
  obtain ⟨p, f, rfl⟩ : ∃ (p f : Fin 1024), j = ix2 p f := ⟨_, _, eq_ix2 j⟩
  rw [View.read_apply]
  show out0_2 (iblk m c 0 t) (iblk m c 1 t) (ix2 p f) = mulT (kvn m c) (w m c) _
  unfold out0_2
  rw [View.canon_unit_zero zeros, ld_all, ld_all]
  refine (pay1_apply _ _ p f).trans (Eq.trans ?_ (at_ix2 (mulT (kvn m c) (w m c)) _ (row t.val p) (col (t.val / 8) f)
    (by show win0_2.index t 0 * 1024 + 1 * p.val = 1024 * (t.val % 8) + p.val; rw [h0]; omega)
    (by show win0_2.index t 1 * 1024 + 1 * f.val = 1024 * (t.val / 8 % 2) + f.val; rw [h1]; omega)).symm)
  refine Finset.sum_congr rfl fun q _ => ?_
  rw [block_0, block_1]
  rfl

/-- The point that writes an entry's block. -/
theorem point_lt (i : S8192x2048.Idx) : 8 * ((i 1 : Nat) / 1024) + (i 0 : Nat) / 1024 < cfg0.N := by
  have hN : cfg0.N = 16 := N_0
  have b0 : (i 0 : Nat) < 8192 := (i 0).isLt
  have b1 : (i 1 : Nat) < 2048 := (i 1).isLt
  omega

theorem final : (dats m 0 c).arrAt 2 cfg0.N = mulT (kvn m c) (w m c) :=
  (dats m 0 c).arrAt_eq_of_cover 2 _ (fun t _ => flushed m c t) fun i => by
    have b0 : (i 0 : Nat) < 8192 := (i 0).isLt
    obtain ⟨h0, h1⟩ := index_2 ⟨_, point_lt i⟩
    refine ⟨⟨_, point_lt i⟩, flush0_2 _, ?_⟩
    show i ∈ ((View.whole main_v2).slice (win0_2.rect ⟨_, point_lt i⟩)).set
    rw [View.set_slice_whole, Rect.mem_set_unit]
    intro a
    match a with
    | ⟨0, _⟩ => show win0_2.index _ 0 * 1024 ≤ (i 0 : Nat) ∧ (i 0 : Nat) < win0_2.index _ 0 * 1024 + 1024
                rw [h0]; dsimp only; omega
    | ⟨1, _⟩ => show win0_2.index _ 1 * 1024 ≤ (i 1 : Nat) ∧ (i 1 : Nat) < win0_2.index _ 1 * 1024 + 1024
                rw [h1]; dsimp only; omega

open Cert.Reference27Ideal Cert.Reference27Ideal.Gen in
theorem value (A : FVec Ideal S8192x256 .f32) (B : FVec Ideal S2048x256 .f32) :
    Host.dotGeneral dot_S8192x256_S256x2048_S8192x2048_1_0_0_1_n_n none A (transpose S256x2048 [1, 0] B
      transposes_S2048x256_S256x2048_1_0) = mulT A B := by
  funext j
  obtain ⟨x, f, rfl⟩ : ∃ (x : Fin 8192) (f : Fin 2048), j = ix2 x f := ⟨_, _, eq_ix2 j⟩
  show _ = ∑ q : Fin 256, (A (ix2 x q) * B (ix2 f q) : EReal)
  pointwise []

theorem algebraic : Cert.algebraic_Kernel27Ideal_Reference27Ideal := by
  intro m g m' g' _ hargs
  refine ⟨fun c => mulT (kvn m c) (w m c), (θ_run defs _ _).mono (fun r h c => ?_) (Value.run_blocks (F := Ideal) m g),
    (θ_run Cert.Reference27Ideal.defs _ _).mono (fun r h c => ?_) (Cert.Reference27Ideal.Value.run (F := Ideal) m' g')⟩
  · exact ⟨(h c).1.trans (final m c), (h c).2⟩
  · obtain ⟨e0, e1⟩ := hargs c
    refine ⟨(h c).1.trans ?_, (h c).2⟩
    rw [e0, e1]
    exact value _ _

end Cert.Kernel27Ideal.Up

end
-- ==== Proof.HeadsWeight.lean ====
/-
  The gradients of `w_uq` and `w_ukv`: the transposed gradient of the product times the normed rows, summed by an
  accumulator over eight blocks of rows.
-/
module

public import proofs.«01_k».proof.Proof.Product
public import proofs.«01_k».proof.Proof.SsdOutWeight
public import proofs.«01_k».proof.Proof.Gen.Kernel23Ideal.Value
public import proofs.«01_k».proof.Proof.Gen.Reference23Ideal.Run
public import proofs.«01_k».proof.Proof.Gen.Kernel25Ideal.Value
public import proofs.«01_k».proof.Proof.Gen.Reference25Ideal.Run

@[expose] public section

set_option maxRecDepth 16384

noncomputable section

namespace Cert.Kernel23Ideal.Grad

open Idealize.ShloMosaic Idealize.ShloMosaic.TcCoe Idealize.ShloMosaic.Pointwise Idealize.SL.Sem Cert.Accumulate Cert.Entry Cert.Product
  Cert.Kernel23Ideal Cert.Kernel23Ideal.Gen
open Cert.Kernel3Ideal.Grad (row)
open Cert.Kernel12Ideal.Grad (col)

section Stores

variable {F : FTy → Type} [FloatOps F] (c : Dev nD) (i : grid0.Coords)
  (a0 : Memref sig .tc .vmem S1024x1024 .bf16) (h0 : a0.IsWhole) (a1 : Memref sig .tc .vmem S1024x512 .bf16) (h1 : a1.IsWhole)
  (a2 : Memref sig .tc .vmem S1024x512 .bf16) (h2 : a2.IsWhole) (a3 : Memref sig .tc .vmem S1024x512 .f32) (h3 : a3.IsWhole)
  (x : Vec F S1024x1024 .bf16) (y : Vec F S1024x512 .bf16) (acc : Vec F S1024x512 .f32)

/-- The first block of rows sets the accumulator, -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- each later one adds to it, -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all, shapeCast_self]

/-- and the last stores the sum. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S1024x512) _ zeros]
  unfold k0_pay3
  simp only [View.readAt_eq_ld, h0.read_unread, h1.read_unread, h3.read_unread, ld_all, shapeCast_self]

end Stores

theorem index_0 : ∀ t : Fin cfg0.N, win0_0.index t 0 = t.val % 8 ∧ win0_0.index t 1 = t.val / 8 := by decide +kernel
theorem index_1 : ∀ t : Fin cfg0.N, win0_1.index t 0 = t.val % 8 ∧ win0_1.index t 1 = 0 := by decide +kernel

variable (m : (ℓ : Loc nD τ sig) → Buf (Elt Ideal) ℓ) (ρ : Dev nD → PrngReg) (c : Dev nD)

/-- The gradient of the product and the normed rows in memory. -/
abbrev dq : FVec Ideal S8192x2048 .f32 := m ((c.tc : Thread nD τ).loc main_arg0)
abbrev qn : FVec Ideal S8192x512 .f32 := m ((c.tc : Thread nD τ).loc main_arg1)

theorem V0 : V m c main_v0 = truncf .bf16 (dq m c) bitsLt_bf16_f32 := by
  unfold V; after_reads_simp <;> rfl
theorem V1 : V m c main_v1 = truncf .bf16 (qn m c) bitsLt_bf16_f32 := by
  unfold V; after_reads_simp <;> rfl

theorem block_0 (t : Fin cfg0.N) (r p : Fin 1024) : iblk m c 0 t (ix2 r p) = dq m c (ix2 (row t.val r) (col (t.val / 8) p)) := by
  obtain ⟨h0, h1⟩ := index_0 t
  have hN : cfg0.N = 16 := N_0
  have := t.isLt
  unfold iblk
  rw [View.read_apply]
  show V m c main_v0 _ = _
  rw [V0]
  exact at_ix2 (dq m c) _ _ _ (by show win0_0.index t 0 * 1024 + 1 * r.val = 1024 * (t.val % 8) + r.val; rw [h0]; omega)
    (by show win0_0.index t 1 * 1024 + 1 * p.val = 1024 * (t.val / 8 % 2) + p.val; rw [h1]; omega)

theorem block_1 (t : Fin cfg0.N) (r : Fin 1024) (q : Fin 512) : iblk m c 1 t (ix2 r q) = qn m c (ix2 (row t.val r) q) := by
  obtain ⟨h0, h1⟩ := index_1 t
  unfold iblk
  rw [View.read_apply]
  show V m c main_v1 _ = _
  rw [V1]
  exact at_ix2 (qn m c) _ _ q (by show win0_1.index t 0 * 1024 + 1 * r.val = 1024 * (t.val % 8) + r.val; rw [h0]; omega)
    (by show win0_1.index t 1 * 512 + 1 * q.val = q.val; rw [h1]; omega)

theorem pay1_apply (x : Vec Ideal S1024x1024 .bf16) (y : Vec Ideal S1024x512 .bf16) (p : Fin 1024) (q : Fin 512) :
    k0_pay1 x y (ix2 p q) = ∑ r, (x (ix2 r p) * y (ix2 r q) : EReal) := by
  pointwise [k0_pay1]

/-- The terms of an entry in block `b` of 1024 rows of the product. -/
def term {w : ℕ} (A : FVec Ideal S8192x2048 .f32) (B : (⟨2, ![8192, w]⟩ : Shape).Idx → EReal) (p : Fin 1024) (q : Fin w) (b : ℕ)
    (s : Fin 8192) : EReal := A (ix2 s (col b p)) * B (ix2 s q)

theorem chunk_eq (t : Fin cfg0.N) (p : Fin 1024) (q : Fin 512) :
    k0_pay1 (iblk m c 0 t) (iblk m c 1 t) (ix2 p q) = chunk 8 1024 (term (dq m c) (qn m c) p q) t.val := by
  refine (pay1_apply (iblk m c 0 t) (iblk m c 1 t) p q).trans (Finset.sum_congr rfl fun r _ => ?_)
  rw [block_0, block_1]
  rfl

/-- The block that the last point of a sweep stores. -/
theorem out_at (p : Fin 1024) (q : Fin 512) (n : ℕ) (h : n < cfg0.N) (hn : n % 8 + 1 = 8) :
    (outsAt0 m c n h).1 (ix2 p q) = ∑ s, term (dq m c) (qn m c) p q (n / 8) s := by
  have hs := sum_sweep 8 1024 (fun n h => (if n % 8 = 7 then (outsAt0 m c n h).1 (ix2 p q) else (outsAt0 m c n h).2 (ix2 p q) : EReal))
    (term (dq m c) (qn m c) p q) ?_ ?_ n h hn
  · simpa only [if_pos (show n % 8 = 7 by omega)] using hs
  · intro n h hn
    rw [if_neg (by omega), outsAt0_A m c ⟨n, h⟩ hn (by dsimp only; omega) (by dsimp only; omega)]
    dsimp only
    rw [first_acc]
    exact chunk_eq m c ⟨n, h⟩ p q
  · intro n h h' hn
    have e := congrArg (fun z : EReal => ((outsAt0 m c n h).2 (ix2 p q) : EReal) + z) (chunk_eq m c ⟨n + 1, h'⟩ p q)
    rw [if_neg (show ¬n % 8 = 7 by omega)]
    split
    · rw [outsAt0_C m c ⟨n + 1, h'⟩ hn (by dsimp only; omega) ‹_›]
      dsimp only
      rw [last_out]
      exact e
    · rw [outsAt0_B m c ⟨n + 1, h'⟩ hn (by dsimp only; omega) ‹_›]
      dsimp only
      rw [next_acc]
      exact e

theorem result : Value.G2 m c = tmul (dq m c) (qn m c) := by
  funext j
  obtain ⟨x, q, rfl⟩ : ∃ (x : Fin 2048) (q : Fin 512), j = ix2 x q := ⟨_, _, eq_ix2 j⟩
  have hx := x.isLt
  have hq := q.isLt
  have hN : cfg0.N = 16 := N_0
  have hpt : Value.pt2Of (ix2 x q) = 8 * (x.val / 1024) + 7 := by
    show 8 * (1 * (x.val / 1024 - 0) + 1 * (q.val / 512 - 0)) + 7 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  have hc : col (Value.pt2Of (ix2 x q) / 8) ⟨x.val % 1024, Nat.mod_lt _ (by decide)⟩ = x :=
    Fin.ext (by show 1024 * (Value.pt2Of (ix2 x q) / 8 % 2) + x.val % 1024 = x.val; rw [hpt]; omega)
  unfold term
  rw [hc]
  rfl

open Cert.Reference23Ideal Cert.Reference23Ideal.Gen in
/-- The gradient of `w ↦ B·wᵀ`. -/
theorem value (A : FVec Ideal S8192x2048 .f32) (B : FVec Ideal S8192x512 .f32) :
    truncf .bf16 (transpose S2048x512 [1, 0] (transpose S512x2048 [1, 0] (Host.dotGeneral dot_S8192x2048_S8192x512_S2048x512_0_0_1_1_n_n
      none A B) transposes_S2048x512_S512x2048_1_0) transposes_S512x2048_S2048x512_1_0) Cert.Reference23Ideal.Gen.bitsLt_bf16_f32
      = tmul A B := by
  funext j
  obtain ⟨x, q, rfl⟩ : ∃ (x : Fin 2048) (q : Fin 512), j = ix2 x q := ⟨_, _, eq_ix2 j⟩
  show _ = ∑ s : Fin 8192, (A (ix2 s x) * B (ix2 s q) : EReal)
  pointwise []

theorem algebraic : Cert.algebraic_Kernel23Ideal_Reference23Ideal := by
  intro m g m' g' _ hargs
  refine ⟨fun c => tmul (dq m c) (qn m c), (θ_run defs _ _).mono (fun r h c => ?_) (Value.run (F := Ideal) m g),
    (θ_run Cert.Reference23Ideal.defs _ _).mono (fun r h c => ?_) (Cert.Reference23Ideal.Value.run (F := Ideal) m' g')⟩
  · exact ⟨(h c).1.trans (result m c), (h c).2⟩
  · obtain ⟨e0, e1⟩ := hargs c
    refine ⟨(h c).1.trans ?_, (h c).2⟩
    rw [e0, e1]
    exact value _ _

end Cert.Kernel23Ideal.Grad

namespace Cert.Kernel25Ideal.Grad

open Idealize.ShloMosaic Idealize.ShloMosaic.TcCoe Idealize.ShloMosaic.Pointwise Idealize.SL.Sem Cert.Accumulate Cert.Entry Cert.Product
  Cert.Kernel25Ideal Cert.Kernel25Ideal.Gen
open Cert.Kernel3Ideal.Grad (row)
open Cert.Kernel12Ideal.Grad (col)
open Cert.Kernel23Ideal.Grad (term)

section Stores

variable {F : FTy → Type} [FloatOps F] (c : Dev nD) (i : grid0.Coords)
  (a0 : Memref sig .tc .vmem S1024x1024 .bf16) (h0 : a0.IsWhole) (a1 : Memref sig .tc .vmem S1024x256 .bf16) (h1 : a1.IsWhole)
  (a2 : Memref sig .tc .vmem S1024x256 .bf16) (h2 : a2.IsWhole) (a3 : Memref sig .tc .vmem S1024x256 .f32) (h3 : a3.IsWhole)
  (x : Vec F S1024x1024 .bf16) (y : Vec F S1024x256 .bf16) (acc : Vec F S1024x256 .f32)

/-- The first block of rows sets the accumulator, -/
theorem first_acc (hc0 : cond0_0 i) (hc1 : ¬cond0_1 i) (hc2 : ¬cond0_2 i) :
    sout0_A_0 c i a0 h0 a1 h1 a2 h2 a3 h3 hc0 hc1 hc2 x y = k0_pay1 x y := by
  unfold sout0_A_0
  rw [View.read_writes_eq_canon _ _ _ (by apply scover0_A_0)]
  unfold kernelRun0_A
  dsimp only
  sl_unfold_words
  rw [View.canon_unit_zero zeros]
  unfold k0_pay2
  simp only [View.readAt_eq_ld, h0.read_unread, h1.read_unread, ld_all, shapeCast_self]

/-- each later one adds to it, -/
theorem next_acc (hc0 : ¬cond0_0 i) (hc1 : cond0_1 i) (hc2 : ¬cond0_2 i) :
    sout0_B_0 c i a0 h0 a1 h1 a2 h2 a3 h3 hc0 hc1 hc2 x y acc = addf acc (k0_pay1 x y) := by
  unfold sout0_B_0
  rw [View.read_writes_eq_canon _ _ _ (by apply scover0_B_0)]
  unfold kernelRun0_B
  dsimp only
  sl_unfold_words
  rw [View.canon_unit_zero zeros]
  unfold k0_pay3
  simp only [View.readAt_eq_ld, h0.read_unread, h1.read_unread, h3.read_unread, ld_all, shapeCast_self]

/-- and the last stores the sum. -/
theorem last_out (hc0 : ¬cond0_0 i) (hc1 : cond0_1 i) (hc2 : cond0_2 i) :
    out0_C_2 c i a0 h0 a1 h1 a2 h2 a3 h3 hc0 hc1 hc2 x y acc = k0_pay4 (addf acc (k0_pay1 x y)) := by
  unfold out0_C_2
  rw [View.read_writes_eq_canon _ _ _ (by apply cover0_C_2)]
  unfold kernelRun0_C
  dsimp only
  sl_unfold_words
  rw [View.canon_unit_zero zeros, View.readCov_unit_zero (S := S1024x256) _ zeros]
  unfold k0_pay3
  simp only [View.readAt_eq_ld, h0.read_unread, h1.read_unread, h3.read_unread, ld_all, shapeCast_self]

end Stores

theorem index_0 : ∀ t : Fin cfg0.N, win0_0.index t 0 = t.val % 8 ∧ win0_0.index t 1 = t.val / 8 := by decide +kernel
theorem index_1 : ∀ t : Fin cfg0.N, win0_1.index t 0 = t.val % 8 ∧ win0_1.index t 1 = 0 := by decide +kernel

variable (m : (ℓ : Loc nD τ sig) → Buf (Elt Ideal) ℓ) (ρ : Dev nD → PrngReg) (c : Dev nD)

/-- The gradient of the product and the normed rows in memory. -/
abbrev dkv : FVec Ideal S8192x2048 .f32 := m ((c.tc : Thread nD τ).loc main_arg0)
abbrev kvn : FVec Ideal S8192x256 .f32 := m ((c.tc : Thread nD τ).loc main_arg1)

theorem V0 : V m c main_v0 = truncf .bf16 (dkv m c) bitsLt_bf16_f32 := by
  unfold V; after_reads_simp <;> rfl
theorem V1 : V m c main_v1 = truncf .bf16 (kvn m c) bitsLt_bf16_f32 := by
  unfold V; after_reads_simp <;> rfl

theorem block_0 (t : Fin cfg0.N) (r p : Fin 1024) : iblk m c 0 t (ix2 r p) = dkv m c (ix2 (row t.val r) (col (t.val / 8) p)) := by
  obtain ⟨h0, h1⟩ := index_0 t
  have hN : cfg0.N = 16 := N_0
  have := t.isLt
  unfold iblk
  rw [View.read_apply]
  show V m c main_v0 _ = _
  rw [V0]
  exact at_ix2 (dkv m c) _ _ _ (by show win0_0.index t 0 * 1024 + 1 * r.val = 1024 * (t.val % 8) + r.val; rw [h0]; omega)
    (by show win0_0.index t 1 * 1024 + 1 * p.val = 1024 * (t.val / 8 % 2) + p.val; rw [h1]; omega)

theorem block_1 (t : Fin cfg0.N) (r : Fin 1024) (q : Fin 256) : iblk m c 1 t (ix2 r q) = kvn m c (ix2 (row t.val r) q) := by
  obtain ⟨h0, h1⟩ := index_1 t
  unfold iblk
  rw [View.read_apply]
  show V m c main_v1 _ = _
  rw [V1]
  exact at_ix2 (kvn m c) _ _ q (by show win0_1.index t 0 * 1024 + 1 * r.val = 1024 * (t.val % 8) + r.val; rw [h0]; omega)
    (by show win0_1.index t 1 * 256 + 1 * q.val = q.val; rw [h1]; omega)

theorem pay1_apply (x : Vec Ideal S1024x1024 .bf16) (y : Vec Ideal S1024x256 .bf16) (p : Fin 1024) (q : Fin 256) :
    k0_pay1 x y (ix2 p q) = ∑ r, (x (ix2 r p) * y (ix2 r q) : EReal) := by
  pointwise [k0_pay1]

theorem chunk_eq (t : Fin cfg0.N) (p : Fin 1024) (q : Fin 256) :
    k0_pay1 (iblk m c 0 t) (iblk m c 1 t) (ix2 p q) = chunk 8 1024 (term (dkv m c) (kvn m c) p q) t.val := by
  refine (pay1_apply (iblk m c 0 t) (iblk m c 1 t) p q).trans (Finset.sum_congr rfl fun r _ => ?_)
  rw [block_0, block_1]
  rfl

/-- The block that the last point of a sweep stores. -/
theorem out_at (p : Fin 1024) (q : Fin 256) (n : ℕ) (h : n < cfg0.N) (hn : n % 8 + 1 = 8) :
    (outsAt0 m c n h).1 (ix2 p q) = ∑ s, term (dkv m c) (kvn m c) p q (n / 8) s := by
  have hs := sum_sweep 8 1024 (fun n h => (if n % 8 = 7 then (outsAt0 m c n h).1 (ix2 p q) else (outsAt0 m c n h).2 (ix2 p q) : EReal))
    (term (dkv m c) (kvn m c) p q) ?_ ?_ n h hn
  · simpa only [if_pos (show n % 8 = 7 by omega)] using hs
  · intro n h hn
    rw [if_neg (by omega), outsAt0_A m c ⟨n, h⟩ hn (by dsimp only; omega) (by dsimp only; omega)]
    dsimp only
    rw [first_acc]
    exact chunk_eq m c ⟨n, h⟩ p q
  · intro n h h' hn
    have e := congrArg (fun z : EReal => ((outsAt0 m c n h).2 (ix2 p q) : EReal) + z) (chunk_eq m c ⟨n + 1, h'⟩ p q)
    rw [if_neg (show ¬n % 8 = 7 by omega)]
    split
    · rw [outsAt0_C m c ⟨n + 1, h'⟩ hn (by dsimp only; omega) ‹_›]
      dsimp only
      rw [last_out]
      exact e
    · rw [outsAt0_B m c ⟨n + 1, h'⟩ hn (by dsimp only; omega) ‹_›]
      dsimp only
      rw [next_acc]
      exact e

theorem result : Value.G2 m c = tmul (dkv m c) (kvn m c) := by
  funext j
  obtain ⟨x, q, rfl⟩ : ∃ (x : Fin 2048) (q : Fin 256), j = ix2 x q := ⟨_, _, eq_ix2 j⟩
  have hx := x.isLt
  have hq := q.isLt
  have hN : cfg0.N = 16 := N_0
  have hpt : Value.pt2Of (ix2 x q) = 8 * (x.val / 1024) + 7 := by
    show 8 * (1 * (x.val / 1024 - 0) + 1 * (q.val / 256 - 0)) + 7 = _
    omega
  have hloc : Value.loc2Of (ix2 x q) = ix2 ⟨x.val % 1024, Nat.mod_lt _ (by decide)⟩ q :=
    at_ix2 id _ _ _ rfl (Nat.mod_eq_of_lt hq)
  unfold Value.G2
  rw [dif_pos (by rw [hpt, hN]; omega), ← Value.outsAt0_sweep, hloc]
  refine (out_at m c _ _ _ (by rw [hpt, hN]; omega) (by rw [hpt]; omega)).trans ?_
  have hc : col (Value.pt2Of (ix2 x q) / 8) ⟨x.val % 1024, Nat.mod_lt _ (by decide)⟩ = x :=
    Fin.ext (by show 1024 * (Value.pt2Of (ix2 x q) / 8 % 2) + x.val % 1024 = x.val; rw [hpt]; omega)
  unfold term
  rw [hc]
  rfl

open Cert.Reference25Ideal Cert.Reference25Ideal.Gen in
/-- The gradient of `w ↦ B·wᵀ`. -/
theorem value (A : FVec Ideal S8192x2048 .f32) (B : FVec Ideal S8192x256 .f32) :
    truncf .bf16 (transpose S2048x256 [1, 0] (transpose S256x2048 [1, 0] (Host.dotGeneral dot_S8192x2048_S8192x256_S2048x256_0_0_1_1_n_n
      none A B) transposes_S2048x256_S256x2048_1_0) transposes_S256x2048_S2048x256_1_0) Cert.Reference25Ideal.Gen.bitsLt_bf16_f32
      = tmul A B := by
  funext j
  obtain ⟨x, q, rfl⟩ : ∃ (x : Fin 2048) (q : Fin 256), j = ix2 x q := ⟨_, _, eq_ix2 j⟩
  show _ = ∑ s : Fin 8192, (A (ix2 s x) * B (ix2 s q) : EReal)
  pointwise []

theorem algebraic : Cert.algebraic_Kernel25Ideal_Reference25Ideal := by
  intro m g m' g' _ hargs
  refine ⟨fun c => tmul (dkv m c) (kvn m c), (θ_run defs _ _).mono (fun r h c => ?_) (Value.run (F := Ideal) m g),
    (θ_run Cert.Reference25Ideal.defs _ _).mono (fun r h c => ?_) (Cert.Reference25Ideal.Value.run (F := Ideal) m' g')⟩
  · exact ⟨(h c).1.trans (result m c), (h c).2⟩
  · obtain ⟨e0, e1⟩ := hargs c
    refine ⟨(h c).1.trans ?_, (h c).2⟩
    rw [e0, e1]
    exact value _ _

end Cert.Kernel25Ideal.Grad

end
-- ==== Proof.lean ====
/-
  The proof of the claim: the frames of the printed kernel, of its idealization and of the reference, the rewritten
  constants, and the equality of the two programs' results over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Pre_finite
public import proofs.«01_k».proof.Proof.Run
public import proofs.«01_k».proof.Proof.Printed.Run
public import proofs.«01_k».proof.Proof.Algebraic
public import proofs.«01_k».proof.Proof.Swiglu
public import proofs.«01_k».proof.Proof.DownWeight
public import proofs.«01_k».proof.Proof.RowGrad
public import proofs.«01_k».proof.Proof.NormGrad
public import proofs.«01_k».proof.Proof.UpWeight
public import proofs.«01_k».proof.Proof.MergeGrad
public import proofs.«01_k».proof.Proof.ProjGrad
public import proofs.«01_k».proof.Proof.ProjWeight
public import proofs.«01_k».proof.Proof.ConvGrad
public import proofs.«01_k».proof.Proof.SsdOutGrad
public import proofs.«01_k».proof.Proof.SsdOutWeight
public import proofs.«01_k».proof.Proof.OutWeight
public import proofs.«01_k».proof.Proof.FfnUp
public import proofs.«01_k».proof.Proof.ProjIn
public import proofs.«01_k».proof.Proof.FfnDown
public import proofs.«01_k».proof.Proof.Entry
public import proofs.«01_k».proof.Proof.AttnOutGrad
public import proofs.«01_k».proof.Proof.MlaOutWeight
public import proofs.«01_k».proof.Proof.SsdOut
public import proofs.«01_k».proof.Proof.MergeOut
public import proofs.«01_k».proof.Proof.MlaOut
public import proofs.«01_k».proof.Proof.HeadsGrad
public import proofs.«01_k».proof.Proof.HeadsUp
public import proofs.«01_k».proof.Proof.HeadsWeight
public import Idealize.ShloMosaic.Adequacy
public import Idealize.ShloMosaic.Init

@[expose] public section

noncomputable section

namespace Cert.Proof

open Idealize.ShloMosaic Idealize.SL.Sem Cert.Entry Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Pre_finite.Gen.facts, Cert.Pre_finite_factors.Grad.facts, Cert.Pre_finite_cotangent.Grad.facts,
    fun m ρ _ => Cert.Kernel.Attn.frame m ρ,
    fun m ρ _ => Cert.KernelIdeal.Attn.frame m ρ,
    fun m ρ _ => Cert.KernelIdeal.Attn.frame m ρ,
    fun m ρ _ => frame_ref m ρ,
    fun m ρ _ => frame_ref m ρ,
    fun m ρ _ => Cert.Kernel2.Gen.frame m ρ,
    fun m ρ _ => Cert.Kernel2Ideal.Gen.frame m ρ,
    fun m ρ _ => Cert.Kernel2Ideal.Gen.frame m ρ,
    fun m ρ _ => quiet (by decide) (fun _ _ h => h.2.2) (Cert.Reference2Ideal.Value.run (F := Ideal) m ρ),
    fun m ρ _ => quiet (by decide) (fun _ _ h => h.2.2) (Cert.Reference2Ideal.Value.run (F := Ideal) m ρ),
    fun m ρ _ => Cert.Kernel3.Gen.frame m ρ,
    fun m ρ _ => Cert.Kernel3Ideal.Gen.frame m ρ,
    fun m ρ _ => quiet (by decide) (fun _ _ h => h.2) (Cert.Reference3Ideal.Value.run (F := Ideal) m ρ),
    fun m ρ _ => Cert.Kernel4.Gen.frame m ρ,
    fun m ρ _ => Cert.Kernel4Ideal.Gen.frame m ρ,
    fun m ρ _ => quiet (by decide) (fun _ _ h => h.2) (Cert.Reference4Ideal.Value.run (F := Ideal) m ρ),
    fun m ρ _ => Cert.Kernel5.Gen.frame m ρ,
    fun m ρ _ => Cert.Kernel5Ideal.Gen.frame m ρ,
    fun m ρ _ => quiet (by decide) (fun _ _ h => h.2.2) (Cert.Reference5Ideal.Value.run (F := Ideal) m ρ),
    fun m ρ _ => Cert.Kernel6.Gen.frame m ρ,
    fun m ρ _ => Cert.Kernel6Ideal.Gen.frame m ρ,
    fun m ρ _ => quiet (by decide) (fun _ _ h => h.2) (Cert.Reference6Ideal.Value.run (F := Ideal) m ρ),
    fun m ρ _ => Cert.Kernel7.Gen.frame m ρ,
    fun m ρ _ => Cert.Kernel7Ideal.Gen.frame m ρ,
    fun m ρ _ => quiet (by decide) (fun _ _ h => h.2.2.2) (Cert.Reference7Ideal.Value.run (F := Ideal) m ρ),
    fun m ρ _ => Cert.Kernel8.Gen.frame m ρ,
    fun m ρ _ => Cert.Kernel8Ideal.Gen.frame m ρ,
    fun m ρ _ => quiet (by decide) (fun _ _ h => h.2.2) (Cert.Reference8Ideal.Value.run (F := Ideal) m ρ),
    fun m ρ _ => Cert.Kernel9.Gen.frame m ρ,
    fun m ρ _ => Cert.Kernel9Ideal.Gen.frame m ρ,
    fun m ρ _ => quiet (by decide) (fun _ _ h => h.2) (Cert.Reference9Ideal.Value.run (F := Ideal) m ρ),
    fun m ρ _ => Cert.Kernel10.Gen.frame m ρ,
    fun m ρ _ => Cert.Kernel10Ideal.Gen.frame m ρ,
    fun m ρ _ => Cert.Kernel10Ideal.Gen.frame m ρ,
    fun m ρ _ => quiet (by decide) (fun _ _ h => h.2.2.2) (Cert.Reference10Ideal.Value.run (F := Ideal) m ρ),
    fun m ρ _ => quiet (by decide) (fun _ _ h => h.2.2.2) (Cert.Reference10Ideal.Value.run (F := Ideal) m ρ),
    fun m ρ _ => Cert.Kernel11.Gen.frame m ρ,
    fun m ρ _ => Cert.Kernel11Ideal.Gen.frame m ρ,
    fun m ρ _ => quiet (by decide) (fun _ _ h => h.2) (Cert.Reference11Ideal.Value.run (F := Ideal) m ρ),
    fun m ρ _ => Cert.Kernel12.Gen.frame m ρ,
    fun m ρ _ => Cert.Kernel12Ideal.Gen.frame m ρ,
    fun m ρ _ => quiet (by decide) (fun _ _ h => h.2) (Cert.Reference12Ideal.Value.run (F := Ideal) m ρ),
    fun m ρ _ => Cert.Kernel13.Gen.frame m ρ,
    fun m ρ _ => Cert.Kernel13Ideal.Gen.frame m ρ,
    fun m ρ _ => quiet (by decide) (fun _ _ h => h.2) (Cert.Reference13Ideal.Value.run (F := Ideal) m ρ),
    fun m ρ _ => Cert.Kernel14.Gen.frame m ρ,
    fun m ρ _ => Cert.Kernel14Ideal.Gen.frame m ρ,
    fun m ρ _ => quiet (by decide) (fun _ _ h => h.2.2.2) (Cert.Reference14Ideal.Value.run (F := Ideal) m ρ),
    fun m ρ _ => Cert.Kernel15.Gen.frame m ρ,
    fun m ρ _ => Cert.Kernel15Ideal.Gen.frame m ρ,
    fun m ρ _ => quiet (by decide) (fun _ _ h => h.2) (Cert.Reference15Ideal.Value.run (F := Ideal) m ρ),
    fun m ρ _ => Cert.Kernel16.Gen.frame m ρ,
    fun m ρ _ => Cert.Kernel16Ideal.Gen.frame m ρ,
    fun m ρ _ => quiet (by decide) (fun _ _ h => h.2) (Cert.Reference16Ideal.Value.run (F := Ideal) m ρ),
    fun m ρ _ => Cert.Kernel17.Gen.frame m ρ,
    fun m ρ _ => Cert.Kernel17Ideal.Gen.frame m ρ,
    fun m ρ _ => quiet (by decide) (fun _ _ h => h.2) (Cert.Reference17Ideal.Value.run (F := Ideal) m ρ),
    fun m ρ _ => Cert.Kernel18.Gen.frame m ρ,
    fun m ρ _ => Cert.Kernel18Ideal.Gen.frame m ρ,
    fun m ρ _ => quiet (by decide) (fun _ _ h => h.2) (Cert.Reference18Ideal.Value.run (F := Ideal) m ρ),
    fun m ρ _ => Cert.Kernel19.Gen.frame m ρ,
    fun m ρ _ => Cert.Kernel19Ideal.Gen.frame m ρ,
    fun m ρ _ => quiet (by decide) (fun _ _ h => h.2) (Cert.Reference19Ideal.Value.run (F := Ideal) m ρ),
    fun m ρ _ => Cert.Kernel20.Gen.frame m ρ,
    fun m ρ _ => Cert.Kernel20Ideal.Gen.frame m ρ,
    fun m ρ _ => quiet (by decide) (fun _ _ h => h.2.2) (Cert.Reference20Ideal.Value.run (F := Ideal) m ρ),
    fun m ρ _ => Cert.Kernel21.Gen.frame m ρ,
    fun m ρ _ => Cert.Kernel21Ideal.Gen.frame m ρ,
    fun m ρ _ => quiet (by decide) (fun _ _ h => h.2) (Cert.Reference21Ideal.Value.run (F := Ideal) m ρ),
    fun m ρ _ => Cert.Kernel22.Gen.frame m ρ,
    fun m ρ _ => Cert.Kernel22Ideal.Gen.frame m ρ,
    fun m ρ _ => quiet (by decide) (fun _ _ h => h.2) (Cert.Reference22Ideal.Value.run (F := Ideal) m ρ),
    fun m ρ _ => Cert.Kernel23.Gen.frame m ρ,
    fun m ρ _ => Cert.Kernel23Ideal.Gen.frame m ρ,
    fun m ρ _ => quiet (by decide) (fun _ _ h => h.2) (Cert.Reference23Ideal.Value.run (F := Ideal) m ρ),
    fun m ρ _ => Cert.Kernel24.Gen.frame m ρ,
    fun m ρ _ => Cert.Kernel24Ideal.Gen.frame m ρ,
    fun m ρ _ => quiet (by decide) (fun _ _ h => h.2) (Cert.Reference24Ideal.Value.run (F := Ideal) m ρ),
    fun m ρ _ => Cert.Kernel25.Gen.frame m ρ,
    fun m ρ _ => Cert.Kernel25Ideal.Gen.frame m ρ,
    fun m ρ _ => quiet (by decide) (fun _ _ h => h.2) (Cert.Reference25Ideal.Value.run (F := Ideal) m ρ),
    fun m ρ _ => Cert.Kernel26.Gen.frame m ρ,
    fun m ρ _ => Cert.Kernel26Ideal.Gen.frame m ρ,
    fun m ρ _ => quiet (by decide) (fun _ _ h => h.2) (Cert.Reference26Ideal.Value.run (F := Ideal) m ρ),
    fun m ρ _ => Cert.Kernel27.Gen.frame m ρ,
    fun m ρ _ => Cert.Kernel27Ideal.Gen.frame m ρ,
    fun m ρ _ => quiet (by decide) (fun _ _ h => h.2) (Cert.Reference27Ideal.Value.run (F := Ideal) m ρ),
    ⟨IdealRules.named_const.statement Cert.KernelIdeal.κ "mask" .f32 0xF149F2CA#32 ⊥ rfl,
      IdealRules.named_const.statement Cert.KernelIdeal.κ "scale_log2e" .f32 0x3DD53B95#32
        (((Real.sqrt 192)⁻¹ * (Real.log 2)⁻¹ : ℝ) : EReal) rfl,
      IdealRules.named_const.statement Cert.KernelIdeal.κ "log2e" .f32 0x3FB8AA3B#32
        (((Real.log 2)⁻¹ : ℝ) : EReal) rfl,
      IdealRules.named_const.statement Cert.KernelIdeal.κ "scale" .f32 0x3D93CD3A#32
        (((Real.sqrt 192)⁻¹ : ℝ) : EReal) rfl⟩,
    algebraic,
    trivial, Cert.Kernel2Ideal.Grad.algebraic,
    trivial, Cert.Kernel3Ideal.Grad.algebraic,
    trivial, Cert.Kernel4Ideal.Grad.algebraic,
    trivial, Cert.Kernel5Ideal.Grad.algebraic,
    trivial, Cert.Kernel6Ideal.Grad.algebraic,
    trivial, Cert.Kernel7Ideal.Grad.algebraic,
    trivial, Cert.Kernel8Ideal.Grad.algebraic,
    trivial, Cert.Kernel9Ideal.Grad.algebraic,
    trivial, Cert.Kernel10Ideal.Grad.algebraic,
    trivial, Cert.Kernel11Ideal.Grad.algebraic,
    trivial, Cert.Kernel12Ideal.Grad.algebraic,
    trivial, Cert.Kernel13Ideal.Grad.algebraic,
    trivial, Cert.Kernel14Ideal.Up.algebraic,
    trivial, Cert.Kernel15Ideal.Proj.algebraic,
    trivial, Cert.Kernel16Ideal.Down.algebraic,
    trivial, Cert.Kernel17Ideal.Grad.algebraic,
    trivial, Cert.Kernel18Ideal.Grad.algebraic,
    trivial, Cert.Kernel19Ideal.Out.algebraic,
    trivial, Cert.Kernel20Ideal.Out.algebraic,
    trivial, Cert.Kernel21Ideal.Out.algebraic,
    trivial, Cert.Kernel22Ideal.Grad.algebraic,
    trivial, Cert.Kernel23Ideal.Grad.algebraic,
    trivial, Cert.Kernel24Ideal.Grad.algebraic,
    trivial, Cert.Kernel25Ideal.Grad.algebraic,
    trivial, Cert.Kernel26Ideal.Up.algebraic,
    trivial, Cert.Kernel27Ideal.Up.algebraic⟩

end Cert.Proof

end
